-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_v28) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v20) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v18)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v12) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v34) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v26) = v1 c
          ∧ r.2.mem ((c.tc : Thread Cert.Reference10Ideal.nD Cert.Reference10Ideal.τ).loc Cert.Reference10Ideal.main_v7) = v2 c
          ∧ r.2.mem ((c.tc : Thread Cert.Reference10Ideal.nD Cert.Reference10Ideal.τ).loc Cert.Reference10Ideal.main_v13) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v26) = v1 c
          ∧ r.2.mem ((c.tc : Thread Cert.Reference11Ideal.nD Cert.Reference11Ideal.τ).loc Cert.Reference11Ideal.main_v7) = v2 c
          ∧ r.2.mem ((c.tc : Thread Cert.Reference11Ideal.nD Cert.Reference11Ideal.τ).loc Cert.Reference11Ideal.main_v13) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v18) = v0 c
          ∧ r.2.mem ((c.tc : Thread Cert.Reference12Ideal.nD Cert.Reference12Ideal.τ).loc Cert.Reference12Ideal.main_v19) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v30) = v0 c
          ∧ r.2.mem ((c.tc : Thread Cert.Reference13Ideal.nD Cert.Reference13Ideal.τ).loc Cert.Reference13Ideal.main_v31) = v1 c
          ∧ r.2.mem ((c.tc : Thread Cert.Reference13Ideal.nD Cert.Reference13Ideal.τ).loc Cert.Reference13Ideal.main_v32) = v2 c
          ∧ r.2.mem ((c.tc : Thread Cert.Reference13Ideal.nD Cert.Reference13Ideal.τ).loc Cert.Reference13Ideal.main_v33) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S4096x768 : Shape := ⟨2, ![4096, 768]⟩
abbrev S4096x384 : Shape := ⟨2, ![4096, 384]⟩
abbrev S4096x128 : Shape := ⟨2, ![4096, 128]⟩
abbrev S2x32x6x128x128 : Shape := ⟨5, ![2, 32, 6, 128, 128]⟩
abbrev S_ : Shape := ⟨0, ![]⟩
abbrev S1 : Shape := ⟨1, ![1]⟩
abbrev S8 : Shape := ⟨1, ![8]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4096x384 : S_.BroadcastsInDim S4096x384 (![] : Fin 0 → Fin S4096x384.rank)
  reducesTo_S4096x384_S_d0_1 : S4096x384.ReducesTo [0, 1] S_
  bcast_S_S4096x128 : S_.BroadcastsInDim S4096x128 (![] : Fin 0 → Fin S4096x128.rank)
  reducesTo_S4096x128_S_d0_1 : S4096x128.ReducesTo [0, 1] S_
  bcast_S_S2x32x6x128x128 : S_.BroadcastsInDim S2x32x6x128x128 (![] : Fin 0 → Fin S2x32x6x128x128.rank)
  reducesTo_S2x32x6x128x128_S_d0_1_2_3_4 : S2x32x6x128x128.ReducesTo [0, 1, 2, 3, 4] S_
  bcast_S_S1 : S_.BroadcastsInDim S1 (![] : Fin 0 → Fin S1.rank)
  concatenates_S1_S1_S1_S1_S1_S1_S1_S1_S8_d0 : Shape.Concatenates [S1, S1, S1, S1, S1, S1, S1, S1] S8 0

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S8 1 :=
  let main_v32 : IVec S1 1 := broadcastInDim S1 ![] bcast_S_S1 main_v3
  let main_v33 : IVec S1 1 := broadcastInDim S1 ![] bcast_S_S1 main_v7
  let main_v34 : IVec S1 1 := broadcastInDim S1 ![] bcast_S_S1 main_v11
  let main_v35 : IVec S1 1 := broadcastInDim S1 ![] bcast_S_S1 main_v15
  let main_v36 : IVec S1 1 := broadcastInDim S1 ![] bcast_S_S1 main_v19
  let main_v37 : IVec S1 1 := broadcastInDim S1 ![] bcast_S_S1 main_v23
  let main_v38 : IVec S1 1 := broadcastInDim S1 ![] bcast_S_S1 main_v27
  let main_v39 : IVec S1 1 := broadcastInDim S1 ![] bcast_S_S1 main_v31
  let main_v40 : IVec S8 1 := concatenate S8 0 [⟨S1, main_v32⟩, ⟨S1, main_v33⟩, ⟨S1, main_v34⟩, ⟨S1, main_v35⟩, ⟨S1, main_v36⟩, ⟨S1, main_v37⟩, ⟨S1, main_v38⟩, ⟨S1, main_v39⟩] concatenates_S1_S1_S1_S1_S1_S1_S1_S1_S8_d0
  main_v40

def fn_part1 {F : FTy → Type} [FloatOps F] (main_arg4 : FVec F S4096x384 .f32) (main_arg5 : FVec F S4096x128 .f32) (main_arg6 : FVec F S2x32x6x128x128 .f32) (main_arg7 : FVec F S4096x768 .f32) (main_v3 : IVec S_ 1) (main_v7 : IVec S_ 1) (main_v11 : IVec S_ 1) (main_v15 : IVec S_ 1) : IVec S8 1 :=
  let main_v16 : FVec F S4096x384 .f32 := Host.absf main_arg4
  let main_cst_6 : FVec F S_ .f32 := constant S_ .f32 0x7F800000#32
  let main_v17 : FVec F S4096x384 .f32 := broadcastInDim S4096x384 ![] bcast_S_S4096x384 main_cst_6
  let main_v18 : IVec S4096x384 1 := cmpf .olt main_v16 main_v17
  let main_c_7 : IVec S_ 1 := constantI S_ 1 1#1
  let main_v19 : IVec S_ 1 := (fun x v => Host.reduce IntOp.andi x v reducesTo_S4096x384_S_d0_1 h_S_) main_v18 main_c_7
  let main_v20 : FVec F S4096x128 .f32 := Host.absf main_arg5
  let main_cst_8 : FVec F S_ .f32 := constant S_ .f32 0x7F800000#32
  let main_v21 : FVec F S4096x128 .f32 := broadcastInDim S4096x128 ![] bcast_S_S4096x128 main_cst_8
  let main_v22 : IVec S4096x128 1 := cmpf .olt main_v20 main_v21
  let main_c_9 : IVec S_ 1 := constantI S_ 1 1#1
  let main_v23 : IVec S_ 1 := (fun x v => Host.reduce IntOp.andi x v reducesTo_S4096x128_S_d0_1 h_S_) main_v22 main_c_9
  let main_v24 : FVec F S2x32x6x128x128 .f32 := Host.absf main_arg6
  let main_cst_10 : FVec F S_ .f32 := constant S_ .f32 0x7F800000#32
  let main_v25 : FVec F S2x32x6x128x128 .f32 := broadcastInDim S2x32x6x128x128 ![] bcast_S_S2x32x6x128x128 main_cst_10
  let main_v26 : IVec S2x32x6x128x128 1 := cmpf .olt main_v24 main_v25
  let main_c_11 : IVec S_ 1 := constantI S_ 1 1#1
  let main_v27 : IVec S_ 1 := (fun x v => Host.reduce IntOp.andi x v reducesTo_S2x32x6x128x128_S_d0_1_2_3_4 h_S_) main_v26 main_c_11
  let main_v28 : FVec F S4096x768 .f32 := Host.absf main_arg7
  let main_cst_12 : FVec F S_ .f32 := constant S_ .f32 0x7F800000#32
  let main_v29 : FVec F S4096x768 .f32 := broadcastInDim S4096x768 ![] bcast_S_S4096x768 main_cst_12
  let main_v30 : IVec S4096x768 1 := cmpf .olt main_v28 main_v29
  let main_c_13 : IVec S_ 1 := constantI S_ 1 1#1
  let main_v31 : IVec S_ 1 := (fun x v => Host.reduce IntOp.andi x v reducesTo_S4096x768_S_d0_1 h_S_) main_v30 main_c_13
  fn_part2 (F := F) main_v3 main_v7 main_v11 main_v15 main_v19 main_v23 main_v27 main_v31

def fn {F : FTy → Type} [FloatOps F] (main_arg0 : FVec F S4096x768 .f32) (main_arg1 : FVec F S4096x768 .f32) (main_arg2 : FVec F S4096x768 .f32) (main_arg3 : FVec F S4096x768 .f32) (main_arg4 : FVec F S4096x384 .f32) (main_arg5 : FVec F S4096x128 .f32) (main_arg6 : FVec F S2x32x6x128x128 .f32) (main_arg7 : FVec F S4096x768 .f32) : IVec S8 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : FVec F S4096x768 .f32 := Host.absf main_arg2
  let main_cst_2 : FVec F S_ .f32 := constant S_ .f32 0x7F800000#32
  let main_v9 : FVec F S4096x768 .f32 := broadcastInDim S4096x768 ![] bcast_S_S4096x768 main_cst_2
  let main_v10 : IVec S4096x768 1 := cmpf .olt main_v8 main_v9
  let main_c_3 : IVec S_ 1 := constantI S_ 1 1#1
  let main_v11 : IVec S_ 1 := (fun x v => Host.reduce IntOp.andi x v reducesTo_S4096x768_S_d0_1 h_S_) main_v10 main_c_3
  let main_v12 : FVec F S4096x768 .f32 := Host.absf main_arg3
  let main_cst_4 : FVec F S_ .f32 := constant S_ .f32 0x7F800000#32
  let main_v13 : FVec F S4096x768 .f32 := broadcastInDim S4096x768 ![] bcast_S_S4096x768 main_cst_4
  let main_v14 : IVec S4096x768 1 := cmpf .olt main_v12 main_v13
  let main_c_5 : IVec S_ 1 := constantI S_ 1 1#1
  let main_v15 : IVec S_ 1 := (fun x v => Host.reduce IntOp.andi x v reducesTo_S4096x768_S_d0_1 h_S_) main_v14 main_c_5
  fn_part1 (F := F) main_arg4 main_arg5 main_arg6 main_arg7 main_v3 main_v7 main_v11 main_v15
-- ==== Pre_finite2.lean ====
abbrev S4096x768 : Shape := ⟨2, ![4096, 768]⟩
abbrev S4096x384 : Shape := ⟨2, ![4096, 384]⟩
abbrev S4096x128 : Shape := ⟨2, ![4096, 128]⟩
abbrev S_ : Shape := ⟨0, ![]⟩
abbrev S1 : Shape := ⟨1, ![1]⟩
abbrev S6 : Shape := ⟨1, ![6]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S4096x384 : S_.BroadcastsInDim S4096x384 (![] : Fin 0 → Fin S4096x384.rank)
  reducesTo_S4096x384_S_d0_1 : S4096x384.ReducesTo [0, 1] S_
  bcast_S_S4096x128 : S_.BroadcastsInDim S4096x128 (![] : Fin 0 → Fin S4096x128.rank)
  reducesTo_S4096x128_S_d0_1 : S4096x128.ReducesTo [0, 1] S_
  bcast_S_S1 : S_.BroadcastsInDim S1 (![] : Fin 0 → Fin S1.rank)
  concatenates_S1_S1_S1_S1_S1_S1_S6_d0 : Shape.Concatenates [S1, S1, S1, S1, S1, S1] S6 0

variable [Facts]

def fn_part1 {F : FTy → Type} [FloatOps F] (main_arg4 : FVec F S4096x384 .f32) (main_arg5 : FVec F S4096x128 .f32) (main_v3 : IVec S_ 1) (main_v7 : IVec S_ 1) (main_v11 : IVec S_ 1) (main_v15 : IVec S_ 1) : IVec S6 1 :=
  let main_v16 : FVec F S4096x384 .f32 := Host.absf main_arg4
  let main_cst_6 : FVec F S_ .f32 := constant S_ .f32 0x7F800000#32
  let main_v17 : FVec F S4096x384 .f32 := broadcastInDim S4096x384 ![] bcast_S_S4096x384 main_cst_6
  let main_v18 : IVec S4096x384 1 := cmpf .olt main_v16 main_v17
  let main_c_7 : IVec S_ 1 := constantI S_ 1 1#1
  let main_v19 : IVec S_ 1 := (fun x v => Host.reduce IntOp.andi x v reducesTo_S4096x384_S_d0_1 h_S_) main_v18 main_c_7
  let main_v20 : FVec F S4096x128 .f32 := Host.absf main_arg5
  let main_cst_8 : FVec F S_ .f32 := constant S_ .f32 0x7F800000#32
  let main_v21 : FVec F S4096x128 .f32 := broadcastInDim S4096x128 ![] bcast_S_S4096x128 main_cst_8
  let main_v22 : IVec S4096x128 1 := cmpf .olt main_v20 main_v21
  let main_c_9 : IVec S_ 1 := constantI S_ 1 1#1
  let main_v23 : IVec S_ 1 := (fun x v => Host.reduce IntOp.andi x v reducesTo_S4096x128_S_d0_1 h_S_) main_v22 main_c_9
  let main_v24 : IVec S1 1 := broadcastInDim S1 ![] bcast_S_S1 main_v3
  let main_v25 : IVec S1 1 := broadcastInDim S1 ![] bcast_S_S1 main_v7
  let main_v26 : IVec S1 1 := broadcastInDim S1 ![] bcast_S_S1 main_v11
  let main_v27 : IVec S1 1 := broadcastInDim S1 ![] bcast_S_S1 main_v15
  let main_v28 : IVec S1 1 := broadcastInDim S1 ![] bcast_S_S1 main_v19
  let main_v29 : IVec S1 1 := broadcastInDim S1 ![] bcast_S_S1 main_v23
  let main_v30 : IVec S6 1 := concatenate S6 0 [⟨S1, main_v24⟩, ⟨S1, main_v25⟩, ⟨S1, main_v26⟩, ⟨S1, main_v27⟩, ⟨S1, main_v28⟩, ⟨S1, main_v29⟩] concatenates_S1_S1_S1_S1_S1_S1_S6_d0
  main_v30

def fn {F : FTy → Type} [FloatOps F] (main_arg0 : FVec F S4096x768 .f32) (main_arg1 : FVec F S4096x768 .f32) (main_arg2 : FVec F S4096x768 .f32) (main_arg3 : FVec F S4096x768 .f32) (main_arg4 : FVec F S4096x384 .f32) (main_arg5 : FVec F S4096x128 .f32) : IVec S6 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : FVec F S4096x768 .f32 := Host.absf main_arg2
  let main_cst_2 : FVec F S_ .f32 := constant S_ .f32 0x7F800000#32
  let main_v9 : FVec F S4096x768 .f32 := broadcastInDim S4096x768 ![] bcast_S_S4096x768 main_cst_2
  let main_v10 : IVec S4096x768 1 := cmpf .olt main_v8 main_v9
  let main_c_3 : IVec S_ 1 := constantI S_ 1 1#1
  let main_v11 : IVec S_ 1 := (fun x v => Host.reduce IntOp.andi x v reducesTo_S4096x768_S_d0_1 h_S_) main_v10 main_c_3
  let main_v12 : FVec F S4096x768 .f32 := Host.absf main_arg3
  let main_cst_4 : FVec F S_ .f32 := constant S_ .f32 0x7F800000#32
  let main_v13 : FVec F S4096x768 .f32 := broadcastInDim S4096x768 ![] bcast_S_S4096x768 main_cst_4
  let main_v14 : IVec S4096x768 1 := cmpf .olt main_v12 main_v13
  let main_c_5 : IVec S_ 1 := constantI S_ 1 1#1
  let main_v15 : IVec S_ 1 := (fun x v => Host.reduce IntOp.andi x v reducesTo_S4096x768_S_d0_1 h_S_) main_v14 main_c_5
  fn_part1 (F := F) main_arg4 main_arg5 main_v3 main_v7 main_v11 main_v15
-- ==== Kernel.lean ====
abbrev S4096x768 : Shape := ⟨2, ![4096, 768]⟩
abbrev S4096x384 : Shape := ⟨2, ![4096, 384]⟩
abbrev S4096x128 : Shape := ⟨2, ![4096, 128]⟩
abbrev S2x32x6x128x128 : Shape := ⟨5, ![2, 32, 6, 128, 128]⟩
abbrev S2x2048x768 : Shape := ⟨3, ![2, 2048, 768]⟩
abbrev S2x2048x384 : Shape := ⟨3, ![2, 2048, 384]⟩
abbrev S2x2048x128 : Shape := ⟨3, ![2, 2048, 128]⟩
abbrev S2x128x768 : Shape := ⟨3, ![2, 128, 768]⟩
abbrev S2x128x384 : Shape := ⟨3, ![2, 128, 384]⟩
abbrev S2x128x128 : Shape := ⟨3, ![2, 128, 128]⟩
abbrev S2x2x6x128x128 : Shape := ⟨5, ![2, 2, 6, 128, 128]⟩
abbrev S12x128x128 : Shape := ⟨3, ![12, 128, 128]⟩
abbrev S64x128 : Shape := ⟨2, ![64, 128]⟩
abbrev S1x1x6x128x128 : Shape := ⟨5, ![1, 1, 6, 128, 128]⟩
abbrev S6x128x128 : Shape := ⟨3, ![6, 128, 128]⟩
abbrev S1x64x128 : Shape := ⟨3, ![1, 64, 128]⟩
abbrev S12x64x128 : Shape := ⟨3, ![12, 64, 128]⟩
abbrev S1x1x1 : Shape := ⟨3, ![1, 1, 1]⟩
abbrev S1x1 : Shape := ⟨2, ![1, 1]⟩
abbrev S12x1x1 : Shape := ⟨3, ![12, 1, 1]⟩
abbrev S1x64x64 : Shape := ⟨3, ![1, 64, 64]⟩
abbrev S64x64 : Shape := ⟨2, ![64, 64]⟩
abbrev S12x64x64 : Shape := ⟨3, ![12, 64, 64]⟩
abbrev S12x128x64 : Shape := ⟨3, ![12, 128, 64]⟩
abbrev S12 : Shape := ⟨1, ![12]⟩
abbrev S64x768 : Shape := ⟨2, ![64, 768]⟩
abbrev S1x64x768 : Shape := ⟨3, ![1, 64, 768]⟩
abbrev S64x384 : Shape := ⟨2, ![64, 384]⟩
abbrev S1x64x384 : Shape := ⟨3, ![1, 64, 384]⟩

abbrev nBuf : Space → Nat
  | .hbm => 21
  | .vmem => 29
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x384, .f32⟩
  | .hbm, ⟨5, _⟩ => ⟨S4096x128, .f32⟩
  | .hbm, ⟨6, _⟩ => ⟨S2x32x6x128x128, .f32⟩
  | .hbm, ⟨7, _⟩ => ⟨S4096x768, .f32⟩
  | .hbm, ⟨8, _⟩ => ⟨S2x2048x768, .f32⟩
  | .hbm, ⟨9, _⟩ => ⟨S2x2048x768, .f32⟩
  | .hbm, ⟨10, _⟩ => ⟨S2x2048x768, .f32⟩
  | .hbm, ⟨11, _⟩ => ⟨S2x2048x768, .f32⟩
  | .hbm, ⟨12, _⟩ => ⟨S2x2048x384, .f32⟩
  | .hbm, ⟨13, _⟩ => ⟨S2x2048x128, .f32⟩
  | .hbm, ⟨14, _⟩ => ⟨S2x2048x768, .f32⟩
  | .hbm, ⟨15, _⟩ => ⟨S2x2048x768, .f32⟩
  | .hbm, ⟨16, _⟩ => ⟨S2x2048x768, .f32⟩
  | .hbm, ⟨17, _⟩ => ⟨S2x2048x768, .f32⟩
  | .hbm, ⟨18, _⟩ => ⟨S2x2048x768, .f32⟩
  | .hbm, ⟨19, _⟩ => ⟨S2x2048x384, .f32⟩
  | .hbm, ⟨20, _⟩ => ⟨S2x2048x128, .f32⟩
  | .local _ .vmem, ⟨0, _⟩ => ⟨S2x128x768, .f32⟩
  | .local _ .vmem, ⟨1, _⟩ => ⟨S2x128x768, .f32⟩
  | .local _ .vmem, ⟨2, _⟩ => ⟨S2x128x768, .f32⟩
  | .local _ .vmem, ⟨3, _⟩ => ⟨S2x128x768, .f32⟩
  | .local _ .vmem, ⟨4, _⟩ => ⟨S2x128x768, .f32⟩
  | .local _ .vmem, ⟨5, _⟩ => ⟨S2x128x768, .f32⟩
  | .local _ .vmem, ⟨6, _⟩ => ⟨S2x128x768, .f32⟩
  | .local _ .vmem, ⟨7, _⟩ => ⟨S2x128x768, .f32⟩
  | .local _ .vmem, ⟨8, _⟩ => ⟨S2x128x384, .f32⟩
  | .local _ .vmem, ⟨9, _⟩ => ⟨S2x128x384, .f32⟩
  | .local _ .vmem, ⟨10, _⟩ => ⟨S2x128x128, .f32⟩
  | .local _ .vmem, ⟨11, _⟩ => ⟨S2x128x128, .f32⟩
  | .local _ .vmem, ⟨12, _⟩ => ⟨S2x2x6x128x128, .f32⟩
  | .local _ .vmem, ⟨13, _⟩ => ⟨S2x2x6x128x128, .f32⟩
  | .local _ .vmem, ⟨14, _⟩ => ⟨S2x128x768, .f32⟩
  | .local _ .vmem, ⟨15, _⟩ => ⟨S2x128x768, .f32⟩
  | .local _ .vmem, ⟨16, _⟩ => ⟨S2x128x768, .f32⟩
  | .local _ .vmem, ⟨17, _⟩ => ⟨S2x128x768, .f32⟩
  | .local _ .vmem, ⟨18, _⟩ => ⟨S2x128x768, .f32⟩
  | .local _ .vmem, ⟨19, _⟩ => ⟨S2x128x768, .f32⟩
  | .local _ .vmem, ⟨20, _⟩ => ⟨S2x128x768, .f32⟩
  | .local _ .vmem, ⟨21, _⟩ => ⟨S2x128x768, .f32⟩
  | .local _ .vmem, ⟨22, _⟩ => ⟨S2x128x768, .f32⟩
  | .local _ .vmem, ⟨23, _⟩ => ⟨S2x128x768, .f32⟩
  | .local _ .vmem, ⟨24, _⟩ => ⟨S2x128x384, .f32⟩
  | .local _ .vmem, ⟨25, _⟩ => ⟨S2x128x384, .f32⟩
  | .local _ .vmem, ⟨26, _⟩ => ⟨S2x128x128, .f32⟩
  | .local _ .vmem, ⟨27, _⟩ => ⟨S2x128x128, .f32⟩
  | .local _ .vmem, ⟨28, _⟩ => ⟨S12x128x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 5 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v0.toNat, c0_i32_0.toNat, c0_i32_1.toNat, c0_i32_2.toNat]

def cc0_transform_7 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S2x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x2x6x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x128x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x128x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x128x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x128x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4096x768 : Shape := ⟨2, ![4096, 768]⟩
abbrev S4096x384 : Shape := ⟨2, ![4096, 384]⟩
abbrev S4096x128 : Shape := ⟨2, ![4096, 128]⟩
abbrev S2x32x6x128x128 : Shape := ⟨5, ![2, 32, 6, 128, 128]⟩
abbrev S32x2x6x128x128 : Shape := ⟨5, ![32, 2, 6, 128, 128]⟩
abbrev S2x32x64x128 : Shape := ⟨4, ![2, 32, 64, 128]⟩
abbrev S2x32x1x6 : Shape := ⟨4, ![2, 32, 1, 6]⟩
abbrev S2x32x6 : Shape := ⟨3, ![2, 32, 6]⟩
abbrev S32x2x6 : Shape := ⟨3, ![32, 2, 6]⟩
abbrev S2x32x64x6x128 : Shape := ⟨5, ![2, 32, 64, 6, 128]⟩
abbrev S32x2x6x64x128 : Shape := ⟨5, ![32, 2, 6, 64, 128]⟩
abbrev S2x32x64x6x64 : Shape := ⟨5, ![2, 32, 64, 6, 64]⟩
abbrev S32x2x6x64x64 : Shape := ⟨5, ![32, 2, 6, 64, 64]⟩
abbrev S_ : Shape := ⟨0, ![]⟩
abbrev S2x6x128x128 : Shape := ⟨4, ![2, 6, 128, 128]⟩
abbrev S1x2x6x128x128 : Shape := ⟨5, ![1, 2, 6, 128, 128]⟩
abbrev S1x2x6x64x128 : Shape := ⟨5, ![1, 2, 6, 64, 128]⟩
abbrev S2x6x64x128 : Shape := ⟨4, ![2, 6, 64, 128]⟩
abbrev S1x2x6 : Shape := ⟨3, ![1, 2, 6]⟩
abbrev S2x6 : Shape := ⟨2, ![2, 6]⟩
abbrev S1x2x6x64x64 : Shape := ⟨5, ![1, 2, 6, 64, 64]⟩
abbrev S2x6x64x64 : Shape := ⟨4, ![2, 6, 64, 64]⟩
abbrev S2x6x1x1 : Shape := ⟨4, ![2, 6, 1, 1]⟩
abbrev S2x6x128x64 : Shape := ⟨4, ![2, 6, 128, 64]⟩
abbrev S2x2048x128 : Shape := ⟨3, ![2, 2048, 128]⟩
abbrev S2x2048x768 : Shape := ⟨3, ![2, 2048, 768]⟩
abbrev S2x2048x384 : Shape := ⟨3, ![2, 2048, 384]⟩

abbrev nBuf : Space → Nat
  | .hbm => 197
  | .vmem => 0
  | .smem => 0
  | _ => 0

abbrev hbmTy0_0 (i : Nat) : BufTy := match i % 128 with
  | 0 => ⟨S4096x768, .f32⟩
  | 1 => ⟨S4096x768, .f32⟩
  | 2 => ⟨S4096x768, .f32⟩
  | 3 => ⟨S4096x768, .f32⟩
  | 4 => ⟨S4096x384, .f32⟩
  | 5 => ⟨S4096x128, .f32⟩
  | 6 => ⟨S2x32x6x128x128, .f32⟩
  | 7 => ⟨S4096x768, .f32⟩
  | 8 => ⟨S32x2x6x128x128, .f32⟩
  | 9 => ⟨S2x32x64x128, .f32⟩
  | 10 => ⟨S2x32x1x6, .f32⟩
  | 11 => ⟨S2x32x6, .f32⟩
  | 12 => ⟨S32x2x6, .f32⟩
  | 13 => ⟨S2x32x64x6x128, .f32⟩
  | 14 => ⟨S32x2x6x64x128, .f32⟩
  | 15 => ⟨S2x32x64x6x128, .f32⟩
  | 16 => ⟨S32x2x6x64x128, .f32⟩
  | 17 => ⟨S2x32x64x6x128, .f32⟩
  | 18 => ⟨S32x2x6x64x128, .f32⟩
  | 19 => ⟨S2x32x64x6x128, .f32⟩
  | 20 => ⟨S32x2x6x64x128, .f32⟩
  | 21 => ⟨S2x32x64x6x64, .f32⟩
  | 22 => ⟨S32x2x6x64x64, .f32⟩
  | 23 => ⟨S2x32x64x6x128, .f32⟩
  | 24 => ⟨S32x2x6x64x128, .f32⟩
  | 25 => ⟨S_, .f32⟩
  | 26 => ⟨S2x6x128x128, .f32⟩
  | 27 => ⟨S_, .f32⟩
  | 28 => ⟨S32x2x6x64x128, .f32⟩
  | 29 => ⟨S_, .f32⟩
  | 30 => ⟨S32x2x6x64x128, .f32⟩
  | 31 => ⟨S_, .f32⟩
  | 32 => ⟨S32x2x6x64x128, .f32⟩
  | 33 => ⟨S_, .f32⟩
  | 34 => ⟨S32x2x6x64x128, .f32⟩
  | 35 => ⟨S_, .f32⟩
  | 36 => ⟨S32x2x6, .f32⟩
  | 37 => ⟨S_, .f32⟩
  | 38 => ⟨S32x2x6x64x64, .f32⟩
  | 39 => ⟨S_, .i32⟩
  | 40 => ⟨S32x2x6x128x128, .f32⟩
  | 41 => ⟨S32x2x6x64x128, .f32⟩
  | 42 => ⟨S32x2x6x64x128, .f32⟩
  | 43 => ⟨S32x2x6x64x128, .f32⟩
  | 44 => ⟨S32x2x6x64x128, .f32⟩
  | 45 => ⟨S32x2x6, .f32⟩
  | 46 => ⟨S32x2x6x64x64, .f32⟩
  | 47 => ⟨S32x2x6x64x128, .f32⟩
  | 48 => ⟨S_, .i32⟩
  | 49 => ⟨S2x6x128x128, .f32⟩
  | 50 => ⟨S32x2x6x64x128, .f32⟩
  | 51 => ⟨S32x2x6x64x128, .f32⟩
  | 52 => ⟨S32x2x6x64x128, .f32⟩
  | 53 => ⟨S32x2x6x64x128, .f32⟩
  | 54 => ⟨S32x2x6, .f32⟩
  | 55 => ⟨S32x2x6x64x64, .f32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S1x2x6x128x128, .f32⟩
  | 67 => ⟨S2x6x128x128, .f32⟩
  | 68 => ⟨S_, .i32⟩
  | 69 => ⟨S_, .i32⟩
  | 70 => ⟨S_, .i32⟩
  | 71 => ⟨S_, .i32⟩
  | 72 => ⟨S1x2x6x64x128, .f32⟩
  | 73 => ⟨S2x6x64x128, .f32⟩
  | 74 => ⟨S_, .i32⟩
  | 75 => ⟨S_, .i32⟩
  | 76 => ⟨S_, .i32⟩
  | 77 => ⟨S_, .i32⟩
  | 78 => ⟨S1x2x6x64x128, .f32⟩
  | 79 => ⟨S2x6x64x128, .f32⟩
  | 80 => ⟨S_, .i32⟩
  | 81 => ⟨S_, .i32⟩
  | 82 => ⟨S_, .i32⟩
  | 83 => ⟨S_, .i32⟩
  | 84 => ⟨S1x2x6x64x128, .f32⟩
  | 85 => ⟨S2x6x64x128, .f32⟩
  | 86 => ⟨S_, .i32⟩
  | 87 => ⟨S_, .i32⟩
  | 88 => ⟨S_, .i32⟩
  | 89 => ⟨S_, .i32⟩
  | 90 => ⟨S1x2x6x64x128, .f32⟩
  | 91 => ⟨S2x6x64x128, .f32⟩
  | 92 => ⟨S_, .i32⟩
  | 93 => ⟨S_, .i32⟩
  | 94 => ⟨S1x2x6, .f32⟩
  | 95 => ⟨S2x6, .f32⟩
  | 96 => ⟨S_, .i32⟩
  | 97 => ⟨S_, .i32⟩
  | 98 => ⟨S_, .i32⟩
  | 99 => ⟨S_, .i32⟩
  | 100 => ⟨S1x2x6x64x64, .f32⟩
  | 101 => ⟨S2x6x64x64, .f32⟩
  | 102 => ⟨S_, .i32⟩
  | 103 => ⟨S_, .i32⟩
  | 104 => ⟨S_, .i32⟩
  | 105 => ⟨S_, .i32⟩
  | 106 => ⟨S1x2x6x64x128, .f32⟩
  | 107 => ⟨S2x6x64x128, .f32⟩
  | 108 => ⟨S2x6x64x128, .f32⟩
  | 109 => ⟨S2x6x64x128, .f32⟩
  | 110 => ⟨S2x6x64x128, .f32⟩
  | 111 => ⟨S2x6x64x128, .f32⟩
  | 112 => ⟨S2x6x64x128, .f32⟩
  | 113 => ⟨S2x6, .f32⟩
  | 114 => ⟨S2x6x1x1, .f32⟩
  | 115 => ⟨S2x6x128x128, .f32⟩
  | 116 => ⟨S2x6x128x128, .f32⟩
  | 117 => ⟨S2x6x128x128, .f32⟩
  | 118 => ⟨S2x6x128x128, .f32⟩
  | 119 => ⟨S2x6x128x64, .f32⟩
  | 120 => ⟨S2x6x64x128, .f32⟩
  | 121 => ⟨S2x6x128x64, .f32⟩
  | 122 => ⟨S2x6x64x128, .f32⟩
  | 123 => ⟨S2x6x128x128, .f32⟩
  | 124 => ⟨S_, .f32⟩
  | 125 => ⟨S2x6, .f32⟩
  | 126 => ⟨S2x6x1x1, .f32⟩
  | 127 => ⟨S2x6x128x128, .f32⟩
  | _ => ⟨S4096x768, .f32⟩

abbrev hbmTy0_1 (i : Nat) : BufTy := match i % 128 with
  | 0 => ⟨S2x6x128x128, .f32⟩
  | 1 => ⟨S_, .f32⟩
  | 2 => ⟨S2x6, .f32⟩
  | 3 => ⟨S2x6, .f32⟩
  | 4 => ⟨S2x6x128x64, .f32⟩
  | 5 => ⟨S2x6x64x128, .f32⟩
  | 6 => ⟨S2x6x64x128, .f32⟩
  | 7 => ⟨S2x6x64x64, .f32⟩
  | 8 => ⟨S2x6x128x128, .f32⟩
  | 9 => ⟨S2x6x128x128, .f32⟩
  | 10 => ⟨S2x6x128x128, .f32⟩
  | 11 => ⟨S2x6x64x128, .f32⟩
  | 12 => ⟨S2x6x64x128, .f32⟩
  | 13 => ⟨S2x6x128x128, .f32⟩
  | 14 => ⟨S2x6x128x128, .f32⟩
  | 15 => ⟨S2x6x128x128, .f32⟩
  | 16 => ⟨S2x6x64x128, .f32⟩
  | 17 => ⟨S1x2x6x64x128, .f32⟩
  | 18 => ⟨S_, .i32⟩
  | 19 => ⟨S_, .i32⟩
  | 20 => ⟨S_, .i32⟩
  | 21 => ⟨S_, .i32⟩
  | 22 => ⟨S32x2x6x64x128, .f32⟩
  | 23 => ⟨S1x2x6x64x128, .f32⟩
  | 24 => ⟨S_, .i32⟩
  | 25 => ⟨S_, .i32⟩
  | 26 => ⟨S_, .i32⟩
  | 27 => ⟨S_, .i32⟩
  | 28 => ⟨S32x2x6x64x128, .f32⟩
  | 29 => ⟨S1x2x6x64x128, .f32⟩
  | 30 => ⟨S_, .i32⟩
  | 31 => ⟨S_, .i32⟩
  | 32 => ⟨S_, .i32⟩
  | 33 => ⟨S_, .i32⟩
  | 34 => ⟨S32x2x6x64x128, .f32⟩
  | 35 => ⟨S1x2x6x64x128, .f32⟩
  | 36 => ⟨S_, .i32⟩
  | 37 => ⟨S_, .i32⟩
  | 38 => ⟨S_, .i32⟩
  | 39 => ⟨S_, .i32⟩
  | 40 => ⟨S32x2x6x64x128, .f32⟩
  | 41 => ⟨S1x2x6, .f32⟩
  | 42 => ⟨S_, .i32⟩
  | 43 => ⟨S_, .i32⟩
  | 44 => ⟨S32x2x6, .f32⟩
  | 45 => ⟨S1x2x6x64x64, .f32⟩
  | 46 => ⟨S_, .i32⟩
  | 47 => ⟨S_, .i32⟩
  | 48 => ⟨S_, .i32⟩
  | 49 => ⟨S_, .i32⟩
  | 50 => ⟨S32x2x6x64x64, .f32⟩
  | 51 => ⟨S_, .i32⟩
  | 52 => ⟨S_, .i32⟩
  | 53 => ⟨S2x32x6, .f32⟩
  | 54 => ⟨S2x32x1x6, .f32⟩
  | 55 => ⟨S_, .i32⟩
  | 56 => ⟨S_, .f32⟩
  | 57 => ⟨S2x32x64x128, .f32⟩
  | 58 => ⟨S2x2048x128, .f32⟩
  | 59 => ⟨S2x32x64x6x128, .f32⟩
  | 60 => ⟨S2x2048x768, .f32⟩
  | 61 => ⟨S2x32x64x6x128, .f32⟩
  | 62 => ⟨S2x2048x768, .f32⟩
  | 63 => ⟨S2x32x64x6x128, .f32⟩
  | 64 => ⟨S2x2048x768, .f32⟩
  | 65 => ⟨S2x32x64x6x128, .f32⟩
  | 66 => ⟨S2x2048x768, .f32⟩
  | 67 => ⟨S2x32x64x6x64, .f32⟩
  | 68 => ⟨S2x2048x384, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_c : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev main_v24_3 : Ref sig .tc := ⟨.hbm, 43, rfl⟩
abbrev main_v24_4 : Ref sig .tc := ⟨.hbm, 44, rfl⟩
abbrev main_v24_5 : Ref sig .tc := ⟨.hbm, 45, rfl⟩
abbrev main_v24_6 : Ref sig .tc := ⟨.hbm, 46, rfl⟩
abbrev main_v24_7 : Ref sig .tc := ⟨.hbm, 47, rfl⟩
abbrev main_v24_8 : Ref sig .tc := ⟨.hbm, 48, rfl⟩
abbrev main_v24_9 : Ref sig .tc := ⟨.hbm, 49, rfl⟩
abbrev main_v24_10 : Ref sig .tc := ⟨.hbm, 50, rfl⟩
abbrev main_v24_11 : Ref sig .tc := ⟨.hbm, 51, rfl⟩
abbrev main_v24_12 : Ref sig .tc := ⟨.hbm, 52, rfl⟩
abbrev main_v24_13 : Ref sig .tc := ⟨.hbm, 53, rfl⟩
abbrev main_v24_14 : Ref sig .tc := ⟨.hbm, 54, rfl⟩
abbrev main_v24_15 : Ref sig .tc := ⟨.hbm, 55, rfl⟩
abbrev main_while0c_c_22 : Ref sig .tc := ⟨.hbm, 56, rfl⟩
abbrev main_while0c_v39 : Ref sig .tc := ⟨.hbm, 57, rfl⟩
abbrev main_while0b_c_22 : Ref sig .tc := ⟨.hbm, 58, rfl⟩
abbrev main_while0b_v39 : Ref sig .tc := ⟨.hbm, 59, rfl⟩
abbrev main_while0b_c_23 : Ref sig .tc := ⟨.hbm, 60, rfl⟩
abbrev main_while0b_v40 : Ref sig .tc := ⟨.hbm, 61, rfl⟩
abbrev main_while0b_call0_c : Ref sig .tc := ⟨.hbm, 62, rfl⟩
abbrev main_while0b_call0_c_0 : Ref sig .tc := ⟨.hbm, 63, rfl⟩
abbrev main_while0b_call0_c_1 : Ref sig .tc := ⟨.hbm, 64, rfl⟩
abbrev main_while0b_call0_c_2 : Ref sig .tc := ⟨.hbm, 65, rfl⟩
abbrev main_while0b_call0_v0 : Ref sig .tc := ⟨.hbm, 66, rfl⟩
abbrev main_while0b_v41 : Ref sig .tc := ⟨.hbm, 67, rfl⟩
abbrev main_while0b_call1_c : Ref sig .tc := ⟨.hbm, 68, rfl⟩
abbrev main_while0b_call1_c_0 : Ref sig .tc := ⟨.hbm, 69, rfl⟩
abbrev main_while0b_call1_c_1 : Ref sig .tc := ⟨.hbm, 70, rfl⟩
abbrev main_while0b_call1_c_2 : Ref sig .tc := ⟨.hbm, 71, rfl⟩
abbrev main_while0b_call1_v0 : Ref sig .tc := ⟨.hbm, 72, rfl⟩
abbrev main_while0b_v42 : Ref sig .tc := ⟨.hbm, 73, rfl⟩
abbrev main_while0b_call2_c : Ref sig .tc := ⟨.hbm, 74, rfl⟩
abbrev main_while0b_call2_c_0 : Ref sig .tc := ⟨.hbm, 75, rfl⟩
abbrev main_while0b_call2_c_1 : Ref sig .tc := ⟨.hbm, 76, rfl⟩
abbrev main_while0b_call2_c_2 : Ref sig .tc := ⟨.hbm, 77, rfl⟩
abbrev main_while0b_call2_v0 : Ref sig .tc := ⟨.hbm, 78, rfl⟩
abbrev main_while0b_v43 : Ref sig .tc := ⟨.hbm, 79, rfl⟩
abbrev main_while0b_call3_c : Ref sig .tc := ⟨.hbm, 80, rfl⟩
abbrev main_while0b_call3_c_0 : Ref sig .tc := ⟨.hbm, 81, rfl⟩
abbrev main_while0b_call3_c_1 : Ref sig .tc := ⟨.hbm, 82, rfl⟩
abbrev main_while0b_call3_c_2 : Ref sig .tc := ⟨.hbm, 83, rfl⟩
abbrev main_while0b_call3_v0 : Ref sig .tc := ⟨.hbm, 84, rfl⟩
abbrev main_while0b_v44 : Ref sig .tc := ⟨.hbm, 85, rfl⟩
abbrev main_while0b_call4_c : Ref sig .tc := ⟨.hbm, 86, rfl⟩
abbrev main_while0b_call4_c_0 : Ref sig .tc := ⟨.hbm, 87, rfl⟩
abbrev main_while0b_call4_c_1 : Ref sig .tc := ⟨.hbm, 88, rfl⟩
abbrev main_while0b_call4_c_2 : Ref sig .tc := ⟨.hbm, 89, rfl⟩
abbrev main_while0b_call4_v0 : Ref sig .tc := ⟨.hbm, 90, rfl⟩
abbrev main_while0b_v45 : Ref sig .tc := ⟨.hbm, 91, rfl⟩
abbrev main_while0b_call5_c : Ref sig .tc := ⟨.hbm, 92, rfl⟩
abbrev main_while0b_call5_c_0 : Ref sig .tc := ⟨.hbm, 93, rfl⟩
abbrev main_while0b_call5_v0 : Ref sig .tc := ⟨.hbm, 94, rfl⟩
abbrev main_while0b_v46 : Ref sig .tc := ⟨.hbm, 95, rfl⟩
abbrev main_while0b_call6_c : Ref sig .tc := ⟨.hbm, 96, rfl⟩
abbrev main_while0b_call6_c_0 : Ref sig .tc := ⟨.hbm, 97, rfl⟩
abbrev main_while0b_call6_c_1 : Ref sig .tc := ⟨.hbm, 98, rfl⟩
abbrev main_while0b_call6_c_2 : Ref sig .tc := ⟨.hbm, 99, rfl⟩
abbrev main_while0b_call6_v0 : Ref sig .tc := ⟨.hbm, 100, rfl⟩
abbrev main_while0b_v47 : Ref sig .tc := ⟨.hbm, 101, rfl⟩
abbrev main_while0b_call7_c : Ref sig .tc := ⟨.hbm, 102, rfl⟩
abbrev main_while0b_call7_c_0 : Ref sig .tc := ⟨.hbm, 103, rfl⟩
abbrev main_while0b_call7_c_1 : Ref sig .tc := ⟨.hbm, 104, rfl⟩
abbrev main_while0b_call7_c_2 : Ref sig .tc := ⟨.hbm, 105, rfl⟩
abbrev main_while0b_call7_v0 : Ref sig .tc := ⟨.hbm, 106, rfl⟩
abbrev main_while0b_v48 : Ref sig .tc := ⟨.hbm, 107, rfl⟩
abbrev main_while0b_v49 : Ref sig .tc := ⟨.hbm, 108, rfl⟩
abbrev main_while0b_v50 : Ref sig .tc := ⟨.hbm, 109, rfl⟩
abbrev main_while0b_v51 : Ref sig .tc := ⟨.hbm, 110, rfl⟩
abbrev main_while0b_v52 : Ref sig .tc := ⟨.hbm, 111, rfl⟩
abbrev main_while0b_v53 : Ref sig .tc := ⟨.hbm, 112, rfl⟩
abbrev main_while0b_v54 : Ref sig .tc := ⟨.hbm, 113, rfl⟩
abbrev main_while0b_v55 : Ref sig .tc := ⟨.hbm, 114, rfl⟩
abbrev main_while0b_v56 : Ref sig .tc := ⟨.hbm, 115, rfl⟩
abbrev main_while0b_v57 : Ref sig .tc := ⟨.hbm, 116, rfl⟩
abbrev main_while0b_v58 : Ref sig .tc := ⟨.hbm, 117, rfl⟩
abbrev main_while0b_v59 : Ref sig .tc := ⟨.hbm, 118, rfl⟩
abbrev main_while0b_v60 : Ref sig .tc := ⟨.hbm, 119, rfl⟩
abbrev main_while0b_v61 : Ref sig .tc := ⟨.hbm, 120, rfl⟩
abbrev main_while0b_v62 : Ref sig .tc := ⟨.hbm, 121, rfl⟩
abbrev main_while0b_v63 : Ref sig .tc := ⟨.hbm, 122, rfl⟩
abbrev main_while0b_v64 : Ref sig .tc := ⟨.hbm, 123, rfl⟩
abbrev main_while0b_cst_24 : Ref sig .tc := ⟨.hbm, 124, rfl⟩
abbrev main_while0b_v65 : Ref sig .tc := ⟨.hbm, 125, rfl⟩
abbrev main_while0b_v66 : Ref sig .tc := ⟨.hbm, 126, rfl⟩
abbrev main_while0b_v67 : Ref sig .tc := ⟨.hbm, 127, rfl⟩
abbrev main_while0b_v68 : Ref sig .tc := ⟨.hbm, 128, rfl⟩
abbrev main_while0b_cst_25 : Ref sig .tc := ⟨.hbm, 129, rfl⟩
abbrev main_while0b_v69 : Ref sig .tc := ⟨.hbm, 130, rfl⟩
abbrev main_while0b_v70 : Ref sig .tc := ⟨.hbm, 131, rfl⟩
abbrev main_while0b_v71 : Ref sig .tc := ⟨.hbm, 132, rfl⟩
abbrev main_while0b_v72 : Ref sig .tc := ⟨.hbm, 133, rfl⟩
abbrev main_while0b_v73 : Ref sig .tc := ⟨.hbm, 134, rfl⟩
abbrev main_while0b_v74 : Ref sig .tc := ⟨.hbm, 135, rfl⟩
abbrev main_while0b_v75 : Ref sig .tc := ⟨.hbm, 136, rfl⟩
abbrev main_while0b_v76 : Ref sig .tc := ⟨.hbm, 137, rfl⟩
abbrev main_while0b_v77 : Ref sig .tc := ⟨.hbm, 138, rfl⟩
abbrev main_while0b_v78 : Ref sig .tc := ⟨.hbm, 139, rfl⟩
abbrev main_while0b_v79 : Ref sig .tc := ⟨.hbm, 140, rfl⟩
abbrev main_while0b_v80 : Ref sig .tc := ⟨.hbm, 141, rfl⟩
abbrev main_while0b_v81 : Ref sig .tc := ⟨.hbm, 142, rfl⟩
abbrev main_while0b_v82 : Ref sig .tc := ⟨.hbm, 143, rfl⟩
abbrev main_while0b_v83 : Ref sig .tc := ⟨.hbm, 144, rfl⟩
abbrev main_while0b_call8_v0 : Ref sig .tc := ⟨.hbm, 145, rfl⟩
abbrev main_while0b_call8_c : Ref sig .tc := ⟨.hbm, 146, rfl⟩
abbrev main_while0b_call8_c_0 : Ref sig .tc := ⟨.hbm, 147, rfl⟩
abbrev main_while0b_call8_c_1 : Ref sig .tc := ⟨.hbm, 148, rfl⟩
abbrev main_while0b_call8_c_2 : Ref sig .tc := ⟨.hbm, 149, rfl⟩
abbrev main_while0b_v84 : Ref sig .tc := ⟨.hbm, 150, rfl⟩
abbrev main_while0b_call9_v0 : Ref sig .tc := ⟨.hbm, 151, rfl⟩
abbrev main_while0b_call9_c : Ref sig .tc := ⟨.hbm, 152, rfl⟩
abbrev main_while0b_call9_c_0 : Ref sig .tc := ⟨.hbm, 153, rfl⟩
abbrev main_while0b_call9_c_1 : Ref sig .tc := ⟨.hbm, 154, rfl⟩
abbrev main_while0b_call9_c_2 : Ref sig .tc := ⟨.hbm, 155, rfl⟩
abbrev main_while0b_v85 : Ref sig .tc := ⟨.hbm, 156, rfl⟩
abbrev main_while0b_call10_v0 : Ref sig .tc := ⟨.hbm, 157, rfl⟩
abbrev main_while0b_call10_c : Ref sig .tc := ⟨.hbm, 158, rfl⟩
abbrev main_while0b_call10_c_0 : Ref sig .tc := ⟨.hbm, 159, rfl⟩
abbrev main_while0b_call10_c_1 : Ref sig .tc := ⟨.hbm, 160, rfl⟩
abbrev main_while0b_call10_c_2 : Ref sig .tc := ⟨.hbm, 161, rfl⟩
abbrev main_while0b_v86 : Ref sig .tc := ⟨.hbm, 162, rfl⟩
abbrev main_while0b_call11_v0 : Ref sig .tc := ⟨.hbm, 163, rfl⟩
abbrev main_while0b_call11_c : Ref sig .tc := ⟨.hbm, 164, rfl⟩
abbrev main_while0b_call11_c_0 : Ref sig .tc := ⟨.hbm, 165, rfl⟩
abbrev main_while0b_call11_c_1 : Ref sig .tc := ⟨.hbm, 166, rfl⟩
abbrev main_while0b_call11_c_2 : Ref sig .tc := ⟨.hbm, 167, rfl⟩
abbrev main_while0b_v87 : Ref sig .tc := ⟨.hbm, 168, rfl⟩
abbrev main_while0b_call12_v0 : Ref sig .tc := ⟨.hbm, 169, rfl⟩
abbrev main_while0b_call12_c : Ref sig .tc := ⟨.hbm, 170, rfl⟩
abbrev main_while0b_call12_c_0 : Ref sig .tc := ⟨.hbm, 171, rfl⟩
abbrev main_while0b_v88 : Ref sig .tc := ⟨.hbm, 172, rfl⟩
abbrev main_while0b_call13_v0 : Ref sig .tc := ⟨.hbm, 173, rfl⟩
abbrev main_while0b_call13_c : Ref sig .tc := ⟨.hbm, 174, rfl⟩
abbrev main_while0b_call13_c_0 : Ref sig .tc := ⟨.hbm, 175, rfl⟩
abbrev main_while0b_call13_c_1 : Ref sig .tc := ⟨.hbm, 176, rfl⟩
abbrev main_while0b_call13_c_2 : Ref sig .tc := ⟨.hbm, 177, rfl⟩
abbrev main_while0b_v89 : Ref sig .tc := ⟨.hbm, 178, rfl⟩
abbrev main_while0b_c_26 : Ref sig .tc := ⟨.hbm, 179, rfl⟩
abbrev main_while0b_v90 : Ref sig .tc := ⟨.hbm, 180, rfl⟩
abbrev main_v25 : Ref sig .tc := ⟨.hbm, 181, rfl⟩
abbrev main_v26 : Ref sig .tc := ⟨.hbm, 182, rfl⟩
abbrev main_c_6 : Ref sig .tc := ⟨.hbm, 183, rfl⟩
abbrev main_call14_v0 : Ref sig .tc := ⟨.hbm, 184, rfl⟩
abbrev main_v27 : Ref sig .tc := ⟨.hbm, 185, rfl⟩
abbrev main_v28 : Ref sig .tc := ⟨.hbm, 186, rfl⟩
abbrev main_v29 : Ref sig .tc := ⟨.hbm, 187, rfl⟩
abbrev main_v30 : Ref sig .tc := ⟨.hbm, 188, rfl⟩
abbrev main_v31 : Ref sig .tc := ⟨.hbm, 189, rfl⟩
abbrev main_v32 : Ref sig .tc := ⟨.hbm, 190, rfl⟩
abbrev main_v33 : Ref sig .tc := ⟨.hbm, 191, rfl⟩
abbrev main_v34 : Ref sig .tc := ⟨.hbm, 192, rfl⟩
abbrev main_v35 : Ref sig .tc := ⟨.hbm, 193, rfl⟩
abbrev main_v36 : Ref sig .tc := ⟨.hbm, 194, rfl⟩
abbrev main_v37 : Ref sig .tc := ⟨.hbm, 195, rfl⟩
abbrev main_v38 : Ref sig .tc := ⟨.hbm, 196, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4096x768 : Shape := ⟨2, ![4096, 768]⟩
abbrev S4096x384 : Shape := ⟨2, ![4096, 384]⟩
abbrev S4096x128 : Shape := ⟨2, ![4096, 128]⟩
abbrev S2x2048x768 : Shape := ⟨3, ![2, 2048, 768]⟩
abbrev S2x2048x384 : Shape := ⟨3, ![2, 2048, 384]⟩
abbrev S2x2048x128 : Shape := ⟨3, ![2, 2048, 128]⟩
abbrev S2x32x6x128x128 : Shape := ⟨5, ![2, 32, 6, 128, 128]⟩
abbrev S2x128x768 : Shape := ⟨3, ![2, 128, 768]⟩
abbrev S2x128x384 : Shape := ⟨3, ![2, 128, 384]⟩
abbrev S2x128x128 : Shape := ⟨3, ![2, 128, 128]⟩
abbrev S2x2x6x128x128 : Shape := ⟨5, ![2, 2, 6, 128, 128]⟩
abbrev S12x128x128 : Shape := ⟨3, ![12, 128, 128]⟩
abbrev S6x128x128 : Shape := ⟨3, ![6, 128, 128]⟩
abbrev S1x1x6x128x128 : Shape := ⟨5, ![1, 1, 6, 128, 128]⟩
abbrev S1x1x1 : Shape := ⟨3, ![1, 1, 1]⟩
abbrev S1x1 : Shape := ⟨2, ![1, 1]⟩
abbrev S12x1x1 : Shape := ⟨3, ![12, 1, 1]⟩
abbrev S1x64x128 : Shape := ⟨3, ![1, 64, 128]⟩
abbrev S64x128 : Shape := ⟨2, ![64, 128]⟩
abbrev S12x64x128 : Shape := ⟨3, ![12, 64, 128]⟩
abbrev S1x64x64 : Shape := ⟨3, ![1, 64, 64]⟩
abbrev S64x64 : Shape := ⟨2, ![64, 64]⟩
abbrev S12x64x64 : Shape := ⟨3, ![12, 64, 64]⟩
abbrev S64x768 : Shape := ⟨2, ![64, 768]⟩
abbrev S1x64x768 : Shape := ⟨3, ![1, 64, 768]⟩

abbrev nBuf : Space → Nat
  | .hbm => 14
  | .vmem => 17
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x384, .f32⟩
  | .hbm, ⟨5, _⟩ => ⟨S4096x128, .f32⟩
  | .hbm, ⟨6, _⟩ => ⟨S2x2048x768, .f32⟩
  | .hbm, ⟨7, _⟩ => ⟨S2x2048x768, .f32⟩
  | .hbm, ⟨8, _⟩ => ⟨S2x2048x768, .f32⟩
  | .hbm, ⟨9, _⟩ => ⟨S2x2048x768, .f32⟩
  | .hbm, ⟨10, _⟩ => ⟨S2x2048x384, .f32⟩
  | .hbm, ⟨11, _⟩ => ⟨S2x2048x128, .f32⟩
  | .hbm, ⟨12, _⟩ => ⟨S2x2048x768, .f32⟩
  | .hbm, ⟨13, _⟩ => ⟨S2x32x6x128x128, .f32⟩
  | .local _ .vmem, ⟨0, _⟩ => ⟨S2x128x768, .f32⟩
  | .local _ .vmem, ⟨1, _⟩ => ⟨S2x128x768, .f32⟩
  | .local _ .vmem, ⟨2, _⟩ => ⟨S2x128x768, .f32⟩
  | .local _ .vmem, ⟨3, _⟩ => ⟨S2x128x768, .f32⟩
  | .local _ .vmem, ⟨4, _⟩ => ⟨S2x128x768, .f32⟩
  | .local _ .vmem, ⟨5, _⟩ => ⟨S2x128x768, .f32⟩
  | .local _ .vmem, ⟨6, _⟩ => ⟨S2x128x768, .f32⟩
  | .local _ .vmem, ⟨7, _⟩ => ⟨S2x128x768, .f32⟩
  | .local _ .vmem, ⟨8, _⟩ => ⟨S2x128x384, .f32⟩
  | .local _ .vmem, ⟨9, _⟩ => ⟨S2x128x384, .f32⟩
  | .local _ .vmem, ⟨10, _⟩ => ⟨S2x128x128, .f32⟩
  | .local _ .vmem, ⟨11, _⟩ => ⟨S2x128x128, .f32⟩
  | .local _ .vmem, ⟨12, _⟩ => ⟨S2x128x768, .f32⟩
  | .local _ .vmem, ⟨13, _⟩ => ⟨S2x128x768, .f32⟩
  | .local _ .vmem, ⟨14, _⟩ => ⟨S2x2x6x128x128, .f32⟩
  | .local _ .vmem, ⟨15, _⟩ => ⟨S2x2x6x128x128, .f32⟩
  | .local _ .vmem, ⟨16, _⟩ => ⟨S12x128x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S2x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x2x6x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4096x768 : Shape := ⟨2, ![4096, 768]⟩
abbrev S4096x384 : Shape := ⟨2, ![4096, 384]⟩
abbrev S4096x128 : Shape := ⟨2, ![4096, 128]⟩
abbrev S_ : Shape := ⟨0, ![]⟩
abbrev S2x6x128x128 : Shape := ⟨4, ![2, 6, 128, 128]⟩
abbrev S2x32x64x128 : Shape := ⟨4, ![2, 32, 64, 128]⟩
abbrev S2x32x1x6 : Shape := ⟨4, ![2, 32, 1, 6]⟩
abbrev S2x32x6 : Shape := ⟨3, ![2, 32, 6]⟩
abbrev S32x2x6 : Shape := ⟨3, ![32, 2, 6]⟩
abbrev S2x32x64x6x128 : Shape := ⟨5, ![2, 32, 64, 6, 128]⟩
abbrev S32x2x6x64x128 : Shape := ⟨5, ![32, 2, 6, 64, 128]⟩
abbrev S2x32x64x6x64 : Shape := ⟨5, ![2, 32, 64, 6, 64]⟩
abbrev S32x2x6x64x64 : Shape := ⟨5, ![32, 2, 6, 64, 64]⟩
abbrev S32x2x6x128x128 : Shape := ⟨5, ![32, 2, 6, 128, 128]⟩
abbrev S1x2x6x64x128 : Shape := ⟨5, ![1, 2, 6, 64, 128]⟩
abbrev S2x6x64x128 : Shape := ⟨4, ![2, 6, 64, 128]⟩
abbrev S1x2x6 : Shape := ⟨3, ![1, 2, 6]⟩
abbrev S2x6 : Shape := ⟨2, ![2, 6]⟩
abbrev S1x2x6x64x64 : Shape := ⟨5, ![1, 2, 6, 64, 64]⟩
abbrev S2x6x64x64 : Shape := ⟨4, ![2, 6, 64, 64]⟩
abbrev S2x6x1x1 : Shape := ⟨4, ![2, 6, 1, 1]⟩
abbrev S1x2x6x128x128 : Shape := ⟨5, ![1, 2, 6, 128, 128]⟩
abbrev S2x2048x768 : Shape := ⟨3, ![2, 2048, 768]⟩
abbrev S2x32x6x128x128 : Shape := ⟨5, ![2, 32, 6, 128, 128]⟩

abbrev nBuf : Space → Nat
  | .hbm => 101
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x384, .f32⟩
  | .hbm, ⟨5, _⟩ => ⟨S4096x128, .f32⟩
  | .hbm, ⟨6, _⟩ => ⟨S_, .f32⟩
  | .hbm, ⟨7, _⟩ => ⟨S2x6x128x128, .f32⟩
  | .hbm, ⟨8, _⟩ => ⟨S2x32x64x128, .f32⟩
  | .hbm, ⟨9, _⟩ => ⟨S2x32x1x6, .f32⟩
  | .hbm, ⟨10, _⟩ => ⟨S2x32x6, .f32⟩
  | .hbm, ⟨11, _⟩ => ⟨S32x2x6, .f32⟩
  | .hbm, ⟨12, _⟩ => ⟨S2x32x64x6x128, .f32⟩
  | .hbm, ⟨13, _⟩ => ⟨S32x2x6x64x128, .f32⟩
  | .hbm, ⟨14, _⟩ => ⟨S2x32x64x6x128, .f32⟩
  | .hbm, ⟨15, _⟩ => ⟨S32x2x6x64x128, .f32⟩
  | .hbm, ⟨16, _⟩ => ⟨S2x32x64x6x128, .f32⟩
  | .hbm, ⟨17, _⟩ => ⟨S32x2x6x64x128, .f32⟩
  | .hbm, ⟨18, _⟩ => ⟨S2x32x64x6x128, .f32⟩
  | .hbm, ⟨19, _⟩ => ⟨S32x2x6x64x128, .f32⟩
  | .hbm, ⟨20, _⟩ => ⟨S2x32x64x6x64, .f32⟩
  | .hbm, ⟨21, _⟩ => ⟨S32x2x6x64x64, .f32⟩
  | .hbm, ⟨22, _⟩ => ⟨S_, .f32⟩
  | .hbm, ⟨23, _⟩ => ⟨S32x2x6x64x128, .f32⟩
  | .hbm, ⟨24, _⟩ => ⟨S_, .f32⟩
  | .hbm, ⟨25, _⟩ => ⟨S32x2x6x128x128, .f32⟩
  | .hbm, ⟨26, _⟩ => ⟨S_, .i32⟩
  | .hbm, ⟨27, _⟩ => ⟨S32x2x6x64x128, .f32⟩
  | .hbm, ⟨28, _⟩ => ⟨S32x2x6x64x128, .f32⟩
  | .hbm, ⟨29, _⟩ => ⟨S32x2x6x64x128, .f32⟩
  | .hbm, ⟨30, _⟩ => ⟨S32x2x6x64x128, .f32⟩
  | .hbm, ⟨31, _⟩ => ⟨S32x2x6, .f32⟩
  | .hbm, ⟨32, _⟩ => ⟨S32x2x6x64x64, .f32⟩
  | .hbm, ⟨33, _⟩ => ⟨S_, .i32⟩
  | .hbm, ⟨34, _⟩ => ⟨S2x6x128x128, .f32⟩
  | .hbm, ⟨35, _⟩ => ⟨S32x2x6x64x128, .f32⟩
  | .hbm, ⟨36, _⟩ => ⟨S32x2x6x128x128, .f32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x2x6x64x128, .f32⟩
  | .hbm, ⟨44, _⟩ => ⟨S2x6x64x128, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x2x6x64x128, .f32⟩
  | .hbm, ⟨50, _⟩ => ⟨S2x6x64x128, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x2x6x64x128, .f32⟩
  | .hbm, ⟨56, _⟩ => ⟨S2x6x64x128, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x2x6x64x128, .f32⟩
  | .hbm, ⟨62, _⟩ => ⟨S2x6x64x128, .f32⟩
  | .hbm, ⟨63, _⟩ => ⟨S_, .i32⟩
  | .hbm, ⟨64, _⟩ => ⟨S_, .i32⟩
  | .hbm, ⟨65, _⟩ => ⟨S1x2x6, .f32⟩
  | .hbm, ⟨66, _⟩ => ⟨S2x6, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x2x6x64x64, .f32⟩
  | .hbm, ⟨72, _⟩ => ⟨S2x6x64x64, .f32⟩
  | .hbm, ⟨73, _⟩ => ⟨S2x6x64x128, .f32⟩
  | .hbm, ⟨74, _⟩ => ⟨S2x6x64x128, .f32⟩
  | .hbm, ⟨75, _⟩ => ⟨S2x6x64x128, .f32⟩
  | .hbm, ⟨76, _⟩ => ⟨S2x6x64x128, .f32⟩
  | .hbm, ⟨77, _⟩ => ⟨S2x6x64x128, .f32⟩
  | .hbm, ⟨78, _⟩ => ⟨S2x6, .f32⟩
  | .hbm, ⟨79, _⟩ => ⟨S2x6x1x1, .f32⟩
  | .hbm, ⟨80, _⟩ => ⟨S2x6x128x128, .f32⟩
  | .hbm, ⟨81, _⟩ => ⟨S2x6x128x128, .f32⟩
  | .hbm, ⟨82, _⟩ => ⟨S2x6x128x128, .f32⟩
  | .hbm, ⟨83, _⟩ => ⟨S2x6x128x128, .f32⟩
  | .hbm, ⟨84, _⟩ => ⟨S1x2x6x64x128, .f32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S32x2x6x64x128, .f32⟩
  | .hbm, ⟨90, _⟩ => ⟨S1x2x6x128x128, .f32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S32x2x6x128x128, .f32⟩
  | .hbm, ⟨96, _⟩ => ⟨S_, .i32⟩
  | .hbm, ⟨97, _⟩ => ⟨S_, .i32⟩
  | .hbm, ⟨98, _⟩ => ⟨S2x32x64x6x128, .f32⟩
  | .hbm, ⟨99, _⟩ => ⟨S2x2048x768, .f32⟩
  | .hbm, ⟨100, _⟩ => ⟨S2x32x6x128x128, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_c : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev main_v17_4 : Ref sig .tc := ⟨.hbm, 31, rfl⟩
abbrev main_v17_5 : Ref sig .tc := ⟨.hbm, 32, rfl⟩
abbrev main_v17_6 : Ref sig .tc := ⟨.hbm, 33, rfl⟩
abbrev main_v17_7 : Ref sig .tc := ⟨.hbm, 34, rfl⟩
abbrev main_v17_8 : Ref sig .tc := ⟨.hbm, 35, rfl⟩
abbrev main_v17_9 : Ref sig .tc := ⟨.hbm, 36, rfl⟩
abbrev main_while0c_c_11 : Ref sig .tc := ⟨.hbm, 37, rfl⟩
abbrev main_while0c_v21 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_c_1 : Ref sig .tc := ⟨.hbm, 41, rfl⟩
abbrev main_while0b_call0_c_2 : Ref sig .tc := ⟨.hbm, 42, rfl⟩
abbrev main_while0b_call0_v0 : Ref sig .tc := ⟨.hbm, 43, rfl⟩
abbrev main_while0b_v21 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_c_2 : Ref sig .tc := ⟨.hbm, 48, rfl⟩
abbrev main_while0b_call1_v0 : Ref sig .tc := ⟨.hbm, 49, rfl⟩
abbrev main_while0b_v22 : Ref sig .tc := ⟨.hbm, 50, rfl⟩
abbrev main_while0b_call2_c : Ref sig .tc := ⟨.hbm, 51, rfl⟩
abbrev main_while0b_call2_c_0 : Ref sig .tc := ⟨.hbm, 52, rfl⟩
abbrev main_while0b_call2_c_1 : Ref sig .tc := ⟨.hbm, 53, rfl⟩
abbrev main_while0b_call2_c_2 : Ref sig .tc := ⟨.hbm, 54, rfl⟩
abbrev main_while0b_call2_v0 : Ref sig .tc := ⟨.hbm, 55, rfl⟩
abbrev main_while0b_v23 : Ref sig .tc := ⟨.hbm, 56, rfl⟩
abbrev main_while0b_call3_c : Ref sig .tc := ⟨.hbm, 57, rfl⟩
abbrev main_while0b_call3_c_0 : Ref sig .tc := ⟨.hbm, 58, rfl⟩
abbrev main_while0b_call3_c_1 : Ref sig .tc := ⟨.hbm, 59, rfl⟩
abbrev main_while0b_call3_c_2 : Ref sig .tc := ⟨.hbm, 60, rfl⟩
abbrev main_while0b_call3_v0 : Ref sig .tc := ⟨.hbm, 61, rfl⟩
abbrev main_while0b_v24 : Ref sig .tc := ⟨.hbm, 62, rfl⟩
abbrev main_while0b_call4_c : Ref sig .tc := ⟨.hbm, 63, rfl⟩
abbrev main_while0b_call4_c_0 : Ref sig .tc := ⟨.hbm, 64, rfl⟩
abbrev main_while0b_call4_v0 : Ref sig .tc := ⟨.hbm, 65, rfl⟩
abbrev main_while0b_v25 : Ref sig .tc := ⟨.hbm, 66, rfl⟩
abbrev main_while0b_call5_c : Ref sig .tc := ⟨.hbm, 67, rfl⟩
abbrev main_while0b_call5_c_0 : Ref sig .tc := ⟨.hbm, 68, rfl⟩
abbrev main_while0b_call5_c_1 : Ref sig .tc := ⟨.hbm, 69, rfl⟩
abbrev main_while0b_call5_c_2 : Ref sig .tc := ⟨.hbm, 70, rfl⟩
abbrev main_while0b_call5_v0 : Ref sig .tc := ⟨.hbm, 71, rfl⟩
abbrev main_while0b_v26 : Ref sig .tc := ⟨.hbm, 72, rfl⟩
abbrev main_while0b_v27 : Ref sig .tc := ⟨.hbm, 73, rfl⟩
abbrev main_while0b_v28 : Ref sig .tc := ⟨.hbm, 74, rfl⟩
abbrev main_while0b_v29 : Ref sig .tc := ⟨.hbm, 75, rfl⟩
abbrev main_while0b_v30 : Ref sig .tc := ⟨.hbm, 76, rfl⟩
abbrev main_while0b_v31 : Ref sig .tc := ⟨.hbm, 77, rfl⟩
abbrev main_while0b_v32 : Ref sig .tc := ⟨.hbm, 78, rfl⟩
abbrev main_while0b_v33 : Ref sig .tc := ⟨.hbm, 79, rfl⟩
abbrev main_while0b_v34 : Ref sig .tc := ⟨.hbm, 80, rfl⟩
abbrev main_while0b_v35 : Ref sig .tc := ⟨.hbm, 81, rfl⟩
abbrev main_while0b_v36 : Ref sig .tc := ⟨.hbm, 82, rfl⟩
abbrev main_while0b_v37 : Ref sig .tc := ⟨.hbm, 83, rfl⟩
abbrev main_while0b_call6_v0 : Ref sig .tc := ⟨.hbm, 84, rfl⟩
abbrev main_while0b_call6_c : Ref sig .tc := ⟨.hbm, 85, rfl⟩
abbrev main_while0b_call6_c_0 : Ref sig .tc := ⟨.hbm, 86, rfl⟩
abbrev main_while0b_call6_c_1 : Ref sig .tc := ⟨.hbm, 87, rfl⟩
abbrev main_while0b_call6_c_2 : Ref sig .tc := ⟨.hbm, 88, rfl⟩
abbrev main_while0b_v38 : Ref sig .tc := ⟨.hbm, 89, rfl⟩
abbrev main_while0b_call7_v0 : Ref sig .tc := ⟨.hbm, 90, rfl⟩
abbrev main_while0b_call7_c : Ref sig .tc := ⟨.hbm, 91, rfl⟩
abbrev main_while0b_call7_c_0 : Ref sig .tc := ⟨.hbm, 92, rfl⟩
abbrev main_while0b_call7_c_1 : Ref sig .tc := ⟨.hbm, 93, rfl⟩
abbrev main_while0b_call7_c_2 : Ref sig .tc := ⟨.hbm, 94, rfl⟩
abbrev main_while0b_v39 : Ref sig .tc := ⟨.hbm, 95, rfl⟩
abbrev main_while0b_c_11 : Ref sig .tc := ⟨.hbm, 96, rfl⟩
abbrev main_while0b_v40 : Ref sig .tc := ⟨.hbm, 97, rfl⟩
abbrev main_v18 : Ref sig .tc := ⟨.hbm, 98, rfl⟩
abbrev main_v19 : Ref sig .tc := ⟨.hbm, 99, rfl⟩
abbrev main_v20 : Ref sig .tc := ⟨.hbm, 100, rfl⟩

abbrev nD : Nat := 1
abbrev τ : Topo := Topo.v7x

variable {F : FTy → Type} [FloatOps F]

abbrev main_while0_count : Scf.Loop 32 := ⟨0#32, 32#32, 1#32⟩
-- ==== Kernel3.lean ====
abbrev S4096x2048 : Shape := ⟨2, ![4096, 2048]⟩
abbrev S4096x6668 : Shape := ⟨2, ![4096, 6668]⟩
abbrev S4096x1667 : Shape := ⟨2, ![4096, 1667]⟩
abbrev S1x4096x1667 : Shape := ⟨3, ![1, 4096, 1667]⟩
abbrev S4x4096x1667 : Shape := ⟨3, ![4, 4096, 1667]⟩
abbrev S4x2048x1667 : Shape := ⟨3, ![4, 2048, 1667]⟩
abbrev S2048x1024 : Shape := ⟨2, ![2048, 1024]⟩
abbrev S1x2048x1667 : Shape := ⟨3, ![1, 2048, 1667]⟩
abbrev S1x1024x1667 : Shape := ⟨3, ![1, 1024, 1667]⟩
abbrev S2048x1667 : Shape := ⟨2, ![2048, 1667]⟩
abbrev S1024x1667 : Shape := ⟨2, ![1024, 1667]⟩

abbrev nBuf : Space → Nat
  | .hbm => 12
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x6668, .bf16⟩
  | .hbm, ⟨2, _⟩ => ⟨S4096x1667, .bf16⟩
  | .hbm, ⟨3, _⟩ => ⟨S4096x1667, .bf16⟩
  | .hbm, ⟨4, _⟩ => ⟨S4096x1667, .bf16⟩
  | .hbm, ⟨5, _⟩ => ⟨S4096x1667, .bf16⟩
  | .hbm, ⟨6, _⟩ => ⟨S1x4096x1667, .bf16⟩
  | .hbm, ⟨7, _⟩ => ⟨S1x4096x1667, .bf16⟩
  | .hbm, ⟨8, _⟩ => ⟨S1x4096x1667, .bf16⟩
  | .hbm, ⟨9, _⟩ => ⟨S1x4096x1667, .bf16⟩
  | .hbm, ⟨10, _⟩ => ⟨S4x4096x1667, .bf16⟩
  | .hbm, ⟨11, _⟩ => ⟨S4x2048x1667, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1667, .bf16⟩
  | .local _ .vmem, ⟨3, _⟩ => ⟨S1x2048x1667, .bf16⟩
  | .local _ .vmem, ⟨4, _⟩ => ⟨S1x1024x1667, .f32⟩
  | .local _ .vmem, ⟨5, _⟩ => ⟨S1x1024x1667, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1667 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1667 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S4096x6668 : Shape := ⟨2, ![4096, 6668]⟩
abbrev S_ : Shape := ⟨0, ![]⟩
abbrev S2048x6668 : Shape := ⟨2, ![2048, 6668]⟩
abbrev S6668x2048 : Shape := ⟨2, ![6668, 2048]⟩
abbrev S2048x4x1667 : Shape := ⟨3, ![2048, 4, 1667]⟩
abbrev S4x2048x1667 : Shape := ⟨3, ![4, 2048, 1667]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6668, .bf16⟩
  | .hbm, ⟨2, _⟩ => ⟨S_, .f32⟩
  | .hbm, ⟨3, _⟩ => ⟨S2048x6668, .f32⟩
  | .hbm, ⟨4, _⟩ => ⟨S4096x2048, .f32⟩
  | .hbm, ⟨5, _⟩ => ⟨S4096x6668, .f32⟩
  | .hbm, ⟨6, _⟩ => ⟨S4096x6668, .f32⟩
  | .hbm, ⟨7, _⟩ => ⟨S6668x2048, .f32⟩
  | .hbm, ⟨8, _⟩ => ⟨S2048x6668, .f32⟩
  | .hbm, ⟨9, _⟩ => ⟨S2048x4x1667, .f32⟩
  | .hbm, ⟨10, _⟩ => ⟨S4x2048x1667, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x6668 : Shape := ⟨2, ![4096, 6668]⟩
abbrev S2048x6668 : Shape := ⟨2, ![2048, 6668]⟩
abbrev S4096x1667 : Shape := ⟨2, ![4096, 1667]⟩
abbrev S1x4096x1667 : Shape := ⟨3, ![1, 4096, 1667]⟩
abbrev S4x4096x1667 : Shape := ⟨3, ![4, 4096, 1667]⟩
abbrev S2048x1667 : Shape := ⟨2, ![2048, 1667]⟩
abbrev S1x2048x1667 : Shape := ⟨3, ![1, 2048, 1667]⟩
abbrev S4x2048x1667 : Shape := ⟨3, ![4, 2048, 1667]⟩
abbrev S4096x2048 : Shape := ⟨2, ![4096, 2048]⟩
abbrev S1x1024x1667 : Shape := ⟨3, ![1, 1024, 1667]⟩
abbrev S1024x1024 : Shape := ⟨2, ![1024, 1024]⟩
abbrev S1024x1667 : Shape := ⟨2, ![1024, 1667]⟩

abbrev nBuf : Space → Nat
  | .hbm => 21
  | .vmem => 6
  | .smem => 0
  | _ => 0

abbrev bufTy : (tb : Table) → Fin (tcTables nBuf tb) → BufTy
  | .hbm, ⟨0, _⟩ => ⟨S4096x6668, .bf16⟩
  | .hbm, ⟨1, _⟩ => ⟨S2048x6668, .bf16⟩
  | .hbm, ⟨2, _⟩ => ⟨S4096x1667, .bf16⟩
  | .hbm, ⟨3, _⟩ => ⟨S4096x1667, .bf16⟩
  | .hbm, ⟨4, _⟩ => ⟨S4096x1667, .bf16⟩
  | .hbm, ⟨5, _⟩ => ⟨S4096x1667, .bf16⟩
  | .hbm, ⟨6, _⟩ => ⟨S1x4096x1667, .bf16⟩
  | .hbm, ⟨7, _⟩ => ⟨S1x4096x1667, .bf16⟩
  | .hbm, ⟨8, _⟩ => ⟨S1x4096x1667, .bf16⟩
  | .hbm, ⟨9, _⟩ => ⟨S1x4096x1667, .bf16⟩
  | .hbm, ⟨10, _⟩ => ⟨S4x4096x1667, .bf16⟩
  | .hbm, ⟨11, _⟩ => ⟨S2048x1667, .bf16⟩
  | .hbm, ⟨12, _⟩ => ⟨S2048x1667, .bf16⟩
  | .hbm, ⟨13, _⟩ => ⟨S2048x1667, .bf16⟩
  | .hbm, ⟨14, _⟩ => ⟨S2048x1667, .bf16⟩
  | .hbm, ⟨15, _⟩ => ⟨S1x2048x1667, .bf16⟩
  | .hbm, ⟨16, _⟩ => ⟨S1x2048x1667, .bf16⟩
  | .hbm, ⟨17, _⟩ => ⟨S1x2048x1667, .bf16⟩
  | .hbm, ⟨18, _⟩ => ⟨S1x2048x1667, .bf16⟩
  | .hbm, ⟨19, _⟩ => ⟨S4x2048x1667, .bf16⟩
  | .hbm, ⟨20, _⟩ => ⟨S4096x2048, .f32⟩
  | .local _ .vmem, ⟨0, _⟩ => ⟨S1x1024x1667, .bf16⟩
  | .local _ .vmem, ⟨1, _⟩ => ⟨S1x1024x1667, .bf16⟩
  | .local _ .vmem, ⟨2, _⟩ => ⟨S1x1024x1667, .bf16⟩
  | .local _ .vmem, ⟨3, _⟩ => ⟨S1x1024x1667, .bf16⟩
  | .local _ .vmem, ⟨4, _⟩ => ⟨S1024x1024, .f32⟩
  | .local _ .vmem, ⟨5, _⟩ => ⟨S1024x1024, .f32⟩
  | _, _ => ⟨S4096x6668, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1667 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1667 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x6668 : Shape := ⟨2, ![4096, 6668]⟩
abbrev S2048x6668 : Shape := ⟨2, ![2048, 6668]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x6668, .bf16⟩
  | .hbm, ⟨1, _⟩ => ⟨S2048x6668, .bf16⟩
  | .hbm, ⟨2, _⟩ => ⟨S_, .f32⟩
  | .hbm, ⟨3, _⟩ => ⟨S4096x2048, .f32⟩
  | .hbm, ⟨4, _⟩ => ⟨S2048x6668, .f32⟩
  | .hbm, ⟨5, _⟩ => ⟨S4096x6668, .f32⟩
  | .hbm, ⟨6, _⟩ => ⟨S4096x6668, .f32⟩
  | .hbm, ⟨7, _⟩ => ⟨S4096x2048, .f32⟩
  | _, _ => ⟨S4096x6668, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S1x2048 : Shape := ⟨2, ![1, 2048]⟩
abbrev S2048x6912 : Shape := ⟨2, ![2048, 6912]⟩
abbrev S4096x6912 : Shape := ⟨2, ![4096, 6912]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x6912, .bf16⟩
  | .hbm, ⟨3, _⟩ => ⟨S4096x6912, .f32⟩
  | .hbm, ⟨4, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | .local _ .vmem, ⟨8, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference8Ideal.lean ====
abbrev S4096x2048 : Shape := ⟨2, ![4096, 2048]⟩
abbrev S1x2048 : Shape := ⟨2, ![1, 2048]⟩
abbrev S2048x6912 : Shape := ⟨2, ![2048, 6912]⟩
abbrev S_ : Shape := ⟨0, ![]⟩
abbrev S4096 : Shape := ⟨1, ![4096]⟩
abbrev S4096x1 : Shape := ⟨2, ![4096, 1]⟩
abbrev S4096x6912 : Shape := ⟨2, ![4096, 6912]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x6912, .bf16⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | .hbm, ⟨19, _⟩ => ⟨S4096x2048, .f32⟩
  | .hbm, ⟨20, _⟩ => ⟨S2048x6912, .f32⟩
  | .hbm, ⟨21, _⟩ => ⟨S4096x6912, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel9.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel10.lean ====
abbrev S2x512x2048 : Shape := ⟨3, ![2, 512, 2048]⟩
abbrev S512x2048 : Shape := ⟨2, ![512, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x512x2048, .f32⟩
  | .hbm, ⟨1, _⟩ => ⟨S512x2048, .f32⟩
  | .hbm, ⟨2, _⟩ => ⟨S512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S2x512x2048 : Shape := ⟨3, ![2, 512, 2048]⟩
abbrev S512x2048 : Shape := ⟨2, ![512, 2048]⟩
abbrev S1x512x2048 : Shape := ⟨3, ![1, 512, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S512x2048, .f32⟩
  | .hbm, ⟨2, _⟩ => ⟨S512x2048, .f32⟩
  | .hbm, ⟨3, _⟩ => ⟨S2x512x2048, .f32⟩
  | .hbm, ⟨4, _⟩ => ⟨S2x512x2048, .f32⟩
  | .hbm, ⟨5, _⟩ => ⟨S1x512x2048, .f32⟩
  | .hbm, ⟨6, _⟩ => ⟨S1x512x2048, .f32⟩
  | .hbm, ⟨7, _⟩ => ⟨S2x512x2048, .f32⟩
  | .hbm, ⟨8, _⟩ => ⟨S_, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S2x512x2048, .f32⟩
  | .hbm, ⟨23, _⟩ => ⟨S_, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S2x512x2048, .f32⟩
  | .hbm, ⟨38, _⟩ => ⟨S_, .f32⟩
  | .hbm, ⟨39, _⟩ => ⟨S2x512x2048, .f32⟩
  | .hbm, ⟨40, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel11.lean ====
abbrev S2x128x512 : Shape := ⟨3, ![2, 128, 512]⟩
abbrev S128x512 : Shape := ⟨2, ![128, 512]⟩
abbrev S1x128x512 : Shape := ⟨3, ![1, 128, 512]⟩

abbrev nBuf : Space → Nat
  | .hbm => 9
  | .vmem => 18
  | .smem => 0
  | _ => 0

abbrev bufTy : (tb : Table) → Fin (tcTables nBuf tb) → BufTy
  | .hbm, ⟨0, _⟩ => ⟨S2x128x512, .f32⟩
  | .hbm, ⟨1, _⟩ => ⟨S128x512, .f32⟩
  | .hbm, ⟨2, _⟩ => ⟨S128x512, .f32⟩
  | .hbm, ⟨3, _⟩ => ⟨S2x128x512, .f32⟩
  | .hbm, ⟨4, _⟩ => ⟨S2x128x512, .f32⟩
  | .hbm, ⟨5, _⟩ => ⟨S2x128x512, .f32⟩
  | .hbm, ⟨6, _⟩ => ⟨S2x128x512, .f32⟩
  | .hbm, ⟨7, _⟩ => ⟨S2x128x512, .f32⟩
  | .hbm, ⟨8, _⟩ => ⟨S2x128x512, .f32⟩
  | .local _ .vmem, ⟨0, _⟩ => ⟨S1x128x512, .f32⟩
  | .local _ .vmem, ⟨1, _⟩ => ⟨S1x128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S2x128x512 : Shape := ⟨3, ![2, 128, 512]⟩
abbrev S128x512 : Shape := ⟨2, ![128, 512]⟩
abbrev S1x128x512 : Shape := ⟨3, ![1, 128, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S128x512, .f32⟩
  | .hbm, ⟨2, _⟩ => ⟨S128x512, .f32⟩
  | .hbm, ⟨3, _⟩ => ⟨S2x128x512, .f32⟩
  | .hbm, ⟨4, _⟩ => ⟨S2x128x512, .f32⟩
  | .hbm, ⟨5, _⟩ => ⟨S1x128x512, .f32⟩
  | .hbm, ⟨6, _⟩ => ⟨S1x128x512, .f32⟩
  | .hbm, ⟨7, _⟩ => ⟨S2x128x512, .f32⟩
  | .hbm, ⟨8, _⟩ => ⟨S_, .f32⟩
  | .hbm, ⟨9, _⟩ => ⟨S2x128x512, .f32⟩
  | .hbm, ⟨10, _⟩ => ⟨S2x128x512, .f32⟩
  | .hbm, ⟨11, _⟩ => ⟨S_, .f32⟩
  | .hbm, ⟨12, _⟩ => ⟨S2x128x512, .f32⟩
  | .hbm, ⟨13, _⟩ => ⟨S2x128x512, .f32⟩
  | .hbm, ⟨14, _⟩ => ⟨S2x128x512, .f32⟩
  | .hbm, ⟨15, _⟩ => ⟨S_, .f32⟩
  | .hbm, ⟨16, _⟩ => ⟨S2x128x512, .f32⟩
  | .hbm, ⟨17, _⟩ => ⟨S2x128x512, .f32⟩
  | .hbm, ⟨18, _⟩ => ⟨S2x128x512, .f32⟩
  | .hbm, ⟨19, _⟩ => ⟨S_, .f32⟩
  | .hbm, ⟨20, _⟩ => ⟨S2x128x512, .f32⟩
  | .hbm, ⟨21, _⟩ => ⟨S2x128x512, .f32⟩
  | .hbm, ⟨22, _⟩ => ⟨S2x128x512, .f32⟩
  | .hbm, ⟨23, _⟩ => ⟨S_, .f32⟩
  | .hbm, ⟨24, _⟩ => ⟨S2x128x512, .f32⟩
  | .hbm, ⟨25, _⟩ => ⟨S2x128x512, .f32⟩
  | .hbm, ⟨26, _⟩ => ⟨S_, .f32⟩
  | .hbm, ⟨27, _⟩ => ⟨S2x128x512, .f32⟩
  | .hbm, ⟨28, _⟩ => ⟨S2x128x512, .f32⟩
  | .hbm, ⟨29, _⟩ => ⟨S2x128x512, .f32⟩
  | .hbm, ⟨30, _⟩ => ⟨S_, .f32⟩
  | .hbm, ⟨31, _⟩ => ⟨S2x128x512, .f32⟩
  | .hbm, ⟨32, _⟩ => ⟨S2x128x512, .f32⟩
  | .hbm, ⟨33, _⟩ => ⟨S2x128x512, .f32⟩
  | .hbm, ⟨34, _⟩ => ⟨S_, .f32⟩
  | .hbm, ⟨35, _⟩ => ⟨S2x128x512, .f32⟩
  | .hbm, ⟨36, _⟩ => ⟨S2x128x512, .f32⟩
  | .hbm, ⟨37, _⟩ => ⟨S2x128x512, .f32⟩
  | .hbm, ⟨38, _⟩ => ⟨S_, .f32⟩
  | .hbm, ⟨39, _⟩ => ⟨S2x128x512, .f32⟩
  | .hbm, ⟨40, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel12.lean ====
abbrev S4096x2048 : Shape := ⟨2, ![4096, 2048]⟩
abbrev S2048x2048 : Shape := ⟨2, ![2048, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference12Ideal.lean ====
abbrev S4096x2048 : Shape := ⟨2, ![4096, 2048]⟩
abbrev S2048x2048 : Shape := ⟨2, ![2048, 2048]⟩
abbrev S_ : Shape := ⟨0, ![]⟩
abbrev S4096 : Shape := ⟨1, ![4096]⟩
abbrev S8x128 : Shape := ⟨2, ![8, 128]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x2048, .f32⟩
  | .hbm, ⟨30, _⟩ => ⟨S4096x2048, .f32⟩
  | .hbm, ⟨31, _⟩ => ⟨S8x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Kernel13.lean ====
abbrev S1667x2x2048 : Shape := ⟨3, ![1667, 2, 2048]⟩
abbrev S2048x1667 : Shape := ⟨2, ![2048, 1667]⟩
abbrev S128x2x2048 : Shape := ⟨3, ![128, 2, 2048]⟩
abbrev S2048x128 : Shape := ⟨2, ![2048, 128]⟩
abbrev S128x2048 : Shape := ⟨2, ![128, 2048]⟩
abbrev S128x1x2048 : Shape := ⟨3, ![128, 1, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1667x2x2048, .f32⟩
  | .hbm, ⟨1, _⟩ => ⟨S2048x1667, .f32⟩
  | .hbm, ⟨2, _⟩ => ⟨S2048x1667, .f32⟩
  | .hbm, ⟨3, _⟩ => ⟨S1667x2x2048, .f32⟩
  | .hbm, ⟨4, _⟩ => ⟨S1667x2x2048, .f32⟩
  | .hbm, ⟨5, _⟩ => ⟨S1667x2x2048, .f32⟩
  | .hbm, ⟨6, _⟩ => ⟨S1667x2x2048, .f32⟩
  | .hbm, ⟨7, _⟩ => ⟨S1667x2x2048, .f32⟩
  | .hbm, ⟨8, _⟩ => ⟨S1667x2x2048, .f32⟩
  | .local _ .vmem, ⟨0, _⟩ => ⟨S128x2x2048, .f32⟩
  | .local _ .vmem, ⟨1, _⟩ => ⟨S128x2x2048, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x2x2048, .f32⟩
  | .local _ .vmem, ⟨7, _⟩ => ⟨S128x2x2048, .f32⟩
  | .local _ .vmem, ⟨8, _⟩ => ⟨S128x2x2048, .f32⟩
  | .local _ .vmem, ⟨9, _⟩ => ⟨S128x2x2048, .f32⟩
  | .local _ .vmem, ⟨10, _⟩ => ⟨S128x2x2048, .f32⟩
  | .local _ .vmem, ⟨11, _⟩ => ⟨S128x2x2048, .f32⟩
  | .local _ .vmem, ⟨12, _⟩ => ⟨S128x2x2048, .f32⟩
  | .local _ .vmem, ⟨13, _⟩ => ⟨S128x2x2048, .f32⟩
  | .local _ .vmem, ⟨14, _⟩ => ⟨S128x2x2048, .f32⟩
  | .local _ .vmem, ⟨15, _⟩ => ⟨S128x2x2048, .f32⟩
  | .local _ .vmem, ⟨16, _⟩ => ⟨S128x2x2048, .f32⟩
  | .local _ .vmem, ⟨17, _⟩ => ⟨S128x2x2048, .f32⟩
  | _, _ => ⟨S1667x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![14], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S1667x2x2048 : Shape := ⟨3, ![1667, 2, 2048]⟩
abbrev S2048x1667 : Shape := ⟨2, ![2048, 1667]⟩
abbrev S1x2048x1667 : Shape := ⟨3, ![1, 2048, 1667]⟩
abbrev S2x2048x1667 : Shape := ⟨3, ![2, 2048, 1667]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1667x2x2048, .f32⟩
  | .hbm, ⟨1, _⟩ => ⟨S2048x1667, .f32⟩
  | .hbm, ⟨2, _⟩ => ⟨S2048x1667, .f32⟩
  | .hbm, ⟨3, _⟩ => ⟨S1667x2x2048, .f32⟩
  | .hbm, ⟨4, _⟩ => ⟨S1667x2x2048, .f32⟩
  | .hbm, ⟨5, _⟩ => ⟨S1x2048x1667, .f32⟩
  | .hbm, ⟨6, _⟩ => ⟨S1x2048x1667, .f32⟩
  | .hbm, ⟨7, _⟩ => ⟨S2x2048x1667, .f32⟩
  | .hbm, ⟨8, _⟩ => ⟨S2x2048x1667, .f32⟩
  | .hbm, ⟨9, _⟩ => ⟨S2x2048x1667, .f32⟩
  | .hbm, ⟨10, _⟩ => ⟨S2x2048x1667, .f32⟩
  | .hbm, ⟨11, _⟩ => ⟨S_, .f32⟩
  | .hbm, ⟨12, _⟩ => ⟨S2x2048x1667, .f32⟩
  | .hbm, ⟨13, _⟩ => ⟨S2x2048x1667, .f32⟩
  | .hbm, ⟨14, _⟩ => ⟨S_, .f32⟩
  | .hbm, ⟨15, _⟩ => ⟨S2x2048x1667, .f32⟩
  | .hbm, ⟨16, _⟩ => ⟨S2x2048x1667, .f32⟩
  | .hbm, ⟨17, _⟩ => ⟨S2x2048x1667, .f32⟩
  | .hbm, ⟨18, _⟩ => ⟨S_, .f32⟩
  | .hbm, ⟨19, _⟩ => ⟨S2x2048x1667, .f32⟩
  | .hbm, ⟨20, _⟩ => ⟨S2x2048x1667, .f32⟩
  | .hbm, ⟨21, _⟩ => ⟨S2x2048x1667, .f32⟩
  | .hbm, ⟨22, _⟩ => ⟨S_, .f32⟩
  | .hbm, ⟨23, _⟩ => ⟨S2x2048x1667, .f32⟩
  | .hbm, ⟨24, _⟩ => ⟨S2x2048x1667, .f32⟩
  | .hbm, ⟨25, _⟩ => ⟨S2x2048x1667, .f32⟩
  | .hbm, ⟨26, _⟩ => ⟨S_, .f32⟩
  | .hbm, ⟨27, _⟩ => ⟨S2x2048x1667, .f32⟩
  | .hbm, ⟨28, _⟩ => ⟨S2x2048x1667, .f32⟩
  | .hbm, ⟨29, _⟩ => ⟨S_, .f32⟩
  | .hbm, ⟨30, _⟩ => ⟨S2x2048x1667, .f32⟩
  | .hbm, ⟨31, _⟩ => ⟨S2x2048x1667, .f32⟩
  | .hbm, ⟨32, _⟩ => ⟨S2x2048x1667, .f32⟩
  | .hbm, ⟨33, _⟩ => ⟨S_, .f32⟩
  | .hbm, ⟨34, _⟩ => ⟨S2x2048x1667, .f32⟩
  | .hbm, ⟨35, _⟩ => ⟨S2x2048x1667, .f32⟩
  | .hbm, ⟨36, _⟩ => ⟨S2x2048x1667, .f32⟩
  | .hbm, ⟨37, _⟩ => ⟨S_, .f32⟩
  | .hbm, ⟨38, _⟩ => ⟨S2x2048x1667, .f32⟩
  | .hbm, ⟨39, _⟩ => ⟨S2x2048x1667, .f32⟩
  | .hbm, ⟨40, _⟩ => ⟨S2x2048x1667, .f32⟩
  | .hbm, ⟨41, _⟩ => ⟨S_, .f32⟩
  | .hbm, ⟨42, _⟩ => ⟨S2x2048x1667, .f32⟩
  | .hbm, ⟨43, _⟩ => ⟨S2x2048x1667, .f32⟩
  | .hbm, ⟨44, _⟩ => ⟨S1667x2x2048, .f32⟩
  | .hbm, ⟨45, _⟩ => ⟨S1667x2x2048, .f32⟩
  | .hbm, ⟨46, _⟩ => ⟨S1667x2x2048, .f32⟩
  | .hbm, ⟨47, _⟩ => ⟨S1667x2x2048, .f32⟩
  | _, _ => ⟨S1667x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Proof.ScanOps.lean ====
module

public import proofs.«01_k».proof.Defs
public import Idealize.ShloMosaic.Lib.Pipeline.ValueKit
public import Idealize.ShloMosaic.Lib.Pointwise

@[expose] public section

set_option maxRecDepth 16384

noncomputable section

namespace Cert.Proof.ScanOps

open Idealize.ShloMosaic Idealize.ShloMosaic.TcCoe Idealize.SL.Sem

/-! ## Real matrices -/

/-- A real matrix. -/
abbrev M (p q : ℕ) := Fin p → Fin q → ℝ

/-- `a b`. -/
def mul {p q r : ℕ} (a : M p q) (b : M q r) : M p r := fun i j => ∑ k, a i k * b k j

/-- The transposed matrix. -/
def tr {p q : ℕ} (a : M p q) : M q p := fun i j => a j i

/-- The sum of the products of the elements of two matrices. -/
def dot {p q : ℕ} (a b : M p q) : ℝ := ∑ i, ∑ j, a i j * b i j

theorem mul_zero' {p q r : ℕ} (a : M p q) : mul a (0 : M q r) = 0 := by
  funext i j; simp [mul]

theorem zero_mul' {p q r : ℕ} (a : M q r) : mul (0 : M p q) a = 0 := by
  funext i j; simp [mul]

theorem tr_zero {p q : ℕ} : tr (0 : M p q) = 0 := rfl

theorem tr_tr {p q : ℕ} (a : M p q) : tr (tr a) = a := rfl

/-! ## Families of real matrices as arrays of the ideal instance -/

/-- A family of matrices as an array. -/
def C3 {n p q : ℕ} (φ : FTy) (a : Fin n → M p q) : FVec Ideal ⟨3, ![n, p, q]⟩ φ :=
  fun i => ((a (i 0) (i 1) (i 2) : ℝ) : EReal)

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Families of matrices, member by member. -/
def fmul {n p q r : ℕ} (a : Fin n → M p q) (b : Fin n → M q r) : Fin n → M p r := fun h => mul (a h) (b h)
def ftr {n p q : ℕ} (a : Fin n → M p q) : Fin n → M q p := fun h => tr (a h)
/-- Each member by a scalar of its own. -/
def fscale {n p q : ℕ} (a : Fin n → M p q) (s : Fin n → M 1 1) : Fin n → M p q := fun h i j => a h i j * s h 0 0
def fexp {n p q : ℕ} (a : Fin n → M p q) : Fin n → M p q := fun h i j => Real.exp (a h i j)
def fdot {n p q : ℕ} (a b : Fin n → M p q) : Fin n → M 1 1 := fun h _ _ => dot (a h) (b h)

theorem fmul_zero {n p q r : ℕ} (a : Fin n → M p q) : fmul a (0 : Fin n → M q r) = 0 :=
  funext fun h => mul_zero' (a h)
theorem fzero_mul {n p q r : ℕ} (a : Fin n → M q r) : fmul (0 : Fin n → M p q) a = 0 :=
  funext fun h => zero_mul' (a h)
theorem ftr_zero {n p q : ℕ} : ftr (0 : Fin n → M p q) = 0 := rfl
theorem ftr_ftr {n p q : ℕ} (a : Fin n → M p q) : ftr (ftr a) = a := rfl

theorem fscale_zero {n p q : ℕ} (s : Fin n → M 1 1) : fscale (0 : Fin n → M p q) s = 0 := by
  funext h i j; simp [fscale]

variable {n p q : ℕ}

theorem truncf_C3 {φ ψ : FTy} (a : Fin n → M p q) (h) : truncf ψ (C3 φ a) h = C3 ψ a := by
  funext i; pointwise [C3]
theorem extf_C3 {φ ψ : FTy} (a : Fin n → M p q) (h) : extf ψ (C3 φ a) h = C3 ψ a := by
  funext i; pointwise [C3]
theorem addf_C3 {φ : FTy} (a b : Fin n → M p q) : addf (C3 φ a) (C3 φ b) = C3 φ (a + b) := by
  funext i; pointwise [C3]; exact (EReal.coe_add _ _).symm
theorem subf_C3 {φ : FTy} (a b : Fin n → M p q) : subf (C3 φ a) (C3 φ b) = C3 φ (a - b) := by
  funext i; pointwise [C3]; exact (EReal.coe_sub _ _).symm
theorem mulf_C3 {φ : FTy} (a b : Fin n → M p q) : mulf (C3 φ a) (C3 φ b) = C3 φ (a * b) := by
  funext i; pointwise [C3]; exact (EReal.coe_mul _ _).symm
theorem shapeCast_C3 {φ : FTy} (a : Fin n → M p q) (h) : shapeCast ⟨3, ![n, p, q]⟩ (C3 φ a) h = C3 φ a := by
  funext i; pointwise [C3]
theorem exp_C3 (a : Fin n → M p q) : exp (C3 .f32 a) = C3 .f32 (fexp a) := by
  funext i; pointwise [C3, fexp]; exact Ideal.exp_coe _
theorem zero_C3 : (constant ⟨3, ![n, p, q]⟩ .f32 0x00000000#32 : FVec Ideal _ .f32) = C3 .f32 (0 : Fin n → M p q) := by
  funext i; pointwise [C3]; rfl
theorem zero_C3' : (broadcast ⟨3, ![n, p, q]⟩ (Scalar.ofBits .f32 0x00000000#32 : Ideal .f32) : FVec Ideal _ .f32) = C3 .f32 (0 : Fin n → M p q) := by
  funext i; pointwise [C3]; rfl

theorem at_congr {n p q : ℕ} (y : Fin n → M p q) {a a' : Fin n} {b b' : Fin p} {c c' : Fin q} (ha : a.val = a'.val)
    (hb : b.val = b'.val) (hc : c.val = c'.val) : ((y a b c : ℝ) : EReal) = ((y a' b' c' : ℝ) : EReal) := by
  rw [Fin.ext ha, Fin.ext hb, Fin.ext hc]

end Cert.Proof.ScanOps
-- ==== Proof.ScanDots.lean ====
module

public import proofs.«01_k».proof.Defs
public import proofs.«01_k».proof.Proof.Gen.KernelIdeal.Value
public import proofs.«01_k».proof.Proof.Gen.KernelIdeal.Skeleton
public import proofs.«01_k».proof.Proof.ScanOps

@[expose] public section

set_option maxRecDepth 16384

noncomputable section

namespace Cert.Proof.ScanDots

open Cert.KernelIdeal Cert.KernelIdeal.Gen Cert.Proof.ScanOps Idealize.ShloMosaic Idealize.SL.Sem

/-! ## The products of the kernel on families of twelve real matrices -/

theorem nn {φ ψ : FTy} (a : Fin 12 → M 64 128) (b : Fin 12 → M 128 128) :
    matmul dot_S12x64x128_S12x128x128_S12x64x128_2_1_1_2_0_0 none (C3 φ a) (C3 ψ b) (C3 .f32 0)
      = C3 .f32 (fmul a b) := by
  funext i; pointwise [C3, ftr, tr, fmul, mul, coe_sum]
  exact (zero_add _).trans (Fin.sum_fin_congr fun k => (EReal.coe_mul _ _).symm)

theorem tnt {φ ψ : FTy} (a : Fin 12 → M 128 128) (b : Fin 12 → M 64 128) :
    matmul dot_S12x128x128_S12x64x128_S12x128x64_1_2_2_1_0_0 none (C3 φ a) (C3 ψ b) (C3 .f32 0)
      = C3 .f32 (ftr (fmul b a)) := by
  funext i; pointwise [C3, ftr, tr, fmul, mul, coe_sum]
  exact (zero_add _).trans (Fin.sum_fin_congr fun k => (mul_comm _ _).trans (EReal.coe_mul _ _).symm)

theorem nt {φ ψ : FTy} (a : Fin 12 → M 128 128) (b : Fin 12 → M 64 128) :
    matmul dot_S12x128x128_S12x64x128_S12x128x64_2_2_1_1_0_0 none (C3 φ a) (C3 ψ b) (C3 .f32 0)
      = C3 .f32 (fmul a (ftr b)) := by
  funext i; pointwise [C3, ftr, tr, fmul, mul, coe_sum]
  exact (zero_add _).trans (Fin.sum_fin_congr fun k => (EReal.coe_mul _ _).symm)

theorem tn {φ ψ : FTy} (a : Fin 12 → M 64 128) (b : Fin 12 → M 64 64) :
    matmul dot_S12x64x128_S12x64x64_S12x128x64_1_1_2_2_0_0 none (C3 φ a) (C3 ψ b) (C3 .f32 0)
      = C3 .f32 (fmul (ftr a) b) := by
  funext i; pointwise [C3, ftr, tr, fmul, mul, coe_sum]
  exact (zero_add _).trans (Fin.sum_fin_congr fun k => (EReal.coe_mul _ _).symm)

theorem nta {φ ψ : FTy} (a : Fin 12 → M 64 128) (b : Fin 12 → M 64 128) :
    matmul dot_S12x64x128_S12x64x128_S12x64x64_2_2_1_1_0_0 none (C3 φ a) (C3 ψ b) (C3 .f32 0)
      = C3 .f32 (fmul a (ftr b)) := by
  funext i; pointwise [C3, ftr, tr, fmul, mul, coe_sum]
  exact (zero_add _).trans (Fin.sum_fin_congr fun k => (EReal.coe_mul _ _).symm)

theorem tns {φ ψ : FTy} (a : Fin 12 → M 64 128) (b : Fin 12 → M 64 128) :
    matmul dot_S12x64x128_S12x64x128_S12x128x128_1_1_2_2_0_0 none (C3 φ a) (C3 ψ b) (C3 .f32 0)
      = C3 .f32 (fmul (ftr a) b) := by
  funext i; pointwise [C3, ftr, tr, fmul, mul, coe_sum]
  exact (zero_add _).trans (Fin.sum_fin_congr fun k => (EReal.coe_mul _ _).symm)

theorem nts {φ ψ : FTy} (a : Fin 12 → M 64 128) (b : Fin 12 → M 128 128) :
    matmul dot_S12x64x128_S12x128x128_S12x64x128_2_2_1_1_0_0 none (C3 φ a) (C3 ψ b) (C3 .f32 0)
      = C3 .f32 (fmul a (ftr b)) := by
  funext i; pointwise [C3, ftr, tr, fmul, mul, coe_sum]
  exact (zero_add _).trans (Fin.sum_fin_congr fun k => (EReal.coe_mul _ _).symm)

theorem transpose_x {φ : FTy} (a : Fin 12 → M 128 64) (pm : List (Fin 3)) (hpm : pm = [0, 2, 1]) (h) :
    transpose (s := S12x128x64) S12x64x128 pm (C3 φ a) h = C3 φ (ftr a) := by
  subst hpm
  funext i; pointwise [C3, ftr, tr]

theorem transpose_s {φ : FTy} (a : Fin 12 → M 128 128) (pm : List (Fin 3)) (hpm : pm = [0, 2, 1]) (h) :
    transpose (s := S12x128x128) S12x128x128 pm (C3 φ a) h = C3 φ (ftr a) := by
  subst hpm
  funext i; pointwise [C3, ftr, tr]

theorem bcast (s : Fin 12 → M 1 1) (h) :
    broadcastTo S12x128x128 (C3 .f32 s : FVec Ideal S12x1x1 .f32) h = C3 .f32 (fun p _ _ => s p 0 0) := by
  funext i; pointwise [C3]

theorem sums_83 (a b : Fin 12 → M 128 128) (g : Fin 12 → M 1 1) :
    k0_pay83 (C3 .f32 a) (C3 .f32 g) (C3 .f32 b) = C3 .f32 (fun p _ _ => dot (a p) (b p) * g p 0 0) := by
  funext i; pointwise [k0_pay83, C3, dot, coe_sum]
  have e1 : (i 1).val < 1 := (i 1).isLt
  have e2 : (i 2).val < 1 := (i 2).isLt
  refine (congrArg₂ (fun a b : EReal => a * b) ?_ (at_congr g (a' := i 0) (b' := 0) (c' := 0) rfl (Nat.lt_one_iff.mp e1) (Nat.lt_one_iff.mp e2))).trans (EReal.coe_mul _ _).symm
  simp only [coe_sum, EReal.coe_mul]

theorem sums_210 (a b : Fin 12 → M 128 128) (g : Fin 12 → M 1 1) :
    k0_pay210 (C3 .f32 b) (C3 .f32 a) (C3 .f32 g) = C3 .f32 (fun p _ _ => dot (a p) (b p) * g p 0 0) := by
  funext i; pointwise [k0_pay210, C3, dot, coe_sum]
  have e1 : (i 1).val < 1 := (i 1).isLt
  have e2 : (i 2).val < 1 := (i 2).isLt
  refine (congrArg₂ (fun a b : EReal => a * b) ?_ (at_congr g (a' := i 0) (b' := 0) (c' := 0) rfl (Nat.lt_one_iff.mp e1) (Nat.lt_one_iff.mp e2))).trans (EReal.coe_mul _ _).symm
  simp only [coe_sum, EReal.coe_mul]

/-! ## The stores: the members of a family side by side -/

/-- The member `p` of a family. -/
def slc {p q : ℕ} (f : Fin 12 → M p q) (k : Fin 12) : M p q := f k

/-- A matrix as an array. -/
def C2 {p q : ℕ} (a : M p q) : FVec Ideal ⟨2, ![p, q]⟩ .f32 := fun i => ((a (i 0) (i 1) : ℝ) : EReal)

/-- Six members from `o`, side by side. -/
def half {q : ℕ} (f : Fin 12 → M 64 q) (o : ℕ) (ho : o ≤ 6) : Fin 1 → M 64 (6 * q) :=
  fun _ r c => f ⟨o + c.val / q, by have := Nat.div_lt_of_lt_mul (n := q) (k := 6) (by rw [mul_comm]; exact c.isLt); omega⟩ r
    ⟨c.val % q, Nat.mod_lt _ (by rcases q.eq_zero_or_pos with h | h; · subst h; exact absurd c.isLt (by simp)
                                 · exact h)⟩

/-- The member `p` of a family, as a family of one. -/
def one {p q : ℕ} (f : Fin 12 → M p q) (k : Fin 12) : Fin 1 → M p q := fun _ => f k

theorem row_128 (f : Fin 12 → M 64 128) (k : Fin 12) (h) :
    shapeCast S64x128 (C3 .f32 (one f k) : FVec Ideal S1x64x128 .f32) h = C2 (slc f k) := by
  funext i; pointwise [C2, C3, slc, one]

theorem row_64 (f : Fin 12 → M 64 64) (k : Fin 12) (h) :
    shapeCast S64x64 (C3 .f32 (one f k) : FVec Ideal S1x64x64 .f32) h = C2 (slc f k) := by
  funext i; pointwise [C2, C3, slc, one]

theorem slice_128_0 (f : Fin 12 → M 64 128) (h) :
    extractStridedSlice S1x64x128 ![0, 0, 0] (C3 .f32 f : FVec Ideal S12x64x128 .f32) h = C3 .f32 (one f 0) := by
  funext i
  pointwise [C3, one]

theorem slice_128_1 (f : Fin 12 → M 64 128) (h) :
    extractStridedSlice S1x64x128 ![1, 0, 0] (C3 .f32 f : FVec Ideal S12x64x128 .f32) h = C3 .f32 (one f 1) := by
  funext i
  pointwise [C3, one]

theorem slice_128_2 (f : Fin 12 → M 64 128) (h) :
    extractStridedSlice S1x64x128 ![2, 0, 0] (C3 .f32 f : FVec Ideal S12x64x128 .f32) h = C3 .f32 (one f 2) := by
  funext i
  pointwise [C3, one]

theorem slice_128_3 (f : Fin 12 → M 64 128) (h) :
    extractStridedSlice S1x64x128 ![3, 0, 0] (C3 .f32 f : FVec Ideal S12x64x128 .f32) h = C3 .f32 (one f 3) := by
  funext i
  pointwise [C3, one]

theorem slice_128_4 (f : Fin 12 → M 64 128) (h) :
    extractStridedSlice S1x64x128 ![4, 0, 0] (C3 .f32 f : FVec Ideal S12x64x128 .f32) h = C3 .f32 (one f 4) := by
  funext i
  pointwise [C3, one]

theorem slice_128_5 (f : Fin 12 → M 64 128) (h) :
    extractStridedSlice S1x64x128 ![5, 0, 0] (C3 .f32 f : FVec Ideal S12x64x128 .f32) h = C3 .f32 (one f 5) := by
  funext i
  pointwise [C3, one]

theorem slice_128_6 (f : Fin 12 → M 64 128) (h) :
    extractStridedSlice S1x64x128 ![6, 0, 0] (C3 .f32 f : FVec Ideal S12x64x128 .f32) h = C3 .f32 (one f 6) := by
  funext i
  pointwise [C3, one]

theorem slice_128_7 (f : Fin 12 → M 64 128) (h) :
    extractStridedSlice S1x64x128 ![7, 0, 0] (C3 .f32 f : FVec Ideal S12x64x128 .f32) h = C3 .f32 (one f 7) := by
  funext i
  pointwise [C3, one]

theorem slice_128_8 (f : Fin 12 → M 64 128) (h) :
    extractStridedSlice S1x64x128 ![8, 0, 0] (C3 .f32 f : FVec Ideal S12x64x128 .f32) h = C3 .f32 (one f 8) := by
  funext i
  pointwise [C3, one]

theorem slice_128_9 (f : Fin 12 → M 64 128) (h) :
    extractStridedSlice S1x64x128 ![9, 0, 0] (C3 .f32 f : FVec Ideal S12x64x128 .f32) h = C3 .f32 (one f 9) := by
  funext i
  pointwise [C3, one]

theorem slice_128_10 (f : Fin 12 → M 64 128) (h) :
    extractStridedSlice S1x64x128 ![10, 0, 0] (C3 .f32 f : FVec Ideal S12x64x128 .f32) h = C3 .f32 (one f 10) := by
  funext i
  pointwise [C3, one]

theorem slice_128_11 (f : Fin 12 → M 64 128) (h) :
    extractStridedSlice S1x64x128 ![11, 0, 0] (C3 .f32 f : FVec Ideal S12x64x128 .f32) h = C3 .f32 (one f 11) := by
  funext i
  pointwise [C3, one]

theorem slice_64_0 (f : Fin 12 → M 64 64) (h) :
    extractStridedSlice S1x64x64 ![0, 0, 0] (C3 .f32 f : FVec Ideal S12x64x64 .f32) h = C3 .f32 (one f 0) := by
  funext i
  pointwise [C3, one]

theorem slice_64_1 (f : Fin 12 → M 64 64) (h) :
    extractStridedSlice S1x64x64 ![1, 0, 0] (C3 .f32 f : FVec Ideal S12x64x64 .f32) h = C3 .f32 (one f 1) := by
  funext i
  pointwise [C3, one]

theorem slice_64_2 (f : Fin 12 → M 64 64) (h) :
    extractStridedSlice S1x64x64 ![2, 0, 0] (C3 .f32 f : FVec Ideal S12x64x64 .f32) h = C3 .f32 (one f 2) := by
  funext i
  pointwise [C3, one]

theorem slice_64_3 (f : Fin 12 → M 64 64) (h) :
    extractStridedSlice S1x64x64 ![3, 0, 0] (C3 .f32 f : FVec Ideal S12x64x64 .f32) h = C3 .f32 (one f 3) := by
  funext i
  pointwise [C3, one]

theorem slice_64_4 (f : Fin 12 → M 64 64) (h) :
    extractStridedSlice S1x64x64 ![4, 0, 0] (C3 .f32 f : FVec Ideal S12x64x64 .f32) h = C3 .f32 (one f 4) := by
  funext i
  pointwise [C3, one]

theorem slice_64_5 (f : Fin 12 → M 64 64) (h) :
    extractStridedSlice S1x64x64 ![5, 0, 0] (C3 .f32 f : FVec Ideal S12x64x64 .f32) h = C3 .f32 (one f 5) := by
  funext i
  pointwise [C3, one]

theorem slice_64_6 (f : Fin 12 → M 64 64) (h) :
    extractStridedSlice S1x64x64 ![6, 0, 0] (C3 .f32 f : FVec Ideal S12x64x64 .f32) h = C3 .f32 (one f 6) := by
  funext i
  pointwise [C3, one]

theorem slice_64_7 (f : Fin 12 → M 64 64) (h) :
    extractStridedSlice S1x64x64 ![7, 0, 0] (C3 .f32 f : FVec Ideal S12x64x64 .f32) h = C3 .f32 (one f 7) := by
  funext i
  pointwise [C3, one]

theorem slice_64_8 (f : Fin 12 → M 64 64) (h) :
    extractStridedSlice S1x64x64 ![8, 0, 0] (C3 .f32 f : FVec Ideal S12x64x64 .f32) h = C3 .f32 (one f 8) := by
  funext i
  pointwise [C3, one]

theorem slice_64_9 (f : Fin 12 → M 64 64) (h) :
    extractStridedSlice S1x64x64 ![9, 0, 0] (C3 .f32 f : FVec Ideal S12x64x64 .f32) h = C3 .f32 (one f 9) := by
  funext i
  pointwise [C3, one]

theorem slice_64_10 (f : Fin 12 → M 64 64) (h) :
    extractStridedSlice S1x64x64 ![10, 0, 0] (C3 .f32 f : FVec Ideal S12x64x64 .f32) h = C3 .f32 (one f 10) := by
  funext i
  pointwise [C3, one]

theorem slice_64_11 (f : Fin 12 → M 64 64) (h) :
    extractStridedSlice S1x64x64 ![11, 0, 0] (C3 .f32 f : FVec Ideal S12x64x64 .f32) h = C3 .f32 (one f 11) := by
  funext i
  pointwise [C3, one]

theorem store_98 (f : Fin 12 → M 64 128) : k0_pay98 (C3 .f32 f) = C3 .f32 (half f 0 (by omega)) := by
  funext i; pointwise [k0_pay98, C2, C3, slc, one, half]
  have hi : (i 2).val < 768 := (i 2).isLt
  repeat' split
  all_goals exact at_congr f (by simp <;> omega) (by simp) (by simp <;> omega)

theorem store_102 (f : Fin 12 → M 64 128) : k0_pay102 (C3 .f32 f) (C2 (slc f 0)) (C2 (slc f 1)) (C3 .f32 (one f 2)) = C3 .f32 (half f 0 (by omega)) := by
  funext i; pointwise [k0_pay102, C2, C3, slc, one, half]
  have hi : (i 2).val < 768 := (i 2).isLt
  repeat' split
  all_goals exact at_congr f (by simp <;> omega) (by simp) (by simp <;> omega)

theorem store_103 (f : Fin 12 → M 64 128) : k0_pay103 (C3 .f32 f) = C3 .f32 (half f 0 (by omega)) := by
  funext i; pointwise [k0_pay103, C2, C3, slc, one, half]
  have hi : (i 2).val < 768 := (i 2).isLt
  repeat' split
  all_goals exact at_congr f (by simp <;> omega) (by simp) (by simp <;> omega)

theorem store_104 (f : Fin 12 → M 64 128) : k0_pay104 (C3 .f32 f) = C3 .f32 (half f 0 (by omega)) := by
  funext i; pointwise [k0_pay104, C2, C3, slc, one, half]
  have hi : (i 2).val < 768 := (i 2).isLt
  repeat' split
  all_goals exact at_congr f (by simp <;> omega) (by simp) (by simp <;> omega)

theorem store_108 (f : Fin 12 → M 64 64) : k0_pay108 (C3 .f32 f) (C2 (slc f 0)) (C2 (slc f 1)) (C3 .f32 (one f 2)) = C3 .f32 (half f 0 (by omega)) := by
  funext i; pointwise [k0_pay108, C2, C3, slc, one, half]
  have hi : (i 2).val < 384 := (i 2).isLt
  repeat' split
  all_goals exact at_congr f (by simp <;> omega) (by simp) (by simp <;> omega)

theorem store_225 (f : Fin 12 → M 64 128) : k0_pay225 (C3 .f32 f) = C3 .f32 (half f 0 (by omega)) := by
  funext i; pointwise [k0_pay225, C2, C3, slc, one, half]
  have hi : (i 2).val < 768 := (i 2).isLt
  repeat' split
  all_goals exact at_congr f (by simp <;> omega) (by simp) (by simp <;> omega)

theorem store_230 (f : Fin 12 → M 64 128) : k0_pay230 (C3 .f32 f) (C2 (slc f 0)) (C2 (slc f 1)) (C2 (slc f 2)) (C3 .f32 (one f 3)) = C3 .f32 (half f 0 (by omega)) := by
  funext i; pointwise [k0_pay230, C2, C3, slc, one, half]
  have hi : (i 2).val < 768 := (i 2).isLt
  repeat' split
  all_goals exact at_congr f (by simp <;> omega) (by simp) (by simp <;> omega)

theorem store_231 (f : Fin 12 → M 64 128) : k0_pay231 (C3 .f32 f) = C3 .f32 (half f 0 (by omega)) := by
  funext i; pointwise [k0_pay231, C2, C3, slc, one, half]
  have hi : (i 2).val < 768 := (i 2).isLt
  repeat' split
  all_goals exact at_congr f (by simp <;> omega) (by simp) (by simp <;> omega)

theorem store_232 (f : Fin 12 → M 64 128) : k0_pay232 (C3 .f32 f) = C3 .f32 (half f 0 (by omega)) := by
  funext i; pointwise [k0_pay232, C2, C3, slc, one, half]
  have hi : (i 2).val < 768 := (i 2).isLt
  repeat' split
  all_goals exact at_congr f (by simp <;> omega) (by simp) (by simp <;> omega)

theorem store_237 (f : Fin 12 → M 64 64) : k0_pay237 (C3 .f32 f) (C2 (slc f 0)) (C2 (slc f 1)) (C2 (slc f 2)) (C3 .f32 (one f 3)) = C3 .f32 (half f 0 (by omega)) := by
  funext i; pointwise [k0_pay237, C2, C3, slc, one, half]
  have hi : (i 2).val < 384 := (i 2).isLt
  repeat' split
  all_goals exact at_congr f (by simp <;> omega) (by simp) (by simp <;> omega)

theorem store_117 (f : Fin 12 → M 64 128) : k0_pay117 (C3 .f32 f) (C2 (slc f 6)) (C2 (slc f 7)) (C2 (slc f 8)) = C3 .f32 (half f 6 (by omega)) := by
  funext i; pointwise [k0_pay117, C2, C3, slc, one, half]
  have hi : (i 2).val < 768 := (i 2).isLt
  repeat' split
  all_goals exact at_congr f (by simp <;> omega) (by simp) (by simp <;> omega)

theorem store_118 (f : Fin 12 → M 64 128) : k0_pay118 (C3 .f32 f) = C3 .f32 (half f 6 (by omega)) := by
  funext i; pointwise [k0_pay118, C2, C3, slc, one, half]
  have hi : (i 2).val < 768 := (i 2).isLt
  repeat' split
  all_goals exact at_congr f (by simp <;> omega) (by simp) (by simp <;> omega)

theorem store_119 (f : Fin 12 → M 64 128) : k0_pay119 (C3 .f32 f) = C3 .f32 (half f 6 (by omega)) := by
  funext i; pointwise [k0_pay119, C2, C3, slc, one, half]
  have hi : (i 2).val < 768 := (i 2).isLt
  repeat' split
  all_goals exact at_congr f (by simp <;> omega) (by simp) (by simp <;> omega)

theorem store_123 (f : Fin 12 → M 64 128) : k0_pay123 (C3 .f32 f) (C2 (slc f 6)) (C2 (slc f 7)) (C2 (slc f 8)) = C3 .f32 (half f 6 (by omega)) := by
  funext i; pointwise [k0_pay123, C2, C3, slc, one, half]
  have hi : (i 2).val < 768 := (i 2).isLt
  repeat' split
  all_goals exact at_congr f (by simp <;> omega) (by simp) (by simp <;> omega)

theorem store_124 (f : Fin 12 → M 64 64) : k0_pay124 (C3 .f32 f) = C3 .f32 (half f 6 (by omega)) := by
  funext i; pointwise [k0_pay124, C2, C3, slc, one, half]
  have hi : (i 2).val < 384 := (i 2).isLt
  repeat' split
  all_goals exact at_congr f (by simp <;> omega) (by simp) (by simp <;> omega)

theorem store_244 (f : Fin 12 → M 64 128) : k0_pay244 (C3 .f32 f) (C2 (slc f 6)) (C2 (slc f 7)) (C2 (slc f 8)) (C2 (slc f 9)) = C3 .f32 (half f 6 (by omega)) := by
  funext i; pointwise [k0_pay244, C2, C3, slc, one, half]
  have hi : (i 2).val < 768 := (i 2).isLt
  repeat' split
  all_goals exact at_congr f (by simp <;> omega) (by simp) (by simp <;> omega)

theorem store_245 (f : Fin 12 → M 64 128) : k0_pay245 (C3 .f32 f) = C3 .f32 (half f 6 (by omega)) := by
  funext i; pointwise [k0_pay245, C2, C3, slc, one, half]
  have hi : (i 2).val < 768 := (i 2).isLt
  repeat' split
  all_goals exact at_congr f (by simp <;> omega) (by simp) (by simp <;> omega)

theorem store_246 (f : Fin 12 → M 64 128) : k0_pay246 (C3 .f32 f) = C3 .f32 (half f 6 (by omega)) := by
  funext i; pointwise [k0_pay246, C2, C3, slc, one, half]
  have hi : (i 2).val < 768 := (i 2).isLt
  repeat' split
  all_goals exact at_congr f (by simp <;> omega) (by simp) (by simp <;> omega)

theorem store_251 (f : Fin 12 → M 64 128) : k0_pay251 (C3 .f32 f) (C2 (slc f 6)) (C2 (slc f 7)) (C2 (slc f 8)) (C2 (slc f 9)) = C3 .f32 (half f 6 (by omega)) := by
  funext i; pointwise [k0_pay251, C2, C3, slc, one, half]
  have hi : (i 2).val < 768 := (i 2).isLt
  repeat' split
  all_goals exact at_congr f (by simp <;> omega) (by simp) (by simp <;> omega)

theorem store_252 (f : Fin 12 → M 64 64) : k0_pay252 (C3 .f32 f) = C3 .f32 (half f 6 (by omega)) := by
  funext i; pointwise [k0_pay252, C2, C3, slc, one, half]
  have hi : (i 2).val < 384 := (i 2).isLt
  repeat' split
  all_goals exact at_congr f (by simp <;> omega) (by simp) (by simp <;> omega)

/-! ## The decays of six heads in one row -/

/-- `a` at the element `(0, k)` and zero elsewhere. -/
def pick {p q : ℕ} (k : ℕ) (a : ℝ) : M p q := fun r c => if c.val = k ∧ r.val = 0 then a else 0

/-- The scalar `k` of a family. -/
def sca (f : Fin 12 → M 1 1) (k : Fin 12) : ℝ := f k 0 0

/-- Six scalars from `o` in the first row. -/
def plane (f : Fin 12 → M 1 1) (o : ℕ) (ho : o ≤ 6) : Fin 1 → M 64 128 :=
  fun _ r c => if h : c.val < 6 ∧ r.val = 0 then f ⟨o + c.val, by omega⟩ 0 0 else 0

theorem addf_C2 {p q : ℕ} (a b : M p q) : addf (C2 a) (C2 b) = C2 (a + b) := by
  funext i; pointwise [C2]; exact (EReal.coe_add _ _).symm
theorem zero_C2 {p q : ℕ} : (broadcast ⟨2, ![p, q]⟩ (Scalar.ofBits .f32 0x00000000#32 : Ideal .f32) : FVec Ideal _ .f32) = C2 (0 : M p q) := by
  funext i; pointwise [C2]; rfl
theorem shapeCast_C2 (a : M 64 128) (h) : shapeCast S1x64x128 (C2 a : FVec Ideal S64x128 .f32) h = C3 .f32 (fun _ => a) := by
  funext i; pointwise [C2, C3]

theorem spread_0 (f : Fin 12 → M 1 1) (h h1 h2 h3) :
    broadcastTo S64x128 (shapeCast S1x1 (shapeCast S1x1 (extractStridedSlice S1x1x1 ![0, 0, 0] (C3 .f32 f : FVec Ideal S12x1x1 .f32) h) h1) h2) h3
      = C2 (fun _ _ => sca f 0) := by
  funext i; pointwise [C2, C3, sca]

theorem spread_1 (f : Fin 12 → M 1 1) (h h1 h2 h3) :
    broadcastTo S64x128 (shapeCast S1x1 (shapeCast S1x1 (extractStridedSlice S1x1x1 ![1, 0, 0] (C3 .f32 f : FVec Ideal S12x1x1 .f32) h) h1) h2) h3
      = C2 (fun _ _ => sca f 1) := by
  funext i; pointwise [C2, C3, sca]

theorem spread_2 (f : Fin 12 → M 1 1) (h h1 h2 h3) :
    broadcastTo S64x128 (shapeCast S1x1 (shapeCast S1x1 (extractStridedSlice S1x1x1 ![2, 0, 0] (C3 .f32 f : FVec Ideal S12x1x1 .f32) h) h1) h2) h3
      = C2 (fun _ _ => sca f 2) := by
  funext i; pointwise [C2, C3, sca]

theorem spread_3 (f : Fin 12 → M 1 1) (h h1 h2 h3) :
    broadcastTo S64x128 (shapeCast S1x1 (shapeCast S1x1 (extractStridedSlice S1x1x1 ![3, 0, 0] (C3 .f32 f : FVec Ideal S12x1x1 .f32) h) h1) h2) h3
      = C2 (fun _ _ => sca f 3) := by
  funext i; pointwise [C2, C3, sca]

theorem spread_4 (f : Fin 12 → M 1 1) (h h1 h2 h3) :
    broadcastTo S64x128 (shapeCast S1x1 (shapeCast S1x1 (extractStridedSlice S1x1x1 ![4, 0, 0] (C3 .f32 f : FVec Ideal S12x1x1 .f32) h) h1) h2) h3
      = C2 (fun _ _ => sca f 4) := by
  funext i; pointwise [C2, C3, sca]

theorem spread_5 (f : Fin 12 → M 1 1) (h h1 h2 h3) :
    broadcastTo S64x128 (shapeCast S1x1 (shapeCast S1x1 (extractStridedSlice S1x1x1 ![5, 0, 0] (C3 .f32 f : FVec Ideal S12x1x1 .f32) h) h1) h2) h3
      = C2 (fun _ _ => sca f 5) := by
  funext i; pointwise [C2, C3, sca]

theorem spread_6 (f : Fin 12 → M 1 1) (h h1 h2 h3) :
    broadcastTo S64x128 (shapeCast S1x1 (shapeCast S1x1 (extractStridedSlice S1x1x1 ![6, 0, 0] (C3 .f32 f : FVec Ideal S12x1x1 .f32) h) h1) h2) h3
      = C2 (fun _ _ => sca f 6) := by
  funext i; pointwise [C2, C3, sca]

theorem spread_7 (f : Fin 12 → M 1 1) (h h1 h2 h3) :
    broadcastTo S64x128 (shapeCast S1x1 (shapeCast S1x1 (extractStridedSlice S1x1x1 ![7, 0, 0] (C3 .f32 f : FVec Ideal S12x1x1 .f32) h) h1) h2) h3
      = C2 (fun _ _ => sca f 7) := by
  funext i; pointwise [C2, C3, sca]

theorem spread_8 (f : Fin 12 → M 1 1) (h h1 h2 h3) :
    broadcastTo S64x128 (shapeCast S1x1 (shapeCast S1x1 (extractStridedSlice S1x1x1 ![8, 0, 0] (C3 .f32 f : FVec Ideal S12x1x1 .f32) h) h1) h2) h3
      = C2 (fun _ _ => sca f 8) := by
  funext i; pointwise [C2, C3, sca]

theorem spread_9 (f : Fin 12 → M 1 1) (h h1 h2 h3) :
    broadcastTo S64x128 (shapeCast S1x1 (shapeCast S1x1 (extractStridedSlice S1x1x1 ![9, 0, 0] (C3 .f32 f : FVec Ideal S12x1x1 .f32) h) h1) h2) h3
      = C2 (fun _ _ => sca f 9) := by
  funext i; pointwise [C2, C3, sca]

theorem spread_10 (f : Fin 12 → M 1 1) (h h1 h2 h3) :
    broadcastTo S64x128 (shapeCast S1x1 (shapeCast S1x1 (extractStridedSlice S1x1x1 ![10, 0, 0] (C3 .f32 f : FVec Ideal S12x1x1 .f32) h) h1) h2) h3
      = C2 (fun _ _ => sca f 10) := by
  funext i; pointwise [C2, C3, sca]

theorem spread_11 (f : Fin 12 → M 1 1) (h h1 h2 h3) :
    broadcastTo S64x128 (shapeCast S1x1 (shapeCast S1x1 (extractStridedSlice S1x1x1 ![11, 0, 0] (C3 .f32 f : FVec Ideal S12x1x1 .f32) h) h1) h2) h3
      = C2 (fun _ _ => sca f 11) := by
  funext i; pointwise [C2, C3, sca]

theorem pick_0 (a : ℝ) (da dz : List (Fin 2)) (hda : da = [1]) (hdz : dz = [0]) (h h') :
    select (andi (cmpi .eq (iota (s := S64x128) .tc 32 da h) (broadcast S64x128 0#32)) (cmpi .eq (iota (s := S64x128) .tc 32 dz h') (broadcast S64x128 0#32)))
      (C2 (fun _ _ => a) : FVec Ideal S64x128 .f32) (C2 (0 : M 64 128)) = C2 (pick 0 a) := by
  subst hda hdz
  funext i; pointwise [C2, pick]
  rw [(by decide +kernel : ∀ (r : Fin 64) (x : Fin 128), IntOp.andi (IntOp.cmpi .eq (BitVec.ofNat 32 x) 0#32)
    (IntOp.cmpi .eq (BitVec.ofNat 32 r) 0#32) = if x.val = 0 ∧ r.val = 0 then 1#1 else 0#1) (i 0) (i 1)]
  split <;> rfl

theorem pick_1 (a : ℝ) (da dz : List (Fin 2)) (hda : da = [1]) (hdz : dz = [0]) (h h') :
    select (andi (cmpi .eq (iota (s := S64x128) .tc 32 da h) (broadcast S64x128 1#32)) (cmpi .eq (iota (s := S64x128) .tc 32 dz h') (broadcast S64x128 0#32)))
      (C2 (fun _ _ => a) : FVec Ideal S64x128 .f32) (C2 (0 : M 64 128)) = C2 (pick 1 a) := by
  subst hda hdz
  funext i; pointwise [C2, pick]
  rw [(by decide +kernel : ∀ (r : Fin 64) (x : Fin 128), IntOp.andi (IntOp.cmpi .eq (BitVec.ofNat 32 x) 1#32)
    (IntOp.cmpi .eq (BitVec.ofNat 32 r) 0#32) = if x.val = 1 ∧ r.val = 0 then 1#1 else 0#1) (i 0) (i 1)]
  split <;> rfl

theorem pick_2 (a : ℝ) (da dz : List (Fin 2)) (hda : da = [1]) (hdz : dz = [0]) (h h') :
    select (andi (cmpi .eq (iota (s := S64x128) .tc 32 da h) (broadcast S64x128 2#32)) (cmpi .eq (iota (s := S64x128) .tc 32 dz h') (broadcast S64x128 0#32)))
      (C2 (fun _ _ => a) : FVec Ideal S64x128 .f32) (C2 (0 : M 64 128)) = C2 (pick 2 a) := by
  subst hda hdz
  funext i; pointwise [C2, pick]
  rw [(by decide +kernel : ∀ (r : Fin 64) (x : Fin 128), IntOp.andi (IntOp.cmpi .eq (BitVec.ofNat 32 x) 2#32)
    (IntOp.cmpi .eq (BitVec.ofNat 32 r) 0#32) = if x.val = 2 ∧ r.val = 0 then 1#1 else 0#1) (i 0) (i 1)]
  split <;> rfl

theorem pick_3 (a : ℝ) (da dz : List (Fin 2)) (hda : da = [1]) (hdz : dz = [0]) (h h') :
    select (andi (cmpi .eq (iota (s := S64x128) .tc 32 da h) (broadcast S64x128 3#32)) (cmpi .eq (iota (s := S64x128) .tc 32 dz h') (broadcast S64x128 0#32)))
      (C2 (fun _ _ => a) : FVec Ideal S64x128 .f32) (C2 (0 : M 64 128)) = C2 (pick 3 a) := by
  subst hda hdz
  funext i; pointwise [C2, pick]
  rw [(by decide +kernel : ∀ (r : Fin 64) (x : Fin 128), IntOp.andi (IntOp.cmpi .eq (BitVec.ofNat 32 x) 3#32)
    (IntOp.cmpi .eq (BitVec.ofNat 32 r) 0#32) = if x.val = 3 ∧ r.val = 0 then 1#1 else 0#1) (i 0) (i 1)]
  split <;> rfl

theorem pick_4 (a : ℝ) (da dz : List (Fin 2)) (hda : da = [1]) (hdz : dz = [0]) (h h') :
    select (andi (cmpi .eq (iota (s := S64x128) .tc 32 da h) (broadcast S64x128 4#32)) (cmpi .eq (iota (s := S64x128) .tc 32 dz h') (broadcast S64x128 0#32)))
      (C2 (fun _ _ => a) : FVec Ideal S64x128 .f32) (C2 (0 : M 64 128)) = C2 (pick 4 a) := by
  subst hda hdz
  funext i; pointwise [C2, pick]
  rw [(by decide +kernel : ∀ (r : Fin 64) (x : Fin 128), IntOp.andi (IntOp.cmpi .eq (BitVec.ofNat 32 x) 4#32)
    (IntOp.cmpi .eq (BitVec.ofNat 32 r) 0#32) = if x.val = 4 ∧ r.val = 0 then 1#1 else 0#1) (i 0) (i 1)]
  split <;> rfl

theorem pick_5 (a : ℝ) (da dz : List (Fin 2)) (hda : da = [1]) (hdz : dz = [0]) (h h') :
    select (andi (cmpi .eq (iota (s := S64x128) .tc 32 da h) (broadcast S64x128 5#32)) (cmpi .eq (iota (s := S64x128) .tc 32 dz h') (broadcast S64x128 0#32)))
      (C2 (fun _ _ => a) : FVec Ideal S64x128 .f32) (C2 (0 : M 64 128)) = C2 (pick 5 a) := by
  subst hda hdz
  funext i; pointwise [C2, pick]
  rw [(by decide +kernel : ∀ (r : Fin 64) (x : Fin 128), IntOp.andi (IntOp.cmpi .eq (BitVec.ofNat 32 x) 5#32)
    (IntOp.cmpi .eq (BitVec.ofNat 32 r) 0#32) = if x.val = 5 ∧ r.val = 0 then 1#1 else 0#1) (i 0) (i 1)]
  split <;> rfl

theorem plane_0 (f : Fin 12 → M 1 1) : pick 0 (sca f 0) + pick 1 (sca f 1) + pick 2 (sca f 2) + pick 3 (sca f 3)
    + pick 4 (sca f 4) + pick 5 (sca f 5) = plane f 0 (by omega) 0 := by
  funext r ⟨c, hl⟩
  simp only [Pi.add_apply, pick, sca, plane]
  by_cases hr : r.val = 0
  · by_cases hc : c < 6
    · interval_cases c <;> simp [hr] <;> rfl
    · have : c ≠ 0 ∧ c ≠ 1 ∧ c ≠ 2 ∧ c ≠ 3 ∧ c ≠ 4 ∧ c ≠ 5 := by omega
      simp [this, hc]
  · simp [hr]

theorem plane_6 (f : Fin 12 → M 1 1) : pick 0 (sca f 6) + pick 1 (sca f 7) + pick 2 (sca f 8) + pick 3 (sca f 9)
    + pick 4 (sca f 10) + pick 5 (sca f 11) = plane f 6 (by omega) 0 := by
  funext r ⟨c, hl⟩
  simp only [Pi.add_apply, pick, sca, plane]
  by_cases hr : r.val = 0
  · by_cases hc : c < 6
    · interval_cases c <;> simp [hr] <;> rfl
    · have : c ≠ 0 ∧ c ≠ 1 ∧ c ≠ 2 ∧ c ≠ 3 ∧ c ≠ 4 ∧ c ≠ 5 := by omega
      simp [this, hc]
  · simp [hr]

end Cert.Proof.ScanDots
-- ==== Proof.ScanStacks.lean ====
module

public import proofs.«01_k».proof.Proof.ScanDots

@[expose] public section

set_option maxRecDepth 16384

noncomputable section

namespace Cert.Proof.ScanStacks

open Cert.KernelIdeal Cert.KernelIdeal.Gen Cert.Proof.ScanOps Idealize.ShloMosaic Idealize.SL.Sem

/-- The rows from `o` of the heads of two sequences, one after the other. -/
def stk (y : Fin 2 → M 128 768) (o : ℕ) (h : o ≤ 64) : Fin 12 → M 64 128 :=
  fun p r k => y ⟨p.val / 6, by omega⟩ ⟨o + r.val, by omega⟩ ⟨128 * (p.val % 6) + k.val, by omega⟩
def stka (y : Fin 2 → M 128 384) (o : ℕ) (h : o ≤ 64) : Fin 12 → M 64 64 :=
  fun p r k => y ⟨p.val / 6, by omega⟩ ⟨o + r.val, by omega⟩ ⟨64 * (p.val % 6) + k.val, by omega⟩
def stkg (y : Fin 2 → M 128 128) (o : ℕ) (h : o ≤ 64) : Fin 12 → M 1 1 :=
  fun p _ _ => y ⟨p.val / 6, by omega⟩ ⟨o, by omega⟩ ⟨p.val % 6, by omega⟩

theorem stack_11 (x : Vec Ideal S2x128x768 .f32) (y : Fin 2 → M 128 768) (hx : x = C3 .f32 y) :
    k0_pay11 (F := Ideal)
      (k0_pay5 (View.ld x (Rect.unit (s := S2x128x768) ![0, 64, 0] ![1, 64, 128] inb_S2x128x768_S1x64x128_0_64_0)))
      (k0_pay6 (View.ld x (Rect.unit (s := S2x128x768) ![0, 64, 128] ![1, 64, 128] inb_S2x128x768_S1x64x128_0_64_128)))
      (k0_pay7 (View.ld x (Rect.unit (s := S2x128x768) ![0, 64, 256] ![1, 64, 128] inb_S2x128x768_S1x64x128_0_64_256)))
      (k0_pay8 (View.ld x (Rect.unit (s := S2x128x768) ![0, 64, 384] ![1, 64, 128] inb_S2x128x768_S1x64x128_0_64_384)))
      (k0_pay9 (View.ld x (Rect.unit (s := S2x128x768) ![0, 64, 512] ![1, 64, 128] inb_S2x128x768_S1x64x128_0_64_512)))
      (k0_pay10 (View.ld x (Rect.unit (s := S2x128x768) ![0, 64, 640] ![1, 64, 128] inb_S2x128x768_S1x64x128_0_64_640)))
      (View.ld x (Rect.unit (s := S2x128x768) ![1, 64, 0] ![1, 64, 128] inb_S2x128x768_S1x64x128_1_64_0))
      (View.ld x (Rect.unit (s := S2x128x768) ![1, 64, 128] ![1, 64, 128] inb_S2x128x768_S1x64x128_1_64_128))
      (View.ld x (Rect.unit (s := S2x128x768) ![1, 64, 256] ![1, 64, 128] inb_S2x128x768_S1x64x128_1_64_256))
      (View.ld x (Rect.unit (s := S2x128x768) ![1, 64, 384] ![1, 64, 128] inb_S2x128x768_S1x64x128_1_64_384))
      (View.ld x (Rect.unit (s := S2x128x768) ![1, 64, 512] ![1, 64, 128] inb_S2x128x768_S1x64x128_1_64_512))
      (View.ld x (Rect.unit (s := S2x128x768) ![1, 64, 640] ![1, 64, 128] inb_S2x128x768_S1x64x128_1_64_640))
      = C3 .f32 (stk y 64 (by omega)) := by
  subst hx
  funext i
  unfold k0_pay11
  concat_tiles j h
  all_goals
    pointwise [k0_pay5, k0_pay6, k0_pay7, k0_pay8, k0_pay9, k0_pay10, C3, stk]
    exact at_congr y (by simp <;> omega) (by simp <;> omega) (by simp <;> omega)

theorem stack_29 (x : Vec Ideal S2x128x768 .f32) (y : Fin 2 → M 128 768) (hx : x = C3 .f32 y) :
    k0_pay29 (F := Ideal)
      (k0_pay17 (View.ld x (Rect.unit (s := S2x128x768) ![1, 64, 0] ![1, 64, 128] inb_S2x128x768_S1x64x128_1_64_0)))
      (k0_pay18 (View.ld x (Rect.unit (s := S2x128x768) ![1, 64, 128] ![1, 64, 128] inb_S2x128x768_S1x64x128_1_64_128)))
      (k0_pay19 (View.ld x (Rect.unit (s := S2x128x768) ![1, 64, 256] ![1, 64, 128] inb_S2x128x768_S1x64x128_1_64_256)))
      (k0_pay20 (View.ld x (Rect.unit (s := S2x128x768) ![1, 64, 384] ![1, 64, 128] inb_S2x128x768_S1x64x128_1_64_384)))
      (k0_pay21 (View.ld x (Rect.unit (s := S2x128x768) ![1, 64, 512] ![1, 64, 128] inb_S2x128x768_S1x64x128_1_64_512)))
      (k0_pay22 (View.ld x (Rect.unit (s := S2x128x768) ![1, 64, 640] ![1, 64, 128] inb_S2x128x768_S1x64x128_1_64_640)))
      (k0_pay23 (k0_pay16 (View.ld x (Rect.unit (s := S2x128x768) ![0, 64, 0] ![1, 64, 128] inb_S2x128x768_S1x64x128_0_64_0))))
      (k0_pay24 (View.ld x (Rect.unit (s := S2x128x768) ![0, 64, 128] ![1, 64, 128] inb_S2x128x768_S1x64x128_0_64_128)))
      (k0_pay25 (View.ld x (Rect.unit (s := S2x128x768) ![0, 64, 256] ![1, 64, 128] inb_S2x128x768_S1x64x128_0_64_256)))
      (k0_pay26 (View.ld x (Rect.unit (s := S2x128x768) ![0, 64, 384] ![1, 64, 128] inb_S2x128x768_S1x64x128_0_64_384)))
      (k0_pay27 (View.ld x (Rect.unit (s := S2x128x768) ![0, 64, 512] ![1, 64, 128] inb_S2x128x768_S1x64x128_0_64_512)))
      (k0_pay28 (View.ld x (Rect.unit (s := S2x128x768) ![0, 64, 640] ![1, 64, 128] inb_S2x128x768_S1x64x128_0_64_640)))
      = C3 .f32 (stk y 64 (by omega)) := by
  subst hx
  funext i
  unfold k0_pay29
  concat_tiles j h
  all_goals
    pointwise [k0_pay16, k0_pay17, k0_pay18, k0_pay19, k0_pay20, k0_pay21, k0_pay22, k0_pay23, k0_pay24, k0_pay25, k0_pay26, k0_pay27, k0_pay28, C3, stk]
    exact at_congr y (by simp <;> omega) (by simp <;> omega) (by simp <;> omega)

theorem stack_40 (x : Vec Ideal S2x128x768 .f32) (y : Fin 2 → M 128 768) (hx : x = C3 .f32 y) :
    k0_pay40 (F := Ideal)
      (k0_pay30 (View.ld x (Rect.unit (s := S2x128x768) ![0, 64, 0] ![1, 64, 128] inb_S2x128x768_S1x64x128_0_64_0)))
      (k0_pay31 (View.ld x (Rect.unit (s := S2x128x768) ![0, 64, 128] ![1, 64, 128] inb_S2x128x768_S1x64x128_0_64_128)))
      (k0_pay32 (View.ld x (Rect.unit (s := S2x128x768) ![0, 64, 256] ![1, 64, 128] inb_S2x128x768_S1x64x128_0_64_256)))
      (k0_pay33 (View.ld x (Rect.unit (s := S2x128x768) ![0, 64, 384] ![1, 64, 128] inb_S2x128x768_S1x64x128_0_64_384)))
      (k0_pay34 (View.ld x (Rect.unit (s := S2x128x768) ![0, 64, 512] ![1, 64, 128] inb_S2x128x768_S1x64x128_0_64_512)))
      (k0_pay35 (View.ld x (Rect.unit (s := S2x128x768) ![0, 64, 640] ![1, 64, 128] inb_S2x128x768_S1x64x128_0_64_640)))
      (k0_pay36 (View.ld x (Rect.unit (s := S2x128x768) ![1, 64, 0] ![1, 64, 128] inb_S2x128x768_S1x64x128_1_64_0)))
      (k0_pay37 (View.ld x (Rect.unit (s := S2x128x768) ![1, 64, 128] ![1, 64, 128] inb_S2x128x768_S1x64x128_1_64_128)))
      (k0_pay38 (View.ld x (Rect.unit (s := S2x128x768) ![1, 64, 256] ![1, 64, 128] inb_S2x128x768_S1x64x128_1_64_256)))
      (k0_pay39 (View.ld x (Rect.unit (s := S2x128x768) ![1, 64, 384] ![1, 64, 128] inb_S2x128x768_S1x64x128_1_64_384)))
      (View.ld x (Rect.unit (s := S2x128x768) ![1, 64, 512] ![1, 64, 128] inb_S2x128x768_S1x64x128_1_64_512))
      (View.ld x (Rect.unit (s := S2x128x768) ![1, 64, 640] ![1, 64, 128] inb_S2x128x768_S1x64x128_1_64_640))
      = C3 .f32 (stk y 64 (by omega)) := by
  subst hx
  funext i
  unfold k0_pay40
  concat_tiles j h
  all_goals
    pointwise [k0_pay30, k0_pay31, k0_pay32, k0_pay33, k0_pay34, k0_pay35, k0_pay36, k0_pay37, k0_pay38, k0_pay39, C3, stk]
    exact at_congr y (by simp <;> omega) (by simp <;> omega) (by simp <;> omega)

theorem stack_49 (x : Vec Ideal S2x128x768 .f32) (y : Fin 2 → M 128 768) (hx : x = C3 .f32 y) :
    k0_pay49 (F := Ideal)
      (k0_pay41 (View.ld x (Rect.unit (s := S2x128x768) ![0, 64, 0] ![1, 64, 128] inb_S2x128x768_S1x64x128_0_64_0)))
      (k0_pay42 (View.ld x (Rect.unit (s := S2x128x768) ![0, 64, 128] ![1, 64, 128] inb_S2x128x768_S1x64x128_0_64_128)))
      (k0_pay43 (View.ld x (Rect.unit (s := S2x128x768) ![0, 64, 256] ![1, 64, 128] inb_S2x128x768_S1x64x128_0_64_256)))
      (k0_pay44 (View.ld x (Rect.unit (s := S2x128x768) ![0, 64, 384] ![1, 64, 128] inb_S2x128x768_S1x64x128_0_64_384)))
      (k0_pay45 (View.ld x (Rect.unit (s := S2x128x768) ![0, 64, 512] ![1, 64, 128] inb_S2x128x768_S1x64x128_0_64_512)))
      (k0_pay46 (View.ld x (Rect.unit (s := S2x128x768) ![0, 64, 640] ![1, 64, 128] inb_S2x128x768_S1x64x128_0_64_640)))
      (k0_pay47 (View.ld x (Rect.unit (s := S2x128x768) ![1, 64, 0] ![1, 64, 128] inb_S2x128x768_S1x64x128_1_64_0)))
      (k0_pay48 (View.ld x (Rect.unit (s := S2x128x768) ![1, 64, 128] ![1, 64, 128] inb_S2x128x768_S1x64x128_1_64_128)))
      (View.ld x (Rect.unit (s := S2x128x768) ![1, 64, 256] ![1, 64, 128] inb_S2x128x768_S1x64x128_1_64_256))
      (View.ld x (Rect.unit (s := S2x128x768) ![1, 64, 384] ![1, 64, 128] inb_S2x128x768_S1x64x128_1_64_384))
      (View.ld x (Rect.unit (s := S2x128x768) ![1, 64, 512] ![1, 64, 128] inb_S2x128x768_S1x64x128_1_64_512))
      (View.ld x (Rect.unit (s := S2x128x768) ![1, 64, 640] ![1, 64, 128] inb_S2x128x768_S1x64x128_1_64_640))
      = C3 .f32 (stk y 64 (by omega)) := by
  subst hx
  funext i
  unfold k0_pay49
  concat_tiles j h
  all_goals
    pointwise [k0_pay41, k0_pay42, k0_pay43, k0_pay44, k0_pay45, k0_pay46, k0_pay47, k0_pay48, C3, stk]
    exact at_congr y (by simp <;> omega) (by simp <;> omega) (by simp <;> omega)

theorem stack_55 (x : Vec Ideal S2x128x768 .f32) (y : Fin 2 → M 128 768) (hx : x = C3 .f32 y) :
    k0_pay55 (F := Ideal)
      (k0_pay50 (View.ld x (Rect.unit (s := S2x128x768) ![0, 64, 0] ![1, 64, 128] inb_S2x128x768_S1x64x128_0_64_0)))
      (k0_pay51 (View.ld x (Rect.unit (s := S2x128x768) ![0, 64, 128] ![1, 64, 128] inb_S2x128x768_S1x64x128_0_64_128)))
      (k0_pay52 (View.ld x (Rect.unit (s := S2x128x768) ![0, 64, 256] ![1, 64, 128] inb_S2x128x768_S1x64x128_0_64_256)))
      (k0_pay53 (View.ld x (Rect.unit (s := S2x128x768) ![0, 64, 384] ![1, 64, 128] inb_S2x128x768_S1x64x128_0_64_384)))
      (k0_pay54 (View.ld x (Rect.unit (s := S2x128x768) ![0, 64, 512] ![1, 64, 128] inb_S2x128x768_S1x64x128_0_64_512)))
      (View.ld x (Rect.unit (s := S2x128x768) ![0, 64, 640] ![1, 64, 128] inb_S2x128x768_S1x64x128_0_64_640))
      (View.ld x (Rect.unit (s := S2x128x768) ![1, 64, 0] ![1, 64, 128] inb_S2x128x768_S1x64x128_1_64_0))
      (View.ld x (Rect.unit (s := S2x128x768) ![1, 64, 128] ![1, 64, 128] inb_S2x128x768_S1x64x128_1_64_128))
      (View.ld x (Rect.unit (s := S2x128x768) ![1, 64, 256] ![1, 64, 128] inb_S2x128x768_S1x64x128_1_64_256))
      (View.ld x (Rect.unit (s := S2x128x768) ![1, 64, 384] ![1, 64, 128] inb_S2x128x768_S1x64x128_1_64_384))
      (View.ld x (Rect.unit (s := S2x128x768) ![1, 64, 512] ![1, 64, 128] inb_S2x128x768_S1x64x128_1_64_512))
      (View.ld x (Rect.unit (s := S2x128x768) ![1, 64, 640] ![1, 64, 128] inb_S2x128x768_S1x64x128_1_64_640))
      = C3 .f32 (stk y 64 (by omega)) := by
  subst hx
  funext i
  unfold k0_pay55
  concat_tiles j h
  all_goals
    pointwise [k0_pay50, k0_pay51, k0_pay52, k0_pay53, k0_pay54, C3, stk]
    exact at_congr y (by simp <;> omega) (by simp <;> omega) (by simp <;> omega)

theorem stack_139 (x : Vec Ideal S2x128x768 .f32) (y : Fin 2 → M 128 768) (hx : x = C3 .f32 y) :
    k0_pay139 (F := Ideal)
      (k0_pay133 (View.ld x (Rect.unit (s := S2x128x768) ![0, 0, 0] ![1, 64, 128] inb_S2x128x768_S1x64x128_0_0_0)))
      (k0_pay134 (View.ld x (Rect.unit (s := S2x128x768) ![0, 0, 128] ![1, 64, 128] inb_S2x128x768_S1x64x128_0_0_128)))
      (k0_pay135 (View.ld x (Rect.unit (s := S2x128x768) ![0, 0, 256] ![1, 64, 128] inb_S2x128x768_S1x64x128_0_0_256)))
      (k0_pay136 (View.ld x (Rect.unit (s := S2x128x768) ![0, 0, 384] ![1, 64, 128] inb_S2x128x768_S1x64x128_0_0_384)))
      (k0_pay137 (View.ld x (Rect.unit (s := S2x128x768) ![0, 0, 512] ![1, 64, 128] inb_S2x128x768_S1x64x128_0_0_512)))
      (k0_pay138 (View.ld x (Rect.unit (s := S2x128x768) ![0, 0, 640] ![1, 64, 128] inb_S2x128x768_S1x64x128_0_0_640)))
      (View.ld x (Rect.unit (s := S2x128x768) ![1, 0, 0] ![1, 64, 128] inb_S2x128x768_S1x64x128_1_0_0))
      (View.ld x (Rect.unit (s := S2x128x768) ![1, 0, 128] ![1, 64, 128] inb_S2x128x768_S1x64x128_1_0_128))
      (View.ld x (Rect.unit (s := S2x128x768) ![1, 0, 256] ![1, 64, 128] inb_S2x128x768_S1x64x128_1_0_256))
      (View.ld x (Rect.unit (s := S2x128x768) ![1, 0, 384] ![1, 64, 128] inb_S2x128x768_S1x64x128_1_0_384))
      (View.ld x (Rect.unit (s := S2x128x768) ![1, 0, 512] ![1, 64, 128] inb_S2x128x768_S1x64x128_1_0_512))
      (View.ld x (Rect.unit (s := S2x128x768) ![1, 0, 640] ![1, 64, 128] inb_S2x128x768_S1x64x128_1_0_640))
      = C3 .f32 (stk y 0 (by omega)) := by
  subst hx
  funext i
  unfold k0_pay139
  concat_tiles j h
  all_goals
    pointwise [k0_pay133, k0_pay134, k0_pay135, k0_pay136, k0_pay137, k0_pay138, C3, stk]
    exact at_congr y (by simp <;> omega) (by simp <;> omega) (by simp <;> omega)

theorem stack_157 (x : Vec Ideal S2x128x768 .f32) (y : Fin 2 → M 128 768) (hx : x = C3 .f32 y) :
    k0_pay157 (F := Ideal)
      (k0_pay145 (View.ld x (Rect.unit (s := S2x128x768) ![1, 0, 0] ![1, 64, 128] inb_S2x128x768_S1x64x128_1_0_0)))
      (k0_pay146 (View.ld x (Rect.unit (s := S2x128x768) ![1, 0, 128] ![1, 64, 128] inb_S2x128x768_S1x64x128_1_0_128)))
      (k0_pay147 (View.ld x (Rect.unit (s := S2x128x768) ![1, 0, 256] ![1, 64, 128] inb_S2x128x768_S1x64x128_1_0_256)))
      (k0_pay148 (View.ld x (Rect.unit (s := S2x128x768) ![1, 0, 384] ![1, 64, 128] inb_S2x128x768_S1x64x128_1_0_384)))
      (k0_pay149 (View.ld x (Rect.unit (s := S2x128x768) ![1, 0, 512] ![1, 64, 128] inb_S2x128x768_S1x64x128_1_0_512)))
      (k0_pay150 (View.ld x (Rect.unit (s := S2x128x768) ![1, 0, 640] ![1, 64, 128] inb_S2x128x768_S1x64x128_1_0_640)))
      (k0_pay151 (k0_pay144 (View.ld x (Rect.unit (s := S2x128x768) ![0, 0, 0] ![1, 64, 128] inb_S2x128x768_S1x64x128_0_0_0))))
      (k0_pay152 (View.ld x (Rect.unit (s := S2x128x768) ![0, 0, 128] ![1, 64, 128] inb_S2x128x768_S1x64x128_0_0_128)))
      (k0_pay153 (View.ld x (Rect.unit (s := S2x128x768) ![0, 0, 256] ![1, 64, 128] inb_S2x128x768_S1x64x128_0_0_256)))
      (k0_pay154 (View.ld x (Rect.unit (s := S2x128x768) ![0, 0, 384] ![1, 64, 128] inb_S2x128x768_S1x64x128_0_0_384)))
      (k0_pay155 (View.ld x (Rect.unit (s := S2x128x768) ![0, 0, 512] ![1, 64, 128] inb_S2x128x768_S1x64x128_0_0_512)))
      (k0_pay156 (View.ld x (Rect.unit (s := S2x128x768) ![0, 0, 640] ![1, 64, 128] inb_S2x128x768_S1x64x128_0_0_640)))
      = C3 .f32 (stk y 0 (by omega)) := by
  subst hx
  funext i
  unfold k0_pay157
  concat_tiles j h
  all_goals
    pointwise [k0_pay144, k0_pay145, k0_pay146, k0_pay147, k0_pay148, k0_pay149, k0_pay150, k0_pay151, k0_pay152, k0_pay153, k0_pay154, k0_pay155, k0_pay156, C3, stk]
    exact at_congr y (by simp <;> omega) (by simp <;> omega) (by simp <;> omega)

theorem stack_168 (x : Vec Ideal S2x128x768 .f32) (y : Fin 2 → M 128 768) (hx : x = C3 .f32 y) :
    k0_pay168 (F := Ideal)
      (k0_pay158 (View.ld x (Rect.unit (s := S2x128x768) ![0, 0, 0] ![1, 64, 128] inb_S2x128x768_S1x64x128_0_0_0)))
      (k0_pay159 (View.ld x (Rect.unit (s := S2x128x768) ![0, 0, 128] ![1, 64, 128] inb_S2x128x768_S1x64x128_0_0_128)))
      (k0_pay160 (View.ld x (Rect.unit (s := S2x128x768) ![0, 0, 256] ![1, 64, 128] inb_S2x128x768_S1x64x128_0_0_256)))
      (k0_pay161 (View.ld x (Rect.unit (s := S2x128x768) ![0, 0, 384] ![1, 64, 128] inb_S2x128x768_S1x64x128_0_0_384)))
      (k0_pay162 (View.ld x (Rect.unit (s := S2x128x768) ![0, 0, 512] ![1, 64, 128] inb_S2x128x768_S1x64x128_0_0_512)))
      (k0_pay163 (View.ld x (Rect.unit (s := S2x128x768) ![0, 0, 640] ![1, 64, 128] inb_S2x128x768_S1x64x128_0_0_640)))
      (k0_pay164 (View.ld x (Rect.unit (s := S2x128x768) ![1, 0, 0] ![1, 64, 128] inb_S2x128x768_S1x64x128_1_0_0)))
      (k0_pay165 (View.ld x (Rect.unit (s := S2x128x768) ![1, 0, 128] ![1, 64, 128] inb_S2x128x768_S1x64x128_1_0_128)))
      (k0_pay166 (View.ld x (Rect.unit (s := S2x128x768) ![1, 0, 256] ![1, 64, 128] inb_S2x128x768_S1x64x128_1_0_256)))
      (k0_pay167 (View.ld x (Rect.unit (s := S2x128x768) ![1, 0, 384] ![1, 64, 128] inb_S2x128x768_S1x64x128_1_0_384)))
      (View.ld x (Rect.unit (s := S2x128x768) ![1, 0, 512] ![1, 64, 128] inb_S2x128x768_S1x64x128_1_0_512))
      (View.ld x (Rect.unit (s := S2x128x768) ![1, 0, 640] ![1, 64, 128] inb_S2x128x768_S1x64x128_1_0_640))
      = C3 .f32 (stk y 0 (by omega)) := by
  subst hx
  funext i
  unfold k0_pay168
  concat_tiles j h
  all_goals
    pointwise [k0_pay158, k0_pay159, k0_pay160, k0_pay161, k0_pay162, k0_pay163, k0_pay164, k0_pay165, k0_pay166, k0_pay167, C3, stk]
    exact at_congr y (by simp <;> omega) (by simp <;> omega) (by simp <;> omega)

theorem stack_177 (x : Vec Ideal S2x128x768 .f32) (y : Fin 2 → M 128 768) (hx : x = C3 .f32 y) :
    k0_pay177 (F := Ideal)
      (k0_pay169 (View.ld x (Rect.unit (s := S2x128x768) ![0, 0, 0] ![1, 64, 128] inb_S2x128x768_S1x64x128_0_0_0)))
      (k0_pay170 (View.ld x (Rect.unit (s := S2x128x768) ![0, 0, 128] ![1, 64, 128] inb_S2x128x768_S1x64x128_0_0_128)))
      (k0_pay171 (View.ld x (Rect.unit (s := S2x128x768) ![0, 0, 256] ![1, 64, 128] inb_S2x128x768_S1x64x128_0_0_256)))
      (k0_pay172 (View.ld x (Rect.unit (s := S2x128x768) ![0, 0, 384] ![1, 64, 128] inb_S2x128x768_S1x64x128_0_0_384)))
      (k0_pay173 (View.ld x (Rect.unit (s := S2x128x768) ![0, 0, 512] ![1, 64, 128] inb_S2x128x768_S1x64x128_0_0_512)))
      (k0_pay174 (View.ld x (Rect.unit (s := S2x128x768) ![0, 0, 640] ![1, 64, 128] inb_S2x128x768_S1x64x128_0_0_640)))
      (k0_pay175 (View.ld x (Rect.unit (s := S2x128x768) ![1, 0, 0] ![1, 64, 128] inb_S2x128x768_S1x64x128_1_0_0)))
      (k0_pay176 (View.ld x (Rect.unit (s := S2x128x768) ![1, 0, 128] ![1, 64, 128] inb_S2x128x768_S1x64x128_1_0_128)))
      (View.ld x (Rect.unit (s := S2x128x768) ![1, 0, 256] ![1, 64, 128] inb_S2x128x768_S1x64x128_1_0_256))
      (View.ld x (Rect.unit (s := S2x128x768) ![1, 0, 384] ![1, 64, 128] inb_S2x128x768_S1x64x128_1_0_384))
      (View.ld x (Rect.unit (s := S2x128x768) ![1, 0, 512] ![1, 64, 128] inb_S2x128x768_S1x64x128_1_0_512))
      (View.ld x (Rect.unit (s := S2x128x768) ![1, 0, 640] ![1, 64, 128] inb_S2x128x768_S1x64x128_1_0_640))
      = C3 .f32 (stk y 0 (by omega)) := by
  subst hx
  funext i
  unfold k0_pay177
  concat_tiles j h
  all_goals
    pointwise [k0_pay169, k0_pay170, k0_pay171, k0_pay172, k0_pay173, k0_pay174, k0_pay175, k0_pay176, C3, stk]
    exact at_congr y (by simp <;> omega) (by simp <;> omega) (by simp <;> omega)

theorem stack_183 (x : Vec Ideal S2x128x768 .f32) (y : Fin 2 → M 128 768) (hx : x = C3 .f32 y) :
    k0_pay183 (F := Ideal)
      (k0_pay178 (View.ld x (Rect.unit (s := S2x128x768) ![0, 0, 0] ![1, 64, 128] inb_S2x128x768_S1x64x128_0_0_0)))
      (k0_pay179 (View.ld x (Rect.unit (s := S2x128x768) ![0, 0, 128] ![1, 64, 128] inb_S2x128x768_S1x64x128_0_0_128)))
      (k0_pay180 (View.ld x (Rect.unit (s := S2x128x768) ![0, 0, 256] ![1, 64, 128] inb_S2x128x768_S1x64x128_0_0_256)))
      (k0_pay181 (View.ld x (Rect.unit (s := S2x128x768) ![0, 0, 384] ![1, 64, 128] inb_S2x128x768_S1x64x128_0_0_384)))
      (k0_pay182 (View.ld x (Rect.unit (s := S2x128x768) ![0, 0, 512] ![1, 64, 128] inb_S2x128x768_S1x64x128_0_0_512)))
      (View.ld x (Rect.unit (s := S2x128x768) ![0, 0, 640] ![1, 64, 128] inb_S2x128x768_S1x64x128_0_0_640))
      (View.ld x (Rect.unit (s := S2x128x768) ![1, 0, 0] ![1, 64, 128] inb_S2x128x768_S1x64x128_1_0_0))
      (View.ld x (Rect.unit (s := S2x128x768) ![1, 0, 128] ![1, 64, 128] inb_S2x128x768_S1x64x128_1_0_128))
      (View.ld x (Rect.unit (s := S2x128x768) ![1, 0, 256] ![1, 64, 128] inb_S2x128x768_S1x64x128_1_0_256))
      (View.ld x (Rect.unit (s := S2x128x768) ![1, 0, 384] ![1, 64, 128] inb_S2x128x768_S1x64x128_1_0_384))
      (View.ld x (Rect.unit (s := S2x128x768) ![1, 0, 512] ![1, 64, 128] inb_S2x128x768_S1x64x128_1_0_512))
      (View.ld x (Rect.unit (s := S2x128x768) ![1, 0, 640] ![1, 64, 128] inb_S2x128x768_S1x64x128_1_0_640))
      = C3 .f32 (stk y 0 (by omega)) := by
  subst hx
  funext i
  unfold k0_pay183
  concat_tiles j h
  all_goals
    pointwise [k0_pay178, k0_pay179, k0_pay180, k0_pay181, k0_pay182, C3, stk]
    exact at_congr y (by simp <;> omega) (by simp <;> omega) (by simp <;> omega)

theorem stack_58 (x : Vec Ideal S2x128x384 .f32) (y : Fin 2 → M 128 384) (hx : x = C3 .f32 y) :
    k0_pay58 (F := Ideal)
      (k0_pay56 (View.ld x (Rect.unit (s := S2x128x384) ![0, 64, 0] ![1, 64, 64] inb_S2x128x384_S1x64x64_0_64_0)))
      (k0_pay57 (View.ld x (Rect.unit (s := S2x128x384) ![0, 64, 64] ![1, 64, 64] inb_S2x128x384_S1x64x64_0_64_64)))
      (View.ld x (Rect.unit (s := S2x128x384) ![0, 64, 128] ![1, 64, 64] inb_S2x128x384_S1x64x64_0_64_128))
      (View.ld x (Rect.unit (s := S2x128x384) ![0, 64, 192] ![1, 64, 64] inb_S2x128x384_S1x64x64_0_64_192))
      (View.ld x (Rect.unit (s := S2x128x384) ![0, 64, 256] ![1, 64, 64] inb_S2x128x384_S1x64x64_0_64_256))
      (View.ld x (Rect.unit (s := S2x128x384) ![0, 64, 320] ![1, 64, 64] inb_S2x128x384_S1x64x64_0_64_320))
      (View.ld x (Rect.unit (s := S2x128x384) ![1, 64, 0] ![1, 64, 64] inb_S2x128x384_S1x64x64_1_64_0))
      (View.ld x (Rect.unit (s := S2x128x384) ![1, 64, 64] ![1, 64, 64] inb_S2x128x384_S1x64x64_1_64_64))
      (View.ld x (Rect.unit (s := S2x128x384) ![1, 64, 128] ![1, 64, 64] inb_S2x128x384_S1x64x64_1_64_128))
      (View.ld x (Rect.unit (s := S2x128x384) ![1, 64, 192] ![1, 64, 64] inb_S2x128x384_S1x64x64_1_64_192))
      (View.ld x (Rect.unit (s := S2x128x384) ![1, 64, 256] ![1, 64, 64] inb_S2x128x384_S1x64x64_1_64_256))
      (View.ld x (Rect.unit (s := S2x128x384) ![1, 64, 320] ![1, 64, 64] inb_S2x128x384_S1x64x64_1_64_320))
      = C3 .f32 (stka y 64 (by omega)) := by
  subst hx
  funext i
  unfold k0_pay58
  concat_tiles j h
  all_goals
    pointwise [k0_pay56, k0_pay57, C3, stka]
    exact at_congr y (by simp <;> omega) (by simp <;> omega) (by simp <;> omega)

theorem stack_186 (x : Vec Ideal S2x128x384 .f32) (y : Fin 2 → M 128 384) (hx : x = C3 .f32 y) :
    k0_pay186 (F := Ideal)
      (k0_pay184 (View.ld x (Rect.unit (s := S2x128x384) ![0, 0, 0] ![1, 64, 64] inb_S2x128x384_S1x64x64_0_0_0)))
      (k0_pay185 (View.ld x (Rect.unit (s := S2x128x384) ![0, 0, 64] ![1, 64, 64] inb_S2x128x384_S1x64x64_0_0_64)))
      (View.ld x (Rect.unit (s := S2x128x384) ![0, 0, 128] ![1, 64, 64] inb_S2x128x384_S1x64x64_0_0_128))
      (View.ld x (Rect.unit (s := S2x128x384) ![0, 0, 192] ![1, 64, 64] inb_S2x128x384_S1x64x64_0_0_192))
      (View.ld x (Rect.unit (s := S2x128x384) ![0, 0, 256] ![1, 64, 64] inb_S2x128x384_S1x64x64_0_0_256))
      (View.ld x (Rect.unit (s := S2x128x384) ![0, 0, 320] ![1, 64, 64] inb_S2x128x384_S1x64x64_0_0_320))
      (View.ld x (Rect.unit (s := S2x128x384) ![1, 0, 0] ![1, 64, 64] inb_S2x128x384_S1x64x64_1_0_0))
      (View.ld x (Rect.unit (s := S2x128x384) ![1, 0, 64] ![1, 64, 64] inb_S2x128x384_S1x64x64_1_0_64))
      (View.ld x (Rect.unit (s := S2x128x384) ![1, 0, 128] ![1, 64, 64] inb_S2x128x384_S1x64x64_1_0_128))
      (View.ld x (Rect.unit (s := S2x128x384) ![1, 0, 192] ![1, 64, 64] inb_S2x128x384_S1x64x64_1_0_192))
      (View.ld x (Rect.unit (s := S2x128x384) ![1, 0, 256] ![1, 64, 64] inb_S2x128x384_S1x64x64_1_0_256))
      (View.ld x (Rect.unit (s := S2x128x384) ![1, 0, 320] ![1, 64, 64] inb_S2x128x384_S1x64x64_1_0_320))
      = C3 .f32 (stka y 0 (by omega)) := by
  subst hx
  funext i
  unfold k0_pay186
  concat_tiles j h
  all_goals
    pointwise [k0_pay184, k0_pay185, C3, stka]
    exact at_congr y (by simp <;> omega) (by simp <;> omega) (by simp <;> omega)

theorem stack_15 (x : Vec Ideal S2x128x128 .f32) (y : Fin 2 → M 128 128) (hx : x = C3 .f32 y) :
    k0_pay15 (F := Ideal)
      (k0_pay12 (View.ld x (Rect.unit (s := S2x128x128) ![0, 64, 0] ![1, 1, 1] inb_S2x128x128_S1x1x1_0_64_0)))
      (k0_pay13 (View.ld x (Rect.unit (s := S2x128x128) ![0, 64, 1] ![1, 1, 1] inb_S2x128x128_S1x1x1_0_64_1)))
      (k0_pay14 (View.ld x (Rect.unit (s := S2x128x128) ![0, 64, 2] ![1, 1, 1] inb_S2x128x128_S1x1x1_0_64_2)))
      (View.ld x (Rect.unit (s := S2x128x128) ![0, 64, 3] ![1, 1, 1] inb_S2x128x128_S1x1x1_0_64_3))
      (View.ld x (Rect.unit (s := S2x128x128) ![0, 64, 4] ![1, 1, 1] inb_S2x128x128_S1x1x1_0_64_4))
      (View.ld x (Rect.unit (s := S2x128x128) ![0, 64, 5] ![1, 1, 1] inb_S2x128x128_S1x1x1_0_64_5))
      (View.ld x (Rect.unit (s := S2x128x128) ![1, 64, 0] ![1, 1, 1] inb_S2x128x128_S1x1x1_1_64_0))
      (View.ld x (Rect.unit (s := S2x128x128) ![1, 64, 1] ![1, 1, 1] inb_S2x128x128_S1x1x1_1_64_1))
      (View.ld x (Rect.unit (s := S2x128x128) ![1, 64, 2] ![1, 1, 1] inb_S2x128x128_S1x1x1_1_64_2))
      (View.ld x (Rect.unit (s := S2x128x128) ![1, 64, 3] ![1, 1, 1] inb_S2x128x128_S1x1x1_1_64_3))
      (View.ld x (Rect.unit (s := S2x128x128) ![1, 64, 4] ![1, 1, 1] inb_S2x128x128_S1x1x1_1_64_4))
      (View.ld x (Rect.unit (s := S2x128x128) ![1, 64, 5] ![1, 1, 1] inb_S2x128x128_S1x1x1_1_64_5))
      = C3 .f32 (stkg y 64 (by omega)) := by
  subst hx
  funext i
  unfold k0_pay15
  concat_tiles j h
  all_goals
    pointwise [k0_pay12, k0_pay13, k0_pay14, C3, stkg]
    exact at_congr y (by simp <;> omega) (by simp <;> omega) (by simp <;> omega)

theorem stack_143 (x : Vec Ideal S2x128x128 .f32) (y : Fin 2 → M 128 128) (hx : x = C3 .f32 y) :
    k0_pay143 (F := Ideal)
      (k0_pay140 (View.ld x (Rect.unit (s := S2x128x128) ![0, 0, 0] ![1, 1, 1] inb_S2x128x128_S1x1x1_0_0_0)))
      (k0_pay141 (View.ld x (Rect.unit (s := S2x128x128) ![0, 0, 1] ![1, 1, 1] inb_S2x128x128_S1x1x1_0_0_1)))
      (k0_pay142 (View.ld x (Rect.unit (s := S2x128x128) ![0, 0, 2] ![1, 1, 1] inb_S2x128x128_S1x1x1_0_0_2)))
      (View.ld x (Rect.unit (s := S2x128x128) ![0, 0, 3] ![1, 1, 1] inb_S2x128x128_S1x1x1_0_0_3))
      (View.ld x (Rect.unit (s := S2x128x128) ![0, 0, 4] ![1, 1, 1] inb_S2x128x128_S1x1x1_0_0_4))
      (View.ld x (Rect.unit (s := S2x128x128) ![0, 0, 5] ![1, 1, 1] inb_S2x128x128_S1x1x1_0_0_5))
      (View.ld x (Rect.unit (s := S2x128x128) ![1, 0, 0] ![1, 1, 1] inb_S2x128x128_S1x1x1_1_0_0))
      (View.ld x (Rect.unit (s := S2x128x128) ![1, 0, 1] ![1, 1, 1] inb_S2x128x128_S1x1x1_1_0_1))
      (View.ld x (Rect.unit (s := S2x128x128) ![1, 0, 2] ![1, 1, 1] inb_S2x128x128_S1x1x1_1_0_2))
      (View.ld x (Rect.unit (s := S2x128x128) ![1, 0, 3] ![1, 1, 1] inb_S2x128x128_S1x1x1_1_0_3))
      (View.ld x (Rect.unit (s := S2x128x128) ![1, 0, 4] ![1, 1, 1] inb_S2x128x128_S1x1x1_1_0_4))
      (View.ld x (Rect.unit (s := S2x128x128) ![1, 0, 5] ![1, 1, 1] inb_S2x128x128_S1x1x1_1_0_5))
      = C3 .f32 (stkg y 0 (by omega)) := by
  subst hx
  funext i
  unfold k0_pay143
  concat_tiles j h
  all_goals
    pointwise [k0_pay140, k0_pay141, k0_pay142, C3, stkg]
    exact at_congr y (by simp <;> omega) (by simp <;> omega) (by simp <;> omega)

def C5 {l n m p q : ℕ} (φ : FTy) (y : Fin l → Fin n → Fin m → M p q) : FVec Ideal ⟨5, ![l, n, m, p, q]⟩ φ :=
  fun i => ((y (i 0) (i 1) (i 2) (i 3) (i 4) : ℝ) : EReal)
def stks (y : Fin 2 → Fin 6 → M 128 128) : Fin 12 → M 128 128 :=
  fun p r k => y ⟨p.val / 6, by omega⟩ ⟨p.val % 6, by omega⟩ r k

theorem stack_4 (x : Vec Ideal S2x2x6x128x128 .f32) (y : Fin 2 → Fin 2 → Fin 6 → M 128 128) (hx : x = C5 .f32 y) :
    k0_pay4 (F := Ideal)
      (View.ld x (Rect.unit (s := S2x2x6x128x128) ![0, 1, 0, 0, 0] ![1, 1, 6, 128, 128] inb_S2x2x6x128x128_S1x1x6x128x128_0_1_0_0_0))
      (View.ld x (Rect.unit (s := S2x2x6x128x128) ![1, 1, 0, 0, 0] ![1, 1, 6, 128, 128] inb_S2x2x6x128x128_S1x1x6x128x128_1_1_0_0_0))
      = C3 .f32 (stks fun b => y b 1) := by
  subst hx
  funext i
  pointwise [k0_pay4, C3, C5, stks]
  have h0 : (i 0).val < 12 := (i 0).isLt
  split <;> exact at_congr (fun a b c => y a 1 b c (i 2)) (by simp <;> omega) (by simp <;> omega) (by simp <;> omega)

theorem stack_132 (x : Vec Ideal S2x2x6x128x128 .f32) (y : Fin 2 → Fin 2 → Fin 6 → M 128 128) (hx : x = C5 .f32 y) :
    k0_pay132 (F := Ideal)
      (View.ld x (Rect.unit (s := S2x2x6x128x128) ![0, 0, 0, 0, 0] ![1, 1, 6, 128, 128] inb_S2x2x6x128x128_S1x1x6x128x128_0_0_0_0_0))
      (View.ld x (Rect.unit (s := S2x2x6x128x128) ![1, 0, 0, 0, 0] ![1, 1, 6, 128, 128] inb_S2x2x6x128x128_S1x1x6x128x128_1_0_0_0_0))
      = C3 .f32 (stks fun b => y b 0) := by
  subst hx
  funext i
  pointwise [k0_pay132, C3, C5, stks]
  have h0 : (i 0).val < 12 := (i 0).isLt
  split <;> exact at_congr (fun a b c => y a 0 b c (i 2)) (by simp <;> omega) (by simp <;> omega) (by simp <;> omega)

end Cert.Proof.ScanStacks
-- ==== Proof.ScanSpec.lean ====
module

public import proofs.«01_k».proof.Proof.ScanOps

/-! The gradient of the chunked delta rule, over the reals: one head of one sequence, chunks from the last to the first. -/

@[expose] public section

noncomputable section

namespace Cert.Proof.ScanSpec

open Cert.Proof.ScanOps

/-- What a scan reads: of each sequence, head and chunk the rows `u w q k` and the result's gradient `o`, the chunk's attention `a`,
its decay `g` and the state `s` before it. -/
structure In where
  u : Fin 2 → Fin 6 → Fin 32 → M 64 128
  w : Fin 2 → Fin 6 → Fin 32 → M 64 128
  q : Fin 2 → Fin 6 → Fin 32 → M 64 128
  k : Fin 2 → Fin 6 → Fin 32 → M 64 128
  a : Fin 2 → Fin 6 → Fin 32 → M 64 64
  g : Fin 2 → Fin 6 → Fin 32 → ℝ
  s : Fin 2 → Fin 6 → Fin 32 → M 128 128
  o : Fin 2 → Fin 6 → Fin 32 → M 64 128

/-- The gradient of `v = u - w s`. -/
def dv (D : M 128 128) (k o : M 64 128) (a : M 64 64) : M 64 128 := mul k D + tr (mul (tr o) a)
def vv (s : M 128 128) (u w : M 64 128) : M 64 128 := u - mul w s
/-- The gradient of the state before a chunk, from that of the state after it. -/
def next (D : M 128 128) (g : ℝ) (o q k : M 64 128) (a : M 64 64) (w : M 64 128) : M 128 128 :=
  (fun i j => D i j * Real.exp g) + tr (mul (tr o) q) + tr (mul (tr (-(dv D k o a))) w)

/-- The gradient of the state after `j` chunks, counted from the last. -/
def Dd (I : In) (b : Fin 2) (h : Fin 6) : ℕ → M 128 128
  | 0 => 0
  | j + 1 => next (Dd I b h j) (I.g b h ⟨31 - j, by omega⟩) (I.o b h ⟨31 - j, by omega⟩) (I.q b h ⟨31 - j, by omega⟩)
      (I.k b h ⟨31 - j, by omega⟩) (I.a b h ⟨31 - j, by omega⟩) (I.w b h ⟨31 - j, by omega⟩)

variable (I : In) (b : Fin 2) (h : Fin 6) (n : Fin 32)
def DU : M 64 128 := dv (Dd I b h (31 - n.val)) (I.k b h n) (I.o b h n) (I.a b h n)
def DW : M 64 128 := mul (-(DU I b h n)) (tr (I.s b h n))
def DQ : M 64 128 := mul (I.o b h n) (tr (I.s b h n))
def DK : M 64 128 := tr (mul (Dd I b h (31 - n.val)) (tr (vv (I.s b h n) (I.u b h n) (I.w b h n))))
def DA : M 64 64 := mul (I.o b h n) (tr (vv (I.s b h n) (I.u b h n) (I.w b h n)))
def DG : ℝ := dot (I.s b h n) (Dd I b h (31 - n.val)) * Real.exp (I.g b h n)

/-! ## Where the parts lie in the arrays -/

/-- The real number of each element. -/
def re {p q : ℕ} (x : (⟨2, ![p, q]⟩ : Idealize.ShloMosaic.Shape).Idx → EReal) : M p q := fun i j => (x (Idealize.ShloMosaic.ix2 i j)).toReal

/-- The rows of a chunk and the columns of a head. -/
def hd {q : ℕ} (X : M 4096 (6 * q)) (b : Fin 2) (h : Fin 6) (n : Fin 32) : M 64 q :=
  fun r c => X ⟨2048 * b.val + (64 * n.val + r.val), by omega⟩ ⟨q * h.val + c.val, by
    have := Nat.mul_le_mul_left q (Nat.succ_le_of_lt h.isLt); rw [Nat.mul_succ] at this; have := c.isLt; rw [mul_comm 6 q]; omega⟩
/-- The decay of a chunk stands in its first row. -/
def hdg (X : M 4096 128) (b : Fin 2) (h : Fin 6) (n : Fin 32) : ℝ := X ⟨2048 * b.val + 64 * n.val, by omega⟩ ⟨h.val, by omega⟩

/-- The parts of every chunk and head, back in an array. -/
def whole {q : ℕ} (Z : Fin 2 → Fin 6 → Fin 32 → M 64 q) : Fin 2 → M 2048 (6 * q) := fun b i c =>
  Z b ⟨c.val / q, Nat.div_lt_of_lt_mul (lt_of_lt_of_eq c.isLt (mul_comm 6 q))⟩ ⟨i.val / 64, by omega⟩ ⟨i.val % 64, by omega⟩
    ⟨c.val % q, Nat.mod_lt _ (by rcases q.eq_zero_or_pos with h | h; · subst h; exact absurd c.isLt (by simp)
                                 · exact h)⟩
def wholeg (Z : Fin 2 → Fin 6 → Fin 32 → ℝ) : Fin 2 → M 2048 128 := fun b i c =>
  if h : c.val < 6 then if i.val % 64 = 0 then Z b ⟨c.val, h⟩ ⟨i.val / 64, by omega⟩ else 0 else 0

end Cert.Proof.ScanSpec
-- ==== Proof.ScanBlk.lean ====
module

public import proofs.«01_k».proof.Proof.ScanStacks
public import proofs.«01_k».proof.Proof.ScanSpec
public import Idealize.ShloMosaic.Lib.Pipeline.ReadBack

@[expose] public section
set_option maxRecDepth 16384
noncomputable section
namespace Cert.Proof.ScanBlk
open Cert.KernelIdeal Cert.KernelIdeal.Gen Cert.Proof.ScanOps Cert.Proof.ScanDots Cert.Proof.ScanStacks Cert.Proof.ScanSpec Idealize.ShloMosaic Idealize.ShloMosaic.TcCoe Idealize.SL.Sem
variable (m : (ℓ : Loc nD τ sig) → Buf (Elt Ideal) ℓ)

theorem idx : ∀ t : Fin cfg0.N, win0_0.index t = ![0, 15 - t.val, 0] ∧ win0_1.index t = ![0, 15 - t.val, 0]
    ∧ win0_2.index t = ![0, 15 - t.val, 0] ∧ win0_3.index t = ![0, 15 - t.val, 0] ∧ win0_4.index t = ![0, 15 - t.val, 0]
    ∧ win0_5.index t = ![0, 15 - t.val, 0] ∧ win0_6.index t = ![0, 15 - t.val, 0, 0, 0] ∧ win0_7.index t = ![0, 15 - t.val, 0]
    ∧ win0_8.index t = ![0, 15 - t.val, 0] ∧ win0_9.index t = ![0, 15 - t.val, 0] ∧ win0_10.index t = ![0, 15 - t.val, 0]
    ∧ win0_11.index t = ![0, 15 - t.val, 0] ∧ win0_12.index t = ![0, 15 - t.val, 0] ∧ win0_13.index t = ![0, 15 - t.val, 0] :=
  (by decide +kernel : ∀ t : Fin grid0.N, _)

/-- The rows of a point, of each of the two sequences. -/
def rows {q : ℕ} (X : M 4096 q) (t : ℕ) : Fin 2 → M 128 q := fun b r c => X ⟨2048 * b.val + (128 * (15 - t) + r.val), by omega⟩ c

theorem cast768 (x : S4096x768.Idx → EReal) (h) (a : Fin 2) (b : Fin 2048) (c : Fin 768) :
    shapeCast S2x2048x768 x h (ix3 a b c) = x (ix2 ⟨2048 * a.val + b.val, by omega⟩ c) := by
  pointwise
  simp only [Nat.mul_comm]

theorem cast384 (x : S4096x384.Idx → EReal) (h) (a : Fin 2) (b : Fin 2048) (c : Fin 384) :
    shapeCast S2x2048x384 x h (ix3 a b c) = x (ix2 ⟨2048 * a.val + b.val, by omega⟩ c) := by
  pointwise
  simp only [Nat.mul_comm]

theorem cast128 (x : S4096x128.Idx → EReal) (h) (a : Fin 2) (b : Fin 2048) (c : Fin 128) :
    shapeCast S2x2048x128 x h (ix3 a b c) = x (ix2 ⟨2048 * a.val + b.val, by omega⟩ c) := by
  pointwise
  simp only [Nat.mul_comm]

theorem V_0 (c : Dev nD) : V m c main_v0 = shapeCast S2x2048x768 (m ((c : Thread nD τ).loc main_arg0)) shapeCasts_S4096x768_S2x2048x768 := by
  show StableHlo.after hostOps0 _ _ = _
  after_results
  rfl

theorem at_0 (c : Dev nD) (t : Fin cfg0.N) (j : S2x128x768.Idx) (hb) :
    iblk m c 0 t j = V m c main_v0 (ix3 (j 0) ⟨128 * (15 - t.val) + (j 1).val, hb⟩ (j 2) : S2x2048x768.Idx) := by
  blk_ext [iblk, idx]

theorem blk_0 (c : Dev nD) (t : Fin cfg0.N) (hf : ∀ i, (((m ((c : Thread nD τ).loc main_arg0) i : EReal).toReal : ℝ) : EReal) = m ((c : Thread nD τ).loc main_arg0) i) :
    iblk m c 0 t = C3 .f32 (rows (re (m ((c : Thread nD τ).loc main_arg0))) t.val) := by
  funext (j : S2x128x768.Idx)
  have ht : t.val < 16 := t.isLt
  have h1 : (j 1).val < 128 := (j 1).isLt
  rw [at_0 m c t j (by omega), V_0]
  exact (cast768 _ shapeCasts_S4096x768_S2x2048x768 (j 0) ⟨128 * (15 - t.val) + (j 1).val, by omega⟩ (j 2)).trans (hf _).symm

theorem V_1 (c : Dev nD) : V m c main_v1 = shapeCast S2x2048x768 (m ((c : Thread nD τ).loc main_arg1)) shapeCasts_S4096x768_S2x2048x768 := by
  show StableHlo.after hostOps0 _ _ = _
  after_results
  rfl

theorem at_1 (c : Dev nD) (t : Fin cfg0.N) (j : S2x128x768.Idx) (hb) :
    iblk m c 1 t j = V m c main_v1 (ix3 (j 0) ⟨128 * (15 - t.val) + (j 1).val, hb⟩ (j 2) : S2x2048x768.Idx) := by
  blk_ext [iblk, idx]

theorem blk_1 (c : Dev nD) (t : Fin cfg0.N) (hf : ∀ i, (((m ((c : Thread nD τ).loc main_arg1) i : EReal).toReal : ℝ) : EReal) = m ((c : Thread nD τ).loc main_arg1) i) :
    iblk m c 1 t = C3 .f32 (rows (re (m ((c : Thread nD τ).loc main_arg1))) t.val) := by
  funext (j : S2x128x768.Idx)
  have ht : t.val < 16 := t.isLt
  have h1 : (j 1).val < 128 := (j 1).isLt
  rw [at_1 m c t j (by omega), V_1]
  exact (cast768 _ shapeCasts_S4096x768_S2x2048x768 (j 0) ⟨128 * (15 - t.val) + (j 1).val, by omega⟩ (j 2)).trans (hf _).symm

theorem V_2 (c : Dev nD) : V m c main_v2 = shapeCast S2x2048x768 (m ((c : Thread nD τ).loc main_arg2)) shapeCasts_S4096x768_S2x2048x768 := by
  show StableHlo.after hostOps0 _ _ = _
  after_results
  rfl

theorem at_2 (c : Dev nD) (t : Fin cfg0.N) (j : S2x128x768.Idx) (hb) :
    iblk m c 2 t j = V m c main_v2 (ix3 (j 0) ⟨128 * (15 - t.val) + (j 1).val, hb⟩ (j 2) : S2x2048x768.Idx) := by
  blk_ext [iblk, idx]

theorem blk_2 (c : Dev nD) (t : Fin cfg0.N) (hf : ∀ i, (((m ((c : Thread nD τ).loc main_arg2) i : EReal).toReal : ℝ) : EReal) = m ((c : Thread nD τ).loc main_arg2) i) :
    iblk m c 2 t = C3 .f32 (rows (re (m ((c : Thread nD τ).loc main_arg2))) t.val) := by
  funext (j : S2x128x768.Idx)
  have ht : t.val < 16 := t.isLt
  have h1 : (j 1).val < 128 := (j 1).isLt
  rw [at_2 m c t j (by omega), V_2]
  exact (cast768 _ shapeCasts_S4096x768_S2x2048x768 (j 0) ⟨128 * (15 - t.val) + (j 1).val, by omega⟩ (j 2)).trans (hf _).symm

theorem V_3 (c : Dev nD) : V m c main_v3 = shapeCast S2x2048x768 (m ((c : Thread nD τ).loc main_arg3)) shapeCasts_S4096x768_S2x2048x768 := by
  show StableHlo.after hostOps0 _ _ = _
  after_results
  rfl

theorem at_3 (c : Dev nD) (t : Fin cfg0.N) (j : S2x128x768.Idx) (hb) :
    iblk m c 3 t j = V m c main_v3 (ix3 (j 0) ⟨128 * (15 - t.val) + (j 1).val, hb⟩ (j 2) : S2x2048x768.Idx) := by
  blk_ext [iblk, idx]

theorem blk_3 (c : Dev nD) (t : Fin cfg0.N) (hf : ∀ i, (((m ((c : Thread nD τ).loc main_arg3) i : EReal).toReal : ℝ) : EReal) = m ((c : Thread nD τ).loc main_arg3) i) :
    iblk m c 3 t = C3 .f32 (rows (re (m ((c : Thread nD τ).loc main_arg3))) t.val) := by
  funext (j : S2x128x768.Idx)
  have ht : t.val < 16 := t.isLt
  have h1 : (j 1).val < 128 := (j 1).isLt
  rw [at_3 m c t j (by omega), V_3]
  exact (cast768 _ shapeCasts_S4096x768_S2x2048x768 (j 0) ⟨128 * (15 - t.val) + (j 1).val, by omega⟩ (j 2)).trans (hf _).symm

theorem V_4 (c : Dev nD) : V m c main_v4 = shapeCast S2x2048x384 (m ((c : Thread nD τ).loc main_arg4)) shapeCasts_S4096x384_S2x2048x384 := by
  show StableHlo.after hostOps0 _ _ = _
  after_results
  rfl

theorem at_4 (c : Dev nD) (t : Fin cfg0.N) (j : S2x128x384.Idx) (hb) :
    iblk m c 4 t j = V m c main_v4 (ix3 (j 0) ⟨128 * (15 - t.val) + (j 1).val, hb⟩ (j 2) : S2x2048x384.Idx) := by
  blk_ext [iblk, idx]

theorem blk_4 (c : Dev nD) (t : Fin cfg0.N) (hf : ∀ i, (((m ((c : Thread nD τ).loc main_arg4) i : EReal).toReal : ℝ) : EReal) = m ((c : Thread nD τ).loc main_arg4) i) :
    iblk m c 4 t = C3 .f32 (rows (re (m ((c : Thread nD τ).loc main_arg4))) t.val) := by
  funext (j : S2x128x384.Idx)
  have ht : t.val < 16 := t.isLt
  have h1 : (j 1).val < 128 := (j 1).isLt
  rw [at_4 m c t j (by omega), V_4]
  exact (cast384 _ shapeCasts_S4096x384_S2x2048x384 (j 0) ⟨128 * (15 - t.val) + (j 1).val, by omega⟩ (j 2)).trans (hf _).symm

theorem V_5 (c : Dev nD) : V m c main_v5 = shapeCast S2x2048x128 (m ((c : Thread nD τ).loc main_arg5)) shapeCasts_S4096x128_S2x2048x128 := by
  show StableHlo.after hostOps0 _ _ = _
  after_results
  rfl

theorem at_5 (c : Dev nD) (t : Fin cfg0.N) (j : S2x128x128.Idx) (hb) :
    iblk m c 5 t j = V m c main_v5 (ix3 (j 0) ⟨128 * (15 - t.val) + (j 1).val, hb⟩ (j 2) : S2x2048x128.Idx) := by
  blk_ext [iblk, idx]

theorem blk_5 (c : Dev nD) (t : Fin cfg0.N) (hf : ∀ i, (((m ((c : Thread nD τ).loc main_arg5) i : EReal).toReal : ℝ) : EReal) = m ((c : Thread nD τ).loc main_arg5) i) :
    iblk m c 5 t = C3 .f32 (rows (re (m ((c : Thread nD τ).loc main_arg5))) t.val) := by
  funext (j : S2x128x128.Idx)
  have ht : t.val < 16 := t.isLt
  have h1 : (j 1).val < 128 := (j 1).isLt
  rw [at_5 m c t j (by omega), V_5]
  exact (cast128 _ shapeCasts_S4096x128_S2x2048x128 (j 0) ⟨128 * (15 - t.val) + (j 1).val, by omega⟩ (j 2)).trans (hf _).symm

theorem V_7 (c : Dev nD) : V m c main_v6 = shapeCast S2x2048x768 (m ((c : Thread nD τ).loc main_arg7)) shapeCasts_S4096x768_S2x2048x768 := by
  show StableHlo.after hostOps0 _ _ = _
  after_results
  rfl

theorem at_7 (c : Dev nD) (t : Fin cfg0.N) (j : S2x128x768.Idx) (hb) :
    iblk m c 7 t j = V m c main_v6 (ix3 (j 0) ⟨128 * (15 - t.val) + (j 1).val, hb⟩ (j 2) : S2x2048x768.Idx) := by
  blk_ext [iblk, idx]

theorem blk_7 (c : Dev nD) (t : Fin cfg0.N) (hf : ∀ i, (((m ((c : Thread nD τ).loc main_arg7) i : EReal).toReal : ℝ) : EReal) = m ((c : Thread nD τ).loc main_arg7) i) :
    iblk m c 7 t = C3 .f32 (rows (re (m ((c : Thread nD τ).loc main_arg7))) t.val) := by
  funext (j : S2x128x768.Idx)
  have ht : t.val < 16 := t.isLt
  have h1 : (j 1).val < 128 := (j 1).isLt
  rw [at_7 m c t j (by omega), V_7]
  exact (cast768 _ shapeCasts_S4096x768_S2x2048x768 (j 0) ⟨128 * (15 - t.val) + (j 1).val, by omega⟩ (j 2)).trans (hf _).symm

/-- The real number of each element, of an array of rank five. -/
def re5 (x : S2x32x6x128x128.Idx → EReal) : Fin 2 → Fin 32 → Fin 6 → M 128 128 := fun b n h i j => (x (ix5 b n h i j)).toReal

/-- The states of a point's two chunks. -/
def chunks (X : Fin 2 → Fin 32 → Fin 6 → M 128 128) (t : ℕ) : Fin 2 → Fin 2 → Fin 6 → M 128 128 :=
  fun b n h => X b ⟨2 * (15 - t) + n.val, by omega⟩ h

theorem V_6 (c : Dev nD) : V m c main_arg6 = m ((c : Thread nD τ).loc main_arg6) := by
  show StableHlo.after hostOps0 _ _ = _
  after_results

theorem at_6 (c : Dev nD) (t : Fin cfg0.N) (j : S2x2x6x128x128.Idx) (hb) :
    iblk m c 6 t j = V m c main_arg6 (ix5 (j 0) ⟨2 * (15 - t.val) + (j 1).val, hb⟩ (j 2) (j 3) (j 4) : S2x32x6x128x128.Idx) := by
  blk_ext [iblk, idx]

theorem blk_6 (c : Dev nD) (t : Fin cfg0.N) (hf : ∀ i, (((m ((c : Thread nD τ).loc main_arg6) i : EReal).toReal : ℝ) : EReal) = m ((c : Thread nD τ).loc main_arg6) i) :
    iblk m c 6 t = C5 .f32 (chunks (re5 (m ((c : Thread nD τ).loc main_arg6))) t.val) := by
  funext (j : S2x2x6x128x128.Idx)
  have ht : t.val < 16 := t.isLt
  have h1 : (j 1).val < 2 := (j 1).isLt
  rw [at_6 m c t j (by omega), V_6]
  exact (hf _).symm

/-! ## A chunk's equations, for the twelve heads of two sequences at once -/

/-- The gradient of `v = u - w S`. -/
abbrev fdv (D : Fin 12 → M 128 128) (k o : Fin 12 → M 64 128) (a : Fin 12 → M 64 64) : Fin 12 → M 64 128 :=
  fmul k D + ftr (fmul (ftr o) a)
/-- `v = u - w S`. -/
abbrev fv (S : Fin 12 → M 128 128) (u w : Fin 12 → M 64 128) : Fin 12 → M 64 128 := u - fmul w S
/-- The gradient of the state before the chunk, from that after it. -/
abbrev fstep (D : Fin 12 → M 128 128) (g : Fin 12 → M 1 1) (o q k : Fin 12 → M 64 128) (a : Fin 12 → M 64 64)
    (w : Fin 12 → M 64 128) : Fin 12 → M 128 128 :=
  (D * fun p _ _ => fexp g p 0 0) + ftr (fmul (ftr o) q) + ftr (fmul (ftr (-(fdv D k o a))) w)
/-- The gradient of the decay. -/
abbrev fdg (D S : Fin 12 → M 128 128) (g : Fin 12 → M 1 1) : Fin 12 → M 1 1 := fun p _ _ => dot (S p) (D p) * fexp g p 0 0

/-- A point's block: the heads side by side, the earlier chunk's rows above the later one's. -/
def join {q : ℕ} (F1 F0 : Fin 12 → M 64 q) : Fin 2 → M 128 (6 * q) := fun b r c =>
  have hq : c.val / q < 6 := Nat.div_lt_of_lt_mul (lt_of_lt_of_eq c.isLt (mul_comm 6 q))
  have hc : c.val % q < q := Nat.mod_lt _ (by rcases q.eq_zero_or_pos with h | h; · subst h; exact absurd c.isLt (by simp)
                                              · exact h)
  if h : r.val < 64 then F0 ⟨6 * b.val + c.val / q, by omega⟩ ⟨r.val, h⟩ ⟨c.val % q, hc⟩
  else F1 ⟨6 * b.val + c.val / q, by omega⟩ ⟨r.val - 64, by omega⟩ ⟨c.val % q, hc⟩

theorem join_lo {q : ℕ} {f F1 F0 : Fin 12 → M 64 q} {o : ℕ} {ho : o ≤ 6} {x : (⟨3, ![1, 64, 6 * q]⟩ : Shape).Idx}
    {y : (⟨3, ![2, 128, 6 * q]⟩ : Shape).Idx} (e : f = F0) (h0 : 6 * (y 0).val = o) (h1 : (y 1).val = (x 1).val) (h2 : (y 2).val = (x 2).val) :
    C3 .f32 (half f o ho) x = C3 .f32 (join F1 F0) y := by
  subst e
  have hx : (x 1).val < 64 := (x 1).isLt
  unfold C3 join half
  rw [dif_pos (by omega)]
  exact at_congr f (by show o + (x 2).val / q = 6 * (y 0).val + (y 2).val / q; rw [h0, h2]) h1.symm (by show (x 2).val % q = (y 2).val % q; rw [h2])

theorem join_hi {q : ℕ} {f F1 F0 : Fin 12 → M 64 q} {o : ℕ} {ho : o ≤ 6} {x : (⟨3, ![1, 64, 6 * q]⟩ : Shape).Idx}
    {y : (⟨3, ![2, 128, 6 * q]⟩ : Shape).Idx} (e : f = F1) (h0 : 6 * (y 0).val = o) (h1 : (y 1).val = 64 + (x 1).val) (h2 : (y 2).val = (x 2).val) :
    C3 .f32 (half f o ho) x = C3 .f32 (join F1 F0) y := by
  subst e
  have hx : (x 1).val < 64 := (x 1).isLt
  unfold C3 join half
  rw [dif_neg (by omega)]
  exact at_congr f (by show o + (x 2).val / q = 6 * (y 0).val + (y 2).val / q; rw [h0, h2])
    (by show (x 1).val = (y 1).val - 64; omega) (by show (x 2).val % q = (y 2).val % q; rw [h2])

/-- A point's block of the gradient of the decays: a chunk's six in its first row. -/
def joing (F1 F0 : Fin 12 → M 1 1) : Fin 2 → M 128 128 := fun b r c =>
  if h : c.val < 6 then
    if r.val = 0 then F0 ⟨6 * b.val + c.val, by omega⟩ 0 0 else if r.val = 64 then F1 ⟨6 * b.val + c.val, by omega⟩ 0 0 else 0
  else 0

theorem joing_lo {f F1 F0 : Fin 12 → M 1 1} {o : ℕ} {ho : o ≤ 6} {x : S1x64x128.Idx}
    {y : S2x128x128.Idx} (e : f = F0) (h0 : 6 * (y 0).val = o) (h1 : (y 1).val = (x 1).val) (h2 : (y 2).val = (x 2).val) :
    C3 .f32 (fun _ : Fin 1 => plane f o ho 0) x = C3 .f32 (joing F1 F0) y := by
  subst e
  have hx : (x 1).val < 64 := (x 1).isLt
  unfold C3 joing plane
  dsimp only
  by_cases h6 : (x 2).val < 6
  · by_cases h7 : (x 1).val = 0
    · rw [dif_pos ⟨h6, h7⟩, dif_pos (by omega), if_pos (by omega)]
      exact at_congr f (by show o + (x 2).val = 6 * (y 0).val + (y 2).val; omega) rfl rfl
    · rw [dif_neg (by omega), dif_pos (by omega), if_neg (by omega), if_neg (by omega)]
  · rw [dif_neg (by omega), dif_neg (by omega)]

theorem joing_hi {f F1 F0 : Fin 12 → M 1 1} {o : ℕ} {ho : o ≤ 6} {x : S1x64x128.Idx}
    {y : S2x128x128.Idx} (e : f = F1) (h0 : 6 * (y 0).val = o) (h1 : (y 1).val = 64 + (x 1).val) (h2 : (y 2).val = (x 2).val) :
    C3 .f32 (fun _ : Fin 1 => plane f o ho 0) x = C3 .f32 (joing F1 F0) y := by
  subst e
  have hx : (x 1).val < 64 := (x 1).isLt
  unfold C3 joing plane
  dsimp only
  by_cases h6 : (x 2).val < 6
  · by_cases h7 : (x 1).val = 0
    · rw [dif_pos ⟨h6, h7⟩, dif_pos (by omega), if_neg (by omega), if_pos (by omega)]
      exact at_congr f (by show o + (x 2).val = 6 * (y 0).val + (y 2).val; omega) rfl rfl
    · rw [dif_neg (by omega), dif_pos (by omega), if_neg (by omega), if_neg (by omega)]
  · rw [dif_neg (by omega), dif_neg (by omega)]

end Cert.Proof.ScanBlk
-- ==== Proof.ScanA.lean ====
module

public import proofs.«01_k».proof.Proof.ScanBlk
public import Idealize.ShloMosaic.Lib.Pipeline.ReadBack

/-! The first point of the backward scan: what its block of each result and the state's gradient hold. -/

@[expose] public section

set_option maxRecDepth 16384

noncomputable section

namespace Cert.Proof.ScanA

open Cert.KernelIdeal Cert.KernelIdeal.Gen Cert.Proof.ScanOps Cert.Proof.ScanDots Cert.Proof.ScanStacks Cert.Proof.ScanBlk
open Idealize.ShloMosaic Idealize.ShloMosaic.TcCoe Idealize.SL.Sem

variable (m : (ℓ : Loc nD τ sig) → Buf (Elt Ideal) ℓ)

theorem zero_state (D : Fin 12 → M 128 128) (hD : D = 0) : (k0_pay3 : FVec Ideal S12x128x128 .f32) = C3 .f32 D := by
  subst hD; exact zero_C3'

set_option maxHeartbeats 4000000 in
theorem out_8 (c : Dev nD) (t : Fin cfg0.N) (h0 : t.val % 16 = 0) (y0 y1 y2 y3 y7 : Fin 2 → M 128 768) (y4 : Fin 2 → M 128 384) (y5 : Fin 2 → M 128 128)
    (y6 : Fin 2 → Fin 2 → Fin 6 → M 128 128) (D : Fin 12 → M 128 128)
    (hD : D = 0)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) (hb6 : iblk m c 6 t = C5 .f32 y6) (hb7 : iblk m c 7 t = C3 .f32 y7) :
    (outsAt0 m c t.val t.isLt).1 = C3 .f32 (join (fdv D (stk y3 64 (by omega)) (stk y7 64 (by omega)) (stka y4 64 (by omega)))
      (fdv (fstep D (stkg y5 64 (by omega)) (stk y7 64 (by omega)) (stk y2 64 (by omega)) (stk y3 64 (by omega)) (stka y4 64 (by omega)) (stk y1 64 (by omega))) (stk y3 0 (by omega)) (stk y7 0 (by omega)) (stka y4 0 (by omega)))) := by
  rw [outsAt0_A m c t h0]
  dsimp only
  frame_out
  funext (y : S2x128x768.Idx)
  canon_tiles x h
  all_goals
    try simp only [read_unread_whole, zero_state D hD]
    simp only [stack_4 _ _ hb6, stack_132 _ _ hb6, stack_11 _ _ hb7, stack_139 _ _ hb7, stack_29 _ _ hb0, stack_157 _ _ hb0,
    stack_40 _ _ hb1, stack_168 _ _ hb1, stack_49 _ _ hb2, stack_177 _ _ hb2, stack_55 _ _ hb3, stack_183 _ _ hb3,
    stack_58 _ _ hb4, stack_186 _ _ hb4, stack_15 _ _ hb5, stack_143 _ _ hb5]
    simp (disch := rfl) only [k0_pay1, k0_pay2, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay84, k0_pay85, k0_pay86, k0_pay87, k0_pay88, k0_pay89, k0_pay90, k0_pay91, k0_pay92, k0_pay93, k0_pay94, k0_pay95, k0_pay96, k0_pay97, k0_pay99, k0_pay100, k0_pay101, k0_pay105, k0_pay106, k0_pay107, k0_pay109, k0_pay110, k0_pay111, k0_pay112, k0_pay113, k0_pay114, k0_pay115, k0_pay116, k0_pay120, k0_pay121, k0_pay122, k0_pay125, k0_pay126, k0_pay127, k0_pay128, k0_pay129, k0_pay130, k0_pay131, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay211, k0_pay212, k0_pay213, k0_pay214, k0_pay215, k0_pay216, k0_pay217, k0_pay218, k0_pay219, k0_pay220, k0_pay221, k0_pay222, k0_pay223, k0_pay224, k0_pay226, k0_pay227, k0_pay228, k0_pay229, k0_pay233, k0_pay234, k0_pay235, k0_pay236, k0_pay238, k0_pay239, k0_pay240, k0_pay241, k0_pay242, k0_pay243, k0_pay247, k0_pay248, k0_pay249, k0_pay250, k0_pay253, k0_pay254, k0_pay255, k0_pay256, k0_pay257, k0_pay258, truncf_C3, extf_C3, addf_C3, subf_C3, mulf_C3, shapeCast_C3, exp_C3, zero_C3, zero_C3',
    nn, tnt, nt, tn, nta, tns, nts, transpose_x, transpose_s, bcast, sums_83, sums_210, sub_self, fmul_zero, fzero_mul, ftr_zero, ftr_ftr,
    zero_add, add_zero, zero_sub, add_neg_cancel, addf_C2, zero_C2, shapeCast_C2, plane_0, plane_6, spread_0, spread_1, spread_2, spread_3, spread_4, spread_5, spread_6, spread_7, spread_8, spread_9, spread_10, spread_11, pick_0, pick_1, pick_2, pick_3, pick_4, pick_5, slice_128_0, slice_128_1, slice_128_2, slice_128_3, slice_128_4, slice_128_5, slice_128_6, slice_128_7, slice_128_8, slice_128_9, slice_128_10, slice_128_11, slice_64_0, slice_64_1, slice_64_2, slice_64_3, slice_64_4, slice_64_5, slice_64_6, slice_64_7, slice_64_8, slice_64_9, slice_64_10, slice_64_11, row_128, row_64, store_98, store_102, store_103, store_104, store_108, store_225, store_230, store_231, store_232, store_237, store_117, store_118, store_119, store_123, store_124, store_244, store_245, store_246, store_251, store_252]
    first
    | exact join_lo rfl (by omega) (by omega) (by omega)
    | exact join_hi rfl (by omega) (by omega) (by omega)

set_option maxHeartbeats 4000000 in
theorem out_9 (c : Dev nD) (t : Fin cfg0.N) (h0 : t.val % 16 = 0) (y0 y1 y2 y3 y7 : Fin 2 → M 128 768) (y4 : Fin 2 → M 128 384) (y5 : Fin 2 → M 128 128)
    (y6 : Fin 2 → Fin 2 → Fin 6 → M 128 128) (D : Fin 12 → M 128 128)
    (hD : D = 0)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) (hb6 : iblk m c 6 t = C5 .f32 y6) (hb7 : iblk m c 7 t = C3 .f32 y7) :
    (outsAt0 m c t.val t.isLt).2.1 = C3 .f32 (join (fmul (-(fdv D (stk y3 64 (by omega)) (stk y7 64 (by omega)) (stka y4 64 (by omega)))) (ftr (stks fun b => y6 b 1)))
      (fmul (-(fdv (fstep D (stkg y5 64 (by omega)) (stk y7 64 (by omega)) (stk y2 64 (by omega)) (stk y3 64 (by omega)) (stka y4 64 (by omega)) (stk y1 64 (by omega))) (stk y3 0 (by omega)) (stk y7 0 (by omega)) (stka y4 0 (by omega)))) (ftr (stks fun b => y6 b 0)))) := by
  rw [outsAt0_A m c t h0]
  dsimp only
  frame_out
  funext (y : S2x128x768.Idx)
  canon_tiles x h
  all_goals
    try simp only [read_unread_whole, zero_state D hD]
    simp only [stack_4 _ _ hb6, stack_132 _ _ hb6, stack_11 _ _ hb7, stack_139 _ _ hb7, stack_29 _ _ hb0, stack_157 _ _ hb0,
    stack_40 _ _ hb1, stack_168 _ _ hb1, stack_49 _ _ hb2, stack_177 _ _ hb2, stack_55 _ _ hb3, stack_183 _ _ hb3,
    stack_58 _ _ hb4, stack_186 _ _ hb4, stack_15 _ _ hb5, stack_143 _ _ hb5]
    simp (disch := rfl) only [k0_pay1, k0_pay2, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay84, k0_pay85, k0_pay86, k0_pay87, k0_pay88, k0_pay89, k0_pay90, k0_pay91, k0_pay92, k0_pay93, k0_pay94, k0_pay95, k0_pay96, k0_pay97, k0_pay99, k0_pay100, k0_pay101, k0_pay105, k0_pay106, k0_pay107, k0_pay109, k0_pay110, k0_pay111, k0_pay112, k0_pay113, k0_pay114, k0_pay115, k0_pay116, k0_pay120, k0_pay121, k0_pay122, k0_pay125, k0_pay126, k0_pay127, k0_pay128, k0_pay129, k0_pay130, k0_pay131, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay211, k0_pay212, k0_pay213, k0_pay214, k0_pay215, k0_pay216, k0_pay217, k0_pay218, k0_pay219, k0_pay220, k0_pay221, k0_pay222, k0_pay223, k0_pay224, k0_pay226, k0_pay227, k0_pay228, k0_pay229, k0_pay233, k0_pay234, k0_pay235, k0_pay236, k0_pay238, k0_pay239, k0_pay240, k0_pay241, k0_pay242, k0_pay243, k0_pay247, k0_pay248, k0_pay249, k0_pay250, k0_pay253, k0_pay254, k0_pay255, k0_pay256, k0_pay257, k0_pay258, truncf_C3, extf_C3, addf_C3, subf_C3, mulf_C3, shapeCast_C3, exp_C3, zero_C3, zero_C3',
    nn, tnt, nt, tn, nta, tns, nts, transpose_x, transpose_s, bcast, sums_83, sums_210, sub_self, fmul_zero, fzero_mul, ftr_zero, ftr_ftr,
    zero_add, add_zero, zero_sub, add_neg_cancel, addf_C2, zero_C2, shapeCast_C2, plane_0, plane_6, spread_0, spread_1, spread_2, spread_3, spread_4, spread_5, spread_6, spread_7, spread_8, spread_9, spread_10, spread_11, pick_0, pick_1, pick_2, pick_3, pick_4, pick_5, slice_128_0, slice_128_1, slice_128_2, slice_128_3, slice_128_4, slice_128_5, slice_128_6, slice_128_7, slice_128_8, slice_128_9, slice_128_10, slice_128_11, slice_64_0, slice_64_1, slice_64_2, slice_64_3, slice_64_4, slice_64_5, slice_64_6, slice_64_7, slice_64_8, slice_64_9, slice_64_10, slice_64_11, row_128, row_64, store_98, store_102, store_103, store_104, store_108, store_225, store_230, store_231, store_232, store_237, store_117, store_118, store_119, store_123, store_124, store_244, store_245, store_246, store_251, store_252]
    first
    | exact join_lo rfl (by omega) (by omega) (by omega)
    | exact join_hi rfl (by omega) (by omega) (by omega)

set_option maxHeartbeats 4000000 in
theorem out_10 (c : Dev nD) (t : Fin cfg0.N) (h0 : t.val % 16 = 0) (y0 y1 y2 y3 y7 : Fin 2 → M 128 768) (y4 : Fin 2 → M 128 384) (y5 : Fin 2 → M 128 128)
    (y6 : Fin 2 → Fin 2 → Fin 6 → M 128 128) (D : Fin 12 → M 128 128)
    (hD : D = 0)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) (hb6 : iblk m c 6 t = C5 .f32 y6) (hb7 : iblk m c 7 t = C3 .f32 y7) :
    (outsAt0 m c t.val t.isLt).2.2.1 = C3 .f32 (join (fmul (stk y7 64 (by omega)) (ftr (stks fun b => y6 b 1)))
      (fmul (stk y7 0 (by omega)) (ftr (stks fun b => y6 b 0)))) := by
  rw [outsAt0_A m c t h0]
  dsimp only
  frame_out
  funext (y : S2x128x768.Idx)
  canon_tiles x h
  all_goals
    try simp only [read_unread_whole, zero_state D hD]
    simp only [stack_4 _ _ hb6, stack_132 _ _ hb6, stack_11 _ _ hb7, stack_139 _ _ hb7, stack_29 _ _ hb0, stack_157 _ _ hb0,
    stack_40 _ _ hb1, stack_168 _ _ hb1, stack_49 _ _ hb2, stack_177 _ _ hb2, stack_55 _ _ hb3, stack_183 _ _ hb3,
    stack_58 _ _ hb4, stack_186 _ _ hb4, stack_15 _ _ hb5, stack_143 _ _ hb5]
    simp (disch := rfl) only [k0_pay1, k0_pay2, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay84, k0_pay85, k0_pay86, k0_pay87, k0_pay88, k0_pay89, k0_pay90, k0_pay91, k0_pay92, k0_pay93, k0_pay94, k0_pay95, k0_pay96, k0_pay97, k0_pay99, k0_pay100, k0_pay101, k0_pay105, k0_pay106, k0_pay107, k0_pay109, k0_pay110, k0_pay111, k0_pay112, k0_pay113, k0_pay114, k0_pay115, k0_pay116, k0_pay120, k0_pay121, k0_pay122, k0_pay125, k0_pay126, k0_pay127, k0_pay128, k0_pay129, k0_pay130, k0_pay131, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay211, k0_pay212, k0_pay213, k0_pay214, k0_pay215, k0_pay216, k0_pay217, k0_pay218, k0_pay219, k0_pay220, k0_pay221, k0_pay222, k0_pay223, k0_pay224, k0_pay226, k0_pay227, k0_pay228, k0_pay229, k0_pay233, k0_pay234, k0_pay235, k0_pay236, k0_pay238, k0_pay239, k0_pay240, k0_pay241, k0_pay242, k0_pay243, k0_pay247, k0_pay248, k0_pay249, k0_pay250, k0_pay253, k0_pay254, k0_pay255, k0_pay256, k0_pay257, k0_pay258, truncf_C3, extf_C3, addf_C3, subf_C3, mulf_C3, shapeCast_C3, exp_C3, zero_C3, zero_C3',
    nn, tnt, nt, tn, nta, tns, nts, transpose_x, transpose_s, bcast, sums_83, sums_210, sub_self, fmul_zero, fzero_mul, ftr_zero, ftr_ftr,
    zero_add, add_zero, zero_sub, add_neg_cancel, addf_C2, zero_C2, shapeCast_C2, plane_0, plane_6, spread_0, spread_1, spread_2, spread_3, spread_4, spread_5, spread_6, spread_7, spread_8, spread_9, spread_10, spread_11, pick_0, pick_1, pick_2, pick_3, pick_4, pick_5, slice_128_0, slice_128_1, slice_128_2, slice_128_3, slice_128_4, slice_128_5, slice_128_6, slice_128_7, slice_128_8, slice_128_9, slice_128_10, slice_128_11, slice_64_0, slice_64_1, slice_64_2, slice_64_3, slice_64_4, slice_64_5, slice_64_6, slice_64_7, slice_64_8, slice_64_9, slice_64_10, slice_64_11, row_128, row_64, store_98, store_102, store_103, store_104, store_108, store_225, store_230, store_231, store_232, store_237, store_117, store_118, store_119, store_123, store_124, store_244, store_245, store_246, store_251, store_252]
    first
    | exact join_lo rfl (by omega) (by omega) (by omega)
    | exact join_hi rfl (by omega) (by omega) (by omega)

set_option maxHeartbeats 4000000 in
theorem out_11 (c : Dev nD) (t : Fin cfg0.N) (h0 : t.val % 16 = 0) (y0 y1 y2 y3 y7 : Fin 2 → M 128 768) (y4 : Fin 2 → M 128 384) (y5 : Fin 2 → M 128 128)
    (y6 : Fin 2 → Fin 2 → Fin 6 → M 128 128) (D : Fin 12 → M 128 128)
    (hD : D = 0)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) (hb6 : iblk m c 6 t = C5 .f32 y6) (hb7 : iblk m c 7 t = C3 .f32 y7) :
    (outsAt0 m c t.val t.isLt).2.2.2.1 = C3 .f32 (join (ftr (fmul D (ftr (fv (stks fun b => y6 b 1) (stk y0 64 (by omega)) (stk y1 64 (by omega))))))
      (ftr (fmul (fstep D (stkg y5 64 (by omega)) (stk y7 64 (by omega)) (stk y2 64 (by omega)) (stk y3 64 (by omega)) (stka y4 64 (by omega)) (stk y1 64 (by omega))) (ftr (fv (stks fun b => y6 b 0) (stk y0 0 (by omega)) (stk y1 0 (by omega))))))) := by
  rw [outsAt0_A m c t h0]
  dsimp only
  frame_out
  funext (y : S2x128x768.Idx)
  canon_tiles x h
  all_goals
    try simp only [read_unread_whole, zero_state D hD]
    simp only [stack_4 _ _ hb6, stack_132 _ _ hb6, stack_11 _ _ hb7, stack_139 _ _ hb7, stack_29 _ _ hb0, stack_157 _ _ hb0,
    stack_40 _ _ hb1, stack_168 _ _ hb1, stack_49 _ _ hb2, stack_177 _ _ hb2, stack_55 _ _ hb3, stack_183 _ _ hb3,
    stack_58 _ _ hb4, stack_186 _ _ hb4, stack_15 _ _ hb5, stack_143 _ _ hb5]
    simp (disch := rfl) only [k0_pay1, k0_pay2, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay84, k0_pay85, k0_pay86, k0_pay87, k0_pay88, k0_pay89, k0_pay90, k0_pay91, k0_pay92, k0_pay93, k0_pay94, k0_pay95, k0_pay96, k0_pay97, k0_pay99, k0_pay100, k0_pay101, k0_pay105, k0_pay106, k0_pay107, k0_pay109, k0_pay110, k0_pay111, k0_pay112, k0_pay113, k0_pay114, k0_pay115, k0_pay116, k0_pay120, k0_pay121, k0_pay122, k0_pay125, k0_pay126, k0_pay127, k0_pay128, k0_pay129, k0_pay130, k0_pay131, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay211, k0_pay212, k0_pay213, k0_pay214, k0_pay215, k0_pay216, k0_pay217, k0_pay218, k0_pay219, k0_pay220, k0_pay221, k0_pay222, k0_pay223, k0_pay224, k0_pay226, k0_pay227, k0_pay228, k0_pay229, k0_pay233, k0_pay234, k0_pay235, k0_pay236, k0_pay238, k0_pay239, k0_pay240, k0_pay241, k0_pay242, k0_pay243, k0_pay247, k0_pay248, k0_pay249, k0_pay250, k0_pay253, k0_pay254, k0_pay255, k0_pay256, k0_pay257, k0_pay258, truncf_C3, extf_C3, addf_C3, subf_C3, mulf_C3, shapeCast_C3, exp_C3, zero_C3, zero_C3',
    nn, tnt, nt, tn, nta, tns, nts, transpose_x, transpose_s, bcast, sums_83, sums_210, sub_self, fmul_zero, fzero_mul, ftr_zero, ftr_ftr,
    zero_add, add_zero, zero_sub, add_neg_cancel, addf_C2, zero_C2, shapeCast_C2, plane_0, plane_6, spread_0, spread_1, spread_2, spread_3, spread_4, spread_5, spread_6, spread_7, spread_8, spread_9, spread_10, spread_11, pick_0, pick_1, pick_2, pick_3, pick_4, pick_5, slice_128_0, slice_128_1, slice_128_2, slice_128_3, slice_128_4, slice_128_5, slice_128_6, slice_128_7, slice_128_8, slice_128_9, slice_128_10, slice_128_11, slice_64_0, slice_64_1, slice_64_2, slice_64_3, slice_64_4, slice_64_5, slice_64_6, slice_64_7, slice_64_8, slice_64_9, slice_64_10, slice_64_11, row_128, row_64, store_98, store_102, store_103, store_104, store_108, store_225, store_230, store_231, store_232, store_237, store_117, store_118, store_119, store_123, store_124, store_244, store_245, store_246, store_251, store_252]
    first
    | exact join_lo rfl (by omega) (by omega) (by omega)
    | exact join_hi rfl (by omega) (by omega) (by omega)

set_option maxHeartbeats 4000000 in
theorem out_12 (c : Dev nD) (t : Fin cfg0.N) (h0 : t.val % 16 = 0) (y0 y1 y2 y3 y7 : Fin 2 → M 128 768) (y4 : Fin 2 → M 128 384) (y5 : Fin 2 → M 128 128)
    (y6 : Fin 2 → Fin 2 → Fin 6 → M 128 128) (D : Fin 12 → M 128 128)
    (hD : D = 0)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) (hb6 : iblk m c 6 t = C5 .f32 y6) (hb7 : iblk m c 7 t = C3 .f32 y7) :
    (outsAt0 m c t.val t.isLt).2.2.2.2.1 = C3 .f32 (join (fmul (stk y7 64 (by omega)) (ftr (fv (stks fun b => y6 b 1) (stk y0 64 (by omega)) (stk y1 64 (by omega)))))
      (fmul (stk y7 0 (by omega)) (ftr (fv (stks fun b => y6 b 0) (stk y0 0 (by omega)) (stk y1 0 (by omega)))))) := by
  rw [outsAt0_A m c t h0]
  dsimp only
  frame_out
  funext (y : S2x128x384.Idx)
  canon_tiles x h
  all_goals
    try simp only [read_unread_whole, zero_state D hD]
    simp only [stack_4 _ _ hb6, stack_132 _ _ hb6, stack_11 _ _ hb7, stack_139 _ _ hb7, stack_29 _ _ hb0, stack_157 _ _ hb0,
    stack_40 _ _ hb1, stack_168 _ _ hb1, stack_49 _ _ hb2, stack_177 _ _ hb2, stack_55 _ _ hb3, stack_183 _ _ hb3,
    stack_58 _ _ hb4, stack_186 _ _ hb4, stack_15 _ _ hb5, stack_143 _ _ hb5]
    simp (disch := rfl) only [k0_pay1, k0_pay2, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay84, k0_pay85, k0_pay86, k0_pay87, k0_pay88, k0_pay89, k0_pay90, k0_pay91, k0_pay92, k0_pay93, k0_pay94, k0_pay95, k0_pay96, k0_pay97, k0_pay99, k0_pay100, k0_pay101, k0_pay105, k0_pay106, k0_pay107, k0_pay109, k0_pay110, k0_pay111, k0_pay112, k0_pay113, k0_pay114, k0_pay115, k0_pay116, k0_pay120, k0_pay121, k0_pay122, k0_pay125, k0_pay126, k0_pay127, k0_pay128, k0_pay129, k0_pay130, k0_pay131, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay211, k0_pay212, k0_pay213, k0_pay214, k0_pay215, k0_pay216, k0_pay217, k0_pay218, k0_pay219, k0_pay220, k0_pay221, k0_pay222, k0_pay223, k0_pay224, k0_pay226, k0_pay227, k0_pay228, k0_pay229, k0_pay233, k0_pay234, k0_pay235, k0_pay236, k0_pay238, k0_pay239, k0_pay240, k0_pay241, k0_pay242, k0_pay243, k0_pay247, k0_pay248, k0_pay249, k0_pay250, k0_pay253, k0_pay254, k0_pay255, k0_pay256, k0_pay257, k0_pay258, truncf_C3, extf_C3, addf_C3, subf_C3, mulf_C3, shapeCast_C3, exp_C3, zero_C3, zero_C3',
    nn, tnt, nt, tn, nta, tns, nts, transpose_x, transpose_s, bcast, sums_83, sums_210, sub_self, fmul_zero, fzero_mul, ftr_zero, ftr_ftr,
    zero_add, add_zero, zero_sub, add_neg_cancel, addf_C2, zero_C2, shapeCast_C2, plane_0, plane_6, spread_0, spread_1, spread_2, spread_3, spread_4, spread_5, spread_6, spread_7, spread_8, spread_9, spread_10, spread_11, pick_0, pick_1, pick_2, pick_3, pick_4, pick_5, slice_128_0, slice_128_1, slice_128_2, slice_128_3, slice_128_4, slice_128_5, slice_128_6, slice_128_7, slice_128_8, slice_128_9, slice_128_10, slice_128_11, slice_64_0, slice_64_1, slice_64_2, slice_64_3, slice_64_4, slice_64_5, slice_64_6, slice_64_7, slice_64_8, slice_64_9, slice_64_10, slice_64_11, row_128, row_64, store_98, store_102, store_103, store_104, store_108, store_225, store_230, store_231, store_232, store_237, store_117, store_118, store_119, store_123, store_124, store_244, store_245, store_246, store_251, store_252]
    first
    | exact join_lo rfl (by omega) (by omega) (by omega)
    | exact join_hi rfl (by omega) (by omega) (by omega)

set_option maxHeartbeats 4000000 in
theorem out_13 (c : Dev nD) (t : Fin cfg0.N) (h0 : t.val % 16 = 0) (y0 y1 y2 y3 y7 : Fin 2 → M 128 768) (y4 : Fin 2 → M 128 384) (y5 : Fin 2 → M 128 128)
    (y6 : Fin 2 → Fin 2 → Fin 6 → M 128 128) (D : Fin 12 → M 128 128)
    (hD : D = 0)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) (hb6 : iblk m c 6 t = C5 .f32 y6) (hb7 : iblk m c 7 t = C3 .f32 y7) :
    (outsAt0 m c t.val t.isLt).2.2.2.2.2.1 = C3 .f32 (joing (fdg D (stks fun b => y6 b 1) (stkg y5 64 (by omega)))
      (fdg (fstep D (stkg y5 64 (by omega)) (stk y7 64 (by omega)) (stk y2 64 (by omega)) (stk y3 64 (by omega)) (stka y4 64 (by omega)) (stk y1 64 (by omega))) (stks fun b => y6 b 0) (stkg y5 0 (by omega)))) := by
  rw [outsAt0_A m c t h0]
  dsimp only
  frame_out
  funext (y : S2x128x128.Idx)
  canon_tiles x h
  all_goals
    try simp only [read_unread_whole, zero_state D hD]
    simp only [stack_4 _ _ hb6, stack_132 _ _ hb6, stack_11 _ _ hb7, stack_139 _ _ hb7, stack_29 _ _ hb0, stack_157 _ _ hb0,
    stack_40 _ _ hb1, stack_168 _ _ hb1, stack_49 _ _ hb2, stack_177 _ _ hb2, stack_55 _ _ hb3, stack_183 _ _ hb3,
    stack_58 _ _ hb4, stack_186 _ _ hb4, stack_15 _ _ hb5, stack_143 _ _ hb5]
    simp (disch := rfl) only [k0_pay1, k0_pay2, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay84, k0_pay85, k0_pay86, k0_pay87, k0_pay88, k0_pay89, k0_pay90, k0_pay91, k0_pay92, k0_pay93, k0_pay94, k0_pay95, k0_pay96, k0_pay97, k0_pay99, k0_pay100, k0_pay101, k0_pay105, k0_pay106, k0_pay107, k0_pay109, k0_pay110, k0_pay111, k0_pay112, k0_pay113, k0_pay114, k0_pay115, k0_pay116, k0_pay120, k0_pay121, k0_pay122, k0_pay125, k0_pay126, k0_pay127, k0_pay128, k0_pay129, k0_pay130, k0_pay131, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay211, k0_pay212, k0_pay213, k0_pay214, k0_pay215, k0_pay216, k0_pay217, k0_pay218, k0_pay219, k0_pay220, k0_pay221, k0_pay222, k0_pay223, k0_pay224, k0_pay226, k0_pay227, k0_pay228, k0_pay229, k0_pay233, k0_pay234, k0_pay235, k0_pay236, k0_pay238, k0_pay239, k0_pay240, k0_pay241, k0_pay242, k0_pay243, k0_pay247, k0_pay248, k0_pay249, k0_pay250, k0_pay253, k0_pay254, k0_pay255, k0_pay256, k0_pay257, k0_pay258, truncf_C3, extf_C3, addf_C3, subf_C3, mulf_C3, shapeCast_C3, exp_C3, zero_C3, zero_C3',
    nn, tnt, nt, tn, nta, tns, nts, transpose_x, transpose_s, bcast, sums_83, sums_210, sub_self, fmul_zero, fzero_mul, ftr_zero, ftr_ftr,
    zero_add, add_zero, zero_sub, add_neg_cancel, addf_C2, zero_C2, shapeCast_C2, plane_0, plane_6, spread_0, spread_1, spread_2, spread_3, spread_4, spread_5, spread_6, spread_7, spread_8, spread_9, spread_10, spread_11, pick_0, pick_1, pick_2, pick_3, pick_4, pick_5, slice_128_0, slice_128_1, slice_128_2, slice_128_3, slice_128_4, slice_128_5, slice_128_6, slice_128_7, slice_128_8, slice_128_9, slice_128_10, slice_128_11, slice_64_0, slice_64_1, slice_64_2, slice_64_3, slice_64_4, slice_64_5, slice_64_6, slice_64_7, slice_64_8, slice_64_9, slice_64_10, slice_64_11, row_128, row_64, store_98, store_102, store_103, store_104, store_108, store_225, store_230, store_231, store_232, store_237, store_117, store_118, store_119, store_123, store_124, store_244, store_245, store_246, store_251, store_252]
    first
    | exact joing_lo rfl (by omega) (by omega) (by omega)
    | exact joing_hi rfl (by omega) (by omega) (by omega)

set_option maxHeartbeats 4000000 in
theorem out_14 (c : Dev nD) (t : Fin cfg0.N) (h0 : t.val % 16 = 0) (y0 y1 y2 y3 y7 : Fin 2 → M 128 768) (y4 : Fin 2 → M 128 384) (y5 : Fin 2 → M 128 128)
    (y6 : Fin 2 → Fin 2 → Fin 6 → M 128 128) (D : Fin 12 → M 128 128)
    (hD : D = 0)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) (hb6 : iblk m c 6 t = C5 .f32 y6) (hb7 : iblk m c 7 t = C3 .f32 y7) :
    (outsAt0 m c t.val t.isLt).2.2.2.2.2.2 = C3 .f32 (fstep (fstep D (stkg y5 64 (by omega)) (stk y7 64 (by omega)) (stk y2 64 (by omega)) (stk y3 64 (by omega)) (stka y4 64 (by omega)) (stk y1 64 (by omega))) (stkg y5 0 (by omega)) (stk y7 0 (by omega)) (stk y2 0 (by omega)) (stk y3 0 (by omega)) (stka y4 0 (by omega)) (stk y1 0 (by omega))) := by
  rw [outsAt0_A m c t h0]
  dsimp only
  frame_out
  simp only [read_unread_whole, zero_state D hD]
  simp only [stack_4 _ _ hb6, stack_132 _ _ hb6, stack_11 _ _ hb7, stack_139 _ _ hb7, stack_29 _ _ hb0, stack_157 _ _ hb0,
    stack_40 _ _ hb1, stack_168 _ _ hb1, stack_49 _ _ hb2, stack_177 _ _ hb2, stack_55 _ _ hb3, stack_183 _ _ hb3,
    stack_58 _ _ hb4, stack_186 _ _ hb4, stack_15 _ _ hb5, stack_143 _ _ hb5]
  simp (disch := rfl) only [k0_pay1, k0_pay2, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay84, k0_pay85, k0_pay86, k0_pay87, k0_pay88, k0_pay89, k0_pay90, k0_pay91, k0_pay92, k0_pay93, k0_pay94, k0_pay95, k0_pay96, k0_pay97, k0_pay99, k0_pay100, k0_pay101, k0_pay105, k0_pay106, k0_pay107, k0_pay109, k0_pay110, k0_pay111, k0_pay112, k0_pay113, k0_pay114, k0_pay115, k0_pay116, k0_pay120, k0_pay121, k0_pay122, k0_pay125, k0_pay126, k0_pay127, k0_pay128, k0_pay129, k0_pay130, k0_pay131, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay211, k0_pay212, k0_pay213, k0_pay214, k0_pay215, k0_pay216, k0_pay217, k0_pay218, k0_pay219, k0_pay220, k0_pay221, k0_pay222, k0_pay223, k0_pay224, k0_pay226, k0_pay227, k0_pay228, k0_pay229, k0_pay233, k0_pay234, k0_pay235, k0_pay236, k0_pay238, k0_pay239, k0_pay240, k0_pay241, k0_pay242, k0_pay243, k0_pay247, k0_pay248, k0_pay249, k0_pay250, k0_pay253, k0_pay254, k0_pay255, k0_pay256, k0_pay257, k0_pay258, truncf_C3, extf_C3, addf_C3, subf_C3, mulf_C3, shapeCast_C3, exp_C3, zero_C3, zero_C3',
    nn, tnt, nt, tn, nta, tns, nts, transpose_x, transpose_s, bcast, sums_83, sums_210, sub_self, fmul_zero, fzero_mul, ftr_zero, ftr_ftr,
    zero_add, add_zero, zero_sub, add_neg_cancel, addf_C2, zero_C2, shapeCast_C2, plane_0, plane_6, spread_0, spread_1, spread_2, spread_3, spread_4, spread_5, spread_6, spread_7, spread_8, spread_9, spread_10, spread_11, pick_0, pick_1, pick_2, pick_3, pick_4, pick_5, slice_128_0, slice_128_1, slice_128_2, slice_128_3, slice_128_4, slice_128_5, slice_128_6, slice_128_7, slice_128_8, slice_128_9, slice_128_10, slice_128_11, slice_64_0, slice_64_1, slice_64_2, slice_64_3, slice_64_4, slice_64_5, slice_64_6, slice_64_7, slice_64_8, slice_64_9, slice_64_10, slice_64_11, row_128, row_64, store_98, store_102, store_103, store_104, store_108, store_225, store_230, store_231, store_232, store_237, store_117, store_118, store_119, store_123, store_124, store_244, store_245, store_246, store_251, store_252]

end Cert.Proof.ScanA
-- ==== Proof.ScanB.lean ====
module

public import proofs.«01_k».proof.Proof.ScanBlk
public import Idealize.ShloMosaic.Lib.Pipeline.ReadBack

/-! A later point of the backward scan: what its block of each result and the state's gradient hold. -/

@[expose] public section

set_option maxRecDepth 16384

noncomputable section

namespace Cert.Proof.ScanB

open Cert.KernelIdeal Cert.KernelIdeal.Gen Cert.Proof.ScanOps Cert.Proof.ScanDots Cert.Proof.ScanStacks Cert.Proof.ScanBlk
open Idealize.ShloMosaic Idealize.ShloMosaic.TcCoe Idealize.SL.Sem

variable (m : (ℓ : Loc nD τ sig) → Buf (Elt Ideal) ℓ)

set_option maxHeartbeats 4000000 in
theorem out_8 (c : Dev nD) (t : Fin cfg0.N) (h0 : ¬t.val % 16 = 0) (y0 y1 y2 y3 y7 : Fin 2 → M 128 768) (y4 : Fin 2 → M 128 384) (y5 : Fin 2 → M 128 128)
    (y6 : Fin 2 → Fin 2 → Fin 6 → M 128 128) (D : Fin 12 → M 128 128)
    (hD : (outsAt0 m c (t.val - 1) (by omega)).2.2.2.2.2.2 = C3 .f32 D)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) (hb6 : iblk m c 6 t = C5 .f32 y6) (hb7 : iblk m c 7 t = C3 .f32 y7) :
    (outsAt0 m c t.val t.isLt).1 = C3 .f32 (join (fdv D (stk y3 64 (by omega)) (stk y7 64 (by omega)) (stka y4 64 (by omega)))
      (fdv (fstep D (stkg y5 64 (by omega)) (stk y7 64 (by omega)) (stk y2 64 (by omega)) (stk y3 64 (by omega)) (stka y4 64 (by omega)) (stk y1 64 (by omega))) (stk y3 0 (by omega)) (stk y7 0 (by omega)) (stka y4 0 (by omega)))) := by
  rw [outsAt0_B m c t h0]
  dsimp only
  frame_out
  funext (y : S2x128x768.Idx)
  canon_tiles x h
  all_goals
    try simp only [read_unread_whole, hD]
    simp only [stack_4 _ _ hb6, stack_132 _ _ hb6, stack_11 _ _ hb7, stack_139 _ _ hb7, stack_29 _ _ hb0, stack_157 _ _ hb0,
    stack_40 _ _ hb1, stack_168 _ _ hb1, stack_49 _ _ hb2, stack_177 _ _ hb2, stack_55 _ _ hb3, stack_183 _ _ hb3,
    stack_58 _ _ hb4, stack_186 _ _ hb4, stack_15 _ _ hb5, stack_143 _ _ hb5]
    simp (disch := rfl) only [k0_pay1, k0_pay2, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay84, k0_pay85, k0_pay86, k0_pay87, k0_pay88, k0_pay89, k0_pay90, k0_pay91, k0_pay92, k0_pay93, k0_pay94, k0_pay95, k0_pay96, k0_pay97, k0_pay99, k0_pay100, k0_pay101, k0_pay105, k0_pay106, k0_pay107, k0_pay109, k0_pay110, k0_pay111, k0_pay112, k0_pay113, k0_pay114, k0_pay115, k0_pay116, k0_pay120, k0_pay121, k0_pay122, k0_pay125, k0_pay126, k0_pay127, k0_pay128, k0_pay129, k0_pay130, k0_pay131, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay211, k0_pay212, k0_pay213, k0_pay214, k0_pay215, k0_pay216, k0_pay217, k0_pay218, k0_pay219, k0_pay220, k0_pay221, k0_pay222, k0_pay223, k0_pay224, k0_pay226, k0_pay227, k0_pay228, k0_pay229, k0_pay233, k0_pay234, k0_pay235, k0_pay236, k0_pay238, k0_pay239, k0_pay240, k0_pay241, k0_pay242, k0_pay243, k0_pay247, k0_pay248, k0_pay249, k0_pay250, k0_pay253, k0_pay254, k0_pay255, k0_pay256, k0_pay257, k0_pay258, truncf_C3, extf_C3, addf_C3, subf_C3, mulf_C3, shapeCast_C3, exp_C3, zero_C3, zero_C3',
    nn, tnt, nt, tn, nta, tns, nts, transpose_x, transpose_s, bcast, sums_83, sums_210, sub_self, fmul_zero, fzero_mul, ftr_zero, ftr_ftr,
    zero_add, add_zero, zero_sub, add_neg_cancel, addf_C2, zero_C2, shapeCast_C2, plane_0, plane_6, spread_0, spread_1, spread_2, spread_3, spread_4, spread_5, spread_6, spread_7, spread_8, spread_9, spread_10, spread_11, pick_0, pick_1, pick_2, pick_3, pick_4, pick_5, slice_128_0, slice_128_1, slice_128_2, slice_128_3, slice_128_4, slice_128_5, slice_128_6, slice_128_7, slice_128_8, slice_128_9, slice_128_10, slice_128_11, slice_64_0, slice_64_1, slice_64_2, slice_64_3, slice_64_4, slice_64_5, slice_64_6, slice_64_7, slice_64_8, slice_64_9, slice_64_10, slice_64_11, row_128, row_64, store_98, store_102, store_103, store_104, store_108, store_225, store_230, store_231, store_232, store_237, store_117, store_118, store_119, store_123, store_124, store_244, store_245, store_246, store_251, store_252]
    first
    | exact join_lo rfl (by omega) (by omega) (by omega)
    | exact join_hi rfl (by omega) (by omega) (by omega)

set_option maxHeartbeats 4000000 in
theorem out_9 (c : Dev nD) (t : Fin cfg0.N) (h0 : ¬t.val % 16 = 0) (y0 y1 y2 y3 y7 : Fin 2 → M 128 768) (y4 : Fin 2 → M 128 384) (y5 : Fin 2 → M 128 128)
    (y6 : Fin 2 → Fin 2 → Fin 6 → M 128 128) (D : Fin 12 → M 128 128)
    (hD : (outsAt0 m c (t.val - 1) (by omega)).2.2.2.2.2.2 = C3 .f32 D)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) (hb6 : iblk m c 6 t = C5 .f32 y6) (hb7 : iblk m c 7 t = C3 .f32 y7) :
    (outsAt0 m c t.val t.isLt).2.1 = C3 .f32 (join (fmul (-(fdv D (stk y3 64 (by omega)) (stk y7 64 (by omega)) (stka y4 64 (by omega)))) (ftr (stks fun b => y6 b 1)))
      (fmul (-(fdv (fstep D (stkg y5 64 (by omega)) (stk y7 64 (by omega)) (stk y2 64 (by omega)) (stk y3 64 (by omega)) (stka y4 64 (by omega)) (stk y1 64 (by omega))) (stk y3 0 (by omega)) (stk y7 0 (by omega)) (stka y4 0 (by omega)))) (ftr (stks fun b => y6 b 0)))) := by
  rw [outsAt0_B m c t h0]
  dsimp only
  frame_out
  funext (y : S2x128x768.Idx)
  canon_tiles x h
  all_goals
    try simp only [read_unread_whole, hD]
    simp only [stack_4 _ _ hb6, stack_132 _ _ hb6, stack_11 _ _ hb7, stack_139 _ _ hb7, stack_29 _ _ hb0, stack_157 _ _ hb0,
    stack_40 _ _ hb1, stack_168 _ _ hb1, stack_49 _ _ hb2, stack_177 _ _ hb2, stack_55 _ _ hb3, stack_183 _ _ hb3,
    stack_58 _ _ hb4, stack_186 _ _ hb4, stack_15 _ _ hb5, stack_143 _ _ hb5]
    simp (disch := rfl) only [k0_pay1, k0_pay2, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay84, k0_pay85, k0_pay86, k0_pay87, k0_pay88, k0_pay89, k0_pay90, k0_pay91, k0_pay92, k0_pay93, k0_pay94, k0_pay95, k0_pay96, k0_pay97, k0_pay99, k0_pay100, k0_pay101, k0_pay105, k0_pay106, k0_pay107, k0_pay109, k0_pay110, k0_pay111, k0_pay112, k0_pay113, k0_pay114, k0_pay115, k0_pay116, k0_pay120, k0_pay121, k0_pay122, k0_pay125, k0_pay126, k0_pay127, k0_pay128, k0_pay129, k0_pay130, k0_pay131, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay211, k0_pay212, k0_pay213, k0_pay214, k0_pay215, k0_pay216, k0_pay217, k0_pay218, k0_pay219, k0_pay220, k0_pay221, k0_pay222, k0_pay223, k0_pay224, k0_pay226, k0_pay227, k0_pay228, k0_pay229, k0_pay233, k0_pay234, k0_pay235, k0_pay236, k0_pay238, k0_pay239, k0_pay240, k0_pay241, k0_pay242, k0_pay243, k0_pay247, k0_pay248, k0_pay249, k0_pay250, k0_pay253, k0_pay254, k0_pay255, k0_pay256, k0_pay257, k0_pay258, truncf_C3, extf_C3, addf_C3, subf_C3, mulf_C3, shapeCast_C3, exp_C3, zero_C3, zero_C3',
    nn, tnt, nt, tn, nta, tns, nts, transpose_x, transpose_s, bcast, sums_83, sums_210, sub_self, fmul_zero, fzero_mul, ftr_zero, ftr_ftr,
    zero_add, add_zero, zero_sub, add_neg_cancel, addf_C2, zero_C2, shapeCast_C2, plane_0, plane_6, spread_0, spread_1, spread_2, spread_3, spread_4, spread_5, spread_6, spread_7, spread_8, spread_9, spread_10, spread_11, pick_0, pick_1, pick_2, pick_3, pick_4, pick_5, slice_128_0, slice_128_1, slice_128_2, slice_128_3, slice_128_4, slice_128_5, slice_128_6, slice_128_7, slice_128_8, slice_128_9, slice_128_10, slice_128_11, slice_64_0, slice_64_1, slice_64_2, slice_64_3, slice_64_4, slice_64_5, slice_64_6, slice_64_7, slice_64_8, slice_64_9, slice_64_10, slice_64_11, row_128, row_64, store_98, store_102, store_103, store_104, store_108, store_225, store_230, store_231, store_232, store_237, store_117, store_118, store_119, store_123, store_124, store_244, store_245, store_246, store_251, store_252]
    first
    | exact join_lo rfl (by omega) (by omega) (by omega)
    | exact join_hi rfl (by omega) (by omega) (by omega)

set_option maxHeartbeats 4000000 in
theorem out_10 (c : Dev nD) (t : Fin cfg0.N) (h0 : ¬t.val % 16 = 0) (y0 y1 y2 y3 y7 : Fin 2 → M 128 768) (y4 : Fin 2 → M 128 384) (y5 : Fin 2 → M 128 128)
    (y6 : Fin 2 → Fin 2 → Fin 6 → M 128 128) (D : Fin 12 → M 128 128)
    (hD : (outsAt0 m c (t.val - 1) (by omega)).2.2.2.2.2.2 = C3 .f32 D)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) (hb6 : iblk m c 6 t = C5 .f32 y6) (hb7 : iblk m c 7 t = C3 .f32 y7) :
    (outsAt0 m c t.val t.isLt).2.2.1 = C3 .f32 (join (fmul (stk y7 64 (by omega)) (ftr (stks fun b => y6 b 1)))
      (fmul (stk y7 0 (by omega)) (ftr (stks fun b => y6 b 0)))) := by
  rw [outsAt0_B m c t h0]
  dsimp only
  frame_out
  funext (y : S2x128x768.Idx)
  canon_tiles x h
  all_goals
    try simp only [read_unread_whole, hD]
    simp only [stack_4 _ _ hb6, stack_132 _ _ hb6, stack_11 _ _ hb7, stack_139 _ _ hb7, stack_29 _ _ hb0, stack_157 _ _ hb0,
    stack_40 _ _ hb1, stack_168 _ _ hb1, stack_49 _ _ hb2, stack_177 _ _ hb2, stack_55 _ _ hb3, stack_183 _ _ hb3,
    stack_58 _ _ hb4, stack_186 _ _ hb4, stack_15 _ _ hb5, stack_143 _ _ hb5]
    simp (disch := rfl) only [k0_pay1, k0_pay2, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay84, k0_pay85, k0_pay86, k0_pay87, k0_pay88, k0_pay89, k0_pay90, k0_pay91, k0_pay92, k0_pay93, k0_pay94, k0_pay95, k0_pay96, k0_pay97, k0_pay99, k0_pay100, k0_pay101, k0_pay105, k0_pay106, k0_pay107, k0_pay109, k0_pay110, k0_pay111, k0_pay112, k0_pay113, k0_pay114, k0_pay115, k0_pay116, k0_pay120, k0_pay121, k0_pay122, k0_pay125, k0_pay126, k0_pay127, k0_pay128, k0_pay129, k0_pay130, k0_pay131, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay211, k0_pay212, k0_pay213, k0_pay214, k0_pay215, k0_pay216, k0_pay217, k0_pay218, k0_pay219, k0_pay220, k0_pay221, k0_pay222, k0_pay223, k0_pay224, k0_pay226, k0_pay227, k0_pay228, k0_pay229, k0_pay233, k0_pay234, k0_pay235, k0_pay236, k0_pay238, k0_pay239, k0_pay240, k0_pay241, k0_pay242, k0_pay243, k0_pay247, k0_pay248, k0_pay249, k0_pay250, k0_pay253, k0_pay254, k0_pay255, k0_pay256, k0_pay257, k0_pay258, truncf_C3, extf_C3, addf_C3, subf_C3, mulf_C3, shapeCast_C3, exp_C3, zero_C3, zero_C3',
    nn, tnt, nt, tn, nta, tns, nts, transpose_x, transpose_s, bcast, sums_83, sums_210, sub_self, fmul_zero, fzero_mul, ftr_zero, ftr_ftr,
    zero_add, add_zero, zero_sub, add_neg_cancel, addf_C2, zero_C2, shapeCast_C2, plane_0, plane_6, spread_0, spread_1, spread_2, spread_3, spread_4, spread_5, spread_6, spread_7, spread_8, spread_9, spread_10, spread_11, pick_0, pick_1, pick_2, pick_3, pick_4, pick_5, slice_128_0, slice_128_1, slice_128_2, slice_128_3, slice_128_4, slice_128_5, slice_128_6, slice_128_7, slice_128_8, slice_128_9, slice_128_10, slice_128_11, slice_64_0, slice_64_1, slice_64_2, slice_64_3, slice_64_4, slice_64_5, slice_64_6, slice_64_7, slice_64_8, slice_64_9, slice_64_10, slice_64_11, row_128, row_64, store_98, store_102, store_103, store_104, store_108, store_225, store_230, store_231, store_232, store_237, store_117, store_118, store_119, store_123, store_124, store_244, store_245, store_246, store_251, store_252]
    first
    | exact join_lo rfl (by omega) (by omega) (by omega)
    | exact join_hi rfl (by omega) (by omega) (by omega)

set_option maxHeartbeats 4000000 in
theorem out_11 (c : Dev nD) (t : Fin cfg0.N) (h0 : ¬t.val % 16 = 0) (y0 y1 y2 y3 y7 : Fin 2 → M 128 768) (y4 : Fin 2 → M 128 384) (y5 : Fin 2 → M 128 128)
    (y6 : Fin 2 → Fin 2 → Fin 6 → M 128 128) (D : Fin 12 → M 128 128)
    (hD : (outsAt0 m c (t.val - 1) (by omega)).2.2.2.2.2.2 = C3 .f32 D)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) (hb6 : iblk m c 6 t = C5 .f32 y6) (hb7 : iblk m c 7 t = C3 .f32 y7) :
    (outsAt0 m c t.val t.isLt).2.2.2.1 = C3 .f32 (join (ftr (fmul D (ftr (fv (stks fun b => y6 b 1) (stk y0 64 (by omega)) (stk y1 64 (by omega))))))
      (ftr (fmul (fstep D (stkg y5 64 (by omega)) (stk y7 64 (by omega)) (stk y2 64 (by omega)) (stk y3 64 (by omega)) (stka y4 64 (by omega)) (stk y1 64 (by omega))) (ftr (fv (stks fun b => y6 b 0) (stk y0 0 (by omega)) (stk y1 0 (by omega))))))) := by
  rw [outsAt0_B m c t h0]
  dsimp only
  frame_out
  funext (y : S2x128x768.Idx)
  canon_tiles x h
  all_goals
    try simp only [read_unread_whole, hD]
    simp only [stack_4 _ _ hb6, stack_132 _ _ hb6, stack_11 _ _ hb7, stack_139 _ _ hb7, stack_29 _ _ hb0, stack_157 _ _ hb0,
    stack_40 _ _ hb1, stack_168 _ _ hb1, stack_49 _ _ hb2, stack_177 _ _ hb2, stack_55 _ _ hb3, stack_183 _ _ hb3,
    stack_58 _ _ hb4, stack_186 _ _ hb4, stack_15 _ _ hb5, stack_143 _ _ hb5]
    simp (disch := rfl) only [k0_pay1, k0_pay2, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay84, k0_pay85, k0_pay86, k0_pay87, k0_pay88, k0_pay89, k0_pay90, k0_pay91, k0_pay92, k0_pay93, k0_pay94, k0_pay95, k0_pay96, k0_pay97, k0_pay99, k0_pay100, k0_pay101, k0_pay105, k0_pay106, k0_pay107, k0_pay109, k0_pay110, k0_pay111, k0_pay112, k0_pay113, k0_pay114, k0_pay115, k0_pay116, k0_pay120, k0_pay121, k0_pay122, k0_pay125, k0_pay126, k0_pay127, k0_pay128, k0_pay129, k0_pay130, k0_pay131, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay211, k0_pay212, k0_pay213, k0_pay214, k0_pay215, k0_pay216, k0_pay217, k0_pay218, k0_pay219, k0_pay220, k0_pay221, k0_pay222, k0_pay223, k0_pay224, k0_pay226, k0_pay227, k0_pay228, k0_pay229, k0_pay233, k0_pay234, k0_pay235, k0_pay236, k0_pay238, k0_pay239, k0_pay240, k0_pay241, k0_pay242, k0_pay243, k0_pay247, k0_pay248, k0_pay249, k0_pay250, k0_pay253, k0_pay254, k0_pay255, k0_pay256, k0_pay257, k0_pay258, truncf_C3, extf_C3, addf_C3, subf_C3, mulf_C3, shapeCast_C3, exp_C3, zero_C3, zero_C3',
    nn, tnt, nt, tn, nta, tns, nts, transpose_x, transpose_s, bcast, sums_83, sums_210, sub_self, fmul_zero, fzero_mul, ftr_zero, ftr_ftr,
    zero_add, add_zero, zero_sub, add_neg_cancel, addf_C2, zero_C2, shapeCast_C2, plane_0, plane_6, spread_0, spread_1, spread_2, spread_3, spread_4, spread_5, spread_6, spread_7, spread_8, spread_9, spread_10, spread_11, pick_0, pick_1, pick_2, pick_3, pick_4, pick_5, slice_128_0, slice_128_1, slice_128_2, slice_128_3, slice_128_4, slice_128_5, slice_128_6, slice_128_7, slice_128_8, slice_128_9, slice_128_10, slice_128_11, slice_64_0, slice_64_1, slice_64_2, slice_64_3, slice_64_4, slice_64_5, slice_64_6, slice_64_7, slice_64_8, slice_64_9, slice_64_10, slice_64_11, row_128, row_64, store_98, store_102, store_103, store_104, store_108, store_225, store_230, store_231, store_232, store_237, store_117, store_118, store_119, store_123, store_124, store_244, store_245, store_246, store_251, store_252]
    first
    | exact join_lo rfl (by omega) (by omega) (by omega)
    | exact join_hi rfl (by omega) (by omega) (by omega)

set_option maxHeartbeats 4000000 in
theorem out_12 (c : Dev nD) (t : Fin cfg0.N) (h0 : ¬t.val % 16 = 0) (y0 y1 y2 y3 y7 : Fin 2 → M 128 768) (y4 : Fin 2 → M 128 384) (y5 : Fin 2 → M 128 128)
    (y6 : Fin 2 → Fin 2 → Fin 6 → M 128 128) (D : Fin 12 → M 128 128)
    (hD : (outsAt0 m c (t.val - 1) (by omega)).2.2.2.2.2.2 = C3 .f32 D)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) (hb6 : iblk m c 6 t = C5 .f32 y6) (hb7 : iblk m c 7 t = C3 .f32 y7) :
    (outsAt0 m c t.val t.isLt).2.2.2.2.1 = C3 .f32 (join (fmul (stk y7 64 (by omega)) (ftr (fv (stks fun b => y6 b 1) (stk y0 64 (by omega)) (stk y1 64 (by omega)))))
      (fmul (stk y7 0 (by omega)) (ftr (fv (stks fun b => y6 b 0) (stk y0 0 (by omega)) (stk y1 0 (by omega)))))) := by
  rw [outsAt0_B m c t h0]
  dsimp only
  frame_out
  funext (y : S2x128x384.Idx)
  canon_tiles x h
  all_goals
    try simp only [read_unread_whole, hD]
    simp only [stack_4 _ _ hb6, stack_132 _ _ hb6, stack_11 _ _ hb7, stack_139 _ _ hb7, stack_29 _ _ hb0, stack_157 _ _ hb0,
    stack_40 _ _ hb1, stack_168 _ _ hb1, stack_49 _ _ hb2, stack_177 _ _ hb2, stack_55 _ _ hb3, stack_183 _ _ hb3,
    stack_58 _ _ hb4, stack_186 _ _ hb4, stack_15 _ _ hb5, stack_143 _ _ hb5]
    simp (disch := rfl) only [k0_pay1, k0_pay2, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay84, k0_pay85, k0_pay86, k0_pay87, k0_pay88, k0_pay89, k0_pay90, k0_pay91, k0_pay92, k0_pay93, k0_pay94, k0_pay95, k0_pay96, k0_pay97, k0_pay99, k0_pay100, k0_pay101, k0_pay105, k0_pay106, k0_pay107, k0_pay109, k0_pay110, k0_pay111, k0_pay112, k0_pay113, k0_pay114, k0_pay115, k0_pay116, k0_pay120, k0_pay121, k0_pay122, k0_pay125, k0_pay126, k0_pay127, k0_pay128, k0_pay129, k0_pay130, k0_pay131, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay211, k0_pay212, k0_pay213, k0_pay214, k0_pay215, k0_pay216, k0_pay217, k0_pay218, k0_pay219, k0_pay220, k0_pay221, k0_pay222, k0_pay223, k0_pay224, k0_pay226, k0_pay227, k0_pay228, k0_pay229, k0_pay233, k0_pay234, k0_pay235, k0_pay236, k0_pay238, k0_pay239, k0_pay240, k0_pay241, k0_pay242, k0_pay243, k0_pay247, k0_pay248, k0_pay249, k0_pay250, k0_pay253, k0_pay254, k0_pay255, k0_pay256, k0_pay257, k0_pay258, truncf_C3, extf_C3, addf_C3, subf_C3, mulf_C3, shapeCast_C3, exp_C3, zero_C3, zero_C3',
    nn, tnt, nt, tn, nta, tns, nts, transpose_x, transpose_s, bcast, sums_83, sums_210, sub_self, fmul_zero, fzero_mul, ftr_zero, ftr_ftr,
    zero_add, add_zero, zero_sub, add_neg_cancel, addf_C2, zero_C2, shapeCast_C2, plane_0, plane_6, spread_0, spread_1, spread_2, spread_3, spread_4, spread_5, spread_6, spread_7, spread_8, spread_9, spread_10, spread_11, pick_0, pick_1, pick_2, pick_3, pick_4, pick_5, slice_128_0, slice_128_1, slice_128_2, slice_128_3, slice_128_4, slice_128_5, slice_128_6, slice_128_7, slice_128_8, slice_128_9, slice_128_10, slice_128_11, slice_64_0, slice_64_1, slice_64_2, slice_64_3, slice_64_4, slice_64_5, slice_64_6, slice_64_7, slice_64_8, slice_64_9, slice_64_10, slice_64_11, row_128, row_64, store_98, store_102, store_103, store_104, store_108, store_225, store_230, store_231, store_232, store_237, store_117, store_118, store_119, store_123, store_124, store_244, store_245, store_246, store_251, store_252]
    first
    | exact join_lo rfl (by omega) (by omega) (by omega)
    | exact join_hi rfl (by omega) (by omega) (by omega)

set_option maxHeartbeats 4000000 in
theorem out_13 (c : Dev nD) (t : Fin cfg0.N) (h0 : ¬t.val % 16 = 0) (y0 y1 y2 y3 y7 : Fin 2 → M 128 768) (y4 : Fin 2 → M 128 384) (y5 : Fin 2 → M 128 128)
    (y6 : Fin 2 → Fin 2 → Fin 6 → M 128 128) (D : Fin 12 → M 128 128)
    (hD : (outsAt0 m c (t.val - 1) (by omega)).2.2.2.2.2.2 = C3 .f32 D)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) (hb6 : iblk m c 6 t = C5 .f32 y6) (hb7 : iblk m c 7 t = C3 .f32 y7) :
    (outsAt0 m c t.val t.isLt).2.2.2.2.2.1 = C3 .f32 (joing (fdg D (stks fun b => y6 b 1) (stkg y5 64 (by omega)))
      (fdg (fstep D (stkg y5 64 (by omega)) (stk y7 64 (by omega)) (stk y2 64 (by omega)) (stk y3 64 (by omega)) (stka y4 64 (by omega)) (stk y1 64 (by omega))) (stks fun b => y6 b 0) (stkg y5 0 (by omega)))) := by
  rw [outsAt0_B m c t h0]
  dsimp only
  frame_out
  funext (y : S2x128x128.Idx)
  canon_tiles x h
  all_goals
    try simp only [read_unread_whole, hD]
    simp only [stack_4 _ _ hb6, stack_132 _ _ hb6, stack_11 _ _ hb7, stack_139 _ _ hb7, stack_29 _ _ hb0, stack_157 _ _ hb0,
    stack_40 _ _ hb1, stack_168 _ _ hb1, stack_49 _ _ hb2, stack_177 _ _ hb2, stack_55 _ _ hb3, stack_183 _ _ hb3,
    stack_58 _ _ hb4, stack_186 _ _ hb4, stack_15 _ _ hb5, stack_143 _ _ hb5]
    simp (disch := rfl) only [k0_pay1, k0_pay2, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay84, k0_pay85, k0_pay86, k0_pay87, k0_pay88, k0_pay89, k0_pay90, k0_pay91, k0_pay92, k0_pay93, k0_pay94, k0_pay95, k0_pay96, k0_pay97, k0_pay99, k0_pay100, k0_pay101, k0_pay105, k0_pay106, k0_pay107, k0_pay109, k0_pay110, k0_pay111, k0_pay112, k0_pay113, k0_pay114, k0_pay115, k0_pay116, k0_pay120, k0_pay121, k0_pay122, k0_pay125, k0_pay126, k0_pay127, k0_pay128, k0_pay129, k0_pay130, k0_pay131, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay211, k0_pay212, k0_pay213, k0_pay214, k0_pay215, k0_pay216, k0_pay217, k0_pay218, k0_pay219, k0_pay220, k0_pay221, k0_pay222, k0_pay223, k0_pay224, k0_pay226, k0_pay227, k0_pay228, k0_pay229, k0_pay233, k0_pay234, k0_pay235, k0_pay236, k0_pay238, k0_pay239, k0_pay240, k0_pay241, k0_pay242, k0_pay243, k0_pay247, k0_pay248, k0_pay249, k0_pay250, k0_pay253, k0_pay254, k0_pay255, k0_pay256, k0_pay257, k0_pay258, truncf_C3, extf_C3, addf_C3, subf_C3, mulf_C3, shapeCast_C3, exp_C3, zero_C3, zero_C3',
    nn, tnt, nt, tn, nta, tns, nts, transpose_x, transpose_s, bcast, sums_83, sums_210, sub_self, fmul_zero, fzero_mul, ftr_zero, ftr_ftr,
    zero_add, add_zero, zero_sub, add_neg_cancel, addf_C2, zero_C2, shapeCast_C2, plane_0, plane_6, spread_0, spread_1, spread_2, spread_3, spread_4, spread_5, spread_6, spread_7, spread_8, spread_9, spread_10, spread_11, pick_0, pick_1, pick_2, pick_3, pick_4, pick_5, slice_128_0, slice_128_1, slice_128_2, slice_128_3, slice_128_4, slice_128_5, slice_128_6, slice_128_7, slice_128_8, slice_128_9, slice_128_10, slice_128_11, slice_64_0, slice_64_1, slice_64_2, slice_64_3, slice_64_4, slice_64_5, slice_64_6, slice_64_7, slice_64_8, slice_64_9, slice_64_10, slice_64_11, row_128, row_64, store_98, store_102, store_103, store_104, store_108, store_225, store_230, store_231, store_232, store_237, store_117, store_118, store_119, store_123, store_124, store_244, store_245, store_246, store_251, store_252]
    first
    | exact joing_lo rfl (by omega) (by omega) (by omega)
    | exact joing_hi rfl (by omega) (by omega) (by omega)

set_option maxHeartbeats 4000000 in
theorem out_14 (c : Dev nD) (t : Fin cfg0.N) (h0 : ¬t.val % 16 = 0) (y0 y1 y2 y3 y7 : Fin 2 → M 128 768) (y4 : Fin 2 → M 128 384) (y5 : Fin 2 → M 128 128)
    (y6 : Fin 2 → Fin 2 → Fin 6 → M 128 128) (D : Fin 12 → M 128 128)
    (hD : (outsAt0 m c (t.val - 1) (by omega)).2.2.2.2.2.2 = C3 .f32 D)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) (hb6 : iblk m c 6 t = C5 .f32 y6) (hb7 : iblk m c 7 t = C3 .f32 y7) :
    (outsAt0 m c t.val t.isLt).2.2.2.2.2.2 = C3 .f32 (fstep (fstep D (stkg y5 64 (by omega)) (stk y7 64 (by omega)) (stk y2 64 (by omega)) (stk y3 64 (by omega)) (stka y4 64 (by omega)) (stk y1 64 (by omega))) (stkg y5 0 (by omega)) (stk y7 0 (by omega)) (stk y2 0 (by omega)) (stk y3 0 (by omega)) (stka y4 0 (by omega)) (stk y1 0 (by omega))) := by
  rw [outsAt0_B m c t h0]
  dsimp only
  frame_out
  simp only [read_unread_whole, hD]
  simp only [stack_4 _ _ hb6, stack_132 _ _ hb6, stack_11 _ _ hb7, stack_139 _ _ hb7, stack_29 _ _ hb0, stack_157 _ _ hb0,
    stack_40 _ _ hb1, stack_168 _ _ hb1, stack_49 _ _ hb2, stack_177 _ _ hb2, stack_55 _ _ hb3, stack_183 _ _ hb3,
    stack_58 _ _ hb4, stack_186 _ _ hb4, stack_15 _ _ hb5, stack_143 _ _ hb5]
  simp (disch := rfl) only [k0_pay1, k0_pay2, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay84, k0_pay85, k0_pay86, k0_pay87, k0_pay88, k0_pay89, k0_pay90, k0_pay91, k0_pay92, k0_pay93, k0_pay94, k0_pay95, k0_pay96, k0_pay97, k0_pay99, k0_pay100, k0_pay101, k0_pay105, k0_pay106, k0_pay107, k0_pay109, k0_pay110, k0_pay111, k0_pay112, k0_pay113, k0_pay114, k0_pay115, k0_pay116, k0_pay120, k0_pay121, k0_pay122, k0_pay125, k0_pay126, k0_pay127, k0_pay128, k0_pay129, k0_pay130, k0_pay131, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay211, k0_pay212, k0_pay213, k0_pay214, k0_pay215, k0_pay216, k0_pay217, k0_pay218, k0_pay219, k0_pay220, k0_pay221, k0_pay222, k0_pay223, k0_pay224, k0_pay226, k0_pay227, k0_pay228, k0_pay229, k0_pay233, k0_pay234, k0_pay235, k0_pay236, k0_pay238, k0_pay239, k0_pay240, k0_pay241, k0_pay242, k0_pay243, k0_pay247, k0_pay248, k0_pay249, k0_pay250, k0_pay253, k0_pay254, k0_pay255, k0_pay256, k0_pay257, k0_pay258, truncf_C3, extf_C3, addf_C3, subf_C3, mulf_C3, shapeCast_C3, exp_C3, zero_C3, zero_C3',
    nn, tnt, nt, tn, nta, tns, nts, transpose_x, transpose_s, bcast, sums_83, sums_210, sub_self, fmul_zero, fzero_mul, ftr_zero, ftr_ftr,
    zero_add, add_zero, zero_sub, add_neg_cancel, addf_C2, zero_C2, shapeCast_C2, plane_0, plane_6, spread_0, spread_1, spread_2, spread_3, spread_4, spread_5, spread_6, spread_7, spread_8, spread_9, spread_10, spread_11, pick_0, pick_1, pick_2, pick_3, pick_4, pick_5, slice_128_0, slice_128_1, slice_128_2, slice_128_3, slice_128_4, slice_128_5, slice_128_6, slice_128_7, slice_128_8, slice_128_9, slice_128_10, slice_128_11, slice_64_0, slice_64_1, slice_64_2, slice_64_3, slice_64_4, slice_64_5, slice_64_6, slice_64_7, slice_64_8, slice_64_9, slice_64_10, slice_64_11, row_128, row_64, store_98, store_102, store_103, store_104, store_108, store_225, store_230, store_231, store_232, store_237, store_117, store_118, store_119, store_123, store_124, store_244, store_245, store_246, store_251, store_252]

end Cert.Proof.ScanB
-- ==== Proof.ScanKer.lean ====
module

public import proofs.«01_k».proof.Proof.ScanA
public import proofs.«01_k».proof.Proof.ScanB

/-! The backward scan's results, over all its points. -/

@[expose] public section

set_option maxRecDepth 16384

noncomputable section

namespace Cert.Proof.ScanKer

open Cert.KernelIdeal Cert.KernelIdeal.Gen Cert.Proof.ScanOps Cert.Proof.ScanStacks Cert.Proof.ScanBlk Cert.Proof.ScanSpec
open Idealize.ShloMosaic Idealize.ShloMosaic.TcCoe Idealize.SL.Sem

variable (m : (ℓ : Loc nD τ sig) → Buf (Elt Ideal) ℓ)

/-- What the device's arrays hold, by sequence, head and chunk. -/
def inp (c : Dev nD) : In where
  u := hd (q := 128) (re (m ((c : Thread nD τ).loc main_arg0)))
  w := hd (q := 128) (re (m ((c : Thread nD τ).loc main_arg1)))
  q := hd (q := 128) (re (m ((c : Thread nD τ).loc main_arg2)))
  k := hd (q := 128) (re (m ((c : Thread nD τ).loc main_arg3)))
  a := hd (q := 64) (re (m ((c : Thread nD τ).loc main_arg4)))
  g := hdg (re (m ((c : Thread nD τ).loc main_arg5)))
  s := fun b h n => re5 (m ((c : Thread nD τ).loc main_arg6)) b n h
  o := hd (q := 128) (re (m ((c : Thread nD τ).loc main_arg7)))

/-- A family over sequence and head. -/
abbrev fam {α : Type} (Z : Fin 2 → Fin 6 → α) : Fin 12 → α := fun p => Z ⟨p.val / 6, by omega⟩ ⟨p.val % 6, by omega⟩

theorem stk_64 (X : M 4096 768) (t : ℕ) (ht : t < 16) (h) : stk (rows X t) 64 h = fam fun b h => hd (q := 128) X b h ⟨31 - 2 * t, by omega⟩ := by
  funext p r k
  have hr := r.isLt
  unfold stk rows fam hd
  congr 1
  exact Fin.ext (by show 2048 * (p.val / 6) + (128 * (15 - t) + (64 + r.val)) = 2048 * (p.val / 6) + (64 * (31 - 2 * t) + r.val); omega)
theorem stk_0 (X : M 4096 768) (t : ℕ) (ht : t < 16) (h) : stk (rows X t) 0 h = fam fun b h => hd (q := 128) X b h ⟨31 - (2 * t + 1), by omega⟩ := by
  funext p r k
  have hr := r.isLt
  unfold stk rows fam hd
  congr 1
  exact Fin.ext (by show 2048 * (p.val / 6) + (128 * (15 - t) + (0 + r.val)) = 2048 * (p.val / 6) + (64 * (31 - (2 * t + 1)) + r.val); omega)
theorem stka_64 (X : M 4096 384) (t : ℕ) (ht : t < 16) (h) : stka (rows X t) 64 h = fam fun b h => hd (q := 64) X b h ⟨31 - 2 * t, by omega⟩ := by
  funext p r k
  have hr := r.isLt
  unfold stka rows fam hd
  congr 1
  exact Fin.ext (by show 2048 * (p.val / 6) + (128 * (15 - t) + (64 + r.val)) = 2048 * (p.val / 6) + (64 * (31 - 2 * t) + r.val); omega)
theorem stka_0 (X : M 4096 384) (t : ℕ) (ht : t < 16) (h) : stka (rows X t) 0 h = fam fun b h => hd (q := 64) X b h ⟨31 - (2 * t + 1), by omega⟩ := by
  funext p r k
  have hr := r.isLt
  unfold stka rows fam hd
  congr 1
  exact Fin.ext (by show 2048 * (p.val / 6) + (128 * (15 - t) + (0 + r.val)) = 2048 * (p.val / 6) + (64 * (31 - (2 * t + 1)) + r.val); omega)
theorem stkg_64 (X : M 4096 128) (t : ℕ) (ht : t < 16) (h) : stkg (rows X t) 64 h = fam fun b h _ _ => hdg X b h ⟨31 - 2 * t, by omega⟩ := by
  funext p r k
  unfold stkg rows fam hdg
  congr 1
  exact Fin.ext (by show 2048 * (p.val / 6) + (128 * (15 - t) + 64) = 2048 * (p.val / 6) + 64 * (31 - 2 * t); omega)
theorem stkg_0 (X : M 4096 128) (t : ℕ) (ht : t < 16) (h) : stkg (rows X t) 0 h = fam fun b h _ _ => hdg X b h ⟨31 - (2 * t + 1), by omega⟩ := by
  funext p r k
  unfold stkg rows fam hdg
  congr 1
  exact Fin.ext (by show 2048 * (p.val / 6) + (128 * (15 - t) + 0) = 2048 * (p.val / 6) + 64 * (31 - (2 * t + 1)); omega)
theorem stks_64 (X : Fin 2 → Fin 32 → Fin 6 → M 128 128) (t : ℕ) (ht : t < 16) :
    (stks fun b => chunks X t b 1) = fam fun b h => X b ⟨31 - 2 * t, by omega⟩ h := by
  funext p
  unfold stks chunks fam
  have e : (⟨2 * (15 - t) + (1 : Fin 2).val, by omega⟩ : Fin 32) = ⟨31 - 2 * t, by omega⟩ :=
    Fin.ext (by show 2 * (15 - t) + 1 = 31 - 2 * t; omega)
  rw [e]
theorem stks_0 (X : Fin 2 → Fin 32 → Fin 6 → M 128 128) (t : ℕ) (ht : t < 16) :
    (stks fun b => chunks X t b 0) = fam fun b h => X b ⟨31 - (2 * t + 1), by omega⟩ h := by
  funext p
  unfold stks chunks fam
  have e : (⟨2 * (15 - t) + (0 : Fin 2).val, by omega⟩ : Fin 32) = ⟨31 - (2 * t + 1), by omega⟩ :=
    Fin.ext (by show 2 * (15 - t) + 0 = 31 - (2 * t + 1); omega)
  rw [e]

/-- A point's block is a part of the whole array. -/
theorem join_whole {q : ℕ} (Z : Fin 2 → Fin 6 → Fin 32 → M 64 q) (t : ℕ) (ht : t < 16) (b : Fin 2) (r : Fin 128) (k : Fin (6 * q)) :
    join (fam fun b h => Z b h ⟨31 - 2 * t, by omega⟩) (fam fun b h => Z b h ⟨31 - (2 * t + 1), by omega⟩) b r k
      = whole Z b ⟨128 * (15 - t) + r.val, by omega⟩ k := by
  have hk : k.val / q < 6 := Nat.div_lt_of_lt_mul (lt_of_lt_of_eq k.isLt (mul_comm 6 q))
  have key : ∀ {b b' : Fin 2} {h h' : Fin 6} {n n' : Fin 32} {i i' : Fin 64} {j j' : Fin q}, b.val = b'.val → h.val = h'.val → n.val = n'.val →
      i.val = i'.val → j.val = j'.val → Z b h n i j = Z b' h' n' i' j' := by
    intro b b' h h' n n' i i' j j' e1 e2 e3 e4 e5
    rw [Fin.ext e1, Fin.ext e2, Fin.ext e3, Fin.ext e4, Fin.ext e5]
  unfold join whole
  dsimp only
  split
  · exact key (by dsimp only; generalize k.val / q = z at hk ⊢; omega) (by dsimp only; generalize k.val / q = z at hk ⊢; omega)
      (by dsimp only; omega) (by dsimp only; omega) rfl
  · exact key (by dsimp only; generalize k.val / q = z at hk ⊢; omega) (by dsimp only; generalize k.val / q = z at hk ⊢; omega)
      (by dsimp only; omega) (by dsimp only; omega) rfl

theorem join_at {q : ℕ} (Z : Fin 2 → Fin 6 → Fin 32 → M 64 q) (t : ℕ) (ht : t < 16) (y : (⟨3, ![2, 128, 6 * q]⟩ : Shape).Idx) :
    C3 .f32 (join (fam fun b h => Z b h ⟨31 - 2 * t, by omega⟩) (fam fun b h => Z b h ⟨31 - (2 * t + 1), by omega⟩)) y
      = C3 .f32 (whole Z) (ix3 (y 0) ⟨128 * (15 - t) + (y 1).val, by have : (y 1).val < 128 := (y 1).isLt; omega⟩ (y 2)) :=
  congrArg (fun x : ℝ => (x : EReal)) (join_whole Z t ht (y 0) (y 1) (y 2))

theorem joing_whole (Z : Fin 2 → Fin 6 → Fin 32 → ℝ) (t : ℕ) (ht : t < 16) (b : Fin 2) (r : Fin 128) (k : Fin 128) :
    joing (fam fun b h _ _ => Z b h ⟨31 - 2 * t, by omega⟩) (fam fun b h _ _ => Z b h ⟨31 - (2 * t + 1), by omega⟩) b r k
      = wholeg Z b ⟨128 * (15 - t) + r.val, by omega⟩ k := by
  have key : ∀ {b b' : Fin 2} {h h' : Fin 6} {n n' : Fin 32}, b.val = b'.val → h.val = h'.val → n.val = n'.val →
      Z b h n = Z b' h' n' := by
    intro b b' h h' n n' e1 e2 e3
    rw [Fin.ext e1, Fin.ext e2, Fin.ext e3]
  unfold joing wholeg
  dsimp only
  by_cases h6 : k.val < 6
  · rw [dif_pos h6, dif_pos h6]
    by_cases h7 : r.val = 0
    · rw [if_pos h7, if_pos (by omega)]
      exact key (by dsimp only; omega) (by dsimp only; omega) (by dsimp only; omega)
    · rw [if_neg h7]
      by_cases h8 : r.val = 64
      · rw [if_pos h8, if_pos (by omega)]
        exact key (by dsimp only; omega) (by dsimp only; omega) (by dsimp only; omega)
      · rw [if_neg h8, if_neg (by omega)]
  · rw [dif_neg h6, dif_neg h6]

theorem joing_at (Z : Fin 2 → Fin 6 → Fin 32 → ℝ) (t : ℕ) (ht : t < 16) (y : S2x128x128.Idx) :
    C3 .f32 (joing (fam fun b h _ _ => Z b h ⟨31 - 2 * t, by omega⟩) (fam fun b h _ _ => Z b h ⟨31 - (2 * t + 1), by omega⟩)) y
      = C3 .f32 (wholeg Z) (ix3 (y 0) ⟨128 * (15 - t) + (y 1).val, by have : (y 1).val < 128 := (y 1).isLt; omega⟩ (y 2)) :=
  congrArg (fun x : ℝ => (x : EReal)) (joing_whole Z t ht (y 0) (y 1) (y 2))

variable (c : Dev nD)
    (hf0 : ∀ i, ((((m ((c : Thread nD τ).loc main_arg0)) i : EReal).toReal : ℝ) : EReal) = (m ((c : Thread nD τ).loc main_arg0)) i)
    (hf1 : ∀ i, ((((m ((c : Thread nD τ).loc main_arg1)) i : EReal).toReal : ℝ) : EReal) = (m ((c : Thread nD τ).loc main_arg1)) i)
    (hf2 : ∀ i, ((((m ((c : Thread nD τ).loc main_arg2)) i : EReal).toReal : ℝ) : EReal) = (m ((c : Thread nD τ).loc main_arg2)) i)
    (hf3 : ∀ i, ((((m ((c : Thread nD τ).loc main_arg3)) i : EReal).toReal : ℝ) : EReal) = (m ((c : Thread nD τ).loc main_arg3)) i)
    (hf4 : ∀ i, ((((m ((c : Thread nD τ).loc main_arg4)) i : EReal).toReal : ℝ) : EReal) = (m ((c : Thread nD τ).loc main_arg4)) i)
    (hf5 : ∀ i, ((((m ((c : Thread nD τ).loc main_arg5)) i : EReal).toReal : ℝ) : EReal) = (m ((c : Thread nD τ).loc main_arg5)) i)
    (hf6 : ∀ i, ((((m ((c : Thread nD τ).loc main_arg6)) i : EReal).toReal : ℝ) : EReal) = (m ((c : Thread nD τ).loc main_arg6)) i)
    (hf7 : ∀ i, ((((m ((c : Thread nD τ).loc main_arg7)) i : EReal).toReal : ℝ) : EReal) = (m ((c : Thread nD τ).loc main_arg7)) i)

include hf0 hf1 hf2 hf3 hf4 hf5 hf6 hf7

/-- The gradient of the state, after each point. -/
theorem state : ∀ (n : ℕ) (hn : n < cfg0.N), (outsAt0 m c n hn).2.2.2.2.2.2 = C3 .f32 (fam fun b h => Dd (inp m c) b h (2 * n + 2)) := by
  intro n
  induction n with
  | zero =>
    intro hn
    obtain ⟨t, et⟩ : ∃ t : Fin cfg0.N, t = ⟨0, hn⟩ := ⟨_, rfl⟩
    have ht : t.val < 16 := t.isLt
    have h := ScanA.out_14 m c t (by rw [et]; rfl) _ _ _ _ _ _ _ _ (fam fun b h => Dd (inp m c) b h (2 * t.val)) (by rw [et]; rfl) (blk_0 m c t hf0) (blk_1 m c t hf1) (blk_2 m c t hf2) (blk_3 m c t hf3) (blk_4 m c t hf4) (blk_5 m c t hf5) (blk_6 m c t hf6) (blk_7 m c t hf7)
    simp only [stk_64 _ t.val ht, stk_0 _ t.val ht, stka_64 _ t.val ht, stka_0 _ t.val ht, stkg_64 _ t.val ht, stkg_0 _ t.val ht, stks_64 _ t.val ht, stks_0 _ t.val ht] at h
    subst et
    exact h
  | succ n ih =>
    intro hn
    obtain ⟨t, et⟩ : ∃ t : Fin cfg0.N, t = ⟨n + 1, hn⟩ := ⟨_, rfl⟩
    have ht : t.val < 16 := t.isLt
    have h := ScanB.out_14 m c t (by rw [et] at ht ⊢; dsimp only at ht ⊢; omega) _ _ _ _ _ _ _ _ (fam fun b h => Dd (inp m c) b h (2 * t.val))
      (by subst et; exact ih _) (blk_0 m c t hf0) (blk_1 m c t hf1) (blk_2 m c t hf2) (blk_3 m c t hf3) (blk_4 m c t hf4) (blk_5 m c t hf5) (blk_6 m c t hf6) (blk_7 m c t hf7)
    simp only [stk_64 _ t.val ht, stk_0 _ t.val ht, stka_64 _ t.val ht, stka_0 _ t.val ht, stkg_64 _ t.val ht, stkg_0 _ t.val ht, stks_64 _ t.val ht, stks_0 _ t.val ht] at h
    subst et
    exact h

theorem blkOut_8 (t : Fin cfg0.N) : (outsAt0 m c t.val t.isLt).1
    = C3 .f32 (join (q := 128) (fam fun b h => DU (inp m c) b h ⟨31 - 2 * t.val, by omega⟩) (fam fun b h => DU (inp m c) b h ⟨31 - (2 * t.val + 1), by omega⟩)) := by
  have ht : t.val < 16 := t.isLt
  have e1 : 31 - (31 - 2 * t.val) = 2 * t.val := by omega
  have e0 : 31 - (31 - (2 * t.val + 1)) = 2 * t.val + 1 := by omega
  by_cases h0 : t.val % 16 = 0
  · have hz : t.val = 0 := by omega
    have h := ScanA.out_8 m c t h0 _ _ _ _ _ _ _ _ (fam fun b h => Dd (inp m c) b h (2 * t.val)) (by rw [hz]; rfl) (blk_0 m c t hf0) (blk_1 m c t hf1) (blk_2 m c t hf2) (blk_3 m c t hf3) (blk_4 m c t hf4) (blk_5 m c t hf5) (blk_6 m c t hf6) (blk_7 m c t hf7)
    simp only [stk_64 _ t.val ht, stk_0 _ t.val ht, stka_64 _ t.val ht, stka_0 _ t.val ht, stkg_64 _ t.val ht, stkg_0 _ t.val ht, stks_64 _ t.val ht, stks_0 _ t.val ht] at h
    refine h.trans (congrArg (C3 .f32) (congrArg₂ join (funext fun p => ?_) (funext fun p => ?_)))
    · simp only [DW, DU, DQ, DK, DA, DG, e1]; rfl
    · simp only [DW, DU, DQ, DK, DA, DG, e0]; rfl
  · have h := ScanB.out_8 m c t h0 _ _ _ _ _ _ _ _ (fam fun b h => Dd (inp m c) b h (2 * t.val))
      (by rw [state m c hf0 hf1 hf2 hf3 hf4 hf5 hf6 hf7 (t.val - 1) (by omega)]; congr 1; rw [show 2 * (t.val - 1) + 2 = 2 * t.val by omega]) (blk_0 m c t hf0) (blk_1 m c t hf1) (blk_2 m c t hf2) (blk_3 m c t hf3) (blk_4 m c t hf4) (blk_5 m c t hf5) (blk_6 m c t hf6) (blk_7 m c t hf7)
    simp only [stk_64 _ t.val ht, stk_0 _ t.val ht, stka_64 _ t.val ht, stka_0 _ t.val ht, stkg_64 _ t.val ht, stkg_0 _ t.val ht, stks_64 _ t.val ht, stks_0 _ t.val ht] at h
    refine h.trans (congrArg (C3 .f32) (congrArg₂ join (funext fun p => ?_) (funext fun p => ?_)))
    · simp only [DW, DU, DQ, DK, DA, DG, e1]; rfl
    · simp only [DW, DU, DQ, DK, DA, DG, e0]; rfl

theorem final_8 : (dats m 0 c).arrAt 8 cfg0.N = (C3 .f32 (whole (q := 128) (DU (inp m c))) : FVec Ideal S2x2048x768 .f32) := by
  refine (dats m 0 c).arrAt_eq_of_covers 8 _ (by decide +kernel) fun t hf y => ?_
  have ht : t.val < 16 := t.isLt
  blk_simp
  rw [after0_8, blkOut_8 m c hf0 hf1 hf2 hf3 hf4 hf5 hf6 hf7]
  generalize DU (inp m c) = Z
  refine (join_at (q := 128) Z t.val ht y).trans (congrArg (C3 .f32 (whole (q := 128) Z)) ?_)
  blk_ext [idx]

theorem blkOut_9 (t : Fin cfg0.N) : (outsAt0 m c t.val t.isLt).2.1
    = C3 .f32 (join (q := 128) (fam fun b h => DW (inp m c) b h ⟨31 - 2 * t.val, by omega⟩) (fam fun b h => DW (inp m c) b h ⟨31 - (2 * t.val + 1), by omega⟩)) := by
  have ht : t.val < 16 := t.isLt
  have e1 : 31 - (31 - 2 * t.val) = 2 * t.val := by omega
  have e0 : 31 - (31 - (2 * t.val + 1)) = 2 * t.val + 1 := by omega
  by_cases h0 : t.val % 16 = 0
  · have hz : t.val = 0 := by omega
    have h := ScanA.out_9 m c t h0 _ _ _ _ _ _ _ _ (fam fun b h => Dd (inp m c) b h (2 * t.val)) (by rw [hz]; rfl) (blk_0 m c t hf0) (blk_1 m c t hf1) (blk_2 m c t hf2) (blk_3 m c t hf3) (blk_4 m c t hf4) (blk_5 m c t hf5) (blk_6 m c t hf6) (blk_7 m c t hf7)
    simp only [stk_64 _ t.val ht, stk_0 _ t.val ht, stka_64 _ t.val ht, stka_0 _ t.val ht, stkg_64 _ t.val ht, stkg_0 _ t.val ht, stks_64 _ t.val ht, stks_0 _ t.val ht] at h
    refine h.trans (congrArg (C3 .f32) (congrArg₂ join (funext fun p => ?_) (funext fun p => ?_)))
    · simp only [DW, DU, DQ, DK, DA, DG, e1]; rfl
    · simp only [DW, DU, DQ, DK, DA, DG, e0]; rfl
  · have h := ScanB.out_9 m c t h0 _ _ _ _ _ _ _ _ (fam fun b h => Dd (inp m c) b h (2 * t.val))
      (by rw [state m c hf0 hf1 hf2 hf3 hf4 hf5 hf6 hf7 (t.val - 1) (by omega)]; congr 1; rw [show 2 * (t.val - 1) + 2 = 2 * t.val by omega]) (blk_0 m c t hf0) (blk_1 m c t hf1) (blk_2 m c t hf2) (blk_3 m c t hf3) (blk_4 m c t hf4) (blk_5 m c t hf5) (blk_6 m c t hf6) (blk_7 m c t hf7)
    simp only [stk_64 _ t.val ht, stk_0 _ t.val ht, stka_64 _ t.val ht, stka_0 _ t.val ht, stkg_64 _ t.val ht, stkg_0 _ t.val ht, stks_64 _ t.val ht, stks_0 _ t.val ht] at h
    refine h.trans (congrArg (C3 .f32) (congrArg₂ join (funext fun p => ?_) (funext fun p => ?_)))
    · simp only [DW, DU, DQ, DK, DA, DG, e1]; rfl
    · simp only [DW, DU, DQ, DK, DA, DG, e0]; rfl

theorem final_9 : (dats m 0 c).arrAt 9 cfg0.N = (C3 .f32 (whole (q := 128) (DW (inp m c))) : FVec Ideal S2x2048x768 .f32) := by
  refine (dats m 0 c).arrAt_eq_of_covers 9 _ (by decide +kernel) fun t hf y => ?_
  have ht : t.val < 16 := t.isLt
  blk_simp
  rw [after0_9, blkOut_9 m c hf0 hf1 hf2 hf3 hf4 hf5 hf6 hf7]
  generalize DW (inp m c) = Z
  refine (join_at (q := 128) Z t.val ht y).trans (congrArg (C3 .f32 (whole (q := 128) Z)) ?_)
  blk_ext [idx]

theorem blkOut_10 (t : Fin cfg0.N) : (outsAt0 m c t.val t.isLt).2.2.1
    = C3 .f32 (join (q := 128) (fam fun b h => DQ (inp m c) b h ⟨31 - 2 * t.val, by omega⟩) (fam fun b h => DQ (inp m c) b h ⟨31 - (2 * t.val + 1), by omega⟩)) := by
  have ht : t.val < 16 := t.isLt
  have e1 : 31 - (31 - 2 * t.val) = 2 * t.val := by omega
  have e0 : 31 - (31 - (2 * t.val + 1)) = 2 * t.val + 1 := by omega
  by_cases h0 : t.val % 16 = 0
  · have hz : t.val = 0 := by omega
    have h := ScanA.out_10 m c t h0 _ _ _ _ _ _ _ _ (fam fun b h => Dd (inp m c) b h (2 * t.val)) (by rw [hz]; rfl) (blk_0 m c t hf0) (blk_1 m c t hf1) (blk_2 m c t hf2) (blk_3 m c t hf3) (blk_4 m c t hf4) (blk_5 m c t hf5) (blk_6 m c t hf6) (blk_7 m c t hf7)
    simp only [stk_64 _ t.val ht, stk_0 _ t.val ht, stka_64 _ t.val ht, stka_0 _ t.val ht, stkg_64 _ t.val ht, stkg_0 _ t.val ht, stks_64 _ t.val ht, stks_0 _ t.val ht] at h
    refine h.trans (congrArg (C3 .f32) (congrArg₂ join (funext fun p => ?_) (funext fun p => ?_)))
    · simp only [DW, DU, DQ, DK, DA, DG, e1]; rfl
    · simp only [DW, DU, DQ, DK, DA, DG, e0]; rfl
  · have h := ScanB.out_10 m c t h0 _ _ _ _ _ _ _ _ (fam fun b h => Dd (inp m c) b h (2 * t.val))
      (by rw [state m c hf0 hf1 hf2 hf3 hf4 hf5 hf6 hf7 (t.val - 1) (by omega)]; congr 1; rw [show 2 * (t.val - 1) + 2 = 2 * t.val by omega]) (blk_0 m c t hf0) (blk_1 m c t hf1) (blk_2 m c t hf2) (blk_3 m c t hf3) (blk_4 m c t hf4) (blk_5 m c t hf5) (blk_6 m c t hf6) (blk_7 m c t hf7)
    simp only [stk_64 _ t.val ht, stk_0 _ t.val ht, stka_64 _ t.val ht, stka_0 _ t.val ht, stkg_64 _ t.val ht, stkg_0 _ t.val ht, stks_64 _ t.val ht, stks_0 _ t.val ht] at h
    refine h.trans (congrArg (C3 .f32) (congrArg₂ join (funext fun p => ?_) (funext fun p => ?_)))
    · simp only [DW, DU, DQ, DK, DA, DG, e1]; rfl
    · simp only [DW, DU, DQ, DK, DA, DG, e0]; rfl

theorem final_10 : (dats m 0 c).arrAt 10 cfg0.N = (C3 .f32 (whole (q := 128) (DQ (inp m c))) : FVec Ideal S2x2048x768 .f32) := by
  refine (dats m 0 c).arrAt_eq_of_covers 10 _ (by decide +kernel) fun t hf y => ?_
  have ht : t.val < 16 := t.isLt
  blk_simp
  rw [after0_10, blkOut_10 m c hf0 hf1 hf2 hf3 hf4 hf5 hf6 hf7]
  generalize DQ (inp m c) = Z
  refine (join_at (q := 128) Z t.val ht y).trans (congrArg (C3 .f32 (whole (q := 128) Z)) ?_)
  blk_ext [idx]

theorem blkOut_11 (t : Fin cfg0.N) : (outsAt0 m c t.val t.isLt).2.2.2.1
    = C3 .f32 (join (q := 128) (fam fun b h => DK (inp m c) b h ⟨31 - 2 * t.val, by omega⟩) (fam fun b h => DK (inp m c) b h ⟨31 - (2 * t.val + 1), by omega⟩)) := by
  have ht : t.val < 16 := t.isLt
  have e1 : 31 - (31 - 2 * t.val) = 2 * t.val := by omega
  have e0 : 31 - (31 - (2 * t.val + 1)) = 2 * t.val + 1 := by omega
  by_cases h0 : t.val % 16 = 0
  · have hz : t.val = 0 := by omega
    have h := ScanA.out_11 m c t h0 _ _ _ _ _ _ _ _ (fam fun b h => Dd (inp m c) b h (2 * t.val)) (by rw [hz]; rfl) (blk_0 m c t hf0) (blk_1 m c t hf1) (blk_2 m c t hf2) (blk_3 m c t hf3) (blk_4 m c t hf4) (blk_5 m c t hf5) (blk_6 m c t hf6) (blk_7 m c t hf7)
    simp only [stk_64 _ t.val ht, stk_0 _ t.val ht, stka_64 _ t.val ht, stka_0 _ t.val ht, stkg_64 _ t.val ht, stkg_0 _ t.val ht, stks_64 _ t.val ht, stks_0 _ t.val ht] at h
    refine h.trans (congrArg (C3 .f32) (congrArg₂ join (funext fun p => ?_) (funext fun p => ?_)))
    · simp only [DW, DU, DQ, DK, DA, DG, e1]; rfl
    · simp only [DW, DU, DQ, DK, DA, DG, e0]; rfl
  · have h := ScanB.out_11 m c t h0 _ _ _ _ _ _ _ _ (fam fun b h => Dd (inp m c) b h (2 * t.val))
      (by rw [state m c hf0 hf1 hf2 hf3 hf4 hf5 hf6 hf7 (t.val - 1) (by omega)]; congr 1; rw [show 2 * (t.val - 1) + 2 = 2 * t.val by omega]) (blk_0 m c t hf0) (blk_1 m c t hf1) (blk_2 m c t hf2) (blk_3 m c t hf3) (blk_4 m c t hf4) (blk_5 m c t hf5) (blk_6 m c t hf6) (blk_7 m c t hf7)
    simp only [stk_64 _ t.val ht, stk_0 _ t.val ht, stka_64 _ t.val ht, stka_0 _ t.val ht, stkg_64 _ t.val ht, stkg_0 _ t.val ht, stks_64 _ t.val ht, stks_0 _ t.val ht] at h
    refine h.trans (congrArg (C3 .f32) (congrArg₂ join (funext fun p => ?_) (funext fun p => ?_)))
    · simp only [DW, DU, DQ, DK, DA, DG, e1]; rfl
    · simp only [DW, DU, DQ, DK, DA, DG, e0]; rfl

theorem final_11 : (dats m 0 c).arrAt 11 cfg0.N = (C3 .f32 (whole (q := 128) (DK (inp m c))) : FVec Ideal S2x2048x768 .f32) := by
  refine (dats m 0 c).arrAt_eq_of_covers 11 _ (by decide +kernel) fun t hf y => ?_
  have ht : t.val < 16 := t.isLt
  blk_simp
  rw [after0_11, blkOut_11 m c hf0 hf1 hf2 hf3 hf4 hf5 hf6 hf7]
  generalize DK (inp m c) = Z
  refine (join_at (q := 128) Z t.val ht y).trans (congrArg (C3 .f32 (whole (q := 128) Z)) ?_)
  blk_ext [idx]

theorem blkOut_12 (t : Fin cfg0.N) : (outsAt0 m c t.val t.isLt).2.2.2.2.1
    = C3 .f32 (join (q := 64) (fam fun b h => DA (inp m c) b h ⟨31 - 2 * t.val, by omega⟩) (fam fun b h => DA (inp m c) b h ⟨31 - (2 * t.val + 1), by omega⟩)) := by
  have ht : t.val < 16 := t.isLt
  have e1 : 31 - (31 - 2 * t.val) = 2 * t.val := by omega
  have e0 : 31 - (31 - (2 * t.val + 1)) = 2 * t.val + 1 := by omega
  by_cases h0 : t.val % 16 = 0
  · have hz : t.val = 0 := by omega
    have h := ScanA.out_12 m c t h0 _ _ _ _ _ _ _ _ (fam fun b h => Dd (inp m c) b h (2 * t.val)) (by rw [hz]; rfl) (blk_0 m c t hf0) (blk_1 m c t hf1) (blk_2 m c t hf2) (blk_3 m c t hf3) (blk_4 m c t hf4) (blk_5 m c t hf5) (blk_6 m c t hf6) (blk_7 m c t hf7)
    simp only [stk_64 _ t.val ht, stk_0 _ t.val ht, stka_64 _ t.val ht, stka_0 _ t.val ht, stkg_64 _ t.val ht, stkg_0 _ t.val ht, stks_64 _ t.val ht, stks_0 _ t.val ht] at h
    refine h.trans (congrArg (C3 .f32) (congrArg₂ join (funext fun p => ?_) (funext fun p => ?_)))
    · simp only [DW, DU, DQ, DK, DA, DG, e1]; rfl
    · simp only [DW, DU, DQ, DK, DA, DG, e0]; rfl
  · have h := ScanB.out_12 m c t h0 _ _ _ _ _ _ _ _ (fam fun b h => Dd (inp m c) b h (2 * t.val))
      (by rw [state m c hf0 hf1 hf2 hf3 hf4 hf5 hf6 hf7 (t.val - 1) (by omega)]; congr 1; rw [show 2 * (t.val - 1) + 2 = 2 * t.val by omega]) (blk_0 m c t hf0) (blk_1 m c t hf1) (blk_2 m c t hf2) (blk_3 m c t hf3) (blk_4 m c t hf4) (blk_5 m c t hf5) (blk_6 m c t hf6) (blk_7 m c t hf7)
    simp only [stk_64 _ t.val ht, stk_0 _ t.val ht, stka_64 _ t.val ht, stka_0 _ t.val ht, stkg_64 _ t.val ht, stkg_0 _ t.val ht, stks_64 _ t.val ht, stks_0 _ t.val ht] at h
    refine h.trans (congrArg (C3 .f32) (congrArg₂ join (funext fun p => ?_) (funext fun p => ?_)))
    · simp only [DW, DU, DQ, DK, DA, DG, e1]; rfl
    · simp only [DW, DU, DQ, DK, DA, DG, e0]; rfl

theorem final_12 : (dats m 0 c).arrAt 12 cfg0.N = (C3 .f32 (whole (q := 64) (DA (inp m c))) : FVec Ideal S2x2048x384 .f32) := by
  refine (dats m 0 c).arrAt_eq_of_covers 12 _ (by decide +kernel) fun t hf y => ?_
  have ht : t.val < 16 := t.isLt
  blk_simp
  rw [after0_12, blkOut_12 m c hf0 hf1 hf2 hf3 hf4 hf5 hf6 hf7]
  generalize DA (inp m c) = Z
  refine (join_at (q := 64) Z t.val ht y).trans (congrArg (C3 .f32 (whole (q := 64) Z)) ?_)
  blk_ext [idx]

theorem blkOut_13 (t : Fin cfg0.N) : (outsAt0 m c t.val t.isLt).2.2.2.2.2.1
    = C3 .f32 (joing (fam fun b h _ _ => DG (inp m c) b h ⟨31 - 2 * t.val, by omega⟩) (fam fun b h _ _ => DG (inp m c) b h ⟨31 - (2 * t.val + 1), by omega⟩)) := by
  have ht : t.val < 16 := t.isLt
  have e1 : 31 - (31 - 2 * t.val) = 2 * t.val := by omega
  have e0 : 31 - (31 - (2 * t.val + 1)) = 2 * t.val + 1 := by omega
  by_cases h0 : t.val % 16 = 0
  · have hz : t.val = 0 := by omega
    have h := ScanA.out_13 m c t h0 _ _ _ _ _ _ _ _ (fam fun b h => Dd (inp m c) b h (2 * t.val)) (by rw [hz]; rfl) (blk_0 m c t hf0) (blk_1 m c t hf1) (blk_2 m c t hf2) (blk_3 m c t hf3) (blk_4 m c t hf4) (blk_5 m c t hf5) (blk_6 m c t hf6) (blk_7 m c t hf7)
    simp only [stk_64 _ t.val ht, stk_0 _ t.val ht, stka_64 _ t.val ht, stka_0 _ t.val ht, stkg_64 _ t.val ht, stkg_0 _ t.val ht, stks_64 _ t.val ht, stks_0 _ t.val ht] at h
    refine h.trans (congrArg (C3 .f32) (congrArg₂ joing (funext fun p => ?_) (funext fun p => ?_)))
    · simp only [DW, DU, DQ, DK, DA, DG, e1]; rfl
    · simp only [DW, DU, DQ, DK, DA, DG, e0]; rfl
  · have h := ScanB.out_13 m c t h0 _ _ _ _ _ _ _ _ (fam fun b h => Dd (inp m c) b h (2 * t.val))
      (by rw [state m c hf0 hf1 hf2 hf3 hf4 hf5 hf6 hf7 (t.val - 1) (by omega)]; congr 1; rw [show 2 * (t.val - 1) + 2 = 2 * t.val by omega]) (blk_0 m c t hf0) (blk_1 m c t hf1) (blk_2 m c t hf2) (blk_3 m c t hf3) (blk_4 m c t hf4) (blk_5 m c t hf5) (blk_6 m c t hf6) (blk_7 m c t hf7)
    simp only [stk_64 _ t.val ht, stk_0 _ t.val ht, stka_64 _ t.val ht, stka_0 _ t.val ht, stkg_64 _ t.val ht, stkg_0 _ t.val ht, stks_64 _ t.val ht, stks_0 _ t.val ht] at h
    refine h.trans (congrArg (C3 .f32) (congrArg₂ joing (funext fun p => ?_) (funext fun p => ?_)))
    · simp only [DW, DU, DQ, DK, DA, DG, e1]; rfl
    · simp only [DW, DU, DQ, DK, DA, DG, e0]; rfl

theorem final_13 : (dats m 0 c).arrAt 13 cfg0.N = (C3 .f32 (wholeg (DG (inp m c))) : FVec Ideal S2x2048x128 .f32) := by
  refine (dats m 0 c).arrAt_eq_of_covers 13 _ (by decide +kernel) fun t hf y => ?_
  have ht : t.val < 16 := t.isLt
  blk_simp
  rw [after0_13, blkOut_13 m c hf0 hf1 hf2 hf3 hf4 hf5 hf6 hf7]
  generalize DG (inp m c) = Z
  refine (joing_at Z t.val ht y).trans (congrArg (C3 .f32 (wholeg Z)) ?_)
  blk_ext [idx]

end Cert.Proof.ScanKer
-- ==== Proof.ScanRefOps.lean ====
module

public import proofs.«01_k».proof.Proof.Gen.ReferenceIdeal.Run
public import proofs.«01_k».proof.Proof.ScanSpec
public import Idealize.ShloMosaic.Lib.Pipeline.ValueKit
public import Idealize.ShloMosaic.Lib.Pointwise
public import Idealize.ShloMosaic.Lib.DynamicIndex

/-! The backward scan's reference: its operations on families of real matrices. -/

@[expose] public section

set_option maxRecDepth 16384

noncomputable section

namespace Cert.Proof.ScanRefOps

open Cert.ReferenceIdeal Cert.ReferenceIdeal.Gen Cert.Proof.ScanOps Cert.Proof.ScanSpec
open Idealize.ShloMosaic Idealize.ShloMosaic.TcCoe Idealize.SL.Sem

/-- Matrices by sequence and head, as an array. -/
def C4 {p q : ℕ} (y : Fin 2 → Fin 6 → M p q) : FVec Ideal ⟨4, ![2, 6, p, q]⟩ .f32 := fun i => ((y (i 0) (i 1) (i 2) (i 3) : ℝ) : EReal)
/-- Numbers by sequence and head, as an array. -/
def CG (y : Fin 2 → Fin 6 → ℝ) : FVec Ideal ⟨2, ![2, 6]⟩ .f32 := fun i => ((y (i 0) (i 1) : ℝ) : EReal)
/-- Matrices by chunk, sequence and head, as an array. -/
def CS {p q : ℕ} (y : Fin 32 → Fin 2 → Fin 6 → M p q) : FVec Ideal ⟨5, ![32, 2, 6, p, q]⟩ .f32 :=
  fun i => ((y (i 0) (i 1) (i 2) (i 3) (i 4) : ℝ) : EReal)
/-- Numbers by chunk, sequence and head, as an array. -/
def CSG (y : Fin 32 → Fin 2 → Fin 6 → ℝ) : FVec Ideal ⟨3, ![32, 2, 6]⟩ .f32 := fun i => ((y (i 0) (i 1) (i 2) : ℝ) : EReal)

/-! ## Products, sums and transposes -/

theorem dA (x : Fin 2 → Fin 6 → M 128 128) (y : Fin 2 → Fin 6 → M 64 128) :
    Host.dotGeneral dot_S2x6x128x128_S2x6x64x128_S2x6x128x64_2_3_3_2_01_01 none (C4 x) (C4 y) = C4 fun b h => tr (mul (y b h) (x b h)) := by
  funext i; pointwise [C4, tr, mul, coe_sum]
  exact Fin.sum_fin_congr fun k => (EReal.coe_mul _ _).symm.trans (by rw [mul_comm])

theorem dB (x : Fin 2 → Fin 6 → M 64 128) (y : Fin 2 → Fin 6 → M 64 64) :
    Host.dotGeneral dot_S2x6x64x128_S2x6x64x64_S2x6x128x64_2_2_3_3_01_01 none (C4 x) (C4 y) = C4 fun b h => mul (tr (x b h)) (y b h) := by
  funext i; pointwise [C4, tr, mul, coe_sum]
  exact Fin.sum_fin_congr fun k => (EReal.coe_mul _ _).symm

theorem dC (x : Fin 2 → Fin 6 → M 64 128) (y : Fin 2 → Fin 6 → M 64 128) :
    Host.dotGeneral dot_S2x6x64x128_S2x6x64x128_S2x6x128x128_2_2_3_3_01_01 none (C4 x) (C4 y) = C4 fun b h => mul (tr (x b h)) (y b h) := by
  funext i; pointwise [C4, tr, mul, coe_sum]
  exact Fin.sum_fin_congr fun k => (EReal.coe_mul _ _).symm

theorem dE (x : Fin 2 → Fin 6 → M 64 128) (y : Fin 2 → Fin 6 → M 128 128) :
    Host.dotGeneral dot_S2x6x64x128_S2x6x128x128_S2x6x64x128_3_3_2_2_01_01 none (C4 x) (C4 y) = C4 fun b h => mul (x b h) (tr (y b h)) := by
  funext i; pointwise [C4, tr, mul, coe_sum]
  exact Fin.sum_fin_congr fun k => (EReal.coe_mul _ _).symm

theorem dF (x : Fin 2 → Fin 6 → M 128 128) (y : Fin 2 → Fin 6 → M 64 128) :
    Host.dotGeneral dot_S2x6x128x128_S2x6x64x128_S2x6x128x64_3_3_2_2_01_01 none (C4 x) (C4 y) = C4 fun b h => mul (x b h) (tr (y b h)) := by
  funext i; pointwise [C4, tr, mul, coe_sum]
  exact Fin.sum_fin_congr fun k => (EReal.coe_mul _ _).symm

theorem dG (x : Fin 2 → Fin 6 → M 64 128) (y : Fin 2 → Fin 6 → M 64 128) :
    Host.dotGeneral dot_S2x6x64x128_S2x6x64x128_S2x6x64x64_3_3_2_2_01_01 none (C4 x) (C4 y) = C4 fun b h => mul (x b h) (tr (y b h)) := by
  funext i; pointwise [C4, tr, mul, coe_sum]
  exact Fin.sum_fin_congr fun k => (EReal.coe_mul _ _).symm

theorem dH (x : Fin 2 → Fin 6 → M 64 128) (y : Fin 2 → Fin 6 → M 128 128) :
    Host.dotGeneral dot_S2x6x64x128_S2x6x128x128_S2x6x64x128_3_2_2_3_01_01 none (C4 x) (C4 y) = C4 fun b h => mul (x b h) (y b h) := by
  funext i; pointwise [C4, tr, mul, coe_sum]
  exact Fin.sum_fin_congr fun k => (EReal.coe_mul _ _).symm

theorem trA (x : Fin 2 → Fin 6 → M 128 64) (pm : List (Fin 4)) (hpm : pm = [0, 1, 3, 2]) (h) :
    transpose S2x6x64x128 pm (C4 x : FVec Ideal S2x6x128x64 .f32) h = C4 fun b h => tr (x b h) := by
  subst hpm; funext i; pointwise [C4, tr]

theorem trB (x : Fin 2 → Fin 6 → M 128 128) (pm : List (Fin 4)) (hpm : pm = [0, 1, 3, 2]) (h) :
    transpose S2x6x128x128 pm (C4 x : FVec Ideal S2x6x128x128 .f32) h = C4 fun b h => tr (x b h) := by
  subst hpm; funext i; pointwise [C4, tr]

variable {p q : ℕ}

theorem addf_C4 (a b : Fin 2 → Fin 6 → M p q) : addf (C4 a) (C4 b) = C4 fun s h => a s h + b s h := by
  funext i; pointwise [C4]; exact (EReal.coe_add _ _).symm
theorem subf_C4 (a b : Fin 2 → Fin 6 → M p q) : subf (C4 a) (C4 b) = C4 fun s h => a s h - b s h := by
  funext i; pointwise [C4]; exact (EReal.coe_sub _ _).symm
theorem mulf_C4 (a b : Fin 2 → Fin 6 → M p q) : mulf (C4 a) (C4 b) = C4 fun s h => a s h * b s h := by
  funext i; pointwise [C4]; exact (EReal.coe_mul _ _).symm
theorem negf_C4 (a : Fin 2 → Fin 6 → M p q) : Host.negf (C4 a) = C4 fun s h => -a s h := by
  funext i; pointwise [C4]; exact (EReal.coe_neg _).symm
theorem mulf_CG (a b : Fin 2 → Fin 6 → ℝ) : mulf (CG a) (CG b) = CG fun s h => a s h * b s h := by
  funext i; pointwise [CG]; exact (EReal.coe_mul _ _).symm
theorem exp_CG (a : Fin 2 → Fin 6 → ℝ) : Host.exp (CG a) = CG fun s h => Real.exp (a s h) := by
  funext i; pointwise [CG]; exact Ideal.exp_coe _
theorem spread1 (a : Fin 2 → Fin 6 → ℝ) : broadcastInDim S2x6x1x1 ![0, 1] bcast_S2x6_S2x6x1x1_0_1 (CG a) = C4 fun s h _ _ => a s h := by
  funext i; pointwise [CG, C4]
theorem spread2 (a : Fin 2 → Fin 6 → ℝ) :
    broadcastInDim S2x6x128x128 ![0, 1, 2, 3] bcast_S2x6x1x1_S2x6x128x128_0_1_2_3 (C4 (p := 1) (q := 1) fun s h _ _ => a s h) = C4 fun s h _ _ => a s h := by
  funext i; pointwise [C4]
theorem sums (x : Fin 2 → Fin 6 → M 128 128) :
    Host.reduceAdd (C4 x) (constant S_ .f32 0x00000000#32) reducesTo_S2x6x128x128_S2x6_d2_3 h_S_ = CG fun s h => ∑ i, ∑ j, x s h i j := by
  funext i; pointwise [C4, CG, coe_sum]
theorem sum1 (a : Fin 2 → Fin 6 → ℝ) :
    Host.reduceAdd (shapeCast S2x6x1x1 (CG a) shapeCasts_S2x6_S2x6x1x1) (constant S_ .f32 0x00000000#32) reducesTo_S2x6x1x1_S2x6_d2_3 h_S_ = CG a := by
  funext i; pointwise [C4, CG, coe_sum]
  simp

/-! ## A chunk of a stack, and a stack with a chunk replaced -/

theorem slice_64x128 (Y : Fin 32 → Fin 2 → Fin 6 → M 64 128) (n : Fin 32) (st : Fin 5 → Int) (h0 : st 0 = n.val) (h1 : st 1 = 0) (h2 : st 2 = 0) (h3 : st 3 = 0) (h4 : st 4 = 0) (h h') :
    shapeCast S2x6x64x128 (Host.dynamicSlice S1x2x6x64x128 (CS Y) st h) h' = C4 (Y n) := by
  have e0 : ∀ H, Host.clampedStart ⟨5, ![32, 2, 6, 64, 128]⟩ S1x2x6x64x128 H st 0 = n.val := fun H =>
    Host.clampedStart_of_le H st 0 n.val h0 (by show n.val + 1 ≤ 32; omega)
  have e1 : ∀ H, Host.clampedStart ⟨5, ![32, 2, 6, 64, 128]⟩ S1x2x6x64x128 H st 1 = 0 := fun H =>
    Host.clampedStart_of_le H st 1 0 h1 (by show 0 + 2 ≤ 2; omega)
  have e2 : ∀ H, Host.clampedStart ⟨5, ![32, 2, 6, 64, 128]⟩ S1x2x6x64x128 H st 2 = 0 := fun H =>
    Host.clampedStart_of_le H st 2 0 h2 (by show 0 + 6 ≤ 6; omega)
  have e3 : ∀ H, Host.clampedStart ⟨5, ![32, 2, 6, 64, 128]⟩ S1x2x6x64x128 H st 3 = 0 := fun H =>
    Host.clampedStart_of_le H st 3 0 h3 (by show 0 + 64 ≤ 64; omega)
  have e4 : ∀ H, Host.clampedStart ⟨5, ![32, 2, 6, 64, 128]⟩ S1x2x6x64x128 H st 4 = 0 := fun H =>
    Host.clampedStart_of_le H st 4 0 h4 (by show 0 + 128 ≤ 128; omega)
  funext i; pointwise [C4, CS]
  simp only [e0, e1, e2, e3, e4, Nat.zero_add]
  rfl

theorem upd_64x128 (Y : Fin 32 → Fin 2 → Fin 6 → M 64 128) (z : Fin 2 → Fin 6 → M 64 128) (n : Fin 32) (st : Fin 5 → Int) (h0 : st 0 = n.val) (h1 : st 1 = 0) (h2 : st 2 = 0) (h3 : st 3 = 0) (h4 : st 4 = 0) (h) :
    Host.dynamicUpdateSlice (CS Y) (broadcastInDim S1x2x6x64x128 ![1, 2, 3, 4] bcast_S2x6x64x128_S1x2x6x64x128_1_2_3_4 (C4 z)) st h
      = CS (Function.update Y n z) := by
  have e0 : ∀ H, Host.clampedStart ⟨5, ![32, 2, 6, 64, 128]⟩ S1x2x6x64x128 H st 0 = n.val := fun H =>
    Host.clampedStart_of_le H st 0 n.val h0 (by show n.val + 1 ≤ 32; omega)
  have e1 : ∀ H, Host.clampedStart ⟨5, ![32, 2, 6, 64, 128]⟩ S1x2x6x64x128 H st 1 = 0 := fun H =>
    Host.clampedStart_of_le H st 1 0 h1 (by show 0 + 2 ≤ 2; omega)
  have e2 : ∀ H, Host.clampedStart ⟨5, ![32, 2, 6, 64, 128]⟩ S1x2x6x64x128 H st 2 = 0 := fun H =>
    Host.clampedStart_of_le H st 2 0 h2 (by show 0 + 6 ≤ 6; omega)
  have e3 : ∀ H, Host.clampedStart ⟨5, ![32, 2, 6, 64, 128]⟩ S1x2x6x64x128 H st 3 = 0 := fun H =>
    Host.clampedStart_of_le H st 3 0 h3 (by show 0 + 64 ≤ 64; omega)
  have e4 : ∀ H, Host.clampedStart ⟨5, ![32, 2, 6, 64, 128]⟩ S1x2x6x64x128 H st 4 = 0 := fun H =>
    Host.clampedStart_of_le H st 4 0 h4 (by show 0 + 128 ≤ 128; omega)
  funext i; pointwise [C4, CS]
  simp only [e0, e1, e2, e3, e4, Nat.zero_add, Nat.sub_zero]
  have b1 : (i 1).val < 2 := (i 1).isLt
  have b2 : (i 2).val < 6 := (i 2).isLt
  have b3 : (i 3).val < 64 := (i 3).isLt
  have b4 : (i 4).val < 128 := (i 4).isLt
  by_cases hi : (i 0).val = n.val
  · have e : Function.update Y n z (i 0) = z := (Function.update_apply Y n z (i 0)).trans (if_pos (Fin.ext hi))
    rw [dif_pos (by omega), e]
    rfl
  · have e : Function.update Y n z (i 0) = Y (i 0) :=
      (Function.update_apply Y n z (i 0)).trans (if_neg fun h => hi (congrArg Fin.val h))
    rw [dif_neg (by omega), e]

theorem slice_64x64 (Y : Fin 32 → Fin 2 → Fin 6 → M 64 64) (n : Fin 32) (st : Fin 5 → Int) (h0 : st 0 = n.val) (h1 : st 1 = 0) (h2 : st 2 = 0) (h3 : st 3 = 0) (h4 : st 4 = 0) (h h') :
    shapeCast S2x6x64x64 (Host.dynamicSlice S1x2x6x64x64 (CS Y) st h) h' = C4 (Y n) := by
  have e0 : ∀ H, Host.clampedStart ⟨5, ![32, 2, 6, 64, 64]⟩ S1x2x6x64x64 H st 0 = n.val := fun H =>
    Host.clampedStart_of_le H st 0 n.val h0 (by show n.val + 1 ≤ 32; omega)
  have e1 : ∀ H, Host.clampedStart ⟨5, ![32, 2, 6, 64, 64]⟩ S1x2x6x64x64 H st 1 = 0 := fun H =>
    Host.clampedStart_of_le H st 1 0 h1 (by show 0 + 2 ≤ 2; omega)
  have e2 : ∀ H, Host.clampedStart ⟨5, ![32, 2, 6, 64, 64]⟩ S1x2x6x64x64 H st 2 = 0 := fun H =>
    Host.clampedStart_of_le H st 2 0 h2 (by show 0 + 6 ≤ 6; omega)
  have e3 : ∀ H, Host.clampedStart ⟨5, ![32, 2, 6, 64, 64]⟩ S1x2x6x64x64 H st 3 = 0 := fun H =>
    Host.clampedStart_of_le H st 3 0 h3 (by show 0 + 64 ≤ 64; omega)
  have e4 : ∀ H, Host.clampedStart ⟨5, ![32, 2, 6, 64, 64]⟩ S1x2x6x64x64 H st 4 = 0 := fun H =>
    Host.clampedStart_of_le H st 4 0 h4 (by show 0 + 64 ≤ 64; omega)
  funext i; pointwise [C4, CS]
  simp only [e0, e1, e2, e3, e4, Nat.zero_add]
  rfl

theorem upd_64x64 (Y : Fin 32 → Fin 2 → Fin 6 → M 64 64) (z : Fin 2 → Fin 6 → M 64 64) (n : Fin 32) (st : Fin 5 → Int) (h0 : st 0 = n.val) (h1 : st 1 = 0) (h2 : st 2 = 0) (h3 : st 3 = 0) (h4 : st 4 = 0) (h) :
    Host.dynamicUpdateSlice (CS Y) (broadcastInDim S1x2x6x64x64 ![1, 2, 3, 4] bcast_S2x6x64x64_S1x2x6x64x64_1_2_3_4 (C4 z)) st h
      = CS (Function.update Y n z) := by
  have e0 : ∀ H, Host.clampedStart ⟨5, ![32, 2, 6, 64, 64]⟩ S1x2x6x64x64 H st 0 = n.val := fun H =>
    Host.clampedStart_of_le H st 0 n.val h0 (by show n.val + 1 ≤ 32; omega)
  have e1 : ∀ H, Host.clampedStart ⟨5, ![32, 2, 6, 64, 64]⟩ S1x2x6x64x64 H st 1 = 0 := fun H =>
    Host.clampedStart_of_le H st 1 0 h1 (by show 0 + 2 ≤ 2; omega)
  have e2 : ∀ H, Host.clampedStart ⟨5, ![32, 2, 6, 64, 64]⟩ S1x2x6x64x64 H st 2 = 0 := fun H =>
    Host.clampedStart_of_le H st 2 0 h2 (by show 0 + 6 ≤ 6; omega)
  have e3 : ∀ H, Host.clampedStart ⟨5, ![32, 2, 6, 64, 64]⟩ S1x2x6x64x64 H st 3 = 0 := fun H =>
    Host.clampedStart_of_le H st 3 0 h3 (by show 0 + 64 ≤ 64; omega)
  have e4 : ∀ H, Host.clampedStart ⟨5, ![32, 2, 6, 64, 64]⟩ S1x2x6x64x64 H st 4 = 0 := fun H =>
    Host.clampedStart_of_le H st 4 0 h4 (by show 0 + 64 ≤ 64; omega)
  funext i; pointwise [C4, CS]
  simp only [e0, e1, e2, e3, e4, Nat.zero_add, Nat.sub_zero]
  have b1 : (i 1).val < 2 := (i 1).isLt
  have b2 : (i 2).val < 6 := (i 2).isLt
  have b3 : (i 3).val < 64 := (i 3).isLt
  have b4 : (i 4).val < 64 := (i 4).isLt
  by_cases hi : (i 0).val = n.val
  · have e : Function.update Y n z (i 0) = z := (Function.update_apply Y n z (i 0)).trans (if_pos (Fin.ext hi))
    rw [dif_pos (by omega), e]
    rfl
  · have e : Function.update Y n z (i 0) = Y (i 0) :=
      (Function.update_apply Y n z (i 0)).trans (if_neg fun h => hi (congrArg Fin.val h))
    rw [dif_neg (by omega), e]

theorem slice_128x128 (Y : Fin 32 → Fin 2 → Fin 6 → M 128 128) (n : Fin 32) (st : Fin 5 → Int) (h0 : st 0 = n.val) (h1 : st 1 = 0) (h2 : st 2 = 0) (h3 : st 3 = 0) (h4 : st 4 = 0) (h h') :
    shapeCast S2x6x128x128 (Host.dynamicSlice S1x2x6x128x128 (CS Y) st h) h' = C4 (Y n) := by
  have e0 : ∀ H, Host.clampedStart ⟨5, ![32, 2, 6, 128, 128]⟩ S1x2x6x128x128 H st 0 = n.val := fun H =>
    Host.clampedStart_of_le H st 0 n.val h0 (by show n.val + 1 ≤ 32; omega)
  have e1 : ∀ H, Host.clampedStart ⟨5, ![32, 2, 6, 128, 128]⟩ S1x2x6x128x128 H st 1 = 0 := fun H =>
    Host.clampedStart_of_le H st 1 0 h1 (by show 0 + 2 ≤ 2; omega)
  have e2 : ∀ H, Host.clampedStart ⟨5, ![32, 2, 6, 128, 128]⟩ S1x2x6x128x128 H st 2 = 0 := fun H =>
    Host.clampedStart_of_le H st 2 0 h2 (by show 0 + 6 ≤ 6; omega)
  have e3 : ∀ H, Host.clampedStart ⟨5, ![32, 2, 6, 128, 128]⟩ S1x2x6x128x128 H st 3 = 0 := fun H =>
    Host.clampedStart_of_le H st 3 0 h3 (by show 0 + 128 ≤ 128; omega)
  have e4 : ∀ H, Host.clampedStart ⟨5, ![32, 2, 6, 128, 128]⟩ S1x2x6x128x128 H st 4 = 0 := fun H =>
    Host.clampedStart_of_le H st 4 0 h4 (by show 0 + 128 ≤ 128; omega)
  funext i; pointwise [C4, CS]
  simp only [e0, e1, e2, e3, e4, Nat.zero_add]
  rfl

theorem slice_g (Y : Fin 32 → Fin 2 → Fin 6 → ℝ) (n : Fin 32) (st : Fin 3 → Int) (h0 : st 0 = n.val) (h1 : st 1 = 0) (h2 : st 2 = 0) (h h') :
    shapeCast S2x6 (Host.dynamicSlice S1x2x6 (CSG Y) st h) h' = CG (Y n) := by
  have e0 : ∀ H, Host.clampedStart ⟨3, ![32, 2, 6]⟩ S1x2x6 H st 0 = n.val := fun H =>
    Host.clampedStart_of_le H st 0 n.val h0 (by show n.val + 1 ≤ 32; omega)
  have e1 : ∀ H, Host.clampedStart ⟨3, ![32, 2, 6]⟩ S1x2x6 H st 1 = 0 := fun H =>
    Host.clampedStart_of_le H st 1 0 h1 (by show 0 + 2 ≤ 2; omega)
  have e2 : ∀ H, Host.clampedStart ⟨3, ![32, 2, 6]⟩ S1x2x6 H st 2 = 0 := fun H =>
    Host.clampedStart_of_le H st 2 0 h2 (by show 0 + 6 ≤ 6; omega)
  funext i; pointwise [CG, CSG]
  simp only [e0, e1, e2, Nat.zero_add]
  rfl

theorem upd_g (Y : Fin 32 → Fin 2 → Fin 6 → ℝ) (z : Fin 2 → Fin 6 → ℝ) (n : Fin 32) (st : Fin 3 → Int) (h0 : st 0 = n.val) (h1 : st 1 = 0) (h2 : st 2 = 0) (h) :
    Host.dynamicUpdateSlice (CSG Y) (broadcastInDim S1x2x6 ![1, 2] bcast_S2x6_S1x2x6_1_2 (CG z)) st h
      = CSG (Function.update Y n z) := by
  have e0 : ∀ H, Host.clampedStart ⟨3, ![32, 2, 6]⟩ S1x2x6 H st 0 = n.val := fun H =>
    Host.clampedStart_of_le H st 0 n.val h0 (by show n.val + 1 ≤ 32; omega)
  have e1 : ∀ H, Host.clampedStart ⟨3, ![32, 2, 6]⟩ S1x2x6 H st 1 = 0 := fun H =>
    Host.clampedStart_of_le H st 1 0 h1 (by show 0 + 2 ≤ 2; omega)
  have e2 : ∀ H, Host.clampedStart ⟨3, ![32, 2, 6]⟩ S1x2x6 H st 2 = 0 := fun H =>
    Host.clampedStart_of_le H st 2 0 h2 (by show 0 + 6 ≤ 6; omega)
  funext i; pointwise [CG, CSG]
  simp only [e0, e1, e2, Nat.zero_add, Nat.sub_zero]
  have b1 : (i 1).val < 2 := (i 1).isLt
  have b2 : (i 2).val < 6 := (i 2).isLt
  by_cases hi : (i 0).val = n.val
  · have e : Function.update Y n z (i 0) = z := (Function.update_apply Y n z (i 0)).trans (if_pos (Fin.ext hi))
    rw [dif_pos (by omega), e]
    rfl
  · have e : Function.update Y n z (i 0) = Y (i 0) :=
      (Function.update_apply Y n z (i 0)).trans (if_neg fun h => hi (congrArg Fin.val h))
    rw [dif_neg (by omega), e]

end Cert.Proof.ScanRefOps
-- ==== Proof.ScanCut.lean ====
module

public import proofs.«01_k».proof.Proof.ScanRefOps

/-! The backward scan's reference: the arrays cut into chunks, and the chunks glued. -/

@[expose] public section

set_option maxRecDepth 16384

noncomputable section

namespace Cert.Proof.ScanCut

open Cert.ReferenceIdeal Cert.ReferenceIdeal.Gen Cert.Proof.ScanOps Cert.Proof.ScanSpec Cert.Proof.ScanRefOps
open Idealize.ShloMosaic Idealize.ShloMosaic.TcCoe Idealize.SL.Sem Idealize.ShloMosaic.StableHlo

variable (m : (ℓ : Loc nD τ sig) → Buf (Elt Ideal) ℓ)

/-! ## The chunks of the arrays, and the arrays of chunks -/

theorem at2 {p q : ℕ} (X : M p q) {i i' : Fin p} {j j' : Fin q} (hi : i.val = i'.val) (hj : j.val = j'.val) :
    ((X i j : ℝ) : EReal) = ((X i' j' : ℝ) : EReal) := by
  rw [Fin.ext hi, Fin.ext hj]
theorem at5 {p q : ℕ} (Y : Fin 32 → Fin 2 → Fin 6 → M p q) {n n' : Fin 32} {b b' : Fin 2} {h h' : Fin 6} {i i' : Fin p} {j j' : Fin q}
    (e0 : n.val = n'.val) (e1 : b.val = b'.val) (e2 : h.val = h'.val) (e3 : i.val = i'.val) (e4 : j.val = j'.val) :
    ((Y n b h i j : ℝ) : EReal) = ((Y n' b' h' i' j' : ℝ) : EReal) := by
  rw [Fin.ext e0, Fin.ext e1, Fin.ext e2, Fin.ext e3, Fin.ext e4]

theorem cut_128 (x : S4096x768.Idx → EReal) (X : M 4096 (6 * 128)) (hx : x = fun i => ((X (i 0) (i 1) : ℝ) : EReal)) :
    (transpose S32x2x6x64x128 [1, 0, 3, 2, 4] (shapeCast S2x32x64x6x128 x shapeCasts_S4096x768_S2x32x64x6x128) transposes_S2x32x64x6x128_S32x2x6x64x128_1_0_3_2_4 : FVec Ideal _ .f32)
      = CS fun n b h => hd (q := 128) X b h n := by
  subst hx
  funext i
  have b0 : (i 0).val < 32 := (i 0).isLt
  have b1 : (i 1).val < 2 := (i 1).isLt
  have b2 : (i 2).val < 6 := (i 2).isLt
  have b3 : (i 3).val < 64 := (i 3).isLt
  have b4 : (i 4).val < 128 := (i 4).isLt
  pointwise [CS, hd]
  refine at2 X ?_ ?_ <;> dsimp only <;> omega

theorem glue_128 (Z : Fin 2 → Fin 6 → Fin 32 → M 64 128) (h h') :
    (shapeCast S2x2048x768 (transpose S2x32x64x6x128 [1, 0, 3, 2, 4] (CS fun n b h => Z b h n) h) h' : FVec Ideal _ .f32)
      = fun i => ((whole Z (i 0) (i 1) (i 2) : ℝ) : EReal) := by
  funext i
  have b0 : (i 0).val < 2 := (i 0).isLt
  have b1 : (i 1).val < 2048 := (i 1).isLt
  have b2 : (i 2).val < 768 := (i 2).isLt
  pointwise [CS, whole]

theorem cut_64 (x : S4096x384.Idx → EReal) (X : M 4096 (6 * 64)) (hx : x = fun i => ((X (i 0) (i 1) : ℝ) : EReal)) :
    (transpose S32x2x6x64x64 [1, 0, 3, 2, 4] (shapeCast S2x32x64x6x64 x shapeCasts_S4096x384_S2x32x64x6x64) transposes_S2x32x64x6x64_S32x2x6x64x64_1_0_3_2_4 : FVec Ideal _ .f32)
      = CS fun n b h => hd (q := 64) X b h n := by
  subst hx
  funext i
  have b0 : (i 0).val < 32 := (i 0).isLt
  have b1 : (i 1).val < 2 := (i 1).isLt
  have b2 : (i 2).val < 6 := (i 2).isLt
  have b3 : (i 3).val < 64 := (i 3).isLt
  have b4 : (i 4).val < 64 := (i 4).isLt
  pointwise [CS, hd]
  refine at2 X ?_ ?_ <;> dsimp only <;> omega

theorem glue_64 (Z : Fin 2 → Fin 6 → Fin 32 → M 64 64) (h h') :
    (shapeCast S2x2048x384 (transpose S2x32x64x6x64 [1, 0, 3, 2, 4] (CS fun n b h => Z b h n) h) h' : FVec Ideal _ .f32)
      = fun i => ((whole Z (i 0) (i 1) (i 2) : ℝ) : EReal) := by
  funext i
  have b0 : (i 0).val < 2 := (i 0).isLt
  have b1 : (i 1).val < 2048 := (i 1).isLt
  have b2 : (i 2).val < 384 := (i 2).isLt
  pointwise [CS, whole]

theorem cut_g (x : S4096x128.Idx → EReal) (X : M 4096 128) (hx : x = fun i => ((X (i 0) (i 1) : ℝ) : EReal)) :
    (transpose S32x2x6 [1, 0, 2] (shapeCast S2x32x6 (extractStridedSlice S2x32x1x6 ![0, 0, 0, 0] (shapeCast S2x32x64x128 x shapeCasts_S4096x128_S2x32x64x128)
      slices_S2x32x64x128_S2x32x1x6_0_0_0_0) shapeCasts_S2x32x1x6_S2x32x6) transposes_S2x32x6_S32x2x6_1_0_2 : FVec Ideal _ .f32)
      = CSG fun n b h => hdg X b h n := by
  subst hx
  funext i
  have b0 : (i 0).val < 32 := (i 0).isLt
  have b1 : (i 1).val < 2 := (i 1).isLt
  have b2 : (i 2).val < 6 := (i 2).isLt
  pointwise [CSG, hdg]
  refine at2 X ?_ ?_ <;> dsimp only <;> omega

theorem cut_s (x : S2x32x6x128x128.Idx → EReal) (X : Fin 2 → Fin 32 → Fin 6 → M 128 128)
    (hx : x = fun i => ((X (i 0) (i 1) (i 2) (i 3) (i 4) : ℝ) : EReal)) :
    (transpose S32x2x6x128x128 [1, 0, 2, 3, 4] x transposes_S2x32x6x128x128_S32x2x6x128x128_1_0_2_3_4 : FVec Ideal _ .f32)
      = CS fun n b h => X b n h := by
  subst hx
  funext i
  pointwise [CS]

theorem int_zero : (FloatOps.sitofp .f32 0#32 : Ideal .f32) = ((0 : ℝ) : EReal) := by
  show (((0#32 : BitVec 32).toInt : ℝ) : EReal) = _
  simp

theorem pick (Z : Fin 2 → Fin 6 → Fin 32 → ℝ) (x : Fin 2) (a b : ℕ) (ha : a < 2048) (z : EReal) (hz : z = ((0 : ℝ) : EReal)) :
    (if h : a / 64 < 32 ∧ a % 64 < 1 ∧ b < 6 then ((Z x ⟨b, h.2.2⟩ ⟨a / 64, h.1⟩ : ℝ) : EReal) else z)
      = ((if h : b < 6 then if a % 64 = 0 then Z x ⟨b, h⟩ ⟨a / 64, by omega⟩ else 0 else 0 : ℝ) : EReal) := by
  by_cases h6 : b < 6
  · by_cases h7 : a % 64 = 0
    · rw [dif_pos ⟨by omega, by omega, h6⟩, dif_pos h6, if_pos h7]
    · rw [dif_neg (by omega), dif_pos h6, if_neg h7, hz]
  · rw [dif_neg (by omega), dif_neg h6, hz]

theorem glue_g (Z : Fin 2 → Fin 6 → Fin 32 → ℝ) (h h' h'' h₃ h₄) :
    (shapeCast S2x2048x128 (pad S2x32x64x128 ![0, 0, 0, 0] ![0, 0, 63, 122] ![0, 0, 0, 0] (broadcastInDim S2x32x1x6 ![0, 1, 3] h
      (transpose S2x32x6 [1, 0, 2] (CSG fun n b h => Z b h n) h')) (sitofp .f32 (constantI S_ 32 0#32)) h'' h₃) h₄ : FVec Ideal _ .f32)
      = fun i => ((wholeg Z (i 0) (i 1) (i 2) : ℝ) : EReal) := by
  funext i
  have b0 : (i 0).val < 2 := (i 0).isLt
  have b1 : (i 1).val < 2048 := (i 1).isLt
  have b2 : (i 2).val < 128 := (i 2).isLt
  pointwise [CSG, wholeg]
  exact pick Z (i 0) (i 1).val (i 2).val (i 1).isLt _ int_zero

end Cert.Proof.ScanCut
-- ==== Proof.ScanLoop.lean ====
module

public import proofs.«01_k».proof.Proof.ScanCut

/-! The backward scan's reference: its loop over the chunks. -/

@[expose] public section

set_option maxRecDepth 16384

noncomputable section

namespace Cert.Proof.ScanLoop

open Cert.ReferenceIdeal Cert.ReferenceIdeal.Gen Cert.ReferenceIdeal.Value Cert.Proof.ScanCut Cert.Proof.ScanOps Cert.Proof.ScanSpec Cert.Proof.ScanRefOps
open Idealize.ShloMosaic Idealize.ShloMosaic.TcCoe Idealize.SL.Sem Idealize.ShloMosaic.StableHlo
open Idealize.ShloMosaic.Tactic

variable (m : (ℓ : Loc nD τ sig) → Buf (Elt Ideal) ℓ)

/-! ## The loop -/

/-- What the loop's buffers hold before chunk `31 - j`. -/
structure Inv (I : In) (j : ℕ) (V : Valuation τ sig (Elt Ideal)) : Prop where
  s : V (Proc.devRef .tc main_v24_0) = CS fun n b h => I.s b h n
  q : V (Proc.devRef .tc main_v24_1) = CS fun n b h => I.q b h n
  k : V (Proc.devRef .tc main_v24_2) = CS fun n b h => I.k b h n
  u : V (Proc.devRef .tc main_v24_3) = CS fun n b h => I.u b h n
  w : V (Proc.devRef .tc main_v24_4) = CS fun n b h => I.w b h n
  g : V (Proc.devRef .tc main_v24_5) = CSG fun n b h => I.g b h n
  a : V (Proc.devRef .tc main_v24_6) = CS fun n b h => I.a b h n
  o : V (Proc.devRef .tc main_v24_7) = CS fun n b h => I.o b h n
  ctr : V (Proc.devRef .tc main_v24_8) = fun _ => Scf.iv 0#32 1#32 j
  D : V (Proc.devRef .tc main_v24_9) = C4 fun b h => Dd I b h j
  oDQ : ∃ Y, V (Proc.devRef .tc main_v24_10) = CS Y ∧ ∀ n b h, 31 - n.val < j → Y n b h = DQ I b h n
  oDK : ∃ Y, V (Proc.devRef .tc main_v24_11) = CS Y ∧ ∀ n b h, 31 - n.val < j → Y n b h = DK I b h n
  oDU : ∃ Y, V (Proc.devRef .tc main_v24_12) = CS Y ∧ ∀ n b h, 31 - n.val < j → Y n b h = DU I b h n
  oDW : ∃ Y, V (Proc.devRef .tc main_v24_13) = CS Y ∧ ∀ n b h, 31 - n.val < j → Y n b h = DW I b h n
  oDG : ∃ Y, V (Proc.devRef .tc main_v24_14) = CSG Y ∧ ∀ n b h, 31 - n.val < j → Y n b h = DG I b h n
  oDA : ∃ Y, V (Proc.devRef .tc main_v24_15) = CS Y ∧ ∀ n b h, 31 - n.val < j → Y n b h = DA I b h n

theorem upd_done {α : Type} (I : In) (Z : In → Fin 2 → Fin 6 → Fin 32 → α) (j : ℕ) (hj : j < 32) (Y : Fin 32 → Fin 2 → Fin 6 → α)
    (h : ∀ n b h, 31 - n.val < j → Y n b h = Z I b h n) (z : Fin 2 → Fin 6 → α) (hz : z = fun b h => Z I b h ⟨31 - j, by omega⟩) :
    ∀ n b h, 31 - n.val < j + 1 → Function.update Y ⟨31 - j, by omega⟩ z n b h = Z I b h n := by
  intro n b h' hn
  by_cases e : n = ⟨31 - j, by omega⟩
  · rw [e, Function.update_self, hz]
  · rw [Function.update_of_ne e]
    refine h n b h' ?_
    have : n.val ≠ 31 - j := fun hv => e (Fin.ext hv)
    omega

variable {I : In} {j : ℕ} {V : Valuation τ sig (Elt Ideal)} (H : Inv I j V) (hj : j < 32)
include H hj

theorem at_ctr : (res_main_while0b_v40 V (Shape.Idx.first h_S_)).toInt = (⟨31 - j, by omega⟩ : Fin 32).val := by
  unfold res_main_while0b_v40
  rw [H.ctr]
  have : ∀ k : Fin 32, ((32#32 - Scf.iv 0#32 1#32 k.val) - 1#32 : BitVec 32).toInt = ((31 - k.val : ℕ) : Int) := by decide +kernel
  exact this ⟨j, hj⟩

theorem v41 : res_main_while0b_v41 V = C4 fun b h => I.s b h ⟨31 - j, by omega⟩ := by
  unfold res_main_while0b_v41
  rw [H.s]
  exact slice_128x128 _ _ _ (at_ctr H hj) rfl rfl rfl rfl _ _

theorem v42 : res_main_while0b_v42 V = C4 fun b h => I.q b h ⟨31 - j, by omega⟩ := by
  unfold res_main_while0b_v42
  rw [H.q]
  exact slice_64x128 _ _ _ (at_ctr H hj) rfl rfl rfl rfl _ _

theorem v43 : res_main_while0b_v43 V = C4 fun b h => I.k b h ⟨31 - j, by omega⟩ := by
  unfold res_main_while0b_v43
  rw [H.k]
  exact slice_64x128 _ _ _ (at_ctr H hj) rfl rfl rfl rfl _ _

theorem v45 : res_main_while0b_v45 V = C4 fun b h => I.w b h ⟨31 - j, by omega⟩ := by
  unfold res_main_while0b_v45
  rw [H.w]
  exact slice_64x128 _ _ _ (at_ctr H hj) rfl rfl rfl rfl _ _

theorem v47 : res_main_while0b_v47 V = C4 fun b h => I.a b h ⟨31 - j, by omega⟩ := by
  unfold res_main_while0b_v47
  rw [H.a]
  exact slice_64x64 _ _ _ (at_ctr H hj) rfl rfl rfl rfl _ _

theorem v48 : res_main_while0b_v48 V = C4 fun b h => I.o b h ⟨31 - j, by omega⟩ := by
  unfold res_main_while0b_v48
  rw [H.o]
  exact slice_64x128 _ _ _ (at_ctr H hj) rfl rfl rfl rfl _ _

theorem v50 : res_main_while0b_v50 V = C4 fun b h => vv (I.s b h ⟨31 - j, by omega⟩) (I.u b h ⟨31 - j, by omega⟩) (I.w b h ⟨31 - j, by omega⟩) := by
  unfold res_main_while0b_v50
  rw [H.u, v45 H hj, v41 H hj, slice_64x128 _ _ _ (at_ctr H hj) rfl rfl rfl rfl, dH]
  exact subf_C4 _ _

theorem v54 : res_main_while0b_v54 V = CG fun b h => Real.exp (I.g b h ⟨31 - j, by omega⟩) := by
  unfold res_main_while0b_v54
  rw [H.g, slice_g _ _ _ (at_ctr H hj) rfl rfl]
  exact exp_CG _

theorem v73 : res_main_while0b_v73 V = C4 fun b h => DU I b h ⟨31 - j, by omega⟩ := by
  have e : 31 - (31 - j) = j := by omega
  unfold res_main_while0b_v73
  rw [H.D, v43 H hj, v48 H hj, v47 H hj, dA, dB, trA _ _ rfl, trA _ _ rfl]
  refine (addf_C4 _ _).trans ?_
  simp only [DU, e]
  rfl

theorem v79 : res_main_while0b_v79 V = C4 fun b h => -DU I b h ⟨31 - j, by omega⟩ := by
  unfold res_main_while0b_v79
  rw [v73 H hj]
  exact negf_C4 _

theorem s9 : step_main_v24_9 V = C4 fun b h => Dd I b h (j + 1) := by
  have e : 31 - (31 - j) = j := by omega
  unfold step_main_v24_9 res_main_while0b_v55
  rw [H.D, v48 H hj, v42 H hj, v79 H hj, v45 H hj, v54 H hj, spread1, spread2, mulf_C4, dC, dC, trB _ _ rfl, trB _ _ rfl, addf_C4]
  refine (addf_C4 _ _).trans ?_
  simp only [DU, e]
  rfl

theorem s10 (Y) (hY : V (Proc.devRef .tc main_v24_10) = CS Y) :
    step_main_v24_10 V = CS (Function.update Y ⟨31 - j, by omega⟩ fun b h => DQ I b h ⟨31 - j, by omega⟩) := by
  unfold step_main_v24_10
  rw [hY, v48 H hj, v41 H hj, dE]
  exact upd_64x128 _ _ _ _ (at_ctr H hj) rfl rfl rfl rfl _

theorem s11 (Y) (hY : V (Proc.devRef .tc main_v24_11) = CS Y) :
    step_main_v24_11 V = CS (Function.update Y ⟨31 - j, by omega⟩ fun b h => DK I b h ⟨31 - j, by omega⟩) := by
  have e : 31 - (31 - j) = j := by omega
  unfold step_main_v24_11
  rw [hY, H.D, v50 H hj, dF, trA _ _ rfl]
  simp only [DK, e]
  exact upd_64x128 _ _ _ _ (at_ctr H hj) rfl rfl rfl rfl _

theorem s12 (Y) (hY : V (Proc.devRef .tc main_v24_12) = CS Y) :
    step_main_v24_12 V = CS (Function.update Y ⟨31 - j, by omega⟩ fun b h => DU I b h ⟨31 - j, by omega⟩) := by
  unfold step_main_v24_12
  rw [hY, v73 H hj]
  exact upd_64x128 _ _ _ _ (at_ctr H hj) rfl rfl rfl rfl _

theorem s13 (Y) (hY : V (Proc.devRef .tc main_v24_13) = CS Y) :
    step_main_v24_13 V = CS (Function.update Y ⟨31 - j, by omega⟩ fun b h => DW I b h ⟨31 - j, by omega⟩) := by
  unfold step_main_v24_13
  rw [hY, v79 H hj, v41 H hj, dE]
  exact upd_64x128 _ _ _ _ (at_ctr H hj) rfl rfl rfl rfl _

theorem s14 (Y) (hY : V (Proc.devRef .tc main_v24_14) = CSG Y) :
    step_main_v24_14 V = CSG (Function.update Y ⟨31 - j, by omega⟩ fun b h => DG I b h ⟨31 - j, by omega⟩) := by
  have e : 31 - (31 - j) = j := by omega
  unfold step_main_v24_14
  rw [hY, H.D, v41 H hj, v54 H hj, mulf_C4, sums, sum1, mulf_CG]
  simp only [DG, e]
  exact upd_g _ _ _ _ (at_ctr H hj) rfl rfl _

theorem s15 (Y) (hY : V (Proc.devRef .tc main_v24_15) = CS Y) :
    step_main_v24_15 V = CS (Function.update Y ⟨31 - j, by omega⟩ fun b h => DA I b h ⟨31 - j, by omega⟩) := by
  unfold step_main_v24_15
  rw [hY, v48 H hj, v50 H hj, dG]
  exact upd_64x64 _ _ _ _ (at_ctr H hj) rfl rfl rfl rfl _

theorem step : Inv I (j + 1) (STEP V) where
  s := (STEP_main_v24_0 V).trans H.s
  q := (STEP_main_v24_1 V).trans H.q
  k := (STEP_main_v24_2 V).trans H.k
  u := (STEP_main_v24_3 V).trans H.u
  w := (STEP_main_v24_4 V).trans H.w
  g := (STEP_main_v24_5 V).trans H.g
  a := (STEP_main_v24_6 V).trans H.a
  o := (STEP_main_v24_7 V).trans H.o
  ctr := by
    rw [STEP_main_v24_8, Scf.iv_succ, step_main_v24_8, H.ctr]
    rfl
  D := (STEP_main_v24_9 V).trans (s9 H hj)
  oDQ := by
    obtain ⟨Y, hY, hd⟩ := H.oDQ
    exact ⟨_, (STEP_main_v24_10 V).trans (s10 H hj Y hY), upd_done I DQ j hj Y hd _ rfl⟩
  oDK := by
    obtain ⟨Y, hY, hd⟩ := H.oDK
    exact ⟨_, (STEP_main_v24_11 V).trans (s11 H hj Y hY), upd_done I DK j hj Y hd _ rfl⟩
  oDU := by
    obtain ⟨Y, hY, hd⟩ := H.oDU
    exact ⟨_, (STEP_main_v24_12 V).trans (s12 H hj Y hY), upd_done I DU j hj Y hd _ rfl⟩
  oDW := by
    obtain ⟨Y, hY, hd⟩ := H.oDW
    exact ⟨_, (STEP_main_v24_13 V).trans (s13 H hj Y hY), upd_done I DW j hj Y hd _ rfl⟩
  oDG := by
    obtain ⟨Y, hY, hd⟩ := H.oDG
    exact ⟨_, (STEP_main_v24_14 V).trans (s14 H hj Y hY), upd_done I DG j hj Y hd _ rfl⟩
  oDA := by
    obtain ⟨Y, hY, hd⟩ := H.oDA
    exact ⟨_, (STEP_main_v24_15 V).trans (s15 H hj Y hY), upd_done I DA j hj Y hd _ rfl⟩

omit H hj in
theorem iterate (H : Inv I 0 V) : ∀ j, j ≤ 32 → Inv I j (STEP^[j] V) := by
  intro j
  induction j with
  | zero => exact fun _ => H
  | succ j ih =>
    intro hj
    rw [Function.iterate_succ_apply']
    exact step (ih (by omega)) (by omega)

end Cert.Proof.ScanLoop
-- ==== Proof.ScanRef.lean ====
module

public import proofs.«01_k».proof.Proof.ScanLoop

/-! The backward scan's reference: its entry into the loop, and its results. -/

@[expose] public section

set_option maxRecDepth 16384

noncomputable section

namespace Cert.Proof.ScanRef

open Cert.Proof.ScanCut Cert.ReferenceIdeal Cert.ReferenceIdeal.Gen Cert.ReferenceIdeal.Value Cert.Proof.ScanLoop Cert.Proof.ScanOps Cert.Proof.ScanSpec Cert.Proof.ScanRefOps
open Idealize.ShloMosaic Idealize.ShloMosaic.TcCoe Idealize.SL.Sem Idealize.ShloMosaic.StableHlo
open Idealize.ShloMosaic.Tactic

variable (m : (ℓ : Loc nD τ sig) → Buf (Elt Ideal) ℓ)

/-! ## The loop's entry -/

theorem entry_1 (c : Dev nD) (X : M 4096 (6 * 128)) (hx : m ((c.tc : Thread nD τ).loc main_arg2) = fun i => ((X (i 0) (i 1) : ℝ) : EReal)) :
    entryContents preI m c (Proc.devRef .tc main_v24_1) = CS fun n b h => hd (q := 128) X b h n := by
  refine Eq.trans ?_ (cut_128 _ X hx)
  simp only [entryContents, afterL_cons, afterL_nil]
  after_reads_simp
  rfl

theorem entry_2 (c : Dev nD) (X : M 4096 (6 * 128)) (hx : m ((c.tc : Thread nD τ).loc main_arg3) = fun i => ((X (i 0) (i 1) : ℝ) : EReal)) :
    entryContents preI m c (Proc.devRef .tc main_v24_2) = CS fun n b h => hd (q := 128) X b h n := by
  refine Eq.trans ?_ (cut_128 _ X hx)
  simp only [entryContents, afterL_cons, afterL_nil]
  after_reads_simp
  rfl

theorem entry_3 (c : Dev nD) (X : M 4096 (6 * 128)) (hx : m ((c.tc : Thread nD τ).loc main_arg0) = fun i => ((X (i 0) (i 1) : ℝ) : EReal)) :
    entryContents preI m c (Proc.devRef .tc main_v24_3) = CS fun n b h => hd (q := 128) X b h n := by
  refine Eq.trans ?_ (cut_128 _ X hx)
  simp only [entryContents, afterL_cons, afterL_nil]
  after_reads_simp
  rfl

theorem entry_4 (c : Dev nD) (X : M 4096 (6 * 128)) (hx : m ((c.tc : Thread nD τ).loc main_arg1) = fun i => ((X (i 0) (i 1) : ℝ) : EReal)) :
    entryContents preI m c (Proc.devRef .tc main_v24_4) = CS fun n b h => hd (q := 128) X b h n := by
  refine Eq.trans ?_ (cut_128 _ X hx)
  simp only [entryContents, afterL_cons, afterL_nil]
  after_reads_simp
  rfl

theorem entry_6 (c : Dev nD) (X : M 4096 (6 * 64)) (hx : m ((c.tc : Thread nD τ).loc main_arg4) = fun i => ((X (i 0) (i 1) : ℝ) : EReal)) :
    entryContents preI m c (Proc.devRef .tc main_v24_6) = CS fun n b h => hd (q := 64) X b h n := by
  refine Eq.trans ?_ (cut_64 _ X hx)
  simp only [entryContents, afterL_cons, afterL_nil]
  after_reads_simp
  rfl

theorem entry_7 (c : Dev nD) (X : M 4096 (6 * 128)) (hx : m ((c.tc : Thread nD τ).loc main_arg7) = fun i => ((X (i 0) (i 1) : ℝ) : EReal)) :
    entryContents preI m c (Proc.devRef .tc main_v24_7) = CS fun n b h => hd (q := 128) X b h n := by
  refine Eq.trans ?_ (cut_128 _ X hx)
  simp only [entryContents, afterL_cons, afterL_nil]
  after_reads_simp
  rfl

theorem entry_5 (c : Dev nD) (X : M 4096 128) (hx : m ((c.tc : Thread nD τ).loc main_arg5) = fun i => ((X (i 0) (i 1) : ℝ) : EReal)) :
    entryContents preI m c (Proc.devRef .tc main_v24_5) = CSG fun n b h => hdg X b h n := by
  refine Eq.trans ?_ (cut_g _ X hx)
  simp only [entryContents, afterL_cons, afterL_nil]
  after_reads_simp
  rfl

theorem entry_0 (c : Dev nD) (X : Fin 2 → Fin 32 → Fin 6 → M 128 128)
    (hx : m ((c.tc : Thread nD τ).loc main_arg6) = fun i => ((X (i 0) (i 1) (i 2) (i 3) (i 4) : ℝ) : EReal)) :
    entryContents preI m c (Proc.devRef .tc main_v24_0) = CS fun n b h => X b n h := by
  refine Eq.trans ?_ (cut_s _ X hx)
  simp only [entryContents, afterL_cons, afterL_nil]
  after_reads_simp
  rfl

theorem zero_S2x6x128x128 : (broadcastInDim S2x6x128x128 ![] bcast_S_S2x6x128x128 (constant S_ .f32 0#32) : FVec Ideal _ .f32) = C4 fun _ _ => (0 : M 128 128) := by
  funext (i : S2x6x128x128.Idx)
  pointwise [C4, CS, CSG]
  all_goals first | rfl | simp

theorem zero_S32x2x6 : (broadcastInDim S32x2x6 ![] bcast_S_S32x2x6 (constant S_ .f32 0#32) : FVec Ideal _ .f32) = CSG fun _ _ _ => (0 : ℝ) := by
  funext (i : S32x2x6.Idx)
  pointwise [C4, CS, CSG]
  all_goals first | rfl | simp

theorem zero_S32x2x6x64x64 : (broadcastInDim S32x2x6x64x64 ![] bcast_S_S32x2x6x64x64 (constant S_ .f32 0#32) : FVec Ideal _ .f32) = CS fun _ _ _ => (0 : M 64 64) := by
  funext (i : S32x2x6x64x64.Idx)
  pointwise [C4, CS, CSG]
  all_goals first | rfl | simp

theorem zero_S32x2x6x64x128 : (broadcastInDim S32x2x6x64x128 ![] bcast_S_S32x2x6x64x128 (constant S_ .f32 0#32) : FVec Ideal _ .f32) = CS fun _ _ _ => (0 : M 64 128) := by
  funext (i : S32x2x6x64x128.Idx)
  pointwise [C4, CS, CSG]
  all_goals first | rfl | simp

theorem entry_9 (c : Dev nD) : entryContents preI m c (Proc.devRef .tc main_v24_9) = C4 fun _ _ => (0 : M 128 128) := by
  refine Eq.trans ?_ zero_S2x6x128x128
  simp only [entryContents, afterL_cons, afterL_nil]
  after_reads_simp
  rfl

theorem entry_10 (c : Dev nD) : entryContents preI m c (Proc.devRef .tc main_v24_10) = CS fun _ _ _ => (0 : M 64 128) := by
  refine Eq.trans ?_ zero_S32x2x6x64x128
  simp only [entryContents, afterL_cons, afterL_nil]
  after_reads_simp
  rfl

theorem entry_11 (c : Dev nD) : entryContents preI m c (Proc.devRef .tc main_v24_11) = CS fun _ _ _ => (0 : M 64 128) := by
  refine Eq.trans ?_ zero_S32x2x6x64x128
  simp only [entryContents, afterL_cons, afterL_nil]
  after_reads_simp
  rfl

theorem entry_12 (c : Dev nD) : entryContents preI m c (Proc.devRef .tc main_v24_12) = CS fun _ _ _ => (0 : M 64 128) := by
  refine Eq.trans ?_ zero_S32x2x6x64x128
  simp only [entryContents, afterL_cons, afterL_nil]
  after_reads_simp
  rfl

theorem entry_13 (c : Dev nD) : entryContents preI m c (Proc.devRef .tc main_v24_13) = CS fun _ _ _ => (0 : M 64 128) := by
  refine Eq.trans ?_ zero_S32x2x6x64x128
  simp only [entryContents, afterL_cons, afterL_nil]
  after_reads_simp
  rfl

theorem entry_14 (c : Dev nD) : entryContents preI m c (Proc.devRef .tc main_v24_14) = CSG fun _ _ _ => (0 : ℝ) := by
  refine Eq.trans ?_ zero_S32x2x6
  simp only [entryContents, afterL_cons, afterL_nil]
  after_reads_simp
  rfl

theorem entry_15 (c : Dev nD) : entryContents preI m c (Proc.devRef .tc main_v24_15) = CS fun _ _ _ => (0 : M 64 64) := by
  refine Eq.trans ?_ zero_S32x2x6x64x64
  simp only [entryContents, afterL_cons, afterL_nil]
  after_reads_simp
  rfl

theorem inv_entry (c : Dev nD) (X0 X1 X2 X3 X7 : M 4096 (6 * 128)) (X4 : M 4096 (6 * 64)) (X5 : M 4096 128) (X6 : Fin 2 → Fin 32 → Fin 6 → M 128 128)
    (h0 : m ((c.tc : Thread nD τ).loc main_arg0) = fun i => ((X0 (i 0) (i 1) : ℝ) : EReal))
    (h1 : m ((c.tc : Thread nD τ).loc main_arg1) = fun i => ((X1 (i 0) (i 1) : ℝ) : EReal))
    (h2 : m ((c.tc : Thread nD τ).loc main_arg2) = fun i => ((X2 (i 0) (i 1) : ℝ) : EReal))
    (h3 : m ((c.tc : Thread nD τ).loc main_arg3) = fun i => ((X3 (i 0) (i 1) : ℝ) : EReal))
    (h4 : m ((c.tc : Thread nD τ).loc main_arg4) = fun i => ((X4 (i 0) (i 1) : ℝ) : EReal))
    (h5 : m ((c.tc : Thread nD τ).loc main_arg5) = fun i => ((X5 (i 0) (i 1) : ℝ) : EReal))
    (h7 : m ((c.tc : Thread nD τ).loc main_arg7) = fun i => ((X7 (i 0) (i 1) : ℝ) : EReal))
    (h6 : m ((c.tc : Thread nD τ).loc main_arg6) = fun i => ((X6 (i 0) (i 1) (i 2) (i 3) (i 4) : ℝ) : EReal)) :
    Inv ⟨hd (q := 128) X0, hd (q := 128) X1, hd (q := 128) X2, hd (q := 128) X3, hd (q := 64) X4, hdg X5, fun b h n => X6 b n h, hd (q := 128) X7⟩ 0
      (entryContents preI m c) where
  s := entry_0 m c X6 h6
  q := entry_1 m c X2 h2
  k := entry_2 m c X3 h3
  u := entry_3 m c X0 h0
  w := entry_4 m c X1 h1
  g := entry_5 m c X5 h5
  a := entry_6 m c X4 h4
  o := entry_7 m c X7 h7
  ctr := by rw [ctr_entry, Scf.iv_zero]
  D := entry_9 m c
  oDQ := ⟨_, entry_10 m c, fun _ _ _ h => absurd h (Nat.not_lt_zero _)⟩
  oDK := ⟨_, entry_11 m c, fun _ _ _ h => absurd h (Nat.not_lt_zero _)⟩
  oDU := ⟨_, entry_12 m c, fun _ _ _ h => absurd h (Nat.not_lt_zero _)⟩
  oDW := ⟨_, entry_13 m c, fun _ _ _ h => absurd h (Nat.not_lt_zero _)⟩
  oDG := ⟨_, entry_14 m c, fun _ _ _ h => absurd h (Nat.not_lt_zero _)⟩
  oDA := ⟨_, entry_15 m c, fun _ _ _ h => absurd h (Nat.not_lt_zero _)⟩

/-! ## The results -/

theorem out_DU {I : In} {V : Valuation τ sig (Elt Ideal)} (H : Inv I 32 V) :
    out_main_v30 V = fun i => ((whole (q := 128) (DU I) (i 0) (i 1) (i 2) : ℝ) : EReal) := by
  obtain ⟨Y, hY, hd⟩ := H.oDU
  have e : Y = fun n b h => DU I b h n := by
    funext n b h
    exact hd n b h (by omega)
  unfold out_main_v30
  rw [hY, e]
  exact glue_128 _ _ _

theorem out_DW {I : In} {V : Valuation τ sig (Elt Ideal)} (H : Inv I 32 V) :
    out_main_v32 V = fun i => ((whole (q := 128) (DW I) (i 0) (i 1) (i 2) : ℝ) : EReal) := by
  obtain ⟨Y, hY, hd⟩ := H.oDW
  have e : Y = fun n b h => DW I b h n := by
    funext n b h
    exact hd n b h (by omega)
  unfold out_main_v32
  rw [hY, e]
  exact glue_128 _ _ _

theorem out_DQ {I : In} {V : Valuation τ sig (Elt Ideal)} (H : Inv I 32 V) :
    out_main_v34 V = fun i => ((whole (q := 128) (DQ I) (i 0) (i 1) (i 2) : ℝ) : EReal) := by
  obtain ⟨Y, hY, hd⟩ := H.oDQ
  have e : Y = fun n b h => DQ I b h n := by
    funext n b h
    exact hd n b h (by omega)
  unfold out_main_v34
  rw [hY, e]
  exact glue_128 _ _ _

theorem out_DK {I : In} {V : Valuation τ sig (Elt Ideal)} (H : Inv I 32 V) :
    out_main_v36 V = fun i => ((whole (q := 128) (DK I) (i 0) (i 1) (i 2) : ℝ) : EReal) := by
  obtain ⟨Y, hY, hd⟩ := H.oDK
  have e : Y = fun n b h => DK I b h n := by
    funext n b h
    exact hd n b h (by omega)
  unfold out_main_v36
  rw [hY, e]
  exact glue_128 _ _ _

theorem out_DA {I : In} {V : Valuation τ sig (Elt Ideal)} (H : Inv I 32 V) :
    out_main_v38 V = fun i => ((whole (q := 64) (DA I) (i 0) (i 1) (i 2) : ℝ) : EReal) := by
  obtain ⟨Y, hY, hd⟩ := H.oDA
  have e : Y = fun n b h => DA I b h n := by
    funext n b h
    exact hd n b h (by omega)
  unfold out_main_v38
  rw [hY, e]
  exact glue_64 _ _ _

theorem out_DG {I : In} {V : Valuation τ sig (Elt Ideal)} (H : Inv I 32 V) :
    out_main_v28 V = fun i => ((wholeg (DG I) (i 0) (i 1) (i 2) : ℝ) : EReal) := by
  obtain ⟨Y, hY, hd⟩ := H.oDG
  have e : Y = fun n b h => DG I b h n := by
    funext n b h
    exact hd n b h (by omega)
  unfold out_main_v28
  rw [hY, e]
  exact glue_g _ _ _ _ _ _

end Cert.Proof.ScanRef
-- ==== Proof.Scan.lean ====
module

public import proofs.«01_k».proof.Defs
public import proofs.«01_k».proof.Proof.ScanKer
public import proofs.«01_k».proof.Proof.ScanRef
public import proofs.«01_k».proof.Proof.Gen.Pre_finite
public import Idealize.ShloMosaic.Lib.ReduceAll
public import Idealize.ShloMosaic.Lib.Pointwise

/-! The backward scan: the kernel computes the reference's six gradients. -/

@[expose] public section

set_option maxRecDepth 16384

noncomputable section

namespace Cert.Proof.Scan

open Idealize.ShloMosaic Idealize.ShloMosaic.TcCoe Idealize.SL.Sem Cert.Proof.ScanOps Cert.Proof.ScanSpec

/-- The word that the precondition compares with is the infinity. -/
theorem top : Ideal.ofBits .f32 0x7F800000#32 = (⊤ : EReal) := by
  simp [Ideal.ofBits, Ideal.ieee]

/-- A value whose absolute value is below the infinity is real. -/
theorem lt_top (x : EReal) (h : Ideal.cmp .olt (max x (-x)) ⊤ = 1#1) : ((x.toReal : ℝ) : EReal) = x := by
  refine EReal.coe_toReal ?_ ?_ <;> (rintro rfl; simp [Ideal.cmp] at h)

/-- An array that the precondition finds finite is that of its real values. -/
theorem all {s : Shape} {axes : List (Fin s.rank)} (x : FVec Ideal s .f32) (hb) (hr : s.ReducesTo axes Cert.Pre_finite.S_) (hu) (j)
    (h : Host.reduce IntOp.andi (cmpf .olt (Host.absf x) (broadcastInDim s ![] hb (constant Cert.Pre_finite.S_ .f32 0x7F800000#32)))
      (constantI Cert.Pre_finite.S_ 1 1#1) hr hu j = 1#1) (i : s.Idx) : (((x i : EReal).toReal : ℝ) : EReal) = x i := by
  have h1 := Host.reduce_andi_all _ _ hr hu j h i
  refine lt_top _ ?_
  rw [← top]
  exact h1

/-- The eight verdicts of the precondition. -/
theorem cat8 (a0 a1 a2 a3 a4 a5 a6 a7 : IVec Cert.Pre_finite.S_ 1) (hb hc)
    (h : concatenate Cert.Pre_finite.S8 0 [⟨Cert.Pre_finite.S1, broadcastInDim Cert.Pre_finite.S1 ![] hb a0⟩, ⟨Cert.Pre_finite.S1, broadcastInDim Cert.Pre_finite.S1 ![] hb a1⟩,
      ⟨Cert.Pre_finite.S1, broadcastInDim Cert.Pre_finite.S1 ![] hb a2⟩, ⟨Cert.Pre_finite.S1, broadcastInDim Cert.Pre_finite.S1 ![] hb a3⟩,
      ⟨Cert.Pre_finite.S1, broadcastInDim Cert.Pre_finite.S1 ![] hb a4⟩, ⟨Cert.Pre_finite.S1, broadcastInDim Cert.Pre_finite.S1 ![] hb a5⟩,
      ⟨Cert.Pre_finite.S1, broadcastInDim Cert.Pre_finite.S1 ![] hb a6⟩, ⟨Cert.Pre_finite.S1, broadcastInDim Cert.Pre_finite.S1 ![] hb a7⟩] hc = fun _ => 1#1) :
    a0 ix0 = 1#1 ∧ a1 ix0 = 1#1 ∧ a2 ix0 = 1#1 ∧ a3 ix0 = 1#1 ∧ a4 ix0 = 1#1 ∧ a5 ix0 = 1#1 ∧ a6 ix0 = 1#1 ∧ a7 ix0 = 1#1 := by
  refine ⟨?_, ?_, ?_, ?_, ?_, ?_, ?_, ?_⟩
  · have h0 := congrFun h (ix1 0); pointwise at h0; exact h0
  · have h0 := congrFun h (ix1 1); pointwise at h0; exact h0
  · have h0 := congrFun h (ix1 2); pointwise at h0; exact h0
  · have h0 := congrFun h (ix1 3); pointwise at h0; exact h0
  · have h0 := congrFun h (ix1 4); pointwise at h0; exact h0
  · have h0 := congrFun h (ix1 5); pointwise at h0; exact h0
  · have h0 := congrFun h (ix1 6); pointwise at h0; exact h0
  · have h0 := congrFun h (ix1 7); pointwise at h0; exact h0

variable (m : (ℓ : Loc Cert.KernelIdeal.nD Cert.KernelIdeal.τ Cert.KernelIdeal.sig) → Buf (Elt Ideal) ℓ)

/-- The precondition: every argument is an array of real values. -/
theorem reals (h : Pre_KernelIdeal_finite m) (c : Dev Cert.KernelIdeal.nD) :
    (∀ i, (((m ((c.tc : Thread Cert.KernelIdeal.nD Cert.KernelIdeal.τ).loc Cert.KernelIdeal.main_arg0) i : EReal).toReal : ℝ) : EReal) = m ((c.tc : Thread Cert.KernelIdeal.nD Cert.KernelIdeal.τ).loc Cert.KernelIdeal.main_arg0) i)
    ∧ (∀ i, (((m ((c.tc : Thread Cert.KernelIdeal.nD Cert.KernelIdeal.τ).loc Cert.KernelIdeal.main_arg1) i : EReal).toReal : ℝ) : EReal) = m ((c.tc : Thread Cert.KernelIdeal.nD Cert.KernelIdeal.τ).loc Cert.KernelIdeal.main_arg1) i)
    ∧ (∀ i, (((m ((c.tc : Thread Cert.KernelIdeal.nD Cert.KernelIdeal.τ).loc Cert.KernelIdeal.main_arg2) i : EReal).toReal : ℝ) : EReal) = m ((c.tc : Thread Cert.KernelIdeal.nD Cert.KernelIdeal.τ).loc Cert.KernelIdeal.main_arg2) i)
    ∧ (∀ i, (((m ((c.tc : Thread Cert.KernelIdeal.nD Cert.KernelIdeal.τ).loc Cert.KernelIdeal.main_arg3) i : EReal).toReal : ℝ) : EReal) = m ((c.tc : Thread Cert.KernelIdeal.nD Cert.KernelIdeal.τ).loc Cert.KernelIdeal.main_arg3) i)
    ∧ (∀ i, (((m ((c.tc : Thread Cert.KernelIdeal.nD Cert.KernelIdeal.τ).loc Cert.KernelIdeal.main_arg4) i : EReal).toReal : ℝ) : EReal) = m ((c.tc : Thread Cert.KernelIdeal.nD Cert.KernelIdeal.τ).loc Cert.KernelIdeal.main_arg4) i)
    ∧ (∀ i, (((m ((c.tc : Thread Cert.KernelIdeal.nD Cert.KernelIdeal.τ).loc Cert.KernelIdeal.main_arg5) i : EReal).toReal : ℝ) : EReal) = m ((c.tc : Thread Cert.KernelIdeal.nD Cert.KernelIdeal.τ).loc Cert.KernelIdeal.main_arg5) i)
    ∧ (∀ i, (((m ((c.tc : Thread Cert.KernelIdeal.nD Cert.KernelIdeal.τ).loc Cert.KernelIdeal.main_arg6) i : EReal).toReal : ℝ) : EReal) = m ((c.tc : Thread Cert.KernelIdeal.nD Cert.KernelIdeal.τ).loc Cert.KernelIdeal.main_arg6) i)
    ∧ (∀ i, (((m ((c.tc : Thread Cert.KernelIdeal.nD Cert.KernelIdeal.τ).loc Cert.KernelIdeal.main_arg7) i : EReal).toReal : ℝ) : EReal) = m ((c.tc : Thread Cert.KernelIdeal.nD Cert.KernelIdeal.τ).loc Cert.KernelIdeal.main_arg7) i) := by
  have h1 := h c
  simp only [Cert.Pre_finite.fn, Cert.Pre_finite.fn_part1, Cert.Pre_finite.fn_part2] at h1
  obtain ⟨h0, h1, h2, h3, h4, h5, h6, h7⟩ := cat8 _ _ _ _ _ _ _ _ _ _ h1
  exact ⟨all _ _ _ _ _ h0, all _ _ _ _ _ h1, all _ _ _ _ _ h2, all _ _ _ _ _ h3, all _ _ _ _ _ h4, all _ _ _ _ _ h5, all _ _ _ _ _ h6, all _ _ _ _ _ h7⟩

theorem cast2 {p q : ℕ} (x : (⟨2, ![p, q]⟩ : Shape).Idx → EReal) (h : ∀ i, (((x i).toReal : ℝ) : EReal) = x i) :
    x = fun i => ((re x (i 0) (i 1) : ℝ) : EReal) := by
  funext i
  refine (h i).symm.trans (congrArg (fun j => (((x j).toReal : ℝ) : EReal)) ?_)
  funext k
  fin_cases k <;> rfl

theorem cast5 (x : Cert.KernelIdeal.S2x32x6x128x128.Idx → EReal) (h : ∀ i, (((x i).toReal : ℝ) : EReal) = x i) :
    x = fun i => ((ScanBlk.re5 x (i 0) (i 1) (i 2) (i 3) (i 4) : ℝ) : EReal) := by
  funext i
  refine (h i).symm.trans (congrArg (fun j => (((x j).toReal : ℝ) : EReal)) ?_)
  funext k
  fin_cases k <;> rfl

theorem claim : Cert.algebraic_KernelIdeal_ReferenceIdeal_pre_finite := by
  intro m g m' g' hpre hagree
  refine ⟨fun c => C3 .f32 (whole (q := 128) (DU (ScanKer.inp m c))), fun c => C3 .f32 (whole (q := 128) (DW (ScanKer.inp m c))),
    fun c => C3 .f32 (whole (q := 128) (DQ (ScanKer.inp m c))), fun c => C3 .f32 (whole (q := 128) (DK (ScanKer.inp m c))),
    fun c => C3 .f32 (whole (q := 64) (DA (ScanKer.inp m c))), fun c => C3 .f32 (wholeg (DG (ScanKer.inp m c))), ?_, ?_⟩
  · refine (θ_run _ _ _).mono (fun r h c => ?_) (Cert.KernelIdeal.Value.run_blocks m g)
    obtain ⟨h0, h1, h2, h3, h4, h5, h6, h7⟩ := reals m hpre c
    obtain ⟨r0, r1, r2, r3, r4, r5, rest⟩ := h c
    exact ⟨r0.trans (ScanKer.final_8 m c h0 h1 h2 h3 h4 h5 h6 h7), r1.trans (ScanKer.final_9 m c h0 h1 h2 h3 h4 h5 h6 h7),
      r2.trans (ScanKer.final_10 m c h0 h1 h2 h3 h4 h5 h6 h7), r3.trans (ScanKer.final_11 m c h0 h1 h2 h3 h4 h5 h6 h7),
      r4.trans (ScanKer.final_12 m c h0 h1 h2 h3 h4 h5 h6 h7), r5.trans (ScanKer.final_13 m c h0 h1 h2 h3 h4 h5 h6 h7), rest⟩
  · refine (θ_run _ _ _).mono (fun r h c => ?_) (Cert.ReferenceIdeal.Value.run m' g')
    obtain ⟨h0, h1, h2, h3, h4, h5, h6, h7⟩ := reals m hpre c
    obtain ⟨a0, a1, a2, a3, a4, a5, a6, a7⟩ := hagree c
    obtain ⟨r0, r1, r2, r3, r4, r5, rest⟩ := h c
    have H := ScanRef.inv_entry m' c _ _ _ _ _ _ _ _ (a0.trans (cast2 _ h0)) (a1.trans (cast2 _ h1)) (a2.trans (cast2 _ h2))
      (a3.trans (cast2 _ h3)) (a4.trans (cast2 _ h4)) (a5.trans (cast2 _ h5)) (a7.trans (cast2 _ h7)) (a6.trans (cast5 _ h6))
    have H' := ScanLoop.iterate H 32 (Nat.le_refl _)
    exact ⟨r0.trans (ScanRef.out_DU H'), r1.trans (ScanRef.out_DW H'), r2.trans (ScanRef.out_DQ H'), r3.trans (ScanRef.out_DK H'),
      r4.trans (ScanRef.out_DA H'), r5.trans (ScanRef.out_DG H'), rest⟩

end Cert.Proof.Scan
-- ==== Proof.FwdPay.lean ====
module

public import proofs.«01_k».proof.Proof.Gen.Kernel2Ideal.Value
public import proofs.«01_k».proof.Proof.Gen.Kernel2Ideal.Skeleton
public import proofs.«01_k».proof.Proof.ScanStacks

/-! What the forward scan loads, stacked by head, its products, and what it stores. -/

@[expose] public section

set_option maxRecDepth 16384

noncomputable section

namespace Cert.Proof.FwdPay

open Cert.Kernel2Ideal Cert.Kernel2Ideal.Gen Cert.Proof.ScanOps Cert.Proof.ScanDots Cert.Proof.ScanStacks Idealize.ShloMosaic Idealize.SL.Sem

theorem nn {φ ψ : FTy} (a : Fin 12 → M 64 128) (b : Fin 12 → M 128 128) :
    matmul Cert.Kernel2Ideal.dot_S12x64x128_S12x128x128_S12x64x128_2_1_1_2_0_0 none (C3 φ a) (C3 ψ b) (C3 .f32 0)
      = C3 .f32 (fmul a b) := by
  funext i; pointwise [C3, ftr, tr, fmul, mul, coe_sum]
  exact (zero_add _).trans (Fin.sum_fin_congr fun k => (EReal.coe_mul _ _).symm)

theorem na {φ ψ : FTy} (a : Fin 12 → M 64 64) (b : Fin 12 → M 64 128) :
    matmul Cert.Kernel2Ideal.dot_S12x64x64_S12x64x128_S12x64x128_2_1_1_2_0_0 none (C3 φ a) (C3 ψ b) (C3 .f32 0)
      = C3 .f32 (fmul a b) := by
  funext i; pointwise [C3, ftr, tr, fmul, mul, coe_sum]
  exact (zero_add _).trans (Fin.sum_fin_congr fun k => (EReal.coe_mul _ _).symm)

theorem tns {φ ψ : FTy} (a : Fin 12 → M 64 128) (b : Fin 12 → M 64 128) :
    matmul Cert.Kernel2Ideal.dot_S12x64x128_S12x64x128_S12x128x128_1_1_2_2_0_0 none (C3 φ a) (C3 ψ b) (C3 .f32 0)
      = C3 .f32 (fmul (ftr a) b) := by
  funext i; pointwise [C3, ftr, tr, fmul, mul, coe_sum]
  exact (zero_add _).trans (Fin.sum_fin_congr fun k => (EReal.coe_mul _ _).symm)

theorem stack_11 (x : Vec Ideal S2x128x128 .f32) (y : Fin 2 → M 128 128) (hx : x = C3 .f32 y) :
    k0_pay11 (F := Ideal)
      (k0_pay6 (View.ld x (Rect.unit (s := S2x128x128) ![0, 0, 0] ![1, 1, 1] inb_S2x128x128_S1x1x1_0_0_0)))
      (k0_pay7 (View.ld x (Rect.unit (s := S2x128x128) ![0, 0, 1] ![1, 1, 1] inb_S2x128x128_S1x1x1_0_0_1)))
      (k0_pay8 (View.ld x (Rect.unit (s := S2x128x128) ![0, 0, 2] ![1, 1, 1] inb_S2x128x128_S1x1x1_0_0_2)))
      (k0_pay9 (View.ld x (Rect.unit (s := S2x128x128) ![0, 0, 3] ![1, 1, 1] inb_S2x128x128_S1x1x1_0_0_3)))
      (k0_pay10 (View.ld x (Rect.unit (s := S2x128x128) ![0, 0, 4] ![1, 1, 1] inb_S2x128x128_S1x1x1_0_0_4)))
      (View.ld x (Rect.unit (s := S2x128x128) ![0, 0, 5] ![1, 1, 1] inb_S2x128x128_S1x1x1_0_0_5))
      (View.ld x (Rect.unit (s := S2x128x128) ![1, 0, 0] ![1, 1, 1] inb_S2x128x128_S1x1x1_1_0_0))
      (View.ld x (Rect.unit (s := S2x128x128) ![1, 0, 1] ![1, 1, 1] inb_S2x128x128_S1x1x1_1_0_1))
      (View.ld x (Rect.unit (s := S2x128x128) ![1, 0, 2] ![1, 1, 1] inb_S2x128x128_S1x1x1_1_0_2))
      (View.ld x (Rect.unit (s := S2x128x128) ![1, 0, 3] ![1, 1, 1] inb_S2x128x128_S1x1x1_1_0_3))
      (View.ld x (Rect.unit (s := S2x128x128) ![1, 0, 4] ![1, 1, 1] inb_S2x128x128_S1x1x1_1_0_4))
      (View.ld x (Rect.unit (s := S2x128x128) ![1, 0, 5] ![1, 1, 1] inb_S2x128x128_S1x1x1_1_0_5))
      = C3 .f32 (stkg y 0 (by omega)) := by
  subst hx
  funext i
  unfold k0_pay11
  concat_tiles j h
  all_goals
    pointwise [k0_pay6, k0_pay7, k0_pay8, k0_pay9, k0_pay10, C3, stkg]
    exact at_congr y (by simp <;> omega) (by simp <;> omega) (by simp <;> omega)

theorem stack_15 (x : Vec Ideal S2x128x768 .f32) (y : Fin 2 → M 128 768) (hx : x = C3 .f32 y) :
    k0_pay15 (F := Ideal)
      (k0_pay12 (View.ld x (Rect.unit (s := S2x128x768) ![0, 0, 0] ![1, 64, 128] inb_S2x128x768_S1x64x128_0_0_0)))
      (k0_pay13 (View.ld x (Rect.unit (s := S2x128x768) ![0, 0, 128] ![1, 64, 128] inb_S2x128x768_S1x64x128_0_0_128)))
      (k0_pay14 (View.ld x (Rect.unit (s := S2x128x768) ![0, 0, 256] ![1, 64, 128] inb_S2x128x768_S1x64x128_0_0_256)))
      (View.ld x (Rect.unit (s := S2x128x768) ![0, 0, 384] ![1, 64, 128] inb_S2x128x768_S1x64x128_0_0_384))
      (View.ld x (Rect.unit (s := S2x128x768) ![0, 0, 512] ![1, 64, 128] inb_S2x128x768_S1x64x128_0_0_512))
      (View.ld x (Rect.unit (s := S2x128x768) ![0, 0, 640] ![1, 64, 128] inb_S2x128x768_S1x64x128_0_0_640))
      (View.ld x (Rect.unit (s := S2x128x768) ![1, 0, 0] ![1, 64, 128] inb_S2x128x768_S1x64x128_1_0_0))
      (View.ld x (Rect.unit (s := S2x128x768) ![1, 0, 128] ![1, 64, 128] inb_S2x128x768_S1x64x128_1_0_128))
      (View.ld x (Rect.unit (s := S2x128x768) ![1, 0, 256] ![1, 64, 128] inb_S2x128x768_S1x64x128_1_0_256))
      (View.ld x (Rect.unit (s := S2x128x768) ![1, 0, 384] ![1, 64, 128] inb_S2x128x768_S1x64x128_1_0_384))
      (View.ld x (Rect.unit (s := S2x128x768) ![1, 0, 512] ![1, 64, 128] inb_S2x128x768_S1x64x128_1_0_512))
      (View.ld x (Rect.unit (s := S2x128x768) ![1, 0, 640] ![1, 64, 128] inb_S2x128x768_S1x64x128_1_0_640))
      = C3 .f32 (stk y 0 (by omega)) := by
  subst hx
  funext i
  unfold k0_pay15
  concat_tiles j h
  all_goals
    pointwise [k0_pay12, k0_pay13, k0_pay14, C3, stk]
    exact at_congr y (by simp <;> omega) (by simp <;> omega) (by simp <;> omega)

theorem stack_28 (x : Vec Ideal S2x128x768 .f32) (y : Fin 2 → M 128 768) (hx : x = C3 .f32 y) :
    k0_pay28 (F := Ideal)
      (k0_pay16 (View.ld x (Rect.unit (s := S2x128x768) ![0, 0, 384] ![1, 64, 128] inb_S2x128x768_S1x64x128_0_0_384)))
      (k0_pay17 (View.ld x (Rect.unit (s := S2x128x768) ![0, 0, 512] ![1, 64, 128] inb_S2x128x768_S1x64x128_0_0_512)))
      (k0_pay18 (View.ld x (Rect.unit (s := S2x128x768) ![0, 0, 640] ![1, 64, 128] inb_S2x128x768_S1x64x128_0_0_640)))
      (k0_pay19 (View.ld x (Rect.unit (s := S2x128x768) ![1, 0, 0] ![1, 64, 128] inb_S2x128x768_S1x64x128_1_0_0)))
      (k0_pay20 (View.ld x (Rect.unit (s := S2x128x768) ![1, 0, 128] ![1, 64, 128] inb_S2x128x768_S1x64x128_1_0_128)))
      (k0_pay21 (View.ld x (Rect.unit (s := S2x128x768) ![1, 0, 256] ![1, 64, 128] inb_S2x128x768_S1x64x128_1_0_256)))
      (k0_pay22 (View.ld x (Rect.unit (s := S2x128x768) ![1, 0, 384] ![1, 64, 128] inb_S2x128x768_S1x64x128_1_0_384)))
      (k0_pay23 (View.ld x (Rect.unit (s := S2x128x768) ![1, 0, 512] ![1, 64, 128] inb_S2x128x768_S1x64x128_1_0_512)))
      (k0_pay24 (View.ld x (Rect.unit (s := S2x128x768) ![1, 0, 640] ![1, 64, 128] inb_S2x128x768_S1x64x128_1_0_640)))
      (k0_pay25 (View.ld x (Rect.unit (s := S2x128x768) ![0, 0, 0] ![1, 64, 128] inb_S2x128x768_S1x64x128_0_0_0)))
      (k0_pay26 (View.ld x (Rect.unit (s := S2x128x768) ![0, 0, 128] ![1, 64, 128] inb_S2x128x768_S1x64x128_0_0_128)))
      (k0_pay27 (View.ld x (Rect.unit (s := S2x128x768) ![0, 0, 256] ![1, 64, 128] inb_S2x128x768_S1x64x128_0_0_256)))
      = C3 .f32 (stk y 0 (by omega)) := by
  subst hx
  funext i
  unfold k0_pay28
  concat_tiles j h
  all_goals
    pointwise [k0_pay16, k0_pay17, k0_pay18, k0_pay19, k0_pay20, k0_pay21, k0_pay22, k0_pay23, k0_pay24, k0_pay25, k0_pay26, k0_pay27, C3, stk]
    exact at_congr y (by simp <;> omega) (by simp <;> omega) (by simp <;> omega)

theorem stack_39 (x : Vec Ideal S2x128x768 .f32) (y : Fin 2 → M 128 768) (hx : x = C3 .f32 y) :
    k0_pay39 (F := Ideal)
      (k0_pay29 (View.ld x (Rect.unit (s := S2x128x768) ![0, 0, 0] ![1, 64, 128] inb_S2x128x768_S1x64x128_0_0_0)))
      (k0_pay30 (View.ld x (Rect.unit (s := S2x128x768) ![0, 0, 128] ![1, 64, 128] inb_S2x128x768_S1x64x128_0_0_128)))
      (k0_pay31 (View.ld x (Rect.unit (s := S2x128x768) ![0, 0, 256] ![1, 64, 128] inb_S2x128x768_S1x64x128_0_0_256)))
      (k0_pay32 (View.ld x (Rect.unit (s := S2x128x768) ![0, 0, 384] ![1, 64, 128] inb_S2x128x768_S1x64x128_0_0_384)))
      (k0_pay33 (View.ld x (Rect.unit (s := S2x128x768) ![0, 0, 512] ![1, 64, 128] inb_S2x128x768_S1x64x128_0_0_512)))
      (k0_pay34 (View.ld x (Rect.unit (s := S2x128x768) ![0, 0, 640] ![1, 64, 128] inb_S2x128x768_S1x64x128_0_0_640)))
      (k0_pay35 (View.ld x (Rect.unit (s := S2x128x768) ![1, 0, 0] ![1, 64, 128] inb_S2x128x768_S1x64x128_1_0_0)))
      (k0_pay36 (View.ld x (Rect.unit (s := S2x128x768) ![1, 0, 128] ![1, 64, 128] inb_S2x128x768_S1x64x128_1_0_128)))
      (k0_pay37 (View.ld x (Rect.unit (s := S2x128x768) ![1, 0, 256] ![1, 64, 128] inb_S2x128x768_S1x64x128_1_0_256)))
      (k0_pay38 (View.ld x (Rect.unit (s := S2x128x768) ![1, 0, 384] ![1, 64, 128] inb_S2x128x768_S1x64x128_1_0_384)))
      (View.ld x (Rect.unit (s := S2x128x768) ![1, 0, 512] ![1, 64, 128] inb_S2x128x768_S1x64x128_1_0_512))
      (View.ld x (Rect.unit (s := S2x128x768) ![1, 0, 640] ![1, 64, 128] inb_S2x128x768_S1x64x128_1_0_640))
      = C3 .f32 (stk y 0 (by omega)) := by
  subst hx
  funext i
  unfold k0_pay39
  concat_tiles j h
  all_goals
    pointwise [k0_pay29, k0_pay30, k0_pay31, k0_pay32, k0_pay33, k0_pay34, k0_pay35, k0_pay36, k0_pay37, k0_pay38, C3, stk]
    exact at_congr y (by simp <;> omega) (by simp <;> omega) (by simp <;> omega)

theorem stack_47 (x : Vec Ideal S2x128x768 .f32) (y : Fin 2 → M 128 768) (hx : x = C3 .f32 y) :
    k0_pay47 (F := Ideal)
      (k0_pay40 (View.ld x (Rect.unit (s := S2x128x768) ![0, 0, 0] ![1, 64, 128] inb_S2x128x768_S1x64x128_0_0_0)))
      (k0_pay41 (View.ld x (Rect.unit (s := S2x128x768) ![0, 0, 128] ![1, 64, 128] inb_S2x128x768_S1x64x128_0_0_128)))
      (k0_pay42 (View.ld x (Rect.unit (s := S2x128x768) ![0, 0, 256] ![1, 64, 128] inb_S2x128x768_S1x64x128_0_0_256)))
      (k0_pay43 (View.ld x (Rect.unit (s := S2x128x768) ![0, 0, 384] ![1, 64, 128] inb_S2x128x768_S1x64x128_0_0_384)))
      (k0_pay44 (View.ld x (Rect.unit (s := S2x128x768) ![0, 0, 512] ![1, 64, 128] inb_S2x128x768_S1x64x128_0_0_512)))
      (k0_pay45 (View.ld x (Rect.unit (s := S2x128x768) ![0, 0, 640] ![1, 64, 128] inb_S2x128x768_S1x64x128_0_0_640)))
      (k0_pay46 (View.ld x (Rect.unit (s := S2x128x768) ![1, 0, 0] ![1, 64, 128] inb_S2x128x768_S1x64x128_1_0_0)))
      (View.ld x (Rect.unit (s := S2x128x768) ![1, 0, 128] ![1, 64, 128] inb_S2x128x768_S1x64x128_1_0_128))
      (View.ld x (Rect.unit (s := S2x128x768) ![1, 0, 256] ![1, 64, 128] inb_S2x128x768_S1x64x128_1_0_256))
      (View.ld x (Rect.unit (s := S2x128x768) ![1, 0, 384] ![1, 64, 128] inb_S2x128x768_S1x64x128_1_0_384))
      (View.ld x (Rect.unit (s := S2x128x768) ![1, 0, 512] ![1, 64, 128] inb_S2x128x768_S1x64x128_1_0_512))
      (View.ld x (Rect.unit (s := S2x128x768) ![1, 0, 640] ![1, 64, 128] inb_S2x128x768_S1x64x128_1_0_640))
      = C3 .f32 (stk y 0 (by omega)) := by
  subst hx
  funext i
  unfold k0_pay47
  concat_tiles j h
  all_goals
    pointwise [k0_pay40, k0_pay41, k0_pay42, k0_pay43, k0_pay44, k0_pay45, k0_pay46, C3, stk]
    exact at_congr y (by simp <;> omega) (by simp <;> omega) (by simp <;> omega)

theorem stack_52 (x : Vec Ideal S2x128x384 .f32) (y : Fin 2 → M 128 384) (hx : x = C3 .f32 y) :
    k0_pay52 (F := Ideal)
      (k0_pay48 (View.ld x (Rect.unit (s := S2x128x384) ![0, 0, 0] ![1, 64, 64] inb_S2x128x384_S1x64x64_0_0_0)))
      (k0_pay49 (View.ld x (Rect.unit (s := S2x128x384) ![0, 0, 64] ![1, 64, 64] inb_S2x128x384_S1x64x64_0_0_64)))
      (k0_pay50 (View.ld x (Rect.unit (s := S2x128x384) ![0, 0, 128] ![1, 64, 64] inb_S2x128x384_S1x64x64_0_0_128)))
      (k0_pay51 (View.ld x (Rect.unit (s := S2x128x384) ![0, 0, 192] ![1, 64, 64] inb_S2x128x384_S1x64x64_0_0_192)))
      (View.ld x (Rect.unit (s := S2x128x384) ![0, 0, 256] ![1, 64, 64] inb_S2x128x384_S1x64x64_0_0_256))
      (View.ld x (Rect.unit (s := S2x128x384) ![0, 0, 320] ![1, 64, 64] inb_S2x128x384_S1x64x64_0_0_320))
      (View.ld x (Rect.unit (s := S2x128x384) ![1, 0, 0] ![1, 64, 64] inb_S2x128x384_S1x64x64_1_0_0))
      (View.ld x (Rect.unit (s := S2x128x384) ![1, 0, 64] ![1, 64, 64] inb_S2x128x384_S1x64x64_1_0_64))
      (View.ld x (Rect.unit (s := S2x128x384) ![1, 0, 128] ![1, 64, 64] inb_S2x128x384_S1x64x64_1_0_128))
      (View.ld x (Rect.unit (s := S2x128x384) ![1, 0, 192] ![1, 64, 64] inb_S2x128x384_S1x64x64_1_0_192))
      (View.ld x (Rect.unit (s := S2x128x384) ![1, 0, 256] ![1, 64, 64] inb_S2x128x384_S1x64x64_1_0_256))
      (View.ld x (Rect.unit (s := S2x128x384) ![1, 0, 320] ![1, 64, 64] inb_S2x128x384_S1x64x64_1_0_320))
      = C3 .f32 (stka y 0 (by omega)) := by
  subst hx
  funext i
  unfold k0_pay52
  concat_tiles j h
  all_goals
    pointwise [k0_pay48, k0_pay49, k0_pay50, k0_pay51, C3, stka]
    exact at_congr y (by simp <;> omega) (by simp <;> omega) (by simp <;> omega)

theorem stack_78 (x : Vec Ideal S2x128x128 .f32) (y : Fin 2 → M 128 128) (hx : x = C3 .f32 y) :
    k0_pay78 (F := Ideal)
      (k0_pay66 (View.ld x (Rect.unit (s := S2x128x128) ![0, 64, 1] ![1, 1, 1] inb_S2x128x128_S1x1x1_0_64_1)))
      (k0_pay67 (View.ld x (Rect.unit (s := S2x128x128) ![0, 64, 2] ![1, 1, 1] inb_S2x128x128_S1x1x1_0_64_2)))
      (k0_pay68 (View.ld x (Rect.unit (s := S2x128x128) ![0, 64, 3] ![1, 1, 1] inb_S2x128x128_S1x1x1_0_64_3)))
      (k0_pay69 (View.ld x (Rect.unit (s := S2x128x128) ![0, 64, 4] ![1, 1, 1] inb_S2x128x128_S1x1x1_0_64_4)))
      (k0_pay70 (View.ld x (Rect.unit (s := S2x128x128) ![0, 64, 5] ![1, 1, 1] inb_S2x128x128_S1x1x1_0_64_5)))
      (k0_pay71 (View.ld x (Rect.unit (s := S2x128x128) ![1, 64, 0] ![1, 1, 1] inb_S2x128x128_S1x1x1_1_64_0)))
      (k0_pay72 (View.ld x (Rect.unit (s := S2x128x128) ![1, 64, 1] ![1, 1, 1] inb_S2x128x128_S1x1x1_1_64_1)))
      (k0_pay73 (View.ld x (Rect.unit (s := S2x128x128) ![1, 64, 2] ![1, 1, 1] inb_S2x128x128_S1x1x1_1_64_2)))
      (k0_pay74 (View.ld x (Rect.unit (s := S2x128x128) ![1, 64, 3] ![1, 1, 1] inb_S2x128x128_S1x1x1_1_64_3)))
      (k0_pay75 (View.ld x (Rect.unit (s := S2x128x128) ![1, 64, 4] ![1, 1, 1] inb_S2x128x128_S1x1x1_1_64_4)))
      (k0_pay76 (View.ld x (Rect.unit (s := S2x128x128) ![1, 64, 5] ![1, 1, 1] inb_S2x128x128_S1x1x1_1_64_5)))
      (k0_pay77 (View.ld x (Rect.unit (s := S2x128x128) ![0, 64, 0] ![1, 1, 1] inb_S2x128x128_S1x1x1_0_64_0)))
      = C3 .f32 (stkg y 64 (by omega)) := by
  subst hx
  funext i
  unfold k0_pay78
  concat_tiles j h
  all_goals
    pointwise [k0_pay66, k0_pay67, k0_pay68, k0_pay69, k0_pay70, k0_pay71, k0_pay72, k0_pay73, k0_pay74, k0_pay75, k0_pay76, k0_pay77, C3, stkg]
    exact at_congr y (by simp <;> omega) (by simp <;> omega) (by simp <;> omega)

theorem stack_88 (x : Vec Ideal S2x128x768 .f32) (y : Fin 2 → M 128 768) (hx : x = C3 .f32 y) :
    k0_pay88 (F := Ideal)
      (k0_pay79 (View.ld x (Rect.unit (s := S2x128x768) ![0, 64, 0] ![1, 64, 128] inb_S2x128x768_S1x64x128_0_64_0)))
      (k0_pay80 (View.ld x (Rect.unit (s := S2x128x768) ![0, 64, 128] ![1, 64, 128] inb_S2x128x768_S1x64x128_0_64_128)))
      (k0_pay81 (View.ld x (Rect.unit (s := S2x128x768) ![0, 64, 256] ![1, 64, 128] inb_S2x128x768_S1x64x128_0_64_256)))
      (k0_pay82 (View.ld x (Rect.unit (s := S2x128x768) ![0, 64, 384] ![1, 64, 128] inb_S2x128x768_S1x64x128_0_64_384)))
      (k0_pay83 (View.ld x (Rect.unit (s := S2x128x768) ![0, 64, 512] ![1, 64, 128] inb_S2x128x768_S1x64x128_0_64_512)))
      (k0_pay84 (View.ld x (Rect.unit (s := S2x128x768) ![0, 64, 640] ![1, 64, 128] inb_S2x128x768_S1x64x128_0_64_640)))
      (k0_pay85 (View.ld x (Rect.unit (s := S2x128x768) ![1, 64, 0] ![1, 64, 128] inb_S2x128x768_S1x64x128_1_64_0)))
      (k0_pay86 (View.ld x (Rect.unit (s := S2x128x768) ![1, 64, 128] ![1, 64, 128] inb_S2x128x768_S1x64x128_1_64_128)))
      (k0_pay87 (View.ld x (Rect.unit (s := S2x128x768) ![1, 64, 256] ![1, 64, 128] inb_S2x128x768_S1x64x128_1_64_256)))
      (View.ld x (Rect.unit (s := S2x128x768) ![1, 64, 384] ![1, 64, 128] inb_S2x128x768_S1x64x128_1_64_384))
      (View.ld x (Rect.unit (s := S2x128x768) ![1, 64, 512] ![1, 64, 128] inb_S2x128x768_S1x64x128_1_64_512))
      (View.ld x (Rect.unit (s := S2x128x768) ![1, 64, 640] ![1, 64, 128] inb_S2x128x768_S1x64x128_1_64_640))
      = C3 .f32 (stk y 64 (by omega)) := by
  subst hx
  funext i
  unfold k0_pay88
  concat_tiles j h
  all_goals
    pointwise [k0_pay79, k0_pay80, k0_pay81, k0_pay82, k0_pay83, k0_pay84, k0_pay85, k0_pay86, k0_pay87, C3, stk]
    exact at_congr y (by simp <;> omega) (by simp <;> omega) (by simp <;> omega)

theorem stack_96 (x : Vec Ideal S2x128x768 .f32) (y : Fin 2 → M 128 768) (hx : x = C3 .f32 y) :
    k0_pay96 (F := Ideal)
      (k0_pay89 (View.ld x (Rect.unit (s := S2x128x768) ![0, 64, 0] ![1, 64, 128] inb_S2x128x768_S1x64x128_0_64_0)))
      (k0_pay90 (View.ld x (Rect.unit (s := S2x128x768) ![0, 64, 128] ![1, 64, 128] inb_S2x128x768_S1x64x128_0_64_128)))
      (k0_pay91 (View.ld x (Rect.unit (s := S2x128x768) ![0, 64, 256] ![1, 64, 128] inb_S2x128x768_S1x64x128_0_64_256)))
      (k0_pay92 (View.ld x (Rect.unit (s := S2x128x768) ![0, 64, 384] ![1, 64, 128] inb_S2x128x768_S1x64x128_0_64_384)))
      (k0_pay93 (View.ld x (Rect.unit (s := S2x128x768) ![0, 64, 512] ![1, 64, 128] inb_S2x128x768_S1x64x128_0_64_512)))
      (k0_pay94 (View.ld x (Rect.unit (s := S2x128x768) ![0, 64, 640] ![1, 64, 128] inb_S2x128x768_S1x64x128_0_64_640)))
      (k0_pay95 (View.ld x (Rect.unit (s := S2x128x768) ![1, 64, 0] ![1, 64, 128] inb_S2x128x768_S1x64x128_1_64_0)))
      (View.ld x (Rect.unit (s := S2x128x768) ![1, 64, 128] ![1, 64, 128] inb_S2x128x768_S1x64x128_1_64_128))
      (View.ld x (Rect.unit (s := S2x128x768) ![1, 64, 256] ![1, 64, 128] inb_S2x128x768_S1x64x128_1_64_256))
      (View.ld x (Rect.unit (s := S2x128x768) ![1, 64, 384] ![1, 64, 128] inb_S2x128x768_S1x64x128_1_64_384))
      (View.ld x (Rect.unit (s := S2x128x768) ![1, 64, 512] ![1, 64, 128] inb_S2x128x768_S1x64x128_1_64_512))
      (View.ld x (Rect.unit (s := S2x128x768) ![1, 64, 640] ![1, 64, 128] inb_S2x128x768_S1x64x128_1_64_640))
      = C3 .f32 (stk y 64 (by omega)) := by
  subst hx
  funext i
  unfold k0_pay96
  concat_tiles j h
  all_goals
    pointwise [k0_pay89, k0_pay90, k0_pay91, k0_pay92, k0_pay93, k0_pay94, k0_pay95, C3, stk]
    exact at_congr y (by simp <;> omega) (by simp <;> omega) (by simp <;> omega)

theorem stack_101 (x : Vec Ideal S2x128x768 .f32) (y : Fin 2 → M 128 768) (hx : x = C3 .f32 y) :
    k0_pay101 (F := Ideal)
      (k0_pay97 (View.ld x (Rect.unit (s := S2x128x768) ![0, 64, 0] ![1, 64, 128] inb_S2x128x768_S1x64x128_0_64_0)))
      (k0_pay98 (View.ld x (Rect.unit (s := S2x128x768) ![0, 64, 128] ![1, 64, 128] inb_S2x128x768_S1x64x128_0_64_128)))
      (k0_pay99 (View.ld x (Rect.unit (s := S2x128x768) ![0, 64, 256] ![1, 64, 128] inb_S2x128x768_S1x64x128_0_64_256)))
      (k0_pay100 (View.ld x (Rect.unit (s := S2x128x768) ![0, 64, 384] ![1, 64, 128] inb_S2x128x768_S1x64x128_0_64_384)))
      (View.ld x (Rect.unit (s := S2x128x768) ![0, 64, 512] ![1, 64, 128] inb_S2x128x768_S1x64x128_0_64_512))
      (View.ld x (Rect.unit (s := S2x128x768) ![0, 64, 640] ![1, 64, 128] inb_S2x128x768_S1x64x128_0_64_640))
      (View.ld x (Rect.unit (s := S2x128x768) ![1, 64, 0] ![1, 64, 128] inb_S2x128x768_S1x64x128_1_64_0))
      (View.ld x (Rect.unit (s := S2x128x768) ![1, 64, 128] ![1, 64, 128] inb_S2x128x768_S1x64x128_1_64_128))
      (View.ld x (Rect.unit (s := S2x128x768) ![1, 64, 256] ![1, 64, 128] inb_S2x128x768_S1x64x128_1_64_256))
      (View.ld x (Rect.unit (s := S2x128x768) ![1, 64, 384] ![1, 64, 128] inb_S2x128x768_S1x64x128_1_64_384))
      (View.ld x (Rect.unit (s := S2x128x768) ![1, 64, 512] ![1, 64, 128] inb_S2x128x768_S1x64x128_1_64_512))
      (View.ld x (Rect.unit (s := S2x128x768) ![1, 64, 640] ![1, 64, 128] inb_S2x128x768_S1x64x128_1_64_640))
      = C3 .f32 (stk y 64 (by omega)) := by
  subst hx
  funext i
  unfold k0_pay101
  concat_tiles j h
  all_goals
    pointwise [k0_pay97, k0_pay98, k0_pay99, k0_pay100, C3, stk]
    exact at_congr y (by simp <;> omega) (by simp <;> omega) (by simp <;> omega)

theorem stack_115 (x : Vec Ideal S2x128x768 .f32) (y : Fin 2 → M 128 768) (hx : x = C3 .f32 y) :
    k0_pay115 (F := Ideal)
      (k0_pay103 (View.ld x (Rect.unit (s := S2x128x768) ![1, 64, 384] ![1, 64, 128] inb_S2x128x768_S1x64x128_1_64_384)))
      (k0_pay104 (View.ld x (Rect.unit (s := S2x128x768) ![1, 64, 512] ![1, 64, 128] inb_S2x128x768_S1x64x128_1_64_512)))
      (k0_pay105 (View.ld x (Rect.unit (s := S2x128x768) ![1, 64, 640] ![1, 64, 128] inb_S2x128x768_S1x64x128_1_64_640)))
      (k0_pay106 (k0_pay102 (View.ld x (Rect.unit (s := S2x128x768) ![0, 64, 0] ![1, 64, 128] inb_S2x128x768_S1x64x128_0_64_0))))
      (k0_pay107 (View.ld x (Rect.unit (s := S2x128x768) ![0, 64, 128] ![1, 64, 128] inb_S2x128x768_S1x64x128_0_64_128)))
      (k0_pay108 (View.ld x (Rect.unit (s := S2x128x768) ![0, 64, 256] ![1, 64, 128] inb_S2x128x768_S1x64x128_0_64_256)))
      (k0_pay109 (View.ld x (Rect.unit (s := S2x128x768) ![0, 64, 384] ![1, 64, 128] inb_S2x128x768_S1x64x128_0_64_384)))
      (k0_pay110 (View.ld x (Rect.unit (s := S2x128x768) ![0, 64, 512] ![1, 64, 128] inb_S2x128x768_S1x64x128_0_64_512)))
      (k0_pay111 (View.ld x (Rect.unit (s := S2x128x768) ![0, 64, 640] ![1, 64, 128] inb_S2x128x768_S1x64x128_0_64_640)))
      (k0_pay112 (View.ld x (Rect.unit (s := S2x128x768) ![1, 64, 0] ![1, 64, 128] inb_S2x128x768_S1x64x128_1_64_0)))
      (k0_pay113 (View.ld x (Rect.unit (s := S2x128x768) ![1, 64, 128] ![1, 64, 128] inb_S2x128x768_S1x64x128_1_64_128)))
      (k0_pay114 (View.ld x (Rect.unit (s := S2x128x768) ![1, 64, 256] ![1, 64, 128] inb_S2x128x768_S1x64x128_1_64_256)))
      = C3 .f32 (stk y 64 (by omega)) := by
  subst hx
  funext i
  unfold k0_pay115
  concat_tiles j h
  all_goals
    pointwise [k0_pay102, k0_pay103, k0_pay104, k0_pay105, k0_pay106, k0_pay107, k0_pay108, k0_pay109, k0_pay110, k0_pay111, k0_pay112, k0_pay113, k0_pay114, C3, stk]
    exact at_congr y (by simp <;> omega) (by simp <;> omega) (by simp <;> omega)

theorem stack_127 (x : Vec Ideal S2x128x384 .f32) (y : Fin 2 → M 128 384) (hx : x = C3 .f32 y) :
    k0_pay127 (F := Ideal)
      (k0_pay116 (View.ld x (Rect.unit (s := S2x128x384) ![0, 64, 0] ![1, 64, 64] inb_S2x128x384_S1x64x64_0_64_0)))
      (k0_pay117 (View.ld x (Rect.unit (s := S2x128x384) ![0, 64, 64] ![1, 64, 64] inb_S2x128x384_S1x64x64_0_64_64)))
      (k0_pay118 (View.ld x (Rect.unit (s := S2x128x384) ![0, 64, 128] ![1, 64, 64] inb_S2x128x384_S1x64x64_0_64_128)))
      (k0_pay119 (View.ld x (Rect.unit (s := S2x128x384) ![0, 64, 192] ![1, 64, 64] inb_S2x128x384_S1x64x64_0_64_192)))
      (k0_pay120 (View.ld x (Rect.unit (s := S2x128x384) ![0, 64, 256] ![1, 64, 64] inb_S2x128x384_S1x64x64_0_64_256)))
      (k0_pay121 (View.ld x (Rect.unit (s := S2x128x384) ![0, 64, 320] ![1, 64, 64] inb_S2x128x384_S1x64x64_0_64_320)))
      (k0_pay122 (View.ld x (Rect.unit (s := S2x128x384) ![1, 64, 0] ![1, 64, 64] inb_S2x128x384_S1x64x64_1_64_0)))
      (k0_pay123 (View.ld x (Rect.unit (s := S2x128x384) ![1, 64, 64] ![1, 64, 64] inb_S2x128x384_S1x64x64_1_64_64)))
      (k0_pay124 (View.ld x (Rect.unit (s := S2x128x384) ![1, 64, 128] ![1, 64, 64] inb_S2x128x384_S1x64x64_1_64_128)))
      (k0_pay125 (View.ld x (Rect.unit (s := S2x128x384) ![1, 64, 192] ![1, 64, 64] inb_S2x128x384_S1x64x64_1_64_192)))
      (k0_pay126 (View.ld x (Rect.unit (s := S2x128x384) ![1, 64, 256] ![1, 64, 64] inb_S2x128x384_S1x64x64_1_64_256)))
      (View.ld x (Rect.unit (s := S2x128x384) ![1, 64, 320] ![1, 64, 64] inb_S2x128x384_S1x64x64_1_64_320))
      = C3 .f32 (stka y 64 (by omega)) := by
  subst hx
  funext i
  unfold k0_pay127
  concat_tiles j h
  all_goals
    pointwise [k0_pay116, k0_pay117, k0_pay118, k0_pay119, k0_pay120, k0_pay121, k0_pay122, k0_pay123, k0_pay124, k0_pay125, k0_pay126, C3, stka]
    exact at_congr y (by simp <;> omega) (by simp <;> omega) (by simp <;> omega)

/-- Six members from `o`, of one sequence and chunk. -/
def six (f : Fin 12 → M 128 128) (o : ℕ) (ho : o ≤ 6) : Fin 1 → Fin 1 → Fin 6 → M 128 128 := fun _ _ h => f ⟨o + h.val, by omega⟩

theorem store_4 (f : Fin 12 → M 128 128) : k0_pay4 (C3 .f32 f) = C5 .f32 (six f 0 (by omega)) := by
  funext i; pointwise [k0_pay4, C5, C3, six]

theorem store_5 (f : Fin 12 → M 128 128) : k0_pay5 (C3 .f32 f) = C5 .f32 (six f 6 (by omega)) := by
  funext i; pointwise [k0_pay5, C5, C3, six]

theorem store_64 (f : Fin 12 → M 128 128) : k0_pay64 (C3 .f32 f) = C5 .f32 (six f 0 (by omega)) := by
  funext i; pointwise [k0_pay64, C5, C3, six]

theorem store_65 (f : Fin 12 → M 128 128) : k0_pay65 (C3 .f32 f) = C5 .f32 (six f 6 (by omega)) := by
  funext i; pointwise [k0_pay65, C5, C3, six]

theorem store_62 (f : Fin 12 → M 64 128) : k0_pay62 (C3 .f32 f) (C3 .f32 (one f 0)) = C3 .f32 (half f 0 (by omega)) := by
  funext i; pointwise [k0_pay62, C2, C3, slc, one, half]
  have hi : (i 2).val < 768 := (i 2).isLt
  repeat' split
  all_goals exact at_congr f (by simp <;> omega) (by simp) (by simp <;> omega)

theorem store_63 (f : Fin 12 → M 64 128) : k0_pay63 (C3 .f32 f) = C3 .f32 (half f 6 (by omega)) := by
  funext i; pointwise [k0_pay63, C2, C3, slc, one, half]
  have hi : (i 2).val < 768 := (i 2).isLt
  repeat' split
  all_goals exact at_congr f (by simp <;> omega) (by simp) (by simp <;> omega)

theorem as_62 (a b c d e f) : k0_pay137 (F := Ideal) a b c d e f = k0_pay62 (k0_pay135 a b c d e f)
    (extractStridedSlice S1x64x128 ![0, 0, 0] (k0_pay135 a b c d e f) slices_S12x64x128_o0_0_0_S1x64x128) := rfl
theorem as_63 (a b c d e f) : k0_pay1 (k0_pay138 (F := Ideal) a b c d e f) = k0_pay63 (k0_pay135 a b c d e f) := rfl

end Cert.Proof.FwdPay
-- ==== Proof.FwdSpec.lean ====
module

public import proofs.«01_k».proof.Proof.ScanSpec

/-! The chunked delta rule, over the reals: one head of one sequence, chunk by chunk. -/

@[expose] public section

noncomputable section

namespace Cert.Proof.FwdSpec

open Cert.Proof.ScanOps Cert.Proof.ScanSpec

/-- What a scan reads: of each sequence, head and chunk the rows `u w q k`, the chunk's attention `a` and its decay `g`. -/
structure In where
  u : Fin 2 → Fin 6 → Fin 32 → M 64 128
  w : Fin 2 → Fin 6 → Fin 32 → M 64 128
  q : Fin 2 → Fin 6 → Fin 32 → M 64 128
  k : Fin 2 → Fin 6 → Fin 32 → M 64 128
  a : Fin 2 → Fin 6 → Fin 32 → M 64 64
  g : Fin 2 → Fin 6 → Fin 32 → ℝ

/-- The state after a chunk, from that before it: decayed, and the keys' products with `v = u - w s` added. -/
def next (s : M 128 128) (g : ℝ) (k u w : M 64 128) : M 128 128 := (fun i j => s i j * Real.exp g) + mul (tr k) (vv s u w)

/-- The state before chunk `n`. -/
def St (I : In) (b : Fin 2) (h : Fin 6) : ℕ → M 128 128
  | 0 => 0
  | n + 1 => if hn : n < 32 then next (St I b h n) (I.g b h ⟨n, hn⟩) (I.k b h ⟨n, hn⟩) (I.u b h ⟨n, hn⟩) (I.w b h ⟨n, hn⟩) else 0

theorem St_succ (I : In) (b : Fin 2) (h : Fin 6) {n : ℕ} (hn : n < 32) :
    St I b h (n + 1) = next (St I b h n) (I.g b h ⟨n, hn⟩) (I.k b h ⟨n, hn⟩) (I.u b h ⟨n, hn⟩) (I.w b h ⟨n, hn⟩) := dif_pos hn

variable (I : In) (b : Fin 2) (h : Fin 6) (n : Fin 32)
/-- A chunk's result. -/
def O : M 64 128 := mul (I.q b h n) (St I b h n.val) + mul (I.a b h n) (vv (St I b h n.val) (I.u b h n) (I.w b h n))
/-- The state before a chunk. -/
def SI : M 128 128 := St I b h n.val

end Cert.Proof.FwdSpec
-- ==== Proof.FwdBlk.lean ====
module

public import proofs.«01_k».proof.Proof.FwdPay
public import proofs.«01_k».proof.Proof.FwdSpec
public import proofs.«01_k».proof.Proof.ScanBlk
public import Idealize.ShloMosaic.Lib.Pipeline.ReadBack

/-! A point of the forward scan: what it reads, and a chunk's equations. -/

@[expose] public section

set_option maxRecDepth 16384

noncomputable section

namespace Cert.Proof.FwdBlk

open Cert.Kernel2Ideal Cert.Kernel2Ideal.Gen Cert.Proof.ScanOps Cert.Proof.ScanDots Cert.Proof.ScanStacks Cert.Proof.ScanSpec Cert.Proof.FwdPay
open Idealize.ShloMosaic Idealize.ShloMosaic.TcCoe Idealize.SL.Sem

variable (m : (ℓ : Loc nD τ sig) → Buf (Elt Ideal) ℓ)

theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0, 0, 0] :=
  (by decide +kernel : ∀ t : Fin grid0.N, _)

/-- The rows of a point, of each of the two sequences. -/
def rows {q : ℕ} (X : M 4096 q) (t : ℕ) (ht : t < 16) : Fin 2 → M 128 q := fun b r c => X ⟨2048 * b.val + (128 * t + r.val), by omega⟩ c

theorem V_0 (c : Dev nD) : V m c main_v0 = shapeCast S2x2048x768 (m ((c : Thread nD τ).loc main_arg0)) shapeCasts_S4096x768_S2x2048x768 := by
  show StableHlo.after hostOps0 _ _ = _
  after_results
  rfl

theorem at_0 (c : Dev nD) (t : Fin cfg0.N) (j : S2x128x768.Idx) (hb) :
    iblk m c 0 t j = V m c main_v0 (ix3 (j 0) ⟨128 * t.val + (j 1).val, hb⟩ (j 2) : S2x2048x768.Idx) := by
  blk_ext [iblk, idx]

theorem blk_0 (c : Dev nD) (t : Fin cfg0.N) (ht : t.val < 16) (hf : ∀ i, (((m ((c : Thread nD τ).loc main_arg0) i : EReal).toReal : ℝ) : EReal) = m ((c : Thread nD τ).loc main_arg0) i) :
    iblk m c 0 t = C3 .f32 (rows (re (m ((c : Thread nD τ).loc main_arg0))) t.val ht) := by
  funext (j : S2x128x768.Idx)
  have h1 : (j 1).val < 128 := (j 1).isLt
  rw [at_0 m c t j (by omega), V_0]
  exact (ScanBlk.cast768 _ shapeCasts_S4096x768_S2x2048x768 (j 0) ⟨128 * t.val + (j 1).val, by omega⟩ (j 2)).trans (hf _).symm

theorem V_1 (c : Dev nD) : V m c main_v1 = shapeCast S2x2048x768 (m ((c : Thread nD τ).loc main_arg1)) shapeCasts_S4096x768_S2x2048x768 := by
  show StableHlo.after hostOps0 _ _ = _
  after_results
  rfl

theorem at_1 (c : Dev nD) (t : Fin cfg0.N) (j : S2x128x768.Idx) (hb) :
    iblk m c 1 t j = V m c main_v1 (ix3 (j 0) ⟨128 * t.val + (j 1).val, hb⟩ (j 2) : S2x2048x768.Idx) := by
  blk_ext [iblk, idx]

theorem blk_1 (c : Dev nD) (t : Fin cfg0.N) (ht : t.val < 16) (hf : ∀ i, (((m ((c : Thread nD τ).loc main_arg1) i : EReal).toReal : ℝ) : EReal) = m ((c : Thread nD τ).loc main_arg1) i) :
    iblk m c 1 t = C3 .f32 (rows (re (m ((c : Thread nD τ).loc main_arg1))) t.val ht) := by
  funext (j : S2x128x768.Idx)
  have h1 : (j 1).val < 128 := (j 1).isLt
  rw [at_1 m c t j (by omega), V_1]
  exact (ScanBlk.cast768 _ shapeCasts_S4096x768_S2x2048x768 (j 0) ⟨128 * t.val + (j 1).val, by omega⟩ (j 2)).trans (hf _).symm

theorem V_2 (c : Dev nD) : V m c main_v2 = shapeCast S2x2048x768 (m ((c : Thread nD τ).loc main_arg2)) shapeCasts_S4096x768_S2x2048x768 := by
  show StableHlo.after hostOps0 _ _ = _
  after_results
  rfl

theorem at_2 (c : Dev nD) (t : Fin cfg0.N) (j : S2x128x768.Idx) (hb) :
    iblk m c 2 t j = V m c main_v2 (ix3 (j 0) ⟨128 * t.val + (j 1).val, hb⟩ (j 2) : S2x2048x768.Idx) := by
  blk_ext [iblk, idx]

theorem blk_2 (c : Dev nD) (t : Fin cfg0.N) (ht : t.val < 16) (hf : ∀ i, (((m ((c : Thread nD τ).loc main_arg2) i : EReal).toReal : ℝ) : EReal) = m ((c : Thread nD τ).loc main_arg2) i) :
    iblk m c 2 t = C3 .f32 (rows (re (m ((c : Thread nD τ).loc main_arg2))) t.val ht) := by
  funext (j : S2x128x768.Idx)
  have h1 : (j 1).val < 128 := (j 1).isLt
  rw [at_2 m c t j (by omega), V_2]
  exact (ScanBlk.cast768 _ shapeCasts_S4096x768_S2x2048x768 (j 0) ⟨128 * t.val + (j 1).val, by omega⟩ (j 2)).trans (hf _).symm

theorem V_3 (c : Dev nD) : V m c main_v3 = shapeCast S2x2048x768 (m ((c : Thread nD τ).loc main_arg3)) shapeCasts_S4096x768_S2x2048x768 := by
  show StableHlo.after hostOps0 _ _ = _
  after_results
  rfl

theorem at_3 (c : Dev nD) (t : Fin cfg0.N) (j : S2x128x768.Idx) (hb) :
    iblk m c 3 t j = V m c main_v3 (ix3 (j 0) ⟨128 * t.val + (j 1).val, hb⟩ (j 2) : S2x2048x768.Idx) := by
  blk_ext [iblk, idx]

theorem blk_3 (c : Dev nD) (t : Fin cfg0.N) (ht : t.val < 16) (hf : ∀ i, (((m ((c : Thread nD τ).loc main_arg3) i : EReal).toReal : ℝ) : EReal) = m ((c : Thread nD τ).loc main_arg3) i) :
    iblk m c 3 t = C3 .f32 (rows (re (m ((c : Thread nD τ).loc main_arg3))) t.val ht) := by
  funext (j : S2x128x768.Idx)
  have h1 : (j 1).val < 128 := (j 1).isLt
  rw [at_3 m c t j (by omega), V_3]
  exact (ScanBlk.cast768 _ shapeCasts_S4096x768_S2x2048x768 (j 0) ⟨128 * t.val + (j 1).val, by omega⟩ (j 2)).trans (hf _).symm

theorem V_4 (c : Dev nD) : V m c main_v4 = shapeCast S2x2048x384 (m ((c : Thread nD τ).loc main_arg4)) shapeCasts_S4096x384_S2x2048x384 := by
  show StableHlo.after hostOps0 _ _ = _
  after_results
  rfl

theorem at_4 (c : Dev nD) (t : Fin cfg0.N) (j : S2x128x384.Idx) (hb) :
    iblk m c 4 t j = V m c main_v4 (ix3 (j 0) ⟨128 * t.val + (j 1).val, hb⟩ (j 2) : S2x2048x384.Idx) := by
  blk_ext [iblk, idx]

theorem blk_4 (c : Dev nD) (t : Fin cfg0.N) (ht : t.val < 16) (hf : ∀ i, (((m ((c : Thread nD τ).loc main_arg4) i : EReal).toReal : ℝ) : EReal) = m ((c : Thread nD τ).loc main_arg4) i) :
    iblk m c 4 t = C3 .f32 (rows (re (m ((c : Thread nD τ).loc main_arg4))) t.val ht) := by
  funext (j : S2x128x384.Idx)
  have h1 : (j 1).val < 128 := (j 1).isLt
  rw [at_4 m c t j (by omega), V_4]
  exact (ScanBlk.cast384 _ shapeCasts_S4096x384_S2x2048x384 (j 0) ⟨128 * t.val + (j 1).val, by omega⟩ (j 2)).trans (hf _).symm

theorem V_5 (c : Dev nD) : V m c main_v5 = shapeCast S2x2048x128 (m ((c : Thread nD τ).loc main_arg5)) shapeCasts_S4096x128_S2x2048x128 := by
  show StableHlo.after hostOps0 _ _ = _
  after_results
  rfl

theorem at_5 (c : Dev nD) (t : Fin cfg0.N) (j : S2x128x128.Idx) (hb) :
    iblk m c 5 t j = V m c main_v5 (ix3 (j 0) ⟨128 * t.val + (j 1).val, hb⟩ (j 2) : S2x2048x128.Idx) := by
  blk_ext [iblk, idx]

theorem blk_5 (c : Dev nD) (t : Fin cfg0.N) (ht : t.val < 16) (hf : ∀ i, (((m ((c : Thread nD τ).loc main_arg5) i : EReal).toReal : ℝ) : EReal) = m ((c : Thread nD τ).loc main_arg5) i) :
    iblk m c 5 t = C3 .f32 (rows (re (m ((c : Thread nD τ).loc main_arg5))) t.val ht) := by
  funext (j : S2x128x128.Idx)
  have h1 : (j 1).val < 128 := (j 1).isLt
  rw [at_5 m c t j (by omega), V_5]
  exact (ScanBlk.cast128 _ shapeCasts_S4096x128_S2x2048x128 (j 0) ⟨128 * t.val + (j 1).val, by omega⟩ (j 2)).trans (hf _).symm

/-! ## A chunk's equations, for the twelve heads of two sequences at once -/

/-- `v = u - w S`. -/
abbrev fv (S : Fin 12 → M 128 128) (u w : Fin 12 → M 64 128) : Fin 12 → M 64 128 := u - fmul w S
/-- The chunk's result. -/
abbrev fo (S : Fin 12 → M 128 128) (u w q : Fin 12 → M 64 128) (a : Fin 12 → M 64 64) : Fin 12 → M 64 128 :=
  fmul q S + fmul a (fv S u w)
/-- The state after the chunk. -/
abbrev fstep (S : Fin 12 → M 128 128) (g : Fin 12 → M 1 1) (k u w : Fin 12 → M 64 128) : Fin 12 → M 128 128 :=
  (S * fun p _ _ => fexp g p 0 0) + fmul (ftr k) (fv S u w)

/-- A point's block of the states: that before each of its two chunks. -/
def join5 (F1 F0 : Fin 12 → M 128 128) : Fin 2 → Fin 2 → Fin 6 → M 128 128 := fun b n h =>
  if n.val = 0 then F0 ⟨6 * b.val + h.val, by omega⟩ else F1 ⟨6 * b.val + h.val, by omega⟩

theorem join5_lo {f F1 F0 : Fin 12 → M 128 128} {o : ℕ} {ho : o ≤ 6} {x : S1x1x6x128x128.Idx} {y : S2x2x6x128x128.Idx} (e : f = F0)
    (h0 : 6 * (y 0).val = o) (h1 : (y 1).val = 0) (h2 : (y 2).val = (x 2).val) (h3 : (y 3).val = (x 3).val) (h4 : (y 4).val = (x 4).val) :
    C5 .f32 (six f o ho) x = C5 .f32 (join5 F1 F0) y := by
  subst e
  unfold C5 join5 six
  rw [if_pos h1]
  exact at_congr f (by show o + (x 2).val = 6 * (y 0).val + (y 2).val; omega) h3.symm h4.symm

theorem join5_hi {f F1 F0 : Fin 12 → M 128 128} {o : ℕ} {ho : o ≤ 6} {x : S1x1x6x128x128.Idx} {y : S2x2x6x128x128.Idx} (e : f = F1)
    (h0 : 6 * (y 0).val = o) (h1 : (y 1).val = 1) (h2 : (y 2).val = (x 2).val) (h3 : (y 3).val = (x 3).val) (h4 : (y 4).val = (x 4).val) :
    C5 .f32 (six f o ho) x = C5 .f32 (join5 F1 F0) y := by
  subst e
  unfold C5 join5 six
  rw [if_neg (by omega)]
  exact at_congr f (by show o + (x 2).val = 6 * (y 0).val + (y 2).val; omega) h3.symm h4.symm

end Cert.Proof.FwdBlk
-- ==== Proof.FwdA.lean ====
module

public import proofs.«01_k».proof.Proof.FwdBlk
public import Idealize.ShloMosaic.Lib.Pipeline.ReadBack

/-! The first point of the forward scan: what its block of each result and the state hold. -/

@[expose] public section

set_option maxRecDepth 16384

noncomputable section

namespace Cert.Proof.FwdA

open Cert.Kernel2Ideal Cert.Kernel2Ideal.Gen Cert.Proof.ScanOps Cert.Proof.ScanDots Cert.Proof.ScanStacks Cert.Proof.FwdPay Cert.Proof.FwdBlk
open Idealize.ShloMosaic Idealize.ShloMosaic.TcCoe Idealize.SL.Sem

variable (m : (ℓ : Loc nD τ sig) → Buf (Elt Ideal) ℓ)

theorem zero_state (D : Fin 12 → M 128 128) (hD : D = 0) : (k0_pay3 : FVec Ideal S12x128x128 .f32) = C3 .f32 D := by
  subst hD; exact zero_C3'

set_option maxHeartbeats 4000000 in
theorem out_6 (c : Dev nD) (t : Fin cfg0.N) (h0 : t.val % 16 = 0) (y0 y1 y2 y3 : Fin 2 → M 128 768) (y4 : Fin 2 → M 128 384) (y5 : Fin 2 → M 128 128) (D : Fin 12 → M 128 128)
    (hD : D = 0)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) :
    (outsAt0 m c t.val t.isLt).1 = C3 .f32 (ScanBlk.join (fo (fstep D (stkg y5 0 (by omega)) (stk y3 0 (by omega)) (stk y0 0 (by omega)) (stk y1 0 (by omega))) (stk y0 64 (by omega)) (stk y1 64 (by omega)) (stk y2 64 (by omega)) (stka y4 64 (by omega)))
      (fo D (stk y0 0 (by omega)) (stk y1 0 (by omega)) (stk y2 0 (by omega)) (stka y4 0 (by omega)))) := by
  rw [outsAt0_A m c t h0]
  dsimp only
  frame_out
  funext (y : S2x128x768.Idx)
  canon_tiles x h
  all_goals
    try simp only [read_unread_whole, zero_state D hD]
    simp only [stack_11 _ _ hb5, stack_15 _ _ hb0, stack_28 _ _ hb1, stack_39 _ _ hb2, stack_47 _ _ hb3, stack_52 _ _ hb4, stack_78 _ _ hb5,
      stack_88 _ _ hb0, stack_96 _ _ hb1, stack_101 _ _ hb2, stack_115 _ _ hb3, stack_127 _ _ hb4]
    simp (disch := rfl) only [as_62, as_63, k0_pay2, k0_pay53, k0_pay54, k0_pay55, k0_pay56, k0_pay57, k0_pay58, k0_pay59, k0_pay60, k0_pay61, k0_pay128, k0_pay129, k0_pay130, k0_pay131, k0_pay132, k0_pay133, k0_pay134, k0_pay135, k0_pay136, truncf_C3, extf_C3, addf_C3, subf_C3, mulf_C3, shapeCast_C3, exp_C3,
      zero_C3, zero_C3', FwdPay.nn, FwdPay.na, FwdPay.tns, bcast, sub_self, fmul_zero, fzero_mul, ftr_zero, zero_add, add_zero, slice_128_0, stack_127 _ _ hb4,
      FwdPay.store_4, FwdPay.store_5, FwdPay.store_62, FwdPay.store_63, FwdPay.store_64, FwdPay.store_65]
    first
    | exact ScanBlk.join_lo rfl (by omega) (by omega) (by omega)
    | exact ScanBlk.join_hi rfl (by omega) (by omega) (by omega)

set_option maxHeartbeats 4000000 in
theorem out_7 (c : Dev nD) (t : Fin cfg0.N) (h0 : t.val % 16 = 0) (y0 y1 y2 y3 : Fin 2 → M 128 768) (y4 : Fin 2 → M 128 384) (y5 : Fin 2 → M 128 128) (D : Fin 12 → M 128 128)
    (hD : D = 0)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) :
    (outsAt0 m c t.val t.isLt).2.1 = C5 .f32 (join5 (fstep D (stkg y5 0 (by omega)) (stk y3 0 (by omega)) (stk y0 0 (by omega)) (stk y1 0 (by omega))) D) := by
  rw [outsAt0_A m c t h0]
  dsimp only
  frame_out
  funext (y : S2x2x6x128x128.Idx)
  canon_tiles x h
  all_goals
    try simp only [read_unread_whole, zero_state D hD]
    try simp only [stack_11 _ _ hb5, stack_15 _ _ hb0, stack_28 _ _ hb1, stack_39 _ _ hb2, stack_47 _ _ hb3, stack_52 _ _ hb4, stack_78 _ _ hb5,
      stack_88 _ _ hb0, stack_96 _ _ hb1, stack_101 _ _ hb2, stack_115 _ _ hb3, stack_127 _ _ hb4]
    simp (disch := rfl) only [as_62, as_63, k0_pay2, k0_pay53, k0_pay54, k0_pay55, k0_pay56, k0_pay57, k0_pay58, k0_pay59, k0_pay60, k0_pay61, k0_pay128, k0_pay129, k0_pay130, k0_pay131, k0_pay132, k0_pay133, k0_pay134, k0_pay135, k0_pay136, truncf_C3, extf_C3, addf_C3, subf_C3, mulf_C3, shapeCast_C3, exp_C3,
      zero_C3, zero_C3', FwdPay.nn, FwdPay.na, FwdPay.tns, bcast, sub_self, fmul_zero, fzero_mul, ftr_zero, zero_add, add_zero, slice_128_0, stack_127 _ _ hb4,
      FwdPay.store_4, FwdPay.store_5, FwdPay.store_62, FwdPay.store_63, FwdPay.store_64, FwdPay.store_65]
    first
    | exact join5_lo rfl (by omega) (by omega) (by omega) (by omega) (by omega)
    | exact join5_hi rfl (by omega) (by omega) (by omega) (by omega) (by omega)

set_option maxHeartbeats 4000000 in
theorem out_8 (c : Dev nD) (t : Fin cfg0.N) (h0 : t.val % 16 = 0) (y0 y1 y2 y3 : Fin 2 → M 128 768) (y4 : Fin 2 → M 128 384) (y5 : Fin 2 → M 128 128) (D : Fin 12 → M 128 128)
    (hD : D = 0)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) :
    (outsAt0 m c t.val t.isLt).2.2 = C3 .f32 (fstep (fstep D (stkg y5 0 (by omega)) (stk y3 0 (by omega)) (stk y0 0 (by omega)) (stk y1 0 (by omega))) (stkg y5 64 (by omega)) (stk y3 64 (by omega)) (stk y0 64 (by omega)) (stk y1 64 (by omega))) := by
  rw [outsAt0_A m c t h0]
  dsimp only
  frame_out
  simp only [read_unread_whole, zero_state D hD]
  simp only [stack_11 _ _ hb5, stack_15 _ _ hb0, stack_28 _ _ hb1, stack_39 _ _ hb2, stack_47 _ _ hb3, stack_52 _ _ hb4, stack_78 _ _ hb5,
    stack_88 _ _ hb0, stack_96 _ _ hb1, stack_101 _ _ hb2, stack_115 _ _ hb3, stack_127 _ _ hb4]
  simp (disch := rfl) only [as_62, as_63, k0_pay2, k0_pay53, k0_pay54, k0_pay55, k0_pay56, k0_pay57, k0_pay58, k0_pay59, k0_pay60, k0_pay61, k0_pay128, k0_pay129, k0_pay130, k0_pay131, k0_pay132, k0_pay133, k0_pay134, k0_pay135, k0_pay136, truncf_C3, extf_C3, addf_C3, subf_C3, mulf_C3, shapeCast_C3, exp_C3,
    zero_C3, zero_C3', FwdPay.nn, FwdPay.na, FwdPay.tns, bcast, sub_self, fmul_zero, fzero_mul, ftr_zero, zero_add, add_zero, slice_128_0, stack_127 _ _ hb4,
    FwdPay.store_4, FwdPay.store_5, FwdPay.store_62, FwdPay.store_63, FwdPay.store_64, FwdPay.store_65]

end Cert.Proof.FwdA
-- ==== Proof.FwdB.lean ====
module

public import proofs.«01_k».proof.Proof.FwdBlk
public import Idealize.ShloMosaic.Lib.Pipeline.ReadBack

/-! A later point of the forward scan: what its block of each result and the state hold. -/

@[expose] public section

set_option maxRecDepth 16384

noncomputable section

namespace Cert.Proof.FwdB

open Cert.Kernel2Ideal Cert.Kernel2Ideal.Gen Cert.Proof.ScanOps Cert.Proof.ScanDots Cert.Proof.ScanStacks Cert.Proof.FwdPay Cert.Proof.FwdBlk
open Idealize.ShloMosaic Idealize.ShloMosaic.TcCoe Idealize.SL.Sem

variable (m : (ℓ : Loc nD τ sig) → Buf (Elt Ideal) ℓ)

set_option maxHeartbeats 4000000 in
theorem out_6 (c : Dev nD) (t : Fin cfg0.N) (h0 : ¬t.val % 16 = 0) (y0 y1 y2 y3 : Fin 2 → M 128 768) (y4 : Fin 2 → M 128 384) (y5 : Fin 2 → M 128 128) (D : Fin 12 → M 128 128)
    (hD : (outsAt0 m c (t.val - 1) (by omega)).2.2 = C3 .f32 D)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) :
    (outsAt0 m c t.val t.isLt).1 = C3 .f32 (ScanBlk.join (fo (fstep D (stkg y5 0 (by omega)) (stk y3 0 (by omega)) (stk y0 0 (by omega)) (stk y1 0 (by omega))) (stk y0 64 (by omega)) (stk y1 64 (by omega)) (stk y2 64 (by omega)) (stka y4 64 (by omega)))
      (fo D (stk y0 0 (by omega)) (stk y1 0 (by omega)) (stk y2 0 (by omega)) (stka y4 0 (by omega)))) := by
  rw [outsAt0_B m c t h0]
  dsimp only
  frame_out
  funext (y : S2x128x768.Idx)
  canon_tiles x h
  all_goals
    try simp only [read_unread_whole, hD]
    simp only [stack_11 _ _ hb5, stack_15 _ _ hb0, stack_28 _ _ hb1, stack_39 _ _ hb2, stack_47 _ _ hb3, stack_52 _ _ hb4, stack_78 _ _ hb5,
      stack_88 _ _ hb0, stack_96 _ _ hb1, stack_101 _ _ hb2, stack_115 _ _ hb3, stack_127 _ _ hb4]
    simp (disch := rfl) only [as_62, as_63, k0_pay2, k0_pay53, k0_pay54, k0_pay55, k0_pay56, k0_pay57, k0_pay58, k0_pay59, k0_pay60, k0_pay61, k0_pay128, k0_pay129, k0_pay130, k0_pay131, k0_pay132, k0_pay133, k0_pay134, k0_pay135, k0_pay136, truncf_C3, extf_C3, addf_C3, subf_C3, mulf_C3, shapeCast_C3, exp_C3,
      zero_C3, zero_C3', FwdPay.nn, FwdPay.na, FwdPay.tns, bcast, sub_self, fmul_zero, fzero_mul, ftr_zero, zero_add, add_zero, slice_128_0, stack_127 _ _ hb4,
      FwdPay.store_4, FwdPay.store_5, FwdPay.store_62, FwdPay.store_63, FwdPay.store_64, FwdPay.store_65]
    first
    | exact ScanBlk.join_lo rfl (by omega) (by omega) (by omega)
    | exact ScanBlk.join_hi rfl (by omega) (by omega) (by omega)

set_option maxHeartbeats 4000000 in
theorem out_7 (c : Dev nD) (t : Fin cfg0.N) (h0 : ¬t.val % 16 = 0) (y0 y1 y2 y3 : Fin 2 → M 128 768) (y4 : Fin 2 → M 128 384) (y5 : Fin 2 → M 128 128) (D : Fin 12 → M 128 128)
    (hD : (outsAt0 m c (t.val - 1) (by omega)).2.2 = C3 .f32 D)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) :
    (outsAt0 m c t.val t.isLt).2.1 = C5 .f32 (join5 (fstep D (stkg y5 0 (by omega)) (stk y3 0 (by omega)) (stk y0 0 (by omega)) (stk y1 0 (by omega))) D) := by
  rw [outsAt0_B m c t h0]
  dsimp only
  frame_out
  funext (y : S2x2x6x128x128.Idx)
  canon_tiles x h
  all_goals
    try simp only [read_unread_whole, hD]
    try simp only [stack_11 _ _ hb5, stack_15 _ _ hb0, stack_28 _ _ hb1, stack_39 _ _ hb2, stack_47 _ _ hb3, stack_52 _ _ hb4, stack_78 _ _ hb5,
      stack_88 _ _ hb0, stack_96 _ _ hb1, stack_101 _ _ hb2, stack_115 _ _ hb3, stack_127 _ _ hb4]
    simp (disch := rfl) only [as_62, as_63, k0_pay2, k0_pay53, k0_pay54, k0_pay55, k0_pay56, k0_pay57, k0_pay58, k0_pay59, k0_pay60, k0_pay61, k0_pay128, k0_pay129, k0_pay130, k0_pay131, k0_pay132, k0_pay133, k0_pay134, k0_pay135, k0_pay136, truncf_C3, extf_C3, addf_C3, subf_C3, mulf_C3, shapeCast_C3, exp_C3,
      zero_C3, zero_C3', FwdPay.nn, FwdPay.na, FwdPay.tns, bcast, sub_self, fmul_zero, fzero_mul, ftr_zero, zero_add, add_zero, slice_128_0, stack_127 _ _ hb4,
      FwdPay.store_4, FwdPay.store_5, FwdPay.store_62, FwdPay.store_63, FwdPay.store_64, FwdPay.store_65]
    first
    | exact join5_lo rfl (by omega) (by omega) (by omega) (by omega) (by omega)
    | exact join5_hi rfl (by omega) (by omega) (by omega) (by omega) (by omega)

set_option maxHeartbeats 4000000 in
theorem out_8 (c : Dev nD) (t : Fin cfg0.N) (h0 : ¬t.val % 16 = 0) (y0 y1 y2 y3 : Fin 2 → M 128 768) (y4 : Fin 2 → M 128 384) (y5 : Fin 2 → M 128 128) (D : Fin 12 → M 128 128)
    (hD : (outsAt0 m c (t.val - 1) (by omega)).2.2 = C3 .f32 D)
    (hb0 : iblk m c 0 t = C3 .f32 y0) (hb1 : iblk m c 1 t = C3 .f32 y1) (hb2 : iblk m c 2 t = C3 .f32 y2) (hb3 : iblk m c 3 t = C3 .f32 y3)
    (hb4 : iblk m c 4 t = C3 .f32 y4) (hb5 : iblk m c 5 t = C3 .f32 y5) :
    (outsAt0 m c t.val t.isLt).2.2 = C3 .f32 (fstep (fstep D (stkg y5 0 (by omega)) (stk y3 0 (by omega)) (stk y0 0 (by omega)) (stk y1 0 (by omega))) (stkg y5 64 (by omega)) (stk y3 64 (by omega)) (stk y0 64 (by omega)) (stk y1 64 (by omega))) := by
  rw [outsAt0_B m c t h0]
  dsimp only
  frame_out
  simp only [read_unread_whole, hD]
  simp only [stack_11 _ _ hb5, stack_15 _ _ hb0, stack_28 _ _ hb1, stack_39 _ _ hb2, stack_47 _ _ hb3, stack_52 _ _ hb4, stack_78 _ _ hb5,
    stack_88 _ _ hb0, stack_96 _ _ hb1, stack_101 _ _ hb2, stack_115 _ _ hb3, stack_127 _ _ hb4]
  simp (disch := rfl) only [as_62, as_63, k0_pay2, k0_pay53, k0_pay54, k0_pay55, k0_pay56, k0_pay57, k0_pay58, k0_pay59, k0_pay60, k0_pay61, k0_pay128, k0_pay129, k0_pay130, k0_pay131, k0_pay132, k0_pay133, k0_pay134, k0_pay135, k0_pay136, truncf_C3, extf_C3, addf_C3, subf_C3, mulf_C3, shapeCast_C3, exp_C3,
    zero_C3, zero_C3', FwdPay.nn, FwdPay.na, FwdPay.tns, bcast, sub_self, fmul_zero, fzero_mul, ftr_zero, zero_add, add_zero, slice_128_0, stack_127 _ _ hb4,
    FwdPay.store_4, FwdPay.store_5, FwdPay.store_62, FwdPay.store_63, FwdPay.store_64, FwdPay.store_65]

end Cert.Proof.FwdB
-- ==== Proof.FwdKer.lean ====
module

public import proofs.«01_k».proof.Proof.FwdA
public import proofs.«01_k».proof.Proof.FwdB

/-! The forward scan's results, over all its points. -/

@[expose] public section

set_option maxRecDepth 16384

noncomputable section

namespace Cert.Proof.FwdKer

open Cert.Kernel2Ideal Cert.Kernel2Ideal.Gen Cert.Proof.ScanOps Cert.Proof.ScanStacks Cert.Proof.ScanSpec Cert.Proof.FwdBlk
open Cert.Proof.FwdSpec (St O SI St_succ)
open Idealize.ShloMosaic Idealize.ShloMosaic.TcCoe Idealize.SL.Sem

variable (m : (ℓ : Loc nD τ sig) → Buf (Elt Ideal) ℓ)

/-- What the device's arrays hold, by sequence, head and chunk. -/
def inp (c : Dev nD) : FwdSpec.In where
  u := hd (q := 128) (re (m ((c : Thread nD τ).loc main_arg0)))
  w := hd (q := 128) (re (m ((c : Thread nD τ).loc main_arg1)))
  q := hd (q := 128) (re (m ((c : Thread nD τ).loc main_arg2)))
  k := hd (q := 128) (re (m ((c : Thread nD τ).loc main_arg3)))
  a := hd (q := 64) (re (m ((c : Thread nD τ).loc main_arg4)))
  g := hdg (re (m ((c : Thread nD τ).loc main_arg5)))

/-- A family over sequence and head. -/
abbrev fam {α : Type} (Z : Fin 2 → Fin 6 → α) : Fin 12 → α := fun p => Z ⟨p.val / 6, by omega⟩ ⟨p.val % 6, by omega⟩

theorem stk_0 (X : M 4096 768) (t : ℕ) (ht : t < 16) (h) : stk (rows X t ht) 0 h = fam fun b h => hd (q := 128) X b h ⟨2 * t, by omega⟩ := by
  funext p r k
  have hr := r.isLt
  unfold stk rows fam hd
  congr 1
  exact Fin.ext (by show 2048 * (p.val / 6) + (128 * t + (0 + r.val)) = 2048 * (p.val / 6) + (64 * (2 * t) + r.val); omega)
theorem stka_0 (X : M 4096 384) (t : ℕ) (ht : t < 16) (h) : stka (rows X t ht) 0 h = fam fun b h => hd (q := 64) X b h ⟨2 * t, by omega⟩ := by
  funext p r k
  have hr := r.isLt
  unfold stka rows fam hd
  congr 1
  exact Fin.ext (by show 2048 * (p.val / 6) + (128 * t + (0 + r.val)) = 2048 * (p.val / 6) + (64 * (2 * t) + r.val); omega)
theorem stkg_0 (X : M 4096 128) (t : ℕ) (ht : t < 16) (h) : stkg (rows X t ht) 0 h = fam fun b h _ _ => hdg X b h ⟨2 * t, by omega⟩ := by
  funext p r k
  unfold stkg rows fam hdg
  congr 1
  exact Fin.ext (by show 2048 * (p.val / 6) + (128 * t + 0) = 2048 * (p.val / 6) + 64 * (2 * t); omega)
theorem stk_64 (X : M 4096 768) (t : ℕ) (ht : t < 16) (h) : stk (rows X t ht) 64 h = fam fun b h => hd (q := 128) X b h ⟨2 * t + 1, by omega⟩ := by
  funext p r k
  have hr := r.isLt
  unfold stk rows fam hd
  congr 1
  exact Fin.ext (by show 2048 * (p.val / 6) + (128 * t + (64 + r.val)) = 2048 * (p.val / 6) + (64 * (2 * t + 1) + r.val); omega)
theorem stka_64 (X : M 4096 384) (t : ℕ) (ht : t < 16) (h) : stka (rows X t ht) 64 h = fam fun b h => hd (q := 64) X b h ⟨2 * t + 1, by omega⟩ := by
  funext p r k
  have hr := r.isLt
  unfold stka rows fam hd
  congr 1
  exact Fin.ext (by show 2048 * (p.val / 6) + (128 * t + (64 + r.val)) = 2048 * (p.val / 6) + (64 * (2 * t + 1) + r.val); omega)
theorem stkg_64 (X : M 4096 128) (t : ℕ) (ht : t < 16) (h) : stkg (rows X t ht) 64 h = fam fun b h _ _ => hdg X b h ⟨2 * t + 1, by omega⟩ := by
  funext p r k
  unfold stkg rows fam hdg
  congr 1
  exact Fin.ext (by show 2048 * (p.val / 6) + (128 * t + 64) = 2048 * (p.val / 6) + 64 * (2 * t + 1); omega)

/-! ## The equations of a point's two chunks -/

theorem step_0 (I : FwdSpec.In) (t : ℕ) (ht : t < 16) : fstep (fam fun b h => St I b h (2 * t)) (fam fun b h _ _ => I.g b h ⟨2 * t, by omega⟩)
      (fam fun b h => I.k b h ⟨2 * t, by omega⟩) (fam fun b h => I.u b h ⟨2 * t, by omega⟩) (fam fun b h => I.w b h ⟨2 * t, by omega⟩) = fam fun b h => St I b h (2 * t + 1) := by
  funext p
  exact (St_succ I _ _ (by omega)).symm
theorem step_1 (I : FwdSpec.In) (t : ℕ) (ht : t < 16) : fstep (fam fun b h => St I b h (2 * t + 1)) (fam fun b h _ _ => I.g b h ⟨2 * t + 1, by omega⟩)
      (fam fun b h => I.k b h ⟨2 * t + 1, by omega⟩) (fam fun b h => I.u b h ⟨2 * t + 1, by omega⟩) (fam fun b h => I.w b h ⟨2 * t + 1, by omega⟩) = fam fun b h => St I b h (2 * t + 2) := by
  funext p
  exact (St_succ I _ _ (by omega)).symm
theorem step_2 (I : FwdSpec.In) (t : ℕ) (ht : t < 16) : fstep (fstep (fam fun b h => St I b h (2 * t)) (fam fun b h _ _ => I.g b h ⟨2 * t, by omega⟩)
      (fam fun b h => I.k b h ⟨2 * t, by omega⟩) (fam fun b h => I.u b h ⟨2 * t, by omega⟩) (fam fun b h => I.w b h ⟨2 * t, by omega⟩)) (fam fun b h _ _ => I.g b h ⟨2 * t + 1, by omega⟩)
      (fam fun b h => I.k b h ⟨2 * t + 1, by omega⟩) (fam fun b h => I.u b h ⟨2 * t + 1, by omega⟩) (fam fun b h => I.w b h ⟨2 * t + 1, by omega⟩) = fam fun b h => St I b h (2 * t + 2) :=
  (congrArg (fun Z => fstep Z (fam fun b h _ _ => I.g b h ⟨2 * t + 1, by omega⟩)
      (fam fun b h => I.k b h ⟨2 * t + 1, by omega⟩) (fam fun b h => I.u b h ⟨2 * t + 1, by omega⟩) (fam fun b h => I.w b h ⟨2 * t + 1, by omega⟩)) (step_0 I t ht)).trans (step_1 I t ht)
theorem res_0 (I : FwdSpec.In) (t : ℕ) (ht : t < 16) : fo (fam fun b h => St I b h (2 * t)) (fam fun b h => I.u b h ⟨2 * t, by omega⟩)
      (fam fun b h => I.w b h ⟨2 * t, by omega⟩) (fam fun b h => I.q b h ⟨2 * t, by omega⟩) (fam fun b h => I.a b h ⟨2 * t, by omega⟩) = fam fun b h => O I b h ⟨2 * t, by omega⟩ := rfl
theorem res_1 (I : FwdSpec.In) (t : ℕ) (ht : t < 16) : fo (fstep (fam fun b h => St I b h (2 * t)) (fam fun b h _ _ => I.g b h ⟨2 * t, by omega⟩)
      (fam fun b h => I.k b h ⟨2 * t, by omega⟩) (fam fun b h => I.u b h ⟨2 * t, by omega⟩) (fam fun b h => I.w b h ⟨2 * t, by omega⟩)) (fam fun b h => I.u b h ⟨2 * t + 1, by omega⟩) (fam fun b h => I.w b h ⟨2 * t + 1, by omega⟩)
      (fam fun b h => I.q b h ⟨2 * t + 1, by omega⟩) (fam fun b h => I.a b h ⟨2 * t + 1, by omega⟩) = fam fun b h => O I b h ⟨2 * t + 1, by omega⟩ :=
  (congrArg (fun Z => fo Z (fam fun b h => I.u b h ⟨2 * t + 1, by omega⟩)
      (fam fun b h => I.w b h ⟨2 * t + 1, by omega⟩) (fam fun b h => I.q b h ⟨2 * t + 1, by omega⟩) (fam fun b h => I.a b h ⟨2 * t + 1, by omega⟩)) (step_0 I t ht)).trans rfl

/-- A point's block is a part of the whole array. -/
theorem join_whole {q : ℕ} (Z : Fin 2 → Fin 6 → Fin 32 → M 64 q) (t : ℕ) (ht : t < 16) (b : Fin 2) (r : Fin 128) (k : Fin (6 * q)) :
    ScanBlk.join (fam fun b h => Z b h ⟨2 * t + 1, by omega⟩) (fam fun b h => Z b h ⟨2 * t, by omega⟩) b r k
      = whole Z b ⟨128 * t + r.val, by omega⟩ k := by
  have hk : k.val / q < 6 := Nat.div_lt_of_lt_mul (lt_of_lt_of_eq k.isLt (mul_comm 6 q))
  have key : ∀ {b b' : Fin 2} {h h' : Fin 6} {n n' : Fin 32} {i i' : Fin 64} {j j' : Fin q}, b.val = b'.val → h.val = h'.val → n.val = n'.val →
      i.val = i'.val → j.val = j'.val → Z b h n i j = Z b' h' n' i' j' := by
    intro b b' h h' n n' i i' j j' e1 e2 e3 e4 e5
    rw [Fin.ext e1, Fin.ext e2, Fin.ext e3, Fin.ext e4, Fin.ext e5]
  unfold ScanBlk.join whole
  dsimp only
  split
  · exact key (by dsimp only; generalize k.val / q = z at hk ⊢; omega) (by dsimp only; generalize k.val / q = z at hk ⊢; omega)
      (by dsimp only; omega) (by dsimp only; omega) rfl
  · exact key (by dsimp only; generalize k.val / q = z at hk ⊢; omega) (by dsimp only; generalize k.val / q = z at hk ⊢; omega)
      (by dsimp only; omega) (by dsimp only; omega) rfl

theorem join_at {q : ℕ} (Z : Fin 2 → Fin 6 → Fin 32 → M 64 q) (t : ℕ) (ht : t < 16) (y : (⟨3, ![2, 128, 6 * q]⟩ : Shape).Idx) :
    C3 .f32 (ScanBlk.join (fam fun b h => Z b h ⟨2 * t + 1, by omega⟩) (fam fun b h => Z b h ⟨2 * t, by omega⟩)) y
      = C3 .f32 (whole Z) (ix3 (y 0) ⟨128 * t + (y 1).val, by have : (y 1).val < 128 := (y 1).isLt; omega⟩ (y 2)) :=
  congrArg (fun x : ℝ => (x : EReal)) (join_whole Z t ht (y 0) (y 1) (y 2))

theorem join5_whole (Z : Fin 2 → Fin 6 → Fin 32 → M 128 128) (t : ℕ) (ht : t < 16) (b : Fin 2) (n : Fin 2) (h : Fin 6) :
    join5 (fam fun b h => Z b h ⟨2 * t + 1, by omega⟩) (fam fun b h => Z b h ⟨2 * t, by omega⟩) b n h = Z b h ⟨2 * t + n.val, by omega⟩ := by
  have key : ∀ {b b' : Fin 2} {h h' : Fin 6} {n n' : Fin 32}, b.val = b'.val → h.val = h'.val → n.val = n'.val → Z b h n = Z b' h' n' := by
    intro b b' h h' n n' e1 e2 e3
    rw [Fin.ext e1, Fin.ext e2, Fin.ext e3]
  unfold join5
  split
  · exact key (by dsimp only; omega) (by dsimp only; omega) (by dsimp only; omega)
  · exact key (by dsimp only; omega) (by dsimp only; omega) (by dsimp only; omega)

theorem join5_at (Z : Fin 2 → Fin 6 → Fin 32 → M 128 128) (t : ℕ) (ht : t < 16) (y : S2x2x6x128x128.Idx) :
    C5 .f32 (join5 (fam fun b h => Z b h ⟨2 * t + 1, by omega⟩) (fam fun b h => Z b h ⟨2 * t, by omega⟩)) y
      = C5 .f32 (fun b n h => Z b h n) (ix5 (y 0) ⟨2 * t + (y 1).val, by have : (y 1).val < 2 := (y 1).isLt; omega⟩ (y 2) (y 3) (y 4) : S2x32x6x128x128.Idx) :=
  congrArg (fun x : M 128 128 => ((x (y 3) (y 4) : ℝ) : EReal)) (join5_whole Z t ht (y 0) (y 1) (y 2))

variable (c : Dev nD)
    (hf0 : ∀ i, ((((m ((c : Thread nD τ).loc main_arg0)) i : EReal).toReal : ℝ) : EReal) = (m ((c : Thread nD τ).loc main_arg0)) i)
    (hf1 : ∀ i, ((((m ((c : Thread nD τ).loc main_arg1)) i : EReal).toReal : ℝ) : EReal) = (m ((c : Thread nD τ).loc main_arg1)) i)
    (hf2 : ∀ i, ((((m ((c : Thread nD τ).loc main_arg2)) i : EReal).toReal : ℝ) : EReal) = (m ((c : Thread nD τ).loc main_arg2)) i)
    (hf3 : ∀ i, ((((m ((c : Thread nD τ).loc main_arg3)) i : EReal).toReal : ℝ) : EReal) = (m ((c : Thread nD τ).loc main_arg3)) i)
    (hf4 : ∀ i, ((((m ((c : Thread nD τ).loc main_arg4)) i : EReal).toReal : ℝ) : EReal) = (m ((c : Thread nD τ).loc main_arg4)) i)
    (hf5 : ∀ i, ((((m ((c : Thread nD τ).loc main_arg5)) i : EReal).toReal : ℝ) : EReal) = (m ((c : Thread nD τ).loc main_arg5)) i)

include hf0 hf1 hf2 hf3 hf4 hf5

/-- The state, after each point. -/
theorem state : ∀ (n : ℕ) (hn : n < cfg0.N), (outsAt0 m c n hn).2.2 = C3 .f32 (fam fun b h => St (inp m c) b h (2 * n + 2)) := by
  intro n
  induction n with
  | zero =>
    intro hn
    let t : Fin cfg0.N := ⟨0, hn⟩
    have ht : t.val < 16 := t.isLt
    have h := FwdA.out_8 m c t rfl _ _ _ _ _ _ (fam fun b h => St (inp m c) b h (2 * 0)) rfl (blk_0 m c t ht hf0) (blk_1 m c t ht hf1) (blk_2 m c t ht hf2) (blk_3 m c t ht hf3) (blk_4 m c t ht hf4) (blk_5 m c t ht hf5)
    simp only [stk_64, stk_0, stka_64, stka_0, stkg_64, stkg_0] at h
    exact h.trans (congrArg (C3 .f32) (step_2 (inp m c) 0 (by omega)))
  | succ n ih =>
    intro hn
    let t : Fin cfg0.N := ⟨n + 1, hn⟩
    have hn' : n + 1 < 16 := hn
    have ht : t.val < 16 := t.isLt
    have h := FwdB.out_8 m c t (by show ¬(n + 1) % 16 = 0; omega) _ _ _ _ _ _ (fam fun b h => St (inp m c) b h (2 * (n + 1)))
      (ih (by omega)) (blk_0 m c t ht hf0) (blk_1 m c t ht hf1) (blk_2 m c t ht hf2) (blk_3 m c t ht hf3) (blk_4 m c t ht hf4) (blk_5 m c t ht hf5)
    simp only [stk_64, stk_0, stka_64, stka_0, stkg_64, stkg_0] at h
    exact h.trans (congrArg (C3 .f32) (step_2 (inp m c) (n + 1) (by omega)))

theorem blkOut_6 (t : Fin cfg0.N) (ht : t.val < 16) : (outsAt0 m c t.val t.isLt).1
    = C3 .f32 (ScanBlk.join (q := 128) (fam fun b h => O (inp m c) b h ⟨2 * t.val + 1, by omega⟩) (fam fun b h => O (inp m c) b h ⟨2 * t.val, by omega⟩)) := by
  by_cases h0 : t.val % 16 = 0
  · have hz : t.val = 0 := by omega
    have h := FwdA.out_6 m c t h0 _ _ _ _ _ _ (fam fun b h => St (inp m c) b h (2 * t.val)) (by rw [hz]; rfl) (blk_0 m c t ht hf0) (blk_1 m c t ht hf1) (blk_2 m c t ht hf2) (blk_3 m c t ht hf3) (blk_4 m c t ht hf4) (blk_5 m c t ht hf5)
    simp only [stk_64, stk_0, stka_64, stka_0, stkg_64, stkg_0] at h
    exact h.trans (congrArg (C3 .f32) (congrArg₂ ScanBlk.join (res_1 (inp m c) t.val ht) (res_0 (inp m c) t.val ht)))
  · have h := FwdB.out_6 m c t h0 _ _ _ _ _ _ (fam fun b h => St (inp m c) b h (2 * t.val))
      (by rw [state m c hf0 hf1 hf2 hf3 hf4 hf5 (t.val - 1) (by omega)]; congr 1; rw [show 2 * (t.val - 1) + 2 = 2 * t.val by omega]) (blk_0 m c t ht hf0) (blk_1 m c t ht hf1) (blk_2 m c t ht hf2) (blk_3 m c t ht hf3) (blk_4 m c t ht hf4) (blk_5 m c t ht hf5)
    simp only [stk_64, stk_0, stka_64, stka_0, stkg_64, stkg_0] at h
    exact h.trans (congrArg (C3 .f32) (congrArg₂ ScanBlk.join (res_1 (inp m c) t.val ht) (res_0 (inp m c) t.val ht)))

theorem blkOut_7 (t : Fin cfg0.N) (ht : t.val < 16) : (outsAt0 m c t.val t.isLt).2.1
    = C5 .f32 (join5 (fam fun b h => SI (inp m c) b h ⟨2 * t.val + 1, by omega⟩) (fam fun b h => SI (inp m c) b h ⟨2 * t.val, by omega⟩)) := by
  by_cases h0 : t.val % 16 = 0
  · have hz : t.val = 0 := by omega
    have h := FwdA.out_7 m c t h0 _ _ _ _ _ _ (fam fun b h => St (inp m c) b h (2 * t.val)) (by rw [hz]; rfl) (blk_0 m c t ht hf0) (blk_1 m c t ht hf1) (blk_2 m c t ht hf2) (blk_3 m c t ht hf3) (blk_4 m c t ht hf4) (blk_5 m c t ht hf5)
    simp only [stk_64, stk_0, stka_64, stka_0, stkg_64, stkg_0] at h
    exact h.trans (congrArg (fun Z => C5 .f32 (join5 Z (fam fun b h => St (inp m c) b h (2 * t.val)))) (step_0 (inp m c) t.val ht))
  · have h := FwdB.out_7 m c t h0 _ _ _ _ _ _ (fam fun b h => St (inp m c) b h (2 * t.val))
      (by rw [state m c hf0 hf1 hf2 hf3 hf4 hf5 (t.val - 1) (by omega)]; congr 1; rw [show 2 * (t.val - 1) + 2 = 2 * t.val by omega]) (blk_0 m c t ht hf0) (blk_1 m c t ht hf1) (blk_2 m c t ht hf2) (blk_3 m c t ht hf3) (blk_4 m c t ht hf4) (blk_5 m c t ht hf5)
    simp only [stk_64, stk_0, stka_64, stka_0, stkg_64, stkg_0] at h
    exact h.trans (congrArg (fun Z => C5 .f32 (join5 Z (fam fun b h => St (inp m c) b h (2 * t.val)))) (step_0 (inp m c) t.val ht))

theorem final_6 : (dats m 0 c).arrAt 6 cfg0.N = (C3 .f32 (whole (q := 128) (O (inp m c))) : FVec Ideal S2x2048x768 .f32) := by
  refine (dats m 0 c).arrAt_eq_of_covers 6 _ (by decide +kernel) fun t hf y => ?_
  have ht : t.val < 16 := t.isLt
  blk_simp
  rw [after0_6, blkOut_6 m c hf0 hf1 hf2 hf3 hf4 hf5 t ht]
  generalize O (inp m c) = Z
  refine (join_at (q := 128) Z t.val ht y).trans (congrArg (C3 .f32 (whole (q := 128) Z)) ?_)
  blk_ext [idx]

theorem final_7 : (dats m 0 c).arrAt 7 cfg0.N = (C5 .f32 (fun b n h => SI (inp m c) b h n) : FVec Ideal S2x32x6x128x128 .f32) := by
  refine (dats m 0 c).arrAt_eq_of_covers 7 _ (by decide +kernel) fun t hf y => ?_
  have ht : t.val < 16 := t.isLt
  blk_simp
  rw [after0_7, blkOut_7 m c hf0 hf1 hf2 hf3 hf4 hf5 t ht]
  generalize SI (inp m c) = Z
  refine (join5_at Z t.val ht y).trans (congrArg (C5 .f32 fun b n h => Z b h n) ?_)
  blk_ext [idx]

end Cert.Proof.FwdKer
-- ==== Proof.FwdLoop.lean ====
module

public import proofs.«01_k».proof.Proof.Gen.Reference2Ideal.Run
public import proofs.«01_k».proof.Proof.ScanCut
public import proofs.«01_k».proof.Proof.FwdSpec

/-! The forward scan's reference: its loop over the chunks. -/

@[expose] public section

set_option maxRecDepth 16384

noncomputable section

namespace Cert.Proof.FwdLoop

open Cert.Reference2Ideal Cert.Reference2Ideal.Gen Cert.Reference2Ideal.Value Cert.Proof.ScanOps Cert.Proof.ScanRefOps
open Cert.Proof.ScanSpec (vv hd hdg whole)
open Cert.Proof.FwdSpec Cert.Proof.ScanCut Idealize.ShloMosaic Idealize.ShloMosaic.TcCoe Idealize.SL.Sem Idealize.ShloMosaic.StableHlo
open Idealize.ShloMosaic.Tactic

theorem nn (x : Fin 2 → Fin 6 → M 64 128) (y : Fin 2 → Fin 6 → M 128 128) :
    Host.dotGeneral Cert.Reference2Ideal.dot_S2x6x64x128_S2x6x128x128_S2x6x64x128_3_2_2_3_01_01 none (C4 x) (C4 y) = C4 fun b h => mul (x b h) (y b h) := by
  funext i; pointwise [C4, tr, mul, coe_sum]
  exact Fin.sum_fin_congr fun k => (EReal.coe_mul _ _).symm

theorem na (x : Fin 2 → Fin 6 → M 64 64) (y : Fin 2 → Fin 6 → M 64 128) :
    Host.dotGeneral Cert.Reference2Ideal.dot_S2x6x64x64_S2x6x64x128_S2x6x64x128_3_2_2_3_01_01 none (C4 x) (C4 y) = C4 fun b h => mul (x b h) (y b h) := by
  funext i; pointwise [C4, tr, mul, coe_sum]
  exact Fin.sum_fin_congr fun k => (EReal.coe_mul _ _).symm

theorem tn (x : Fin 2 → Fin 6 → M 64 128) (y : Fin 2 → Fin 6 → M 64 128) :
    Host.dotGeneral Cert.Reference2Ideal.dot_S2x6x64x128_S2x6x64x128_S2x6x128x128_2_2_3_3_01_01 none (C4 x) (C4 y) = C4 fun b h => mul (tr (x b h)) (y b h) := by
  funext i; pointwise [C4, tr, mul, coe_sum]
  exact Fin.sum_fin_congr fun k => (EReal.coe_mul _ _).symm

theorem upd_128x128 (Y : Fin 32 → Fin 2 → Fin 6 → M 128 128) (z : Fin 2 → Fin 6 → M 128 128) (n : Fin 32) (st : Fin 5 → Int) (h0 : st 0 = n.val) (h1 : st 1 = 0) (h2 : st 2 = 0) (h3 : st 3 = 0) (h4 : st 4 = 0) (h) :
    Host.dynamicUpdateSlice (CS Y) (broadcastInDim S1x2x6x128x128 ![1, 2, 3, 4] bcast_S2x6x128x128_S1x2x6x128x128_1_2_3_4 (C4 z)) st h
      = CS (Function.update Y n z) := by
  have e0 : ∀ H, Host.clampedStart ⟨5, ![32, 2, 6, 128, 128]⟩ S1x2x6x128x128 H st 0 = n.val := fun H =>
    Host.clampedStart_of_le H st 0 n.val h0 (by show n.val + 1 ≤ 32; omega)
  have e1 : ∀ H, Host.clampedStart ⟨5, ![32, 2, 6, 128, 128]⟩ S1x2x6x128x128 H st 1 = 0 := fun H =>
    Host.clampedStart_of_le H st 1 0 h1 (by show 0 + 2 ≤ 2; omega)
  have e2 : ∀ H, Host.clampedStart ⟨5, ![32, 2, 6, 128, 128]⟩ S1x2x6x128x128 H st 2 = 0 := fun H =>
    Host.clampedStart_of_le H st 2 0 h2 (by show 0 + 6 ≤ 6; omega)
  have e3 : ∀ H, Host.clampedStart ⟨5, ![32, 2, 6, 128, 128]⟩ S1x2x6x128x128 H st 3 = 0 := fun H =>
    Host.clampedStart_of_le H st 3 0 h3 (by show 0 + 128 ≤ 128; omega)
  have e4 : ∀ H, Host.clampedStart ⟨5, ![32, 2, 6, 128, 128]⟩ S1x2x6x128x128 H st 4 = 0 := fun H =>
    Host.clampedStart_of_le H st 4 0 h4 (by show 0 + 128 ≤ 128; omega)
  funext i; pointwise [C4, CS]
  simp only [e0, e1, e2, e3, e4, Nat.zero_add, Nat.sub_zero]
  have b1 : (i 1).val < 2 := (i 1).isLt
  have b2 : (i 2).val < 6 := (i 2).isLt
  have b3 : (i 3).val < 128 := (i 3).isLt
  have b4 : (i 4).val < 128 := (i 4).isLt
  by_cases hi : (i 0).val = n.val
  · have e : Function.update Y n z (i 0) = z := (Function.update_apply Y n z (i 0)).trans (if_pos (Fin.ext hi))
    rw [dif_pos (by omega), e]
    rfl
  · have e : Function.update Y n z (i 0) = Y (i 0) :=
      (Function.update_apply Y n z (i 0)).trans (if_neg fun h => hi (congrArg Fin.val h))
    rw [dif_neg (by omega), e]

/-- What the loop's buffers hold before chunk `j`. -/
structure Inv (I : In) (j : ℕ) (V : Valuation τ sig (Elt Ideal)) : Prop where
  q : V (Proc.devRef .tc main_v17_0) = CS fun n b h => I.q b h n
  k : V (Proc.devRef .tc main_v17_1) = CS fun n b h => I.k b h n
  u : V (Proc.devRef .tc main_v17_2) = CS fun n b h => I.u b h n
  w : V (Proc.devRef .tc main_v17_3) = CS fun n b h => I.w b h n
  g : V (Proc.devRef .tc main_v17_4) = CSG fun n b h => I.g b h n
  a : V (Proc.devRef .tc main_v17_5) = CS fun n b h => I.a b h n
  ctr : V (Proc.devRef .tc main_v17_6) = fun _ => Scf.iv 0#32 1#32 j
  S : V (Proc.devRef .tc main_v17_7) = C4 fun b h => St I b h j
  oO : ∃ Y, V (Proc.devRef .tc main_v17_8) = CS Y ∧ ∀ n b h, n.val < j → Y n b h = O I b h n
  oS : ∃ Y, V (Proc.devRef .tc main_v17_9) = CS Y ∧ ∀ n b h, n.val < j → Y n b h = SI I b h n

theorem upd_done {α : Type} (I : In) (Z : In → Fin 2 → Fin 6 → Fin 32 → α) (j : ℕ) (hj : j < 32) (Y : Fin 32 → Fin 2 → Fin 6 → α)
    (h : ∀ n b h, n.val < j → Y n b h = Z I b h n) (z : Fin 2 → Fin 6 → α) (hz : z = fun b h => Z I b h ⟨j, hj⟩) :
    ∀ n b h, n.val < j + 1 → Function.update Y ⟨j, hj⟩ z n b h = Z I b h n := by
  intro n b h' hn
  by_cases e : n = ⟨j, hj⟩
  · rw [e, Function.update_self, hz]
  · rw [Function.update_of_ne e]
    refine h n b h' ?_
    have : n.val ≠ j := fun hv => e (Fin.ext hv)
    omega

variable {I : In} {j : ℕ} {V : Valuation τ sig (Elt Ideal)} (H : Inv I j V) (hj : j < 32)
include H hj

theorem at_ctr : ((V (Proc.devRef .tc main_v17_6) : IVec S_ 32) (Shape.Idx.first h_S_)).toInt = (⟨j, hj⟩ : Fin 32).val := by
  rw [H.ctr]
  have : ∀ k : Fin 32, (Scf.iv 0#32 1#32 k.val : BitVec 32).toInt = (k.val : Int) := by decide +kernel
  exact this ⟨j, hj⟩

theorem v28 : res_main_while0b_v28 V = C4 fun b h => vv (St I b h j) (I.u b h ⟨j, hj⟩) (I.w b h ⟨j, hj⟩) := by
  unfold res_main_while0b_v28
  rw [H.u, H.w, H.S, slice_64x128 _ ⟨j, hj⟩ _ (at_ctr H hj) rfl rfl rfl rfl, slice_64x128 _ ⟨j, hj⟩ _ (at_ctr H hj) rfl rfl rfl rfl, nn]
  exact subf_C4 _ _

theorem s7 : step_main_v17_7 V = C4 fun b h => St I b h (j + 1) := by
  unfold step_main_v17_7
  rw [H.S, H.g, H.k, v28 H hj, slice_g _ ⟨j, hj⟩ _ (at_ctr H hj) rfl rfl, slice_64x128 _ ⟨j, hj⟩ _ (at_ctr H hj) rfl rfl rfl rfl, exp_CG, spread1, spread2, mulf_C4, tn]
  refine (addf_C4 _ _).trans ?_
  simp only [St_succ I _ _ hj]
  rfl

theorem s8 (Y) (hY : V (Proc.devRef .tc main_v17_8) = CS Y) :
    step_main_v17_8 V = CS (Function.update Y ⟨j, hj⟩ fun b h => O I b h ⟨j, hj⟩) := by
  unfold step_main_v17_8
  rw [hY, H.S, H.q, H.a, v28 H hj, slice_64x128 _ ⟨j, hj⟩ _ (at_ctr H hj) rfl rfl rfl rfl, slice_64x64 _ ⟨j, hj⟩ _ (at_ctr H hj) rfl rfl rfl rfl, nn, na, addf_C4]
  exact upd_64x128 _ _ _ _ (at_ctr H hj) rfl rfl rfl rfl _

theorem s9 (Y) (hY : V (Proc.devRef .tc main_v17_9) = CS Y) :
    step_main_v17_9 V = CS (Function.update Y ⟨j, hj⟩ fun b h => SI I b h ⟨j, hj⟩) := by
  unfold step_main_v17_9
  rw [hY, H.S]
  exact upd_128x128 _ _ _ _ (at_ctr H hj) rfl rfl rfl rfl _

theorem step : Inv I (j + 1) (STEP V) where
  q := (STEP_main_v17_0 V).trans H.q
  k := (STEP_main_v17_1 V).trans H.k
  u := (STEP_main_v17_2 V).trans H.u
  w := (STEP_main_v17_3 V).trans H.w
  g := (STEP_main_v17_4 V).trans H.g
  a := (STEP_main_v17_5 V).trans H.a
  ctr := by
    rw [STEP_main_v17_6, Scf.iv_succ, step_main_v17_6, H.ctr]
    rfl
  S := (STEP_main_v17_7 V).trans (s7 H hj)
  oO := by
    obtain ⟨Y, hY, hd⟩ := H.oO
    exact ⟨_, (STEP_main_v17_8 V).trans (s8 H hj Y hY), upd_done I O j hj Y hd _ rfl⟩
  oS := by
    obtain ⟨Y, hY, hd⟩ := H.oS
    exact ⟨_, (STEP_main_v17_9 V).trans (s9 H hj Y hY), upd_done I SI j hj Y hd _ rfl⟩

omit H hj in
theorem iterate (H : Inv I 0 V) : ∀ j, j ≤ 32 → Inv I j (STEP^[j] V) := by
  intro j
  induction j with
  | zero => exact fun _ => H
  | succ j ih =>
    intro hj
    rw [Function.iterate_succ_apply']
    exact step (ih (by omega)) (by omega)

end Cert.Proof.FwdLoop
-- ==== Proof.FwdRef.lean ====
module

public import proofs.«01_k».proof.Proof.FwdLoop

/-! The forward scan's reference: its entry into the loop, and its results. -/

@[expose] public section

set_option maxRecDepth 16384

noncomputable section

namespace Cert.Proof.FwdRef

open Cert.Reference2Ideal Cert.Reference2Ideal.Gen Cert.Reference2Ideal.Value Cert.Proof.ScanOps Cert.Proof.ScanRefOps
open Cert.Proof.ScanSpec (vv hd hdg whole)
open Cert.Proof.FwdSpec Cert.Proof.FwdLoop Cert.Proof.ScanCut Idealize.ShloMosaic Idealize.ShloMosaic.TcCoe Idealize.SL.Sem Idealize.ShloMosaic.StableHlo
open Idealize.ShloMosaic.Tactic

variable (m : (ℓ : Loc nD τ sig) → Buf (Elt Ideal) ℓ)

theorem entry_0 (c : Dev nD) (X : M 4096 (6 * 128)) (hx : m ((c.tc : Thread nD τ).loc main_arg2) = fun i => ((X (i 0) (i 1) : ℝ) : EReal)) :
    entryContents preI m c (Proc.devRef .tc main_v17_0) = CS fun n b h => hd (q := 128) X b h n := by
  refine Eq.trans ?_ (cut_128 _ X hx)
  simp only [entryContents, afterL_cons, afterL_nil]
  after_reads_simp
  rfl

theorem entry_1 (c : Dev nD) (X : M 4096 (6 * 128)) (hx : m ((c.tc : Thread nD τ).loc main_arg3) = fun i => ((X (i 0) (i 1) : ℝ) : EReal)) :
    entryContents preI m c (Proc.devRef .tc main_v17_1) = CS fun n b h => hd (q := 128) X b h n := by
  refine Eq.trans ?_ (cut_128 _ X hx)
  simp only [entryContents, afterL_cons, afterL_nil]
  after_reads_simp
  rfl

theorem entry_2 (c : Dev nD) (X : M 4096 (6 * 128)) (hx : m ((c.tc : Thread nD τ).loc main_arg0) = fun i => ((X (i 0) (i 1) : ℝ) : EReal)) :
    entryContents preI m c (Proc.devRef .tc main_v17_2) = CS fun n b h => hd (q := 128) X b h n := by
  refine Eq.trans ?_ (cut_128 _ X hx)
  simp only [entryContents, afterL_cons, afterL_nil]
  after_reads_simp
  rfl

theorem entry_3 (c : Dev nD) (X : M 4096 (6 * 128)) (hx : m ((c.tc : Thread nD τ).loc main_arg1) = fun i => ((X (i 0) (i 1) : ℝ) : EReal)) :
    entryContents preI m c (Proc.devRef .tc main_v17_3) = CS fun n b h => hd (q := 128) X b h n := by
  refine Eq.trans ?_ (cut_128 _ X hx)
  simp only [entryContents, afterL_cons, afterL_nil]
  after_reads_simp
  rfl

theorem entry_5 (c : Dev nD) (X : M 4096 (6 * 64)) (hx : m ((c.tc : Thread nD τ).loc main_arg4) = fun i => ((X (i 0) (i 1) : ℝ) : EReal)) :
    entryContents preI m c (Proc.devRef .tc main_v17_5) = CS fun n b h => hd (q := 64) X b h n := by
  refine Eq.trans ?_ (cut_64 _ X hx)
  simp only [entryContents, afterL_cons, afterL_nil]
  after_reads_simp
  rfl

theorem entry_4 (c : Dev nD) (X : M 4096 128) (hx : m ((c.tc : Thread nD τ).loc main_arg5) = fun i => ((X (i 0) (i 1) : ℝ) : EReal)) :
    entryContents preI m c (Proc.devRef .tc main_v17_4) = CSG fun n b h => hdg X b h n := by
  refine Eq.trans ?_ (cut_g _ X hx)
  simp only [entryContents, afterL_cons, afterL_nil]
  after_reads_simp
  rfl

theorem zero_S2x6x128x128 : (broadcastInDim S2x6x128x128 ![] bcast_S_S2x6x128x128 (constant S_ .f32 0#32) : FVec Ideal _ .f32) = C4 fun _ _ => (0 : M 128 128) := by
  funext (i : S2x6x128x128.Idx)
  pointwise [C4, CS, CSG]
  all_goals first | rfl | simp

theorem zero_S32x2x6x64x128 : (broadcastInDim S32x2x6x64x128 ![] bcast_S_S32x2x6x64x128 (constant S_ .f32 0#32) : FVec Ideal _ .f32) = CS fun _ _ _ => (0 : M 64 128) := by
  funext (i : S32x2x6x64x128.Idx)
  pointwise [C4, CS, CSG]
  all_goals first | rfl | simp

theorem zero_S32x2x6x128x128 : (broadcastInDim S32x2x6x128x128 ![] bcast_S_S32x2x6x128x128 (constant S_ .f32 0#32) : FVec Ideal _ .f32) = CS fun _ _ _ => (0 : M 128 128) := by
  funext (i : S32x2x6x128x128.Idx)
  pointwise [C4, CS, CSG]
  all_goals first | rfl | simp

theorem entry_7 (c : Dev nD) : entryContents preI m c (Proc.devRef .tc main_v17_7) = C4 fun _ _ => (0 : M 128 128) := by
  refine Eq.trans ?_ zero_S2x6x128x128
  simp only [entryContents, afterL_cons, afterL_nil]
  after_reads_simp
  rfl

theorem entry_8 (c : Dev nD) : entryContents preI m c (Proc.devRef .tc main_v17_8) = CS fun _ _ _ => (0 : M 64 128) := by
  refine Eq.trans ?_ zero_S32x2x6x64x128
  simp only [entryContents, afterL_cons, afterL_nil]
  after_reads_simp
  rfl

theorem entry_9 (c : Dev nD) : entryContents preI m c (Proc.devRef .tc main_v17_9) = CS fun _ _ _ => (0 : M 128 128) := by
  refine Eq.trans ?_ zero_S32x2x6x128x128
  simp only [entryContents, afterL_cons, afterL_nil]
  after_reads_simp
  rfl

theorem inv_entry (c : Dev nD) (X0 X1 X2 X3 : M 4096 (6 * 128)) (X4 : M 4096 (6 * 64)) (X5 : M 4096 128)
    (h0 : m ((c.tc : Thread nD τ).loc main_arg0) = fun i => ((X0 (i 0) (i 1) : ℝ) : EReal))
    (h1 : m ((c.tc : Thread nD τ).loc main_arg1) = fun i => ((X1 (i 0) (i 1) : ℝ) : EReal))
    (h2 : m ((c.tc : Thread nD τ).loc main_arg2) = fun i => ((X2 (i 0) (i 1) : ℝ) : EReal))
    (h3 : m ((c.tc : Thread nD τ).loc main_arg3) = fun i => ((X3 (i 0) (i 1) : ℝ) : EReal))
    (h4 : m ((c.tc : Thread nD τ).loc main_arg4) = fun i => ((X4 (i 0) (i 1) : ℝ) : EReal))
    (h5 : m ((c.tc : Thread nD τ).loc main_arg5) = fun i => ((X5 (i 0) (i 1) : ℝ) : EReal)) :
    Inv ⟨hd (q := 128) X0, hd (q := 128) X1, hd (q := 128) X2, hd (q := 128) X3, hd (q := 64) X4, hdg X5⟩ 0 (entryContents preI m c) where
  q := entry_0 m c X2 h2
  k := entry_1 m c X3 h3
  u := entry_2 m c X0 h0
  w := entry_3 m c X1 h1
  g := entry_4 m c X5 h5
  a := entry_5 m c X4 h4
  ctr := by rw [ctr_entry, Scf.iv_zero]
  S := entry_7 m c
  oO := ⟨_, entry_8 m c, fun _ _ _ h => absurd h (Nat.not_lt_zero _)⟩
  oS := ⟨_, entry_9 m c, fun _ _ _ h => absurd h (Nat.not_lt_zero _)⟩

theorem glue_s (Z : Fin 2 → Fin 6 → Fin 32 → M 128 128) (h) :
    (transpose S2x32x6x128x128 [1, 0, 2, 3, 4] (CS fun n b h => Z b h n) h : FVec Ideal _ .f32)
      = fun i => ((Z (i 0) (i 2) (i 1) (i 3) (i 4) : ℝ) : EReal) := by
  funext i
  pointwise [CS]

theorem out_O {I : In} {V : Valuation τ sig (Elt Ideal)} (H : Inv I 32 V) :
    out_main_v19 V = fun i => ((whole (q := 128) (O I) (i 0) (i 1) (i 2) : ℝ) : EReal) := by
  obtain ⟨Y, hY, hd⟩ := H.oO
  have e : Y = fun n b h => O I b h n := by
    funext n b h
    exact hd n b h (by omega)
  unfold out_main_v19
  rw [hY, e]
  exact glue_128 _ _ _

theorem out_S {I : In} {V : Valuation τ sig (Elt Ideal)} (H : Inv I 32 V) :
    out_main_v20 V = fun i => ((SI I (i 0) (i 2) (i 1) (i 3) (i 4) : ℝ) : EReal) := by
  obtain ⟨Y, hY, hd⟩ := H.oS
  have e : Y = fun n b h => SI I b h n := by
    funext n b h
    exact hd n b h (by omega)
  unfold out_main_v20
  rw [hY, e]
  exact glue_s _ _

end Cert.Proof.FwdRef
-- ==== Proof.ScanFwd.lean ====
module

public import proofs.«01_k».proof.Defs
public import proofs.«01_k».proof.Proof.FwdKer
public import proofs.«01_k».proof.Proof.FwdRef
public import proofs.«01_k».proof.Proof.Scan
public import proofs.«01_k».proof.Proof.Gen.Pre_finite2
public import Idealize.ShloMosaic.Lib.Pointwise

/-! The forward scan: the kernel computes the reference's result and states. -/

@[expose] public section

set_option maxRecDepth 16384

noncomputable section

namespace Cert.Proof.ScanFwd

open Cert.Kernel2Ideal (nD τ sig main_arg0 main_arg1 main_arg2 main_arg3 main_arg4 main_arg5)
open Idealize.ShloMosaic Idealize.ShloMosaic.TcCoe Idealize.SL.Sem Cert.Proof.ScanOps Cert.Proof.ScanStacks Cert.Proof.ScanSpec
open Cert.Proof.FwdSpec (O SI)

/-- The six verdicts of the precondition. -/
theorem cat6 (a0 a1 a2 a3 a4 a5 : IVec Cert.Pre_finite2.S_ 1) (hb hc)
    (h : concatenate Cert.Pre_finite2.S6 0 [⟨Cert.Pre_finite2.S1, broadcastInDim Cert.Pre_finite2.S1 ![] hb a0⟩,
      ⟨Cert.Pre_finite2.S1, broadcastInDim Cert.Pre_finite2.S1 ![] hb a1⟩,
      ⟨Cert.Pre_finite2.S1, broadcastInDim Cert.Pre_finite2.S1 ![] hb a2⟩,
      ⟨Cert.Pre_finite2.S1, broadcastInDim Cert.Pre_finite2.S1 ![] hb a3⟩,
      ⟨Cert.Pre_finite2.S1, broadcastInDim Cert.Pre_finite2.S1 ![] hb a4⟩,
      ⟨Cert.Pre_finite2.S1, broadcastInDim Cert.Pre_finite2.S1 ![] hb a5⟩] hc = fun _ => 1#1) :
    a0 ix0 = 1#1 ∧ a1 ix0 = 1#1 ∧ a2 ix0 = 1#1 ∧ a3 ix0 = 1#1 ∧ a4 ix0 = 1#1 ∧ a5 ix0 = 1#1 := by
  refine ⟨?_, ?_, ?_, ?_, ?_, ?_⟩
  · have h0 := congrFun h (ix1 0); pointwise at h0; exact h0
  · have h0 := congrFun h (ix1 1); pointwise at h0; exact h0
  · have h0 := congrFun h (ix1 2); pointwise at h0; exact h0
  · have h0 := congrFun h (ix1 3); pointwise at h0; exact h0
  · have h0 := congrFun h (ix1 4); pointwise at h0; exact h0
  · have h0 := congrFun h (ix1 5); pointwise at h0; exact h0

variable (m : (ℓ : Loc nD τ sig) → Buf (Elt Ideal) ℓ)

/-- The precondition: every argument is an array of real values. -/
theorem reals (h : Pre_Kernel2Ideal_finite2 m) (c : Dev nD) :
    (∀ i, (((m ((c.tc : Thread nD τ).loc main_arg0) i : EReal).toReal : ℝ) : EReal) = m ((c.tc : Thread nD τ).loc main_arg0) i)
    ∧ (∀ i, (((m ((c.tc : Thread nD τ).loc main_arg1) i : EReal).toReal : ℝ) : EReal) = m ((c.tc : Thread nD τ).loc main_arg1) i)
    ∧ (∀ i, (((m ((c.tc : Thread nD τ).loc main_arg2) i : EReal).toReal : ℝ) : EReal) = m ((c.tc : Thread nD τ).loc main_arg2) i)
    ∧ (∀ i, (((m ((c.tc : Thread nD τ).loc main_arg3) i : EReal).toReal : ℝ) : EReal) = m ((c.tc : Thread nD τ).loc main_arg3) i)
    ∧ (∀ i, (((m ((c.tc : Thread nD τ).loc main_arg4) i : EReal).toReal : ℝ) : EReal) = m ((c.tc : Thread nD τ).loc main_arg4) i)
    ∧ (∀ i, (((m ((c.tc : Thread nD τ).loc main_arg5) i : EReal).toReal : ℝ) : EReal) = m ((c.tc : Thread nD τ).loc main_arg5) i) := by
  have h1 := h c
  simp only [Cert.Pre_finite2.fn, Cert.Pre_finite2.fn_part1] at h1
  obtain ⟨h0, h1, h2, h3, h4, h5⟩ := cat6 _ _ _ _ _ _ _ _ h1
  exact ⟨Scan.all _ _ _ _ _ h0, Scan.all _ _ _ _ _ h1, Scan.all _ _ _ _ _ h2, Scan.all _ _ _ _ _ h3, Scan.all _ _ _ _ _ h4, Scan.all _ _ _ _ _ h5⟩

theorem claim : Cert.algebraic_Kernel2Ideal_Reference2Ideal_pre_finite2 := by
  intro m g m' g' hpre hagree
  refine ⟨fun c => C3 .f32 (whole (q := 128) (O (FwdKer.inp m c))), fun c => C5 .f32 (fun b n h => SI (FwdKer.inp m c) b h n), ?_, ?_⟩
  · refine (θ_run _ _ _).mono (fun r h c => ?_) (Cert.Kernel2Ideal.Value.run_blocks m g)
    obtain ⟨h0, h1, h2, h3, h4, h5⟩ := reals m hpre c
    obtain ⟨r0, r1, rest⟩ := h c
    exact ⟨r0.trans (FwdKer.final_6 m c h0 h1 h2 h3 h4 h5), r1.trans (FwdKer.final_7 m c h0 h1 h2 h3 h4 h5), rest⟩
  · refine (θ_run _ _ _).mono (fun r h c => ?_) (Cert.Reference2Ideal.Value.run m' g')
    obtain ⟨h0, h1, h2, h3, h4, h5⟩ := reals m hpre c
    obtain ⟨a0, a1, a2, a3, a4, a5⟩ := hagree c
    obtain ⟨r0, r1, rest⟩ := h c
    have H := FwdRef.inv_entry m' c _ _ _ _ _ _ (a0.trans (Scan.cast2 _ h0)) (a1.trans (Scan.cast2 _ h1)) (a2.trans (Scan.cast2 _ h2))
      (a3.trans (Scan.cast2 _ h3)) (a4.trans (Scan.cast2 _ h4)) (a5.trans (Scan.cast2 _ h5))
    have H' := FwdLoop.iterate H 32 (Nat.le_refl _)
    exact ⟨r0.trans (FwdRef.out_O H'), r1.trans (FwdRef.out_S H'), rest⟩

end Cert.Proof.ScanFwd
-- ==== Proof.Dwp.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Proof.Dwp

open Cert.Kernel3Ideal Cert.Kernel3Ideal.Gen Cert.Kernel3Ideal.Value Idealize.ShloMosaic Idealize.ShloMosaic.TcCoe Idealize.SL.Sem

variable (m : (ℓ : Loc nD τ sig) → Buf (Elt Ideal) ℓ) (ρ : Dev nD → PrngReg)

/-- The gradient of the input projection by its weight, in four blocks of its columns. -/
def G (h : Vec Ideal S4096x2048 .bf16) (dp : Vec Ideal S4096x6668 .bf16) : Vec Ideal S4x2048x1667 .f32 :=
  fun i => ∑ k : Fin 4096, (h (ix2 k (i 1)) * dp (ix2 k ⟨(i 0).val * 1667 + (i 2).val, by have := (i 0).isLt; have := (i 2).isLt; simp at *; omega⟩) : EReal)

/-- The block indices of the three windows at a point. -/
theorem idx : ∀ t : Fin cfg0.N, win0_0.index t = ![t.val % 2, t.val / 2 % 2] ∧ win0_1.index t = ![t.val / 4, t.val % 2, 0]
    ∧ win0_2.index t = ![t.val / 4, t.val / 2 % 2, 0] :=
  (by decide +kernel : ∀ t : Fin grid0.N, _)

/-- The four column blocks of an array, stacked. -/
def stack (x : Vec Ideal S4096x6668 .bf16) : Vec Ideal S4x4096x1667 .bf16 :=
  let p (y : Vec Ideal S4096x1667 .bf16) : Vec Ideal S1x4096x1667 .bf16 := broadcastInDim S1x4096x1667 ![1, 2] bcast_S4096x1667_S1x4096x1667_1_2 y
  concatenate S4x4096x1667 0
    [⟨S1x4096x1667, p (extractStridedSlice S4096x1667 ![0, 0] x slices_S4096x6668_S4096x1667_0_0)⟩,
     ⟨S1x4096x1667, p (extractStridedSlice S4096x1667 ![0, 1667] x slices_S4096x6668_S4096x1667_0_1667)⟩,
     ⟨S1x4096x1667, p (extractStridedSlice S4096x1667 ![0, 3334] x slices_S4096x6668_S4096x1667_0_3334)⟩,
     ⟨S1x4096x1667, p (extractStridedSlice S4096x1667 ![0, 5001] x slices_S4096x6668_S4096x1667_0_5001)⟩]
    concatenates_S1x4096x1667_S1x4096x1667_S1x4096x1667_S1x4096x1667_S4x4096x1667_d0

theorem stack_apply (x : Vec Ideal S4096x6668 .bf16) (b : Fin 4) (k : Fin 4096) (l : Fin 1667) :
    stack x (ix3 b k l) = x (ix2 k ⟨1667 * b.val + l.val, by omega⟩) := by
  unfold stack
  match b with
  | 0 => pointwise []
  | 1 => pointwise []
  | 2 => pointwise []
  | 3 => pointwise []

theorem stack_at (x : Vec Ideal S4096x6668 .bf16) (i : S4x4096x1667.Idx) :
    stack x i = x (ix2 (i 1) ⟨1667 * (i 0).val + (i 2).val, by have := (i 0).isLt; have := (i 2).isLt; simp at *; omega⟩) := by
  conv_lhs => rw [show i = ix3 (i 0) (i 1) (i 2) by funext d; match d with | 0 => rfl | 1 => rfl | 2 => rfl]
  exact stack_apply x (i 0) (i 1) (i 2)

theorem entry (c : Dev nD) : V m c main_v8 = stack (m ((c : Thread nD τ).loc main_arg1)) := by
  show StableHlo.after hostOps0 (fun b => m (c, b)) (Proc.devRef .tc main_v8) = _
  after_results
  rfl

/-- The part of a result that one point adds. -/
theorem pay (x0 : Vec Ideal S2048x1024 .bf16) (x1 : Vec Ideal S1x2048x1667 .bf16) (j : S1024x1667.Idx) :
    k0_pay1 x0 x1 j = ∑ k : Fin 2048, (x0 (ix2 k (j 0)) * x1 (ix3 0 k (j 1)) : EReal) := by
  pointwise [k0_pay1]

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (M := EReal) (fun n h => outsAt0 m c n h) 2 (fun _ => (0 : EReal))
    (fun t j => k0_pay1 (iblk m c 0 t) (iblk m c 1 t) (ix2 (j 1) (j 2))) (fun t h j => by
    rw [outsAt0_A m c t h (by omega)]; frame_out; pointwise [k0_pay2]) (fun t h j => by
    rw [outsAt0_B m c t h (by omega)]; frame_out; pointwise [k0_pay3]) t ((flush0_2 t).mp hf) y, zero_add]
  simp only [pay]
  refine Fin.sum_mul_add_congr fun s k hl => ?_
  congr 1
  · blk_ext [iblk, V, idx]
  · blk_simp [iblk, idx]
    rw [entry, stack_at]
    blk_ext [idx]

theorem run : θ_run (defs (F := Ideal)) (onTc (τ := τ) (main (F := Ideal))) ⟨m, fun _ => 0, ρ⟩ fun r => ∀ c : Dev nD,
      r.2.mem ((c : Thread nD τ).loc main_v9) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

theorem claim : Cert.algebraic_Kernel3Ideal_Reference3Ideal := by
  intro m g m' g' _ hagree
  refine ⟨fun c => G (m ((c : Thread nD τ).loc main_arg0)) (m ((c : Thread nD τ).loc main_arg1)), run m g,
    (θ_run Cert.Reference3Ideal.defs _ _).mono (fun r h c => ⟨(h c).1.trans ?_, (h c).2⟩) (Cert.Reference3Ideal.Value.run m' g')⟩
  rw [(hagree c).1, (hagree c).2]
  funext i
  pointwise [G]
  refine Finset.sum_congr rfl fun k _ => mul_comm _ _

end Cert.Proof.Dwp
-- ==== Proof.Dh.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Proof.Dh

open Cert.Kernel4Ideal Cert.Kernel4Ideal.Gen Cert.Kernel4Ideal.Value Idealize.ShloMosaic Idealize.ShloMosaic.TcCoe Idealize.SL.Sem

variable (m : (ℓ : Loc nD τ sig) → Buf (Elt Ideal) ℓ) (ρ : Dev nD → PrngReg)

/-- The gradient of the input projection by its rows. -/
def G (dp : Vec Ideal S4096x6668 .bf16) (w : Vec Ideal S2048x6668 .bf16) : Vec Ideal S4096x2048 .f32 :=
  fun i => ∑ k : Fin 6668, (dp (ix2 (i 0) k) * w (ix2 (i 1) k) : EReal)

/-- The block indices of the three windows at a point. -/
theorem idx : ∀ t : Fin cfg0.N, win0_0.index t = ![t.val % 4, t.val / 8, 0] ∧ win0_1.index t = ![t.val % 4, t.val / 4 % 2, 0]
    ∧ win0_2.index t = ![t.val / 8, t.val / 4 % 2] :=
  (by decide +kernel : ∀ t : Fin grid0.N, _)

/-- The four column blocks of an array of 4096 rows, stacked. -/
def stackP (x : Vec Ideal S4096x6668 .bf16) : Vec Ideal S4x4096x1667 .bf16 :=
  let p (y : Vec Ideal S4096x1667 .bf16) : Vec Ideal S1x4096x1667 .bf16 := broadcastInDim S1x4096x1667 ![1, 2] bcast_S4096x1667_S1x4096x1667_1_2 y
  concatenate S4x4096x1667 0
    [⟨S1x4096x1667, p (extractStridedSlice S4096x1667 ![0, 0] x slices_S4096x6668_S4096x1667_0_0)⟩,
     ⟨S1x4096x1667, p (extractStridedSlice S4096x1667 ![0, 1667] x slices_S4096x6668_S4096x1667_0_1667)⟩,
     ⟨S1x4096x1667, p (extractStridedSlice S4096x1667 ![0, 3334] x slices_S4096x6668_S4096x1667_0_3334)⟩,
     ⟨S1x4096x1667, p (extractStridedSlice S4096x1667 ![0, 5001] x slices_S4096x6668_S4096x1667_0_5001)⟩]
    concatenates_S1x4096x1667_S1x4096x1667_S1x4096x1667_S1x4096x1667_S4x4096x1667_d0

theorem stackP_apply (x : Vec Ideal S4096x6668 .bf16) (b : Fin 4) (k : Fin 4096) (l : Fin 1667) :
    stackP x (ix3 b k l) = x (ix2 k ⟨b.val * 1667 + l.val, by omega⟩) := by
  unfold stackP
  match b with
  | 0 => pointwise []
  | 1 => pointwise []
  | 2 => pointwise []
  | 3 => pointwise []

theorem stackP_at (x : Vec Ideal S4096x6668 .bf16) (i : S4x4096x1667.Idx) :
    stackP x i = x (ix2 (i 1) ⟨(i 0).val * 1667 + (i 2).val, by have := (i 0).isLt; have := (i 2).isLt; simp at *; omega⟩) := by
  conv_lhs => rw [show i = ix3 (i 0) (i 1) (i 2) by funext d; match d with | 0 => rfl | 1 => rfl | 2 => rfl]
  exact stackP_apply x (i 0) (i 1) (i 2)

/-- The four column blocks of an array of 2048 rows, stacked. -/
def stackW (x : Vec Ideal S2048x6668 .bf16) : Vec Ideal S4x2048x1667 .bf16 :=
  let p (y : Vec Ideal S2048x1667 .bf16) : Vec Ideal S1x2048x1667 .bf16 := broadcastInDim S1x2048x1667 ![1, 2] bcast_S2048x1667_S1x2048x1667_1_2 y
  concatenate S4x2048x1667 0
    [⟨S1x2048x1667, p (extractStridedSlice S2048x1667 ![0, 0] x slices_S2048x6668_S2048x1667_0_0)⟩,
     ⟨S1x2048x1667, p (extractStridedSlice S2048x1667 ![0, 1667] x slices_S2048x6668_S2048x1667_0_1667)⟩,
     ⟨S1x2048x1667, p (extractStridedSlice S2048x1667 ![0, 3334] x slices_S2048x6668_S2048x1667_0_3334)⟩,
     ⟨S1x2048x1667, p (extractStridedSlice S2048x1667 ![0, 5001] x slices_S2048x6668_S2048x1667_0_5001)⟩]
    concatenates_S1x2048x1667_S1x2048x1667_S1x2048x1667_S1x2048x1667_S4x2048x1667_d0

theorem stackW_apply (x : Vec Ideal S2048x6668 .bf16) (b : Fin 4) (k : Fin 2048) (l : Fin 1667) :
    stackW x (ix3 b k l) = x (ix2 k ⟨b.val * 1667 + l.val, by omega⟩) := by
  unfold stackW
  match b with
  | 0 => pointwise []
  | 1 => pointwise []
  | 2 => pointwise []
  | 3 => pointwise []

theorem stackW_at (x : Vec Ideal S2048x6668 .bf16) (i : S4x2048x1667.Idx) :
    stackW x i = x (ix2 (i 1) ⟨(i 0).val * 1667 + (i 2).val, by have := (i 0).isLt; have := (i 2).isLt; simp at *; omega⟩) := by
  conv_lhs => rw [show i = ix3 (i 0) (i 1) (i 2) by funext d; match d with | 0 => rfl | 1 => rfl | 2 => rfl]
  exact stackW_apply x (i 0) (i 1) (i 2)

theorem entry0 (c : Dev nD) : V m c main_v8 = stackP (m ((c : Thread nD τ).loc main_arg0)) := by
  show StableHlo.after hostOps0 (fun b => m (c, b)) (Proc.devRef .tc main_v8) = _
  after_results
  rfl

theorem entry1 (c : Dev nD) : V m c main_v17 = stackW (m ((c : Thread nD τ).loc main_arg1)) := by
  show StableHlo.after hostOps0 (fun b => m (c, b)) (Proc.devRef .tc main_v17) = _
  after_results
  rfl

/-- The part of a result that one point adds. -/
theorem pay (x0 : Vec Ideal S1x1024x1667 .bf16) (x1 : Vec Ideal S1x1024x1667 .bf16) (j : S1024x1024.Idx) :
    k0_pay1 x0 x1 j = ∑ k : Fin 1667, (x0 (ix3 0 (j 0) k) * x1 (ix3 0 (j 1) k) : EReal) := by
  pointwise [k0_pay1]

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (M := EReal) (fun n h => outsAt0 m c n h) 4 (fun _ => (0 : EReal))
    (fun t j => k0_pay1 (iblk m c 0 t) (iblk m c 1 t) j) (fun t h j => by
    rw [outsAt0_A m c t h (by omega)]; frame_out; rw [zero_add]) (fun t h j => by
    rw [outsAt0_B m c t h (by omega)]; frame_out; pointwise [k0_pay2]) t ((flush0_2 t).mp hf) y, zero_add]
  simp only [pay]
  refine Fin.sum_mul_add_congr fun s k hl => ?_
  congr 1
  · blk_simp [iblk, idx]
    rw [entry0, stackP_at]
    blk_ext [idx]
  · blk_simp [iblk, idx]
    rw [entry1, stackW_at]
    blk_ext [idx]

theorem run : θ_run (defs (F := Ideal)) (onTc (τ := τ) (main (F := Ideal))) ⟨m, fun _ => 0, ρ⟩ fun r => ∀ c : Dev nD,
      r.2.mem ((c : Thread nD τ).loc main_v18) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

theorem claim : Cert.algebraic_Kernel4Ideal_Reference4Ideal := by
  intro m g m' g' _ hagree
  refine ⟨fun c => G (m ((c : Thread nD τ).loc main_arg0)) (m ((c : Thread nD τ).loc main_arg1)), run m g,
    (θ_run Cert.Reference4Ideal.defs _ _).mono (fun r h c => ⟨(h c).1.trans ?_, (h c).2⟩) (Cert.Reference4Ideal.Value.run m' g')⟩
  rw [(hagree c).1, (hagree c).2]
  funext i
  pointwise [G]

end Cert.Proof.Dh
-- ==== Proof.Dwo.lean ====
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Proof.Dwo

open Cert.Kernel5Ideal Cert.Kernel5Ideal.Gen Cert.Kernel5Ideal.Value Idealize.ShloMosaic Idealize.ShloMosaic.TcCoe Idealize.SL.Sem

variable (m : (ℓ : Loc nD τ sig) → Buf (Elt Ideal) ℓ) (ρ : Dev nD → PrngReg)

/-- The gradient of the output projection by its weight. -/
def G (y : Vec Ideal S4096x2048 .bf16) (dx : Vec Ideal S4096x2048 .f32) : Vec Ideal S2048x2048 .f32 :=
  fun i => ∑ k : Fin 4096, (y (ix2 k (i 0)) * dx (ix2 k (i 1)) : EReal)

/-- The block indices of the three windows at a point. -/
theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The part of a result that one point adds. -/
theorem pay (x0 : Vec Ideal S2048x1024 .bf16) (x1 : Vec Ideal S2048x1024 .f32) (j : S1024x1024.Idx) :
    k0_pay1 x0 x1 j = ∑ k : Fin 2048, (x0 (ix2 k (j 0)) * x1 (ix2 k (j 1)) : EReal) := by
  pointwise [k0_pay1]

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (M := EReal) (fun n h => outsAt0 m c n h) 2 (fun _ => (0 : EReal))
    (fun t j => k0_pay1 (iblk m c 0 t) (iblk m c 1 t) j) (fun t h j => by
    rw [outsAt0_A m c t h (by omega)]; frame_out; rw [zero_add]) (fun t h j => by
    rw [outsAt0_B m c t h (by omega)]; frame_out; pointwise [k0_pay2]) t ((flush0_2 t).mp hf) y, zero_add]
  simp only [pay]
  refine Fin.sum_mul_add_congr fun s k hl => ?_
  congr 1 <;> blk_ext [iblk, V, idx]

theorem run : θ_run (defs (F := Ideal)) (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

theorem claim : Cert.algebraic_Kernel5Ideal_Reference5Ideal := by
  intro m g m' g' _ hagree
  refine ⟨fun c => G (m ((c : Thread nD τ).loc main_arg0)) (m ((c : Thread nD τ).loc main_arg1)), run m g,
    (θ_run Cert.Reference5Ideal.defs _ _).mono (fun r h c => ⟨(h c).1.trans ?_, (h c).2⟩) (Cert.Reference5Ideal.Value.run m' g')⟩
  rw [(hagree c).1, (hagree c).2]
  funext i
  pointwise [G]
  exact Finset.sum_congr rfl fun k _ => mul_comm _ _

end Cert.Proof.Dwo
-- ==== Proof.Dy.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Proof.Dy

open Cert.Kernel6Ideal Cert.Kernel6Ideal.Gen Cert.Kernel6Ideal.Value Idealize.ShloMosaic Idealize.ShloMosaic.TcCoe Idealize.SL.Sem

variable (m : (ℓ : Loc nD τ sig) → Buf (Elt Ideal) ℓ) (ρ : Dev nD → PrngReg)

/-- The gradient of the output projection by its rows. -/
def G (dx : Vec Ideal S4096x2048 .f32) (wo : Vec Ideal S2048x2048 .bf16) : Vec Ideal S4096x2048 .f32 :=
  fun i => ∑ k : Fin 2048, (dx (ix2 (i 0) k) * wo (ix2 (i 1) k) : EReal)

/-- The block indices of the three windows at a point. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The block that a point writes. -/
theorem pay (x0 : Vec Ideal S1024x2048 .f32) (x1 : Vec Ideal S1024x2048 .bf16) (j : S1024x1024.Idx) :
    k0_pay1 x0 x1 j = ∑ k : Fin 2048, (x0 (ix2 (j 0) k) * x1 (ix2 (j 1) k) : EReal) := by
  pointwise [k0_pay1]

theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [pay]
  refine Fin.sum_fin_congr fun k => ?_
  congr 1 <;> blk_ext [iblk, V, idx]

theorem run : θ_run (defs (F := Ideal)) (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

theorem claim : Cert.algebraic_Kernel6Ideal_Reference6Ideal := by
  intro m g m' g' _ hagree
  refine ⟨fun c => G (m ((c : Thread nD τ).loc main_arg0)) (m ((c : Thread nD τ).loc main_arg1)), run m g,
    (θ_run Cert.Reference6Ideal.defs _ _).mono (fun r h c => ⟨(h c).1.trans ?_, (h c).2⟩) (Cert.Reference6Ideal.Value.run m' g')⟩
  rw [(hagree c).1, (hagree c).2]
  funext i
  pointwise [G]

end Cert.Proof.Dy
-- ==== Proof.OutProj.lean ====
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Proof.OutProj

open Cert.Kernel7Ideal Cert.Kernel7Ideal.Gen Cert.Kernel7Ideal.Value Idealize.ShloMosaic Idealize.ShloMosaic.TcCoe Idealize.SL.Sem

variable (m : (ℓ : Loc nD τ sig) → Buf (Elt Ideal) ℓ) (ρ : Dev nD → PrngReg)

/-- The output projection on the residual stream. -/
def G (y : Vec Ideal S4096x2048 .bf16) (wo : Vec Ideal S2048x2048 .bf16) (x : Vec Ideal S4096x2048 .f32) :
    Vec Ideal S4096x2048 .f32 :=
  fun i => (∑ k : Fin 2048, (y (ix2 (i 0) k) * wo (ix2 k (i 1)) : EReal)) + x (ix2 (i 0) (i 1))

/-- The block indices of the four windows at a point. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- The block that a point writes. -/
theorem pay (x0 : Vec Ideal S1024x2048 .bf16) (x1 : Vec Ideal S2048x1024 .bf16) (x2 : Vec Ideal S1024x1024 .f32)
    (j : S1024x1024.Idx) :
    k0_pay1 x0 x1 x2 j = (∑ k : Fin 2048, (x0 (ix2 (j 0) k) * x1 (ix2 k (j 1)) : EReal)) + x2 (ix2 (j 0) (j 1)) := by
  pointwise [k0_pay1]

theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  rw [pay]
  refine congrArg₂ (· + ·) (Finset.sum_congr rfl fun k _ => ?_) (by blk_ext [iblk, V, idx])
  congr 1 <;> blk_ext [iblk, V, idx]

theorem run : θ_run (defs (F := Ideal)) (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

theorem claim : Cert.algebraic_Kernel7Ideal_Reference7Ideal := by
  intro m g m' g' _ hagree
  refine ⟨fun c => G (m ((c : Thread nD τ).loc main_arg0)) (m ((c : Thread nD τ).loc main_arg1)) (m ((c : Thread nD τ).loc main_arg2)), run m g,
    (θ_run Cert.Reference7Ideal.defs _ _).mono (fun r h c => ⟨(h c).1.trans ?_, (h c).2⟩) (Cert.Reference7Ideal.Value.run m' g')⟩
  rw [(hagree c).1, (hagree c).2.1, (hagree c).2.2]
  funext i
  pointwise [G]
  exact add_comm _ _

end Cert.Proof.OutProj
-- ==== Proof.NormInProj.lean ====
/- The frame and the value of the norm and input projection: the body stores the normalised rows once, at the first of
   a row block's nine points, and reads them back at each. -/
module

public import proofs.«01_k».proof.Defs
public import proofs.«01_k».proof.Proof.Gen.Kernel8Ideal.Frame
public import proofs.«01_k».proof.Proof.Gen.Kernel8Ideal.Skeleton
public import proofs.«01_k».proof.Proof.Gen.Kernel8.Frame
public import proofs.«01_k».proof.Proof.Gen.Reference8Ideal.Run
public import Idealize.ShloMosaic.Lib.Pipeline.ValueKit
public import Idealize.ShloMosaic.Lib.Pointwise
public import Idealize.ShloMosaic.Lib.VecWindow
public import Idealize.ShloMosaic.Lib.Pipeline.TableIdle
public import Idealize.ShloMosaic.Lib.Pipeline.FrameBody

@[expose] public section

set_option maxRecDepth 16384

noncomputable section

namespace Cert.Proof.NormInProj

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a row block's first point: the normalised rows are stored, then their product. -/
theorem body_first (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x768 .bf16) (harg4 : arg4.IsWhole)
    (arg5 : Memref sig .tc .vmem S1024x768 .f32) (harg5 : arg5.IsWhole) (arg6 : Memref sig .tc .vmem S1024x2048 .bf16) (harg6 : arg6.IsWhole)
    (hc : k0_cond1 i = 1#1) (x0 : Vec F S1024x2048 .f32) (x1 : Vec F S1x2048 .f32) (x2 : Vec F S2048x768 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (k0_pay1 x0 x1) x2) ∗ owns (c : Thread nD τ) arg6 fullShare (k0_pay1 x0 x1)) -∗ K ⟨⟩))
      ⊢ wp frame (wpE (defs₀ (F := F)) Variants.none c none) E (cc0_in_proj_1 i arg2 harg2 arg3 harg3 arg4 harg4 arg5 harg5 arg6 harg6) K := by
  simp only [cc0_in_proj_1_eq_skeleton]; unfold cc0_in_proj_1_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_full _ _ _ _ _).trans ?_
    frame_out
  · iexists _; isplitr; swap; · iexact H4
    ipureintro
    exact (View.read_writes_full _ _ _ _ _).trans (by frame_out)

set_option maxHeartbeats 1000000 in
/-- The body at a row block's later points: the product of the rows it finds. -/
theorem body_later (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x768 .bf16) (harg4 : arg4.IsWhole)
    (arg5 : Memref sig .tc .vmem S1024x768 .f32) (harg5 : arg5.IsWhole) (arg6 : Memref sig .tc .vmem S1024x2048 .bf16) (harg6 : arg6.IsWhole)
    (hc : ¬k0_cond1 i = 1#1) (x0 : Vec F S1024x2048 .f32) (x1 : Vec F S1x2048 .f32) (x2 : Vec F S2048x768 .bf16) (h : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare h
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 h x2) ∗ owns (c : Thread nD τ) arg6 fullShare h) -∗ K ⟨⟩))
      ⊢ wp frame (wpE (defs₀ (F := F)) Variants.none c none) E (cc0_in_proj_1 i arg2 harg2 arg3 harg3 arg4 harg4 arg5 harg5 arg6 harg6) K := by
  simp only [cc0_in_proj_1_eq_skeleton]; unfold cc0_in_proj_1_skel
  unfold owns
  iintro ⟨H0, H1, ⟨%f2, %hf2, H2⟩, ⟨%d3, %f3, -, H3⟩, ⟨%f4, %hf4, H4⟩, Hk⟩
  obtain rfl := harg4.eq_unread hf2; obtain rfl := harg6.eq_unread hf4
  sl_exec (disch := first | sl_exact hc)
  sl_step
  iapply Hk
  isplitl [H0]; · iexact H0
  isplitl [H1]; · iexact H1
  isplitl [H2]
  · iexists _; isplitr; · ipureintro; exact harg4.read_unread _
    iexact H2
  isplitl [H3]
  · iexists _; isplitr; swap; · iexact H3
    ipureintro
    exact (View.read_writes_full _ _ _ _ _).trans (by frame_out)
  · iexists _; isplitr; · ipureintro; exact harg6.read_unread _
    iexact H4

variable (m : (ℓ : Loc nD τ sig) → Buf (Elt F) ℓ) (ρ : Dev nD → PrngReg)

/-- The first point of the row block that point `t` is in. -/
def row (t : Fin cfg0.N) : Fin cfg0.N := ⟨9 * (t.val / 9), by have := t.isLt; omega⟩

theorem row_first (t : Fin cfg0.N) (h : t.val % 9 = 0) : row t = t := Fin.ext (by simp only [row]; omega)

theorem row_pred (t : Fin cfg0.N) (h : t.val % 9 ≠ 0) : row ⟨t.val - 1, by omega⟩ = row t := Fin.ext (by simp only [row]; omega)

/-- The normalised rows of the row block that point `t` is in. -/
def rows (c : Dev nD) (t : Fin cfg0.N) : Vec F S1024x2048 .bf16 := k0_pay1 (iblk m c 0 (row t)) (iblk m c 1 (row t))

/-- The body runs the branch at a row block's first point. -/
theorem cond (t : Fin cfg0.N) : k0_cond1 (grid0.coords t) = 1#1 ↔ t.val % 9 = 0 :=
  (by decide +kernel : ∀ t : Fin grid0.N, k0_cond1 (grid0.coords t) = 1#1 ↔ t.val % 9 = 0) t

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (rows m c t) (iblk m c 2 t)
    | ⟨4, _⟩ => rows m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay2 (rows m c t) (iblk m c 2 t) := by dsimp only [dats]
theorem after_4 (c : Dev nD) (t : Fin cfg0.N) : (dats m 0 c).after 4 t = rows m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem live (t : Fin cfg0.N) : cfg0.idle 4 (grid0.coords t) = !decide (t.val % 9 = 0) :=
  (by decide +kernel : ∀ t : Fin grid0.N, cfg0.idle 4 (grid0.coords t) = !decide (t.val % 9 = 0)) t

theorem fresh (t : Fin cfg0.N) : cfg0.fresh 4 t.val = decide (t.val % 9 = 0) := by
  refine (Pipeline.Cfg.fresh_tab cfg0 4 (fun n => decide (n % 9 = 0)) rfl ?_ t.val (Nat.le_of_lt t.isLt))
  decide +kernel

/-- The rows stay through the points that leave their buffer idle. -/
theorem carry (c : Dev nD) (t : Fin cfg0.N) (_ : t.val ≠ 0) (_ : cfg0.idle 4 (grid0.coords t) = true) (hf : cfg0.fresh 4 t.val = false) :
    (dats m 0 c).after 4 t = (dats m 0 c).after 4 ⟨t.val - 1, by omega⟩ := by
  rw [fresh] at hf
  rw [after_4, after_4]; unfold rows; rw [row_pred t (by simpa using hf)]

theorem before_4 (c : Dev nD) (t : Fin cfg0.N) (h : t.val % 9 ≠ 0) (d) : (dats m 0 c).before 4 t d = rows m c t := by
  rw [Dat.before_out_traj _ 4 rfl (fun _ _ => rfl) (carry m c) t.val t rfl d, fresh t, if_neg (by simpa using h), after_4]
  unfold rows; rw [row_pred t h]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- At every point the rows' buffer is left at the rows. -/
theorem leaves_4 (c : Dev nD) (t : Fin cfg0.N) :
    owns (c : Thread nD τ) (st0_4 t) fullShare (rows m c t) ⊢ ((dats m 0 c).leavesExact 4 t : sProp 𝕄) := by
  unfold Dat.leavesExact
  rw [live t]
  by_cases h : t.val % 9 = 0
  · rw [decide_eq_true h]; exact .rfl
  · rw [decide_eq_false h]
    cases hf : (cfg0.win 4).flush t
    · show _ ⊢ iprop(∃ d, _)
      simp only [before_4 m c t h]
      iintro H
      iexists (fun _ => default)
      iexact H
    · exact .rfl

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl]
  by_cases h : t.val % 9 = 0
  · iintro ⟨HΦ, Ho, ⟨%d0, H0⟩, ⟨%d1, H1⟩, ⟨%d2, H2⟩, ⟨%d3, H3⟩, ⟨%d4, H4⟩⟩
    iapply (body_first c (grid0.coords t) _ _ _ _ _ _ _ _ _ _ ((cond t).mpr h) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    rw [show k0_pay1 (iblk m c 0 t) (iblk m c 1 t) = rows m c t by unfold rows; rw [row_first t h]]
    isplitl [HΦ]; · iexact HΦ
    isplitl [Ho]; · iexact Ho
    isplitl [H0]; · iexact H0
    isplitl [H1]; · iexact H1
    isplitl [H2]; · iexact H2
    isplitl [H3]; · iexact H3
    iapply (leaves_4 m c t); iexact H4
  · simp only [before_4 m c t h]
    iintro ⟨HΦ, Ho, ⟨%d0, H0⟩, ⟨%d1, H1⟩, ⟨%d2, H2⟩, ⟨%d3, H3⟩, ⟨%d4, H4⟩⟩
    iapply (body_later c (grid0.coords t) _ _ _ _ _ _ _ _ _ _ (fun e => h ((cond t).mp e)) (iblk m c 0 t) (iblk m c 1 t) (iblk m c 2 t) (rows m c t) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply (leaves_4 m c t); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The kernel as printed has the same body table, -/
theorem defs₀_eq : Cert.Kernel8.defs₀ (F := F) = Cert.Kernel8Ideal.defs₀ := by
  unfold Cert.Kernel8.defs₀ Cert.Kernel8Ideal.defs₀
  refine congrArg Defs.onTc (funext fun l => ?_)
  match l with
  | 0 => rfl
  | ⟨_ + 1, h⟩ => exact absurd h (Nat.not_lt.2 (Nat.le_add_left _ _))

theorem defs_eq : Cert.Kernel8.defs (F := F) = Cert.Kernel8Ideal.defs := congrArg (Pipeline.defs Cert.Kernel8Ideal.pcfgs) defs₀_eq

/-- and so the same run. -/
theorem frame_bits (m : (ℓ : Loc Cert.Kernel8.nD Cert.Kernel8.τ Cert.Kernel8.sig) → Buf (Elt Bits) ℓ) (ρ : Dev Cert.Kernel8.nD → PrngReg) :
    θ_run Cert.Kernel8.defs (onTc (τ := Cert.Kernel8.τ) (Cert.Kernel8.main (F := Bits))) ⟨m, fun _ => 0, ρ⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0) := by
  rw [defs_eq]
  exact (θ_run Cert.Kernel8Ideal.defs _ _).mono (fun _ h => h) (frame (F := Bits) m ρ)

section Value

open Cert.Kernel8Ideal.Gen

variable (m : (ℓ : Loc nD τ sig) → Buf (Elt Ideal) ℓ) (ρ : Dev nD → PrngReg)

/-- A row divided by its root mean square, scaled by the weight. -/
def nrm (x w : Fin 2048 → EReal) (k : Fin 2048) : EReal :=
  x k * Ideal.rsqrt (Ideal.div (∑ k : Fin 2048, x k * x k) (Ideal.ofBits .f32 0x45000000#32) + Ideal.ofBits .f32 0x358637BD#32) * w k

theorem nrm_congr {x x' w w' : Fin 2048 → EReal} {k k' : Fin 2048} (hx : x = x') (hw : w = w') (hk : k = k') : nrm x w k = nrm x' w' k' := by
  rw [hx, hw, hk]

/-- The normalised rows. -/
def N (x : Vec Ideal S4096x2048 .f32) (w : Vec Ideal S1x2048 .f32) : Vec Ideal S4096x2048 .bf16 := fun i =>
  nrm (fun k => x (ix2 (i 0) k)) (fun k => w (ix2 0 k)) (i 1)

/-- Their product with the projection. -/
def G (x : Vec Ideal S4096x2048 .f32) (w : Vec Ideal S1x2048 .f32) (p : Vec Ideal S2048x6912 .bf16) : Vec Ideal S4096x6912 .f32 := fun i =>
  ∑ k : Fin 2048, (N x w (ix2 (i 0) k) * p (ix2 k (i 1)) : EReal)

/-- The block indices of the five windows at a point. -/
theorem idx : ∀ t : Fin cfg0.N, win0_0.index t = ![t.val / 9, 0] ∧ win0_1.index t = ![0, 0]
    ∧ win0_2.index t = ![0, t.val % 9] ∧ win0_3.index t = ![t.val / 9, t.val % 9] ∧ win0_4.index t = ![t.val / 9, 0] :=
  (by decide +kernel : ∀ t : Fin grid0.N, _)

theorem row_div (t : Fin cfg0.N) : (row t).val / 9 = t.val / 9 := by simp only [row]; omega

theorem pay1 (x : Vec Ideal S1024x2048 .f32) (w : Vec Ideal S1x2048 .f32) (j : S1024x2048.Idx) :
    k0_pay1 x w j = nrm (fun k => x (ix2 (j 0) k)) (fun k => w (ix2 0 k)) (j 1) := by
  pointwise [k0_pay1, nrm]

theorem pay2 (h : Vec Ideal S1024x2048 .bf16) (p : Vec Ideal S2048x768 .bf16) (j : S1024x768.Idx) :
    k0_pay2 h p j = ∑ k : Fin 2048, (h (ix2 (j 0) k) * p (ix2 k (j 1)) : EReal) := by
  pointwise [k0_pay2]

/-- The rows of a row block are that block of the normalised rows. -/
theorem rows_at (c : Dev nD) (t : Fin cfg0.N) (i : S4096x2048.Idx) (j : S1024x2048.Idx) (h0 : (i 0).val = t.val / 9 * 1024 + (j 0).val) (h1 : (i 1).val = (j 1).val) :
    rows m c t j = N (m ((c : Thread nD τ).loc main_arg0)) (m ((c : Thread nD τ).loc main_arg1)) i := by
  have hx : (fun k : Fin 2048 => (iblk m c 0 (row t) (ix2 (j 0) k) : EReal)) = fun k => m ((c : Thread nD τ).loc main_arg0) (ix2 (i 0) k) := funext fun k => by
    have := row_div t
    blk_ext [iblk, V, idx]
  have hw : (fun k : Fin 2048 => (iblk m c 1 (row t) (ix2 0 k) : EReal)) = fun k => m ((c : Thread nD τ).loc main_arg1) (ix2 0 k) := funext fun k => by
    blk_ext [iblk, V, idx]
  exact (pay1 _ _ j).trans (nrm_congr hx hw (Fin.ext h1.symm))

theorem final_4 (c : Dev nD) : (dats m 0 c).arrAt 4 cfg0.N
    = N (m ((c : Thread nD τ).loc main_arg0)) (m ((c : Thread nD τ).loc main_arg1)) := by
  refine (dats m 0 c).arrAt_eq_of_covers 4 _ (by decide +kernel) fun t hf y => ?_
  blk_simp
  rw [after_4]
  refine rows_at m c t _ _ ?_ ?_ <;> (blk_simp [idx]; try omega)

theorem final_3 (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after_3, pay2]
  unfold G
  refine Fin.sum_fin_congr fun k => congrArg₂ (· * ·) ?_ ?_
  · refine rows_at m c t _ _ ?_ ?_ <;> (blk_simp [idx]; try omega)
  · blk_ext [iblk, V, idx]

theorem run : θ_run (defs (F := Ideal)) (onTc (τ := τ) (main (F := Ideal))) ⟨m, fun _ => 0, ρ⟩ fun r => ∀ c : Dev nD,
      r.2.mem ((c : Thread nD τ).loc main_v0_0) = G (m ((c : Thread nD τ).loc main_arg0)) (m ((c : Thread nD τ).loc main_arg1)) (m ((c : Thread nD τ).loc main_arg2))
      ∧ r.2.mem ((c : Thread nD τ).loc main_v0_1) = N (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1.1 c).1 3).trans (final_3 m c), ((h.1.1 c).1 4).trans (final_4 m c), h.2.1 c⟩)
    (θ_run_and (run_main m ρ) (frame m ρ))

theorem claim : Cert.algebraic_Kernel8Ideal_Reference8Ideal := by
  intro m g m' g' _ hagree
  refine ⟨fun c => G (m ((c : Thread nD τ).loc main_arg0)) (m ((c : Thread nD τ).loc main_arg1)) (m ((c : Thread nD τ).loc main_arg2)),
    fun c => N (m ((c : Thread nD τ).loc main_arg0)) (m ((c : Thread nD τ).loc main_arg1)), run m g,
    (θ_run Cert.Reference8Ideal.defs _ _).mono (fun r h c => ⟨(h c).1.trans ?_, (h c).2.1.trans ?_, (h c).2.2⟩) (Cert.Reference8Ideal.Value.run m' g')⟩
  · rw [(hagree c).1, (hagree c).2.1, (hagree c).2.2]
    funext i
    pointwise [G, N, nrm]
  · rw [(hagree c).1, (hagree c).2.1]
    funext i
    pointwise [N, nrm]

end Value

end Cert.Proof.NormInProj
-- ==== Proof.NormBwd.lean ====
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.Proof.NormBwd

open Cert.Kernel9Ideal Cert.Kernel9Ideal.Gen Cert.Kernel9Ideal.Value Idealize.ShloMosaic Idealize.ShloMosaic.TcCoe Idealize.SL.Sem

variable (m : (ℓ : Loc nD τ sig) → Buf (Elt Ideal) ℓ) (ρ : Dev nD → PrngReg)

/-- A row's mean square, and the small constant. -/
def ms (x : Fin 2048 → EReal) : EReal :=
  Ideal.div (∑ k : Fin 2048, x k * x k) (Ideal.ofBits .f32 0x45000000#32) + Ideal.ofBits .f32 0x358637BD#32

/-- The cotangent of each square of a row, halved: from the cotangents `a` of the row times its factor. -/
def dsq (x a : Fin 2048 → EReal) : EReal :=
  Ideal.div ((∑ k : Fin 2048, x k * a k) * (Ideal.ofBits .f32 0xBF000000#32 * Ideal.div (Ideal.rsqrt (ms x)) (ms x)))
    (Ideal.ofBits .f32 0x45000000#32)

/-- The cotangent of a row's element. -/
def drow (x nw dh : Fin 2048 → EReal) (k : Fin 2048) : EReal :=
  dh k * nw k * Ideal.rsqrt (ms x) + x k * dsq x (fun k => dh k * nw k) + dsq x (fun k => dh k * nw k) * x k

/-- What a row adds to the cotangent of the norm's weight. -/
def dwrow (x dh : Fin 2048 → EReal) (k : Fin 2048) : EReal := x k * Ideal.rsqrt (ms x) * dh k

/-- The cotangents of the rows, added to those of the residual stream. -/
def DX (x : Vec Ideal S4096x2048 .f32) (nw : Vec Ideal S1x2048 .f32) (dh dres : Vec Ideal S4096x2048 .f32) : Vec Ideal S4096x2048 .f32 :=
  fun i => drow (fun k => x (ix2 (i 0) k)) (fun k => nw (ix2 0 k)) (fun k => dh (ix2 (i 0) k)) (i 1) + dres i

/-- The cotangent of the norm's weight. -/
def DW (x dh : Vec Ideal S4096x2048 .f32) : Vec Ideal S1x2048 .f32 :=
  fun i => ∑ r : Fin 4096, dwrow (fun k => x (ix2 r k)) (fun k => dh (ix2 r k)) (i 1)

/-- The block indices of the windows at a point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

theorem drow_congr {x x' nw nw' dh dh' : Fin 2048 → EReal} {k k' : Fin 2048} (hx : ∀ k, x k = x' k) (hn : ∀ k, nw k = nw' k)
    (hd : ∀ k, dh k = dh' k) (hk : k = k') : drow x nw dh k = drow x' nw' dh' k' := by
  rw [funext hx, funext hn, funext hd, hk]

theorem dwrow_congr {x x' dh dh' : Fin 2048 → EReal} {k k' : Fin 2048} (hx : ∀ k, x k = x' k) (hd : ∀ k, dh k = dh' k) (hk : k = k') :
    dwrow x dh k = dwrow x' dh' k' := by
  rw [funext hx, funext hd, hk]

theorem pay_dx (x : Vec Ideal S256x2048 .f32) (nw : Vec Ideal S1x2048 .f32) (dh : Vec Ideal S256x2048 .f32) (j : S256x2048.Idx) :
    k0_pay7 x nw dh j = drow (fun k => x (ix2 (j 0) k)) (fun k => nw (ix2 0 k)) (fun k => dh (ix2 (j 0) k)) (j 1) := by
  pointwise [k0_pay7, k0_pay5, k0_pay4, drow, dsq, ms]
  rw [Fin.sum_univ_one]

theorem pay_dw (x dh : Vec Ideal S256x2048 .f32) (j : S1x2048.Idx) :
    k0_pay6 x dh j = ∑ r : Fin 256, dwrow (fun k => x (ix2 r k)) (fun k => dh (ix2 r k)) (j 1) := by
  pointwise [k0_pay6, k0_pay5, k0_pay4, dwrow, ms]

theorem emb_4 (t : Fin cfg0.N) (y : S256x2048.Idx) : (win0_4.blk t).view.emb y
    = (ix2 ⟨t.val * 256 + (y 0).val, by have ht : t.val < 16 := t.isLt; have hy : (y 0).val < 256 := (y 0).isLt; omega⟩ (y 1) : S4096x2048.Idx) := by
  blk_ext [idx]

theorem emb_5 (t : Fin cfg0.N) (y : S1x2048.Idx) : (win0_5.blk t).view.emb y = (ix2 0 (y 1) : S1x2048.Idx) := by
  blk_ext [idx]

theorem final_4 (c : Dev nD) : (dats m 0 c).arrAt 4 cfg0.N
    = DX (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have e : (outsAt0 m c t.val t.isLt).1 y
      = drow (fun k => iblk m c 0 t (ix2 (y 0) k)) (fun k => iblk m c 1 t (ix2 0 k)) (fun k => iblk m c 2 t (ix2 (y 0) k)) (y 1) + iblk m c 3 t y := by
    by_cases h : t.val % 16 = 0
    · rw [outsAt0_A m c t h]
      frame_out
      pointwise [k0_pay1]
      exact congrArg (· + _) (pay_dx _ _ _ _)
    · rw [outsAt0_B m c t h]
      frame_out
      pointwise [k0_pay1]
      exact congrArg (· + _) (pay_dx _ _ _ _)
  rw [e]
  refine congrArg₂ (· + ·) (drow_congr (fun k => ?_) (fun k => ?_) (fun k => ?_) (congrFun (emb_4 t y) 1).symm) ?_ <;> blk_ext [iblk, V, idx]

theorem final_5 (c : Dev nD) : (dats m 0 c).arrAt 5 cfg0.N
    = DW (m ((c : Thread nD τ).loc main_arg0)) (m ((c : Thread nD τ).loc main_arg2)) := by
  refine (dats m 0 c).arrAt_eq_of_covers 5 _ (by decide +kernel) fun t hf y => ?_
  blk_simp
  rw [after0_5, Pipeline.eq_sum_fin_of_reset_step_apply_of_flush (M := EReal) (fun n h => (outsAt0 m c n h).2) 16 (fun _ => (0 : EReal))
    (fun t j => k0_pay6 (iblk m c 0 t) (iblk m c 2 t) j) (fun t h j => by
    rw [outsAt0_A m c t h]; frame_out; pointwise [k0_pay2, k0_pay3]) (fun t h j => by
    rw [outsAt0_B m c t h]; frame_out; pointwise [k0_pay2]) t ((flush0_5 t).mp hf) y, zero_add]
  simp only [pay_dw]
  refine Fin.sum_mul_add_congr fun s k hl => dwrow_congr (fun l => ?_) (fun l => ?_) (congrFun (emb_5 t y) 1).symm <;> blk_ext [iblk, V, idx]

theorem run : θ_run (defs (F := Ideal)) (onTc (τ := τ) (main (F := Ideal))) ⟨m, fun _ => 0, ρ⟩ fun r => ∀ c : Dev nD,
      r.2.mem ((c : Thread nD τ).loc main_v0_0)
        = DX (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = DW (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_4 m c), (h c).2.1.trans (final_5 m c), (h c).2.2⟩) (run_blocks m ρ)

theorem claim : Cert.algebraic_Kernel9Ideal_Reference9Ideal := by
  intro m g m' g' _ hagree
  refine ⟨fun c => DX (m ((c : Thread nD τ).loc main_arg0)) (m ((c : Thread nD τ).loc main_arg1)) (m ((c : Thread nD τ).loc main_arg2)) (m ((c : Thread nD τ).loc main_arg3)),
    fun c => DW (m ((c : Thread nD τ).loc main_arg0)) (m ((c : Thread nD τ).loc main_arg2)), run m g,
    (θ_run Cert.Reference9Ideal.defs _ _).mono (fun r h c => ⟨(h c).1.trans ?_, (h c).2.1.trans ?_, (h c).2.2⟩) (Cert.Reference9Ideal.Value.run m' g')⟩
  · rw [(hagree c).1, (hagree c).2.1, (hagree c).2.2.1, (hagree c).2.2.2]
    funext (i : S4096x2048.Idx)
    pointwise [DX, drow, dsq, ms]
    rw [Fin.sum_univ_one]
  · rw [(hagree c).1, (hagree c).2.2.1]
    funext (i : S1x2048.Idx)
    pointwise [DW, dwrow, ms]

end Cert.Proof.NormBwd
-- ==== Proof.AdamSpec.lean ====
module

public import Idealize.ShloMosaic.Lib.Pipeline.ValueKit
public import Idealize.ShloMosaic.Lib.Pointwise

@[expose] public section

noncomputable section

namespace Cert.Proof.Adam

open Idealize.ShloMosaic

/-- The new first moment of an element: `0.9 m + 0.1 g`. -/
def newM (g m : EReal) : EReal := Ideal.ofBits .f32 0x3F666666 * m + Ideal.ofBits .f32 0x3DCCCCCD * g

/-- The new second moment of an element: `0.999 v + 0.001 g²`. -/
def newV (g v : EReal) : EReal := Ideal.ofBits .f32 0x3F7FBE77 * v + Ideal.ofBits .f32 0x3A83126F * (g * g)

/-- What an element's weight changes by: `-0.001 (m̂ / (√v̂ + ε) + 0.01 w)`, of the moments less their bias. -/
def delta (w g m v : EReal) : EReal :=
  Ideal.ofBits .f32 0xBA83126F *
    (Ideal.div (Ideal.div (newM g m) (Ideal.ofBits .f32 0x3F26BD02))
        (Ideal.sqrt (Ideal.div (newV g v) (Ideal.ofBits .f32 0x3C231ACC)) + Ideal.ofBits .f32 0x322BCC77)
      + Ideal.ofBits .f32 0x3C23D70A * w)

end Cert.Proof.Adam
-- ==== Proof.AdamWOut.lean ====
module

public import proofs.«01_k».proof.Defs
public import proofs.«01_k».proof.Proof.Gen.Kernel10Ideal.Value
public import proofs.«01_k».proof.Proof.Gen.Reference10Ideal.Run
public import proofs.«01_k».proof.Proof.AdamSpec

@[expose] public section

set_option maxRecDepth 16384

noncomputable section

namespace Cert.Proof.AdamWOut

open Cert.Kernel10Ideal Cert.Kernel10Ideal.Gen Cert.Kernel10Ideal.Value Idealize.ShloMosaic Idealize.ShloMosaic.TcCoe Idealize.SL.Sem
open Cert.Proof.Adam

variable (m : (ℓ : Loc nD τ sig) → Buf (Elt Ideal) ℓ) (ρ : Dev nD → PrngReg)

/-- The gradients of the two layers, stacked. -/
def stack (g0 g1 : Vec Ideal S512x2048 .f32) : Vec Ideal S2x512x2048 .f32 :=
  fun i => if (i 0).val = 0 then g0 (ix2 (i 1) (i 2)) else g1 (ix2 (i 1) (i 2))

/-- The four results. -/
def G0 (c : Dev nD) : Vec Ideal S2x512x2048 .f32 := stack (m ((c : Thread nD τ).loc main_arg1)) (m ((c : Thread nD τ).loc main_arg2))
def G1 (c : Dev nD) : Vec Ideal S2x512x2048 .f32 := fun i =>
  delta (m ((c : Thread nD τ).loc main_arg0) i) (G0 m c i) (m ((c : Thread nD τ).loc main_arg3) i) (m ((c : Thread nD τ).loc main_arg4) i)
def G2 (c : Dev nD) : Vec Ideal S2x512x2048 .f32 := fun i => newM (G0 m c i) (m ((c : Thread nD τ).loc main_arg3) i)
def G3 (c : Dev nD) : Vec Ideal S2x512x2048 .f32 := fun i => newV (G0 m c i) (m ((c : Thread nD τ).loc main_arg4) i)

/-- The block indices of the windows at a point; a layer's gradient moves at the points of its layer only. -/
theorem idx : ∀ t : Fin cfg0.N, win0_0.index t = ![t.val / 4, t.val % 4, 0] ∧ win0_3.index t = ![t.val / 4, t.val % 4, 0]
    ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0]
    ∧ win0_8.index t = ![t.val / 4, t.val % 4, 0]
    ∧ win0_1.index t = ![if t.val / 4 = 0 then t.val % 4 else 3, 0]
    ∧ win0_2.index t = ![if t.val / 4 = 0 then 0 else t.val % 4, 0] :=
  (by decide +kernel : ∀ t : Fin grid0.N, _)

theorem layer_lt : ∀ t : Fin cfg0.N, t.val / 4 < 2 :=
  (by decide +kernel : ∀ t : Fin grid0.N, _)

/-- Which layer a point is at. -/
theorem layer : ∀ t : Fin cfg0.N,
    Scalar.cmpi .eq (BitVec.ofNat 32 (grid0.coords t 0).val) 0#32 = if t.val / 4 = 0 then 1#1 else 0#1 :=
  (by decide +kernel : ∀ t : Fin grid0.N, _)

/-- The gradient that a point reads is its block of the stack. -/
theorem grad (c : Dev nD) (t : Fin cfg0.N) (y : S1x128x2048.Idx) :
    (Scalar.select (Scalar.cmpi .eq (BitVec.ofNat 32 (grid0.coords t 0).val) 0#32) (iblk m c 1 t (ix2 (y 1) (y 2)))
      (iblk m c 2 t (ix2 (y 1) (y 2))) : EReal) = G0 m c ((win0_5.blk t).view.emb y) := by
  rw [layer t]
  have e : (win0_5.blk t).view.emb y
      = (ix3 ⟨t.val / 4, layer_lt t⟩ ⟨t.val % 4 * 128 + (y 1).val, by have : (y 1).val < 128 := (y 1).isLt; omega⟩ (y 2) : S2x512x2048.Idx) := by
    blk_ext [idx]
  rw [e]
  by_cases h : t.val / 4 = 0
  · rw [if_pos h]
    refine Eq.trans (b := iblk m c 1 t (ix2 (y 1) (y 2))) rfl ?_
    refine Eq.trans ?_ (if_pos h).symm
    blk_ext [iblk, V, idx]
    rw [if_pos h]
  · rw [if_neg h]
    refine Eq.trans (b := iblk m c 2 t (ix2 (y 1) (y 2))) rfl ?_
    refine Eq.trans ?_ (if_neg h).symm
    blk_ext [iblk, V, idx]
    rw [if_neg h]

theorem w_eq (c : Dev nD) (t : Fin cfg0.N) (y : S1x128x2048.Idx) :
    iblk m c 0 t y = m ((c : Thread nD τ).loc main_arg0) ((win0_5.blk t).view.emb y) := by blk_ext [iblk, V, idx]

theorem m_eq (c : Dev nD) (t : Fin cfg0.N) (y : S1x128x2048.Idx) :
    iblk m c 3 t y = m ((c : Thread nD τ).loc main_arg3) ((win0_5.blk t).view.emb y) := by blk_ext [iblk, V, idx]

theorem v_eq (c : Dev nD) (t : Fin cfg0.N) (y : S1x128x2048.Idx) :
    iblk m c 4 t y = m ((c : Thread nD τ).loc main_arg4) ((win0_5.blk t).view.emb y) := by blk_ext [iblk, V, idx]

theorem emb_6 (t : Fin cfg0.N) (y : S1x128x2048.Idx) : (win0_6.blk t).view.emb y = (win0_5.blk t).view.emb y := by blk_ext [idx]
theorem emb_7 (t : Fin cfg0.N) (y : S1x128x2048.Idx) : (win0_7.blk t).view.emb y = (win0_5.blk t).view.emb y := by blk_ext [idx]
theorem emb_8 (t : Fin cfg0.N) (y : S1x128x2048.Idx) : (win0_8.blk t).view.emb y = (win0_5.blk t).view.emb y := by blk_ext [idx]

theorem final_5 (c : Dev nD) : (dats m 0 c).arrAt 5 cfg0.N = G0 m c := by
  refine (dats m 0 c).arrAt_eq_of_covers 5 _ (by decide +kernel) fun t hf y => ?_
  blk_simp
  rw [after0_5]
  frame_out
  pointwise [k0_pay7, k0_pay4]
  exact grad m c t y

theorem final_6 (c : Dev nD) : (dats m 0 c).arrAt 6 cfg0.N = G1 m c := by
  refine (dats m 0 c).arrAt_eq_of_covers 6 _ (by decide +kernel) fun t hf y => ?_
  blk_simp
  rw [after0_6]
  frame_out
  pointwise [k0_pay1, k0_pay8, k0_pay9, k0_pay5, k0_pay6, k0_pay4]
  refine Eq.trans ?_ (congrArg (G1 m c) (emb_6 t y)).symm
  rw [grad m c t y, w_eq, m_eq, v_eq]
  rfl

theorem final_7 (c : Dev nD) : (dats m 0 c).arrAt 7 cfg0.N = G2 m c := by
  refine (dats m 0 c).arrAt_eq_of_covers 7 _ (by decide +kernel) fun t hf y => ?_
  blk_simp
  rw [after0_7]
  frame_out
  pointwise [k0_pay2, k0_pay5, k0_pay4]
  refine Eq.trans ?_ (congrArg (G2 m c) (emb_7 t y)).symm
  rw [grad m c t y, m_eq]
  rfl

theorem final_8 (c : Dev nD) : (dats m 0 c).arrAt 8 cfg0.N = G3 m c := by
  refine (dats m 0 c).arrAt_eq_of_covers 8 _ (by decide +kernel) fun t hf y => ?_
  blk_simp
  rw [after0_8]
  frame_out
  pointwise [k0_pay3, k0_pay6, k0_pay4]
  refine Eq.trans ?_ (congrArg (G3 m c) (emb_8 t y)).symm
  rw [grad m c t y, v_eq]
  rfl

theorem run : θ_run (defs (F := Ideal)) (onTc (τ := τ) (main (F := Ideal))) ⟨m, fun _ => 0, ρ⟩ fun r => ∀ c : Dev nD,
      r.2.mem ((c : Thread nD τ).loc main_v0_0) = G0 m c
      ∧ r.2.mem ((c : Thread nD τ).loc main_v0_1) = G1 m c
      ∧ r.2.mem ((c : Thread nD τ).loc main_v0_2) = G2 m c
      ∧ r.2.mem ((c : Thread nD τ).loc main_v0_3) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_5 m c), (h c).2.1.trans (final_6 m c),
    (h c).2.2.1.trans (final_7 m c), (h c).2.2.2.1.trans (final_8 m c), (h c).2.2.2.2⟩) (run_blocks m ρ)

/-- The reference's stack of the two gradients. -/
theorem stack_eq (g0 g1 : Vec Ideal S512x2048 .f32) :
    concatenate Cert.Reference10Ideal.S2x512x2048 0 [⟨Cert.Reference10Ideal.S1x512x2048, broadcastInDim Cert.Reference10Ideal.S1x512x2048 ![1, 2] Cert.Reference10Ideal.Gen.bcast_S512x2048_S1x512x2048_1_2 g0⟩,
      ⟨Cert.Reference10Ideal.S1x512x2048, broadcastInDim Cert.Reference10Ideal.S1x512x2048 ![1, 2] Cert.Reference10Ideal.Gen.bcast_S512x2048_S1x512x2048_1_2 g1⟩] Cert.Reference10Ideal.Gen.concatenates_S1x512x2048_S1x512x2048_S2x512x2048_d0
      = stack g0 g1 := by
  funext (i : S2x512x2048.Idx)
  pointwise [stack]
  split <;> split <;> first | rfl | omega

theorem claim : Cert.algebraic_Kernel10Ideal_Reference10Ideal := by
  intro m g m' g' _ hagree
  refine ⟨G0 m, G1 m, G2 m, G3 m, run m g,
    (θ_run Cert.Reference10Ideal.defs _ _).mono (fun r h c => ⟨(h c).1.trans ?_, (h c).2.1.trans ?_, (h c).2.2.1.trans ?_, (h c).2.2.2.1.trans ?_, (h c).2.2.2.2⟩) (Cert.Reference10Ideal.Value.run m' g')⟩
  all_goals rw [stack_eq, (hagree c).2.1, (hagree c).2.2.1]
  · rfl
  · rw [(hagree c).1, (hagree c).2.2.2.1, (hagree c).2.2.2.2]
    funext i
    pointwise [G1, delta, newM, newV]
    rfl
  · rw [(hagree c).2.2.2.1]
    funext i
    pointwise [G2, newM]
    rfl
  · rw [(hagree c).2.2.2.2]
    funext i
    pointwise [G3, newV]
    rfl

end Cert.Proof.AdamWOut
-- ==== Proof.AdamPw.lean ====
module

public import proofs.«01_k».proof.Defs
public import proofs.«01_k».proof.Proof.Gen.Kernel11Ideal.Value
public import proofs.«01_k».proof.Proof.Gen.Reference11Ideal.Run
public import proofs.«01_k».proof.Proof.AdamSpec

@[expose] public section

set_option maxRecDepth 16384

noncomputable section

namespace Cert.Proof.AdamPw

open Cert.Kernel11Ideal Cert.Kernel11Ideal.Gen Cert.Kernel11Ideal.Value Idealize.ShloMosaic Idealize.ShloMosaic.TcCoe Idealize.SL.Sem
open Cert.Proof.Adam

variable (m : (ℓ : Loc nD τ sig) → Buf (Elt Ideal) ℓ) (ρ : Dev nD → PrngReg)

/-- The gradients of the two layers, stacked. -/
def stack (g0 g1 : Vec Ideal S128x512 .f32) : Vec Ideal S2x128x512 .f32 :=
  fun i => if (i 0).val = 0 then g0 (ix2 (i 1) (i 2)) else g1 (ix2 (i 1) (i 2))

/-- The four results. -/
def G0 (c : Dev nD) : Vec Ideal S2x128x512 .f32 := stack (m ((c : Thread nD τ).loc main_arg1)) (m ((c : Thread nD τ).loc main_arg2))
def G1 (c : Dev nD) : Vec Ideal S2x128x512 .f32 := fun i =>
  delta (m ((c : Thread nD τ).loc main_arg0) i) (G0 m c i) (m ((c : Thread nD τ).loc main_arg3) i) (m ((c : Thread nD τ).loc main_arg4) i)
def G2 (c : Dev nD) : Vec Ideal S2x128x512 .f32 := fun i => newM (G0 m c i) (m ((c : Thread nD τ).loc main_arg3) i)
def G3 (c : Dev nD) : Vec Ideal S2x128x512 .f32 := fun i => newV (G0 m c i) (m ((c : Thread nD τ).loc main_arg4) i)

/-- The block indices of the windows at a point; a layer's gradient moves at the points of its layer only. -/
theorem idx : ∀ t : Fin cfg0.N, win0_0.index t = ![t.val / 1, t.val % 1, 0] ∧ win0_3.index t = ![t.val / 1, t.val % 1, 0]
    ∧ win0_4.index t = ![t.val / 1, t.val % 1, 0] ∧ win0_5.index t = ![t.val / 1, t.val % 1, 0]
    ∧ win0_6.index t = ![t.val / 1, t.val % 1, 0] ∧ win0_7.index t = ![t.val / 1, t.val % 1, 0]
    ∧ win0_8.index t = ![t.val / 1, t.val % 1, 0]
    ∧ win0_1.index t = ![if t.val / 1 = 0 then t.val % 1 else 0, 0]
    ∧ win0_2.index t = ![if t.val / 1 = 0 then 0 else t.val % 1, 0] :=
  (by decide +kernel : ∀ t : Fin grid0.N, _)

theorem layer_lt : ∀ t : Fin cfg0.N, t.val / 1 < 2 :=
  (by decide +kernel : ∀ t : Fin grid0.N, _)

/-- Which layer a point is at. -/
theorem layer : ∀ t : Fin cfg0.N,
    Scalar.cmpi .eq (BitVec.ofNat 32 (grid0.coords t 0).val) 0#32 = if t.val / 1 = 0 then 1#1 else 0#1 :=
  (by decide +kernel : ∀ t : Fin grid0.N, _)

/-- The gradient that a point reads is its block of the stack. -/
theorem grad (c : Dev nD) (t : Fin cfg0.N) (y : S1x128x512.Idx) :
    (Scalar.select (Scalar.cmpi .eq (BitVec.ofNat 32 (grid0.coords t 0).val) 0#32) (iblk m c 1 t (ix2 (y 1) (y 2)))
      (iblk m c 2 t (ix2 (y 1) (y 2))) : EReal) = G0 m c ((win0_5.blk t).view.emb y) := by
  rw [layer t]
  have e : (win0_5.blk t).view.emb y
      = (ix3 ⟨t.val / 1, layer_lt t⟩ ⟨t.val % 1 * 128 + (y 1).val, by have : (y 1).val < 128 := (y 1).isLt; omega⟩ (y 2) : S2x128x512.Idx) := by
    blk_ext [idx]
  rw [e]
  by_cases h : t.val / 1 = 0
  · rw [if_pos h]
    refine Eq.trans (b := iblk m c 1 t (ix2 (y 1) (y 2))) rfl ?_
    refine Eq.trans ?_ (if_pos h).symm
    blk_ext [iblk, V, idx]
    rw [if_pos h]
  · rw [if_neg h]
    refine Eq.trans (b := iblk m c 2 t (ix2 (y 1) (y 2))) rfl ?_
    refine Eq.trans ?_ (if_neg h).symm
    blk_ext [iblk, V, idx]
    rw [if_neg h]

theorem w_eq (c : Dev nD) (t : Fin cfg0.N) (y : S1x128x512.Idx) :
    iblk m c 0 t y = m ((c : Thread nD τ).loc main_arg0) ((win0_5.blk t).view.emb y) := by blk_ext [iblk, V, idx]

theorem m_eq (c : Dev nD) (t : Fin cfg0.N) (y : S1x128x512.Idx) :
    iblk m c 3 t y = m ((c : Thread nD τ).loc main_arg3) ((win0_5.blk t).view.emb y) := by blk_ext [iblk, V, idx]

theorem v_eq (c : Dev nD) (t : Fin cfg0.N) (y : S1x128x512.Idx) :
    iblk m c 4 t y = m ((c : Thread nD τ).loc main_arg4) ((win0_5.blk t).view.emb y) := by blk_ext [iblk, V, idx]

theorem emb_6 (t : Fin cfg0.N) (y : S1x128x512.Idx) : (win0_6.blk t).view.emb y = (win0_5.blk t).view.emb y := by blk_ext [idx]
theorem emb_7 (t : Fin cfg0.N) (y : S1x128x512.Idx) : (win0_7.blk t).view.emb y = (win0_5.blk t).view.emb y := by blk_ext [idx]
theorem emb_8 (t : Fin cfg0.N) (y : S1x128x512.Idx) : (win0_8.blk t).view.emb y = (win0_5.blk t).view.emb y := by blk_ext [idx]

theorem final_5 (c : Dev nD) : (dats m 0 c).arrAt 5 cfg0.N = G0 m c := by
  refine (dats m 0 c).arrAt_eq_of_covers 5 _ (by decide +kernel) fun t hf y => ?_
  blk_simp
  rw [after0_5]
  frame_out
  pointwise [k0_pay7, k0_pay4]
  exact grad m c t y

theorem final_6 (c : Dev nD) : (dats m 0 c).arrAt 6 cfg0.N = G1 m c := by
  refine (dats m 0 c).arrAt_eq_of_covers 6 _ (by decide +kernel) fun t hf y => ?_
  blk_simp
  rw [after0_6]
  frame_out
  pointwise [k0_pay1, k0_pay8, k0_pay9, k0_pay5, k0_pay6, k0_pay4]
  refine Eq.trans ?_ (congrArg (G1 m c) (emb_6 t y)).symm
  rw [grad m c t y, w_eq, m_eq, v_eq]
  rfl

theorem final_7 (c : Dev nD) : (dats m 0 c).arrAt 7 cfg0.N = G2 m c := by
  refine (dats m 0 c).arrAt_eq_of_covers 7 _ (by decide +kernel) fun t hf y => ?_
  blk_simp
  rw [after0_7]
  frame_out
  pointwise [k0_pay2, k0_pay5, k0_pay4]
  refine Eq.trans ?_ (congrArg (G2 m c) (emb_7 t y)).symm
  rw [grad m c t y, m_eq]
  rfl

theorem final_8 (c : Dev nD) : (dats m 0 c).arrAt 8 cfg0.N = G3 m c := by
  refine (dats m 0 c).arrAt_eq_of_covers 8 _ (by decide +kernel) fun t hf y => ?_
  blk_simp
  rw [after0_8]
  frame_out
  pointwise [k0_pay3, k0_pay6, k0_pay4]
  refine Eq.trans ?_ (congrArg (G3 m c) (emb_8 t y)).symm
  rw [grad m c t y, v_eq]
  rfl

theorem run : θ_run (defs (F := Ideal)) (onTc (τ := τ) (main (F := Ideal))) ⟨m, fun _ => 0, ρ⟩ fun r => ∀ c : Dev nD,
      r.2.mem ((c : Thread nD τ).loc main_v0_0) = G0 m c
      ∧ r.2.mem ((c : Thread nD τ).loc main_v0_1) = G1 m c
      ∧ r.2.mem ((c : Thread nD τ).loc main_v0_2) = G2 m c
      ∧ r.2.mem ((c : Thread nD τ).loc main_v0_3) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_5 m c), (h c).2.1.trans (final_6 m c),
    (h c).2.2.1.trans (final_7 m c), (h c).2.2.2.1.trans (final_8 m c), (h c).2.2.2.2⟩) (run_blocks m ρ)

/-- The reference's stack of the two gradients. -/
theorem stack_eq (g0 g1 : Vec Ideal S128x512 .f32) :
    concatenate Cert.Reference11Ideal.S2x128x512 0 [⟨Cert.Reference11Ideal.S1x128x512, broadcastInDim Cert.Reference11Ideal.S1x128x512 ![1, 2] Cert.Reference11Ideal.Gen.bcast_S128x512_S1x128x512_1_2 g0⟩,
      ⟨Cert.Reference11Ideal.S1x128x512, broadcastInDim Cert.Reference11Ideal.S1x128x512 ![1, 2] Cert.Reference11Ideal.Gen.bcast_S128x512_S1x128x512_1_2 g1⟩] Cert.Reference11Ideal.Gen.concatenates_S1x128x512_S1x128x512_S2x128x512_d0
      = stack g0 g1 := by
  funext (i : S2x128x512.Idx)
  pointwise [stack]
  split <;> split <;> first | rfl | omega

theorem claim : Cert.algebraic_Kernel11Ideal_Reference11Ideal := by
  intro m g m' g' _ hagree
  refine ⟨G0 m, G1 m, G2 m, G3 m, run m g,
    (θ_run Cert.Reference11Ideal.defs _ _).mono (fun r h c => ⟨(h c).1.trans ?_, (h c).2.1.trans ?_, (h c).2.2.1.trans ?_, (h c).2.2.2.1.trans ?_, (h c).2.2.2.2⟩) (Cert.Reference11Ideal.Value.run m' g')⟩
  all_goals rw [stack_eq, (hagree c).2.1, (hagree c).2.2.1]
  · rfl
  · rw [(hagree c).1, (hagree c).2.2.2.1, (hagree c).2.2.2.2]
    funext i
    pointwise [G1, delta, newM, newV]
    rfl
  · rw [(hagree c).2.2.2.1]
    funext i
    pointwise [G2, newM]
    rfl
  · rw [(hagree c).2.2.2.2]
    funext i
    pointwise [G3, newV]
    rfl

end Cert.Proof.AdamPw
-- ==== Proof.OutProjLoss.lean ====
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise

@[expose] public section

set_option maxRecDepth 16384

noncomputable section

namespace Cert.Proof.OutProjLoss

open Cert.Kernel12Ideal Cert.Kernel12Ideal.Gen Cert.Kernel12Ideal.Value Idealize.ShloMosaic Idealize.ShloMosaic.TcCoe Idealize.SL.Sem

variable (m : (ℓ : Loc nD τ sig) → Buf (Elt Ideal) ℓ) (ρ : Dev nD → PrngReg)

/-! ## The constants and the sums -/

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem width_eq : Ideal.ofBits .f32 0x45000000#32 = ((2048 : ℝ) : EReal) := by
  simp [Ideal.ofBits, Ideal.ieee, -EReal.coe_mul]; norm_num

theorem recip_eq : Ideal.ofBits .f32 0x3A000000#32 = ((1 / 2048 : ℝ) : EReal) := by
  simp [Ideal.ofBits, Ideal.ieee, -EReal.coe_mul]; norm_num

theorem div_width (x : EReal) : Ideal.div x (Ideal.ofBits .f32 0x45000000#32) = x * ((1 / 2048 : ℝ) : EReal) := by
  have h : ((2048 : ℝ) : EReal) ≠ 0 := by rw [Ne, EReal.coe_eq_zero]; norm_num
  rw [width_eq, Ideal.div, if_neg h, ← EReal.coe_inv]
  norm_num

/-- A square is not negative. -/
theorem sq_nonneg (e : EReal) : 0 ≤ e * e := by
  rcases le_total 0 e with h | h
  · exact mul_nonneg h h
  · have := mul_nonneg (EReal.neg_nonneg.mpr h) (EReal.neg_nonneg.mpr h)
    rwa [neg_mul_neg] at this

/-- The mean of the squares of a row. -/
def rowMean (e : Fin 2048 → EReal) : EReal := Ideal.div (∑ k : Fin 2048, e k * e k) (Ideal.ofBits .f32 0x45000000#32)

theorem rowMean_nonneg (e : Fin 2048 → EReal) : 0 ≤ rowMean e := by
  rw [rowMean, div_width]
  exact mul_nonneg (Finset.sum_nonneg fun k _ => sq_nonneg (e k)) (EReal.coe_nonneg.mpr (by norm_num))

/-- A factor over a sum of terms that are not negative. -/
theorem mul_sum_nonneg {n : ℕ} (c : EReal) (f : Fin n → EReal) (hf : ∀ r, 0 ≤ f r) : c * ∑ r, f r = ∑ r, c * f r := by
  classical
  have h : ∀ s : Finset (Fin n), c * ∑ r ∈ s, f r = ∑ r ∈ s, c * f r := by
    intro s
    induction s using Finset.induction_on with
    | empty => simp
    | insert a s ha ih =>
      rw [Finset.sum_insert ha, Finset.sum_insert ha, EReal.left_distrib_of_nonneg (hf a) (Finset.sum_nonneg fun r _ => hf r), ih]
  exact h _

/-- What a row adds to the loss. -/
def rowLoss (e : Fin 2048 → EReal) : EReal := Ideal.ofBits .f32 0x3F000000#32 * rowMean e

/-- The loss's cotangent by an output: the error over the row's width. -/
theorem grad_eq (e : EReal) : Ideal.div (Ideal.ofBits .f32 0x3F000000#32) (Ideal.ofBits .f32 0x45000000#32) * (Ideal.ofBits .f32 0x40000000#32 * e)
    = e * Ideal.ofBits .f32 0x3A000000#32 := by
  rw [div_width, half_eq, two_eq, recip_eq, ← mul_assoc, ← EReal.coe_mul, ← EReal.coe_mul, mul_comm]
  norm_num

/-! ## The results -/

/-- The errors: the output projection on the residual stream, less the target. -/
def err (y : Vec Ideal S4096x2048 .bf16) (wo : Vec Ideal S2048x2048 .bf16) (x t : Vec Ideal S4096x2048 .f32) (r : Fin 4096) (k : Fin 2048) : EReal :=
  x (ix2 r k) + (∑ l : Fin 2048, (y (ix2 r l) * wo (ix2 l k) : EReal)) - t (ix2 r k)

/-- The loss's cotangents by the outputs. -/
def DZ (y : Vec Ideal S4096x2048 .bf16) (wo : Vec Ideal S2048x2048 .bf16) (x t : Vec Ideal S4096x2048 .f32) : Vec Ideal S4096x2048 .f32 :=
  fun i => err y wo x t (i 0) (i 1) * Ideal.ofBits .f32 0x3A000000#32

/-- The loss, in every element of its block. -/
def LOSS (y : Vec Ideal S4096x2048 .bf16) (wo : Vec Ideal S2048x2048 .bf16) (x t : Vec Ideal S4096x2048 .f32) : Vec Ideal S8x128 .f32 :=
  fun _ => ∑ r : Fin 4096, rowLoss (err y wo x t r)

/-- The block indices of the windows at a point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The errors of a block of rows. -/
def berr (x : Vec Ideal S512x2048 .f32) (y : Vec Ideal S512x2048 .bf16) (wo : Vec Ideal S2048x2048 .bf16) (t : Vec Ideal S512x2048 .f32) (r : Fin 512) (k : Fin 2048) : EReal :=
  x (ix2 r k) + (∑ l : Fin 2048, (y (ix2 r l) * wo (ix2 l k) : EReal)) - t (ix2 r k)

theorem pay_dz (x : Vec Ideal S512x2048 .f32) (y : Vec Ideal S512x2048 .bf16) (wo : Vec Ideal S2048x2048 .bf16) (t : Vec Ideal S512x2048 .f32) (j : S512x2048.Idx) :
    k0_pay3 x y wo t j = berr x y wo t (j 0) (j 1) * Ideal.ofBits .f32 0x3A000000#32 := by
  pointwise [k0_pay3, k0_pay2, berr]

theorem pay_loss (x : Vec Ideal S512x2048 .f32) (y : Vec Ideal S512x2048 .bf16) (wo : Vec Ideal S2048x2048 .bf16) (t : Vec Ideal S512x2048 .f32) (a : Vec Ideal S8x128 .f32) (j : S8x128.Idx) :
    k0_pay4 x y wo t a j = a j + ∑ r : Fin 512, rowLoss (berr x y wo t r) := by
  have h : k0_pay4 x y wo t a j = a j + Ideal.ofBits .f32 0x3F000000#32 * ∑ r : Fin 512, rowMean (berr x y wo t r) := by
    pointwise [k0_pay4, k0_pay2, berr, rowMean]
  rw [h, mul_sum_nonneg _ _ fun r => rowMean_nonneg _]
  rfl

theorem emb_4 (t : Fin cfg0.N) (y : S512x2048.Idx) : (win0_4.blk t).view.emb y
    = (ix2 ⟨t.val * 512 + (y 0).val, by have ht : t.val < 8 := t.isLt; have hy : (y 0).val < 512 := (y 0).isLt; omega⟩ (y 1) : S4096x2048.Idx) := by
  blk_ext [idx]

theorem final_4 (c : Dev nD) : (dats m 0 c).arrAt 4 cfg0.N
    = DZ (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have e : (outsAt0 m c t.val t.isLt).1 y
      = berr (iblk m c 2 t) (iblk m c 0 t) (iblk m c 1 t) (iblk m c 3 t) (y 0) (y 1) * Ideal.ofBits .f32 0x3A000000#32 := by
    by_cases h : t.val % 8 = 0
    · rw [outsAt0_A m c t h]
      frame_out
      exact pay_dz _ _ _ _ _
    · rw [outsAt0_B m c t h]
      frame_out
      exact pay_dz _ _ _ _ _
  rw [e]
  refine congrArg (· * _) (congrArg₂ (· - ·) (congrArg₂ (· + ·) ?_ (Finset.sum_congr rfl fun k _ => congrArg₂ (· * ·) ?_ ?_)) ?_) <;> blk_ext [iblk, V, idx]

theorem rowLoss_congr {e e' : Fin 2048 → EReal} (h : ∀ k, e k = e' k) : rowLoss e = rowLoss e' := congrArg rowLoss (funext h)

theorem final_5 (c : Dev nD) : (dats m 0 c).arrAt 5 cfg0.N
    = LOSS (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, Pipeline.eq_sum_fin_of_reset_step_apply_of_flush (M := EReal) (fun n h => (outsAt0 m c n h).2) 8 (fun _ => (0 : EReal))
    (fun t _ => ∑ r : Fin 512, rowLoss (berr (iblk m c 2 t) (iblk m c 0 t) (iblk m c 1 t) (iblk m c 3 t) r)) (fun t h j => by
    rw [outsAt0_A m c t h]; frame_out; rw [pay_loss]; pointwise [k0_pay1]) (fun t h j => by
    rw [outsAt0_B m c t h]; frame_out; rw [pay_loss]) t ((flush0_5 t).mp hf) y, zero_add]
  refine Fin.sum_mul_add_congr fun s k hl => rowLoss_congr fun l => ?_
  refine congrArg₂ (· - ·) (congrArg₂ (· + ·) ?_ (Finset.sum_congr rfl fun k _ => congrArg₂ (· * ·) ?_ ?_)) ?_ <;> blk_ext [iblk, V, idx]

theorem run : θ_run (defs (F := Ideal)) (onTc (τ := τ) (main (F := Ideal))) ⟨m, fun _ => 0, ρ⟩ fun r => ∀ c : Dev nD,
      r.2.mem ((c : Thread nD τ).loc main_v0_0)
        = DZ (m ((c : Thread nD τ).loc main_arg0)) (m ((c : Thread nD τ).loc main_arg1)) (m ((c : Thread nD τ).loc main_arg2)) (m ((c : Thread nD τ).loc main_arg3))
      ∧ r.2.mem ((c : Thread nD τ).loc main_v0_1)
        = LOSS (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_4 m c), (h c).2.1.trans (final_5 m c), (h c).2.2⟩) (run_blocks m ρ)

theorem claim : Cert.algebraic_Kernel12Ideal_Reference12Ideal := by
  intro m g m' g' _ hagree
  refine ⟨fun c => DZ (m ((c : Thread nD τ).loc main_arg0)) (m ((c : Thread nD τ).loc main_arg1)) (m ((c : Thread nD τ).loc main_arg2)) (m ((c : Thread nD τ).loc main_arg3)),
    fun c => LOSS (m ((c : Thread nD τ).loc main_arg0)) (m ((c : Thread nD τ).loc main_arg1)) (m ((c : Thread nD τ).loc main_arg2)) (m ((c : Thread nD τ).loc main_arg3)), run m g,
    (θ_run Cert.Reference12Ideal.defs _ _).mono (fun r h c => ⟨(h c).1.trans ?_, (h c).2.1.trans ?_, (h c).2.2⟩) (Cert.Reference12Ideal.Value.run m' g')⟩
  · rw [(hagree c).1, (hagree c).2.1, (hagree c).2.2.1, (hagree c).2.2.2]
    funext (i : S4096x2048.Idx)
    refine Eq.trans ?_ (grad_eq (err (m ((c : Thread nD τ).loc main_arg0)) (m ((c : Thread nD τ).loc main_arg1)) (m ((c : Thread nD τ).loc main_arg2)) (m ((c : Thread nD τ).loc main_arg3)) (i 0) (i 1)))
    pointwise [err]
  · rw [(hagree c).1, (hagree c).2.1, (hagree c).2.2.1, (hagree c).2.2.2]
    funext (i : S8x128.Idx)
    refine Eq.trans ?_ (mul_sum_nonneg (Ideal.ofBits .f32 0x3F000000#32) _ fun r => rowMean_nonneg (err (m ((c : Thread nD τ).loc main_arg0)) (m ((c : Thread nD τ).loc main_arg1)) (m ((c : Thread nD τ).loc main_arg2)) (m ((c : Thread nD τ).loc main_arg3)) r))
    pointwise [err, rowMean]

end Cert.Proof.OutProjLoss
-- ==== Proof.AdamWIn.lean ====
/- The frame and the value of the update of the input projection: the last block of columns overhangs the arrays, so a
   buffer is known on the columns inside them only. -/
module

public import proofs.«01_k».proof.Defs
public import proofs.«01_k».proof.Proof.Gen.Kernel13Ideal.Frame
public import proofs.«01_k».proof.Proof.Gen.Kernel13Ideal.Skeleton
public import proofs.«01_k».proof.Proof.Gen.Kernel13.Frame
public import proofs.«01_k».proof.Proof.Gen.Reference13Ideal.Run
public import proofs.«01_k».proof.Proof.AdamSpec
public import Idealize.ShloMosaic.Lib.Pipeline.ValueKit
public import Idealize.ShloMosaic.Lib.Pointwise
public import Idealize.ShloMosaic.Lib.VecWindow
public import Idealize.ShloMosaic.Lib.Pipeline.FrameBody
public import Idealize.ShloMosaic.Lib.Pipeline.ReadBack

@[expose] public section

set_option maxRecDepth 16384

noncomputable section

namespace Cert.Proof.AdamWIn

open Cert.Kernel13Ideal Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- A layer of a block. -/
def lay (k : Fin 2) (X : Vec F S128x2x2048 .f32) : Vec F S128x1x2048 .f32 := fun j => X (ix3 (j 0) k (j 2))

/-- A block of two layers. -/
def both (a b : Vec F S128x1x2048 .f32) : Vec F S128x2x2048 .f32 := fun j =>
  if (j 1).val = 0 then a (ix3 (j 0) 0 (j 2)) else b (ix3 (j 0) 0 (j 2))

/-- What the body leaves in the four results' buffers. -/
def out0 (X1 X2 : Vec F S2048x128 .f32) : Vec F S128x2x2048 .f32 := both (k0_pay8 X1) (k0_pay1 (k0_pay13 X2))
def out1 (X0 : Vec F S128x2x2048 .f32) (X1 X2 : Vec F S2048x128 .f32) (X3 X4 : Vec F S128x2x2048 .f32) : Vec F S128x2x2048 .f32 :=
  both (k0_pay10 (k0_pay9 X1 (lay 0 X3) (lay 0 X4) (lay 0 X0))) (k0_pay2 (k0_pay16 X2 (lay 1 X3)) (k0_pay17 X2 (lay 1 X4)) (lay 1 X0))
def out2 (X1 X2 : Vec F S2048x128 .f32) (X3 : Vec F S128x2x2048 .f32) : Vec F S128x2x2048 .f32 :=
  both (k0_pay11 (k0_pay6 X1 (lay 0 X3))) (k0_pay3 (k0_pay14 X2 (lay 1 X3)))
def out3 (X1 X2 : Vec F S2048x128 .f32) (X4 : Vec F S128x2x2048 .f32) : Vec F S128x2x2048 .f32 :=
  both (k0_pay12 (k0_pay7 X1 (lay 0 X4))) (k0_pay4 (k0_pay15 X2 (lay 1 X4)))

/-- A buffer written at its two layers holds both. -/
theorem read_two (V : View sig .tc .vmem S128x2x2048 .f32) (f : V.ty.Contents (Elt F)) (a b : Vec F S128x1x2048 .f32) :
    V.read (Elt F) (V.writes (Elt F) f [⟨Rect.unit (s := S128x2x2048) ![0, 1, 0] S128x1x2048.size inb_S128x2x2048_S128x1x2048_0_1_0, b⟩,
      ⟨Rect.unit (s := S128x2x2048) ![0, 0, 0] S128x1x2048.size inb_S128x2x2048_S128x1x2048_0_0_0, a⟩]) = both a b := by
  funext y
  have h1 : (y 1).val < 2 := (y 1).isLt
  by_cases h : (y 1).val = 0
  · have hn : y ∉ Finset.univ.map (Rect.unit (s := S128x2x2048) ![0, 1, 0] S128x1x2048.size inb_S128x2x2048_S128x1x2048_0_1_0).emb := by
      rw [Rect.map_emb_univ, Rect.mem_set_unit]
      intro h'
      have h2 : 1 ≤ (y 1).val := (h' 1).1
      omega
    rw [View.writes_cons, View.read_slice_write_of_not_mem _ _ _ _ hn]
    have e : (Rect.unit (s := S128x2x2048) ![0, 0, 0] S128x1x2048.size inb_S128x2x2048_S128x1x2048_0_0_0).emb (ix3 (y 0) 0 (y 2)) = y := by
      funext a
      refine Fin.ext ?_
      match a with
      | ⟨0, _⟩ => show 0 + 1 * (y 0).val = (y 0).val; omega
      | ⟨1, _⟩ => show 0 + 1 * 0 = (y 1).val; omega
      | ⟨2, _⟩ => show 0 + 1 * (y 2).val = (y 2).val; omega
    have key := View.read_writes_cons_emb V f (Rect.unit (s := S128x2x2048) ![0, 0, 0] S128x1x2048.size inb_S128x2x2048_S128x1x2048_0_0_0) a [] (ix3 (y 0) 0 (y 2))
    rw [e] at key
    unfold both
    rw [if_pos h]
    exact key
  · have e : (Rect.unit (s := S128x2x2048) ![0, 1, 0] S128x1x2048.size inb_S128x2x2048_S128x1x2048_0_1_0).emb (ix3 (y 0) 0 (y 2)) = y := by
      funext a
      refine Fin.ext ?_
      match a with
      | ⟨0, _⟩ => show 0 + 1 * (y 0).val = (y 0).val; omega
      | ⟨1, _⟩ => show 1 + 1 * 0 = (y 1).val; omega
      | ⟨2, _⟩ => show 0 + 1 * (y 2).val = (y 2).val; omega
    have key := View.read_writes_cons_emb V f (Rect.unit (s := S128x2x2048) ![0, 1, 0] S128x1x2048.size inb_S128x2x2048_S128x1x2048_0_1_0) b
      [⟨Rect.unit (s := S128x2x2048) ![0, 0, 0] S128x1x2048.size inb_S128x2x2048_S128x1x2048_0_0_0, a⟩] (ix3 (y 0) 0 (y 2))
    rw [e] at key
    unfold both
    rw [if_neg h]
    exact key

theorem ld0 (A : Memref sig .tc .vmem S128x2x2048 .f32) (hA : A.IsWhole) (X : Vec F S128x2x2048 .f32) :
    A.view.readAt (Elt F) (Rect.unit (s := S128x2x2048) ![0, 0, 0] S128x1x2048.size inb_S128x2x2048_S128x1x2048_0_0_0).toLoadRect (hA.unread X) = lay 0 X := by
  rw [View.readAt_unit _ _ _ rfl inb_S128x2x2048_S128x1x2048_0_0_0, hA.read_unread]
  funext j
  refine congrArg X (funext fun a => Fin.ext ?_)
  have h1 : (j 1).val < 1 := (j 1).isLt
  match a with
  | ⟨0, _⟩ => show 0 + 1 * (j 0).val = (j 0).val; omega
  | ⟨1, _⟩ => show 0 + 1 * (j 1).val = 0; omega
  | ⟨2, _⟩ => show 0 + 1 * (j 2).val = (j 2).val; omega

theorem ld1 (A : Memref sig .tc .vmem S128x2x2048 .f32) (hA : A.IsWhole) (X : Vec F S128x2x2048 .f32) :
    A.view.readAt (Elt F) (Rect.unit (s := S128x2x2048) ![0, 1, 0] S128x1x2048.size inb_S128x2x2048_S128x1x2048_0_1_0).toLoadRect (hA.unread X) = lay 1 X := by
  rw [View.readAt_unit _ _ _ rfl inb_S128x2x2048_S128x1x2048_0_1_0, hA.read_unread]
  funext j
  refine congrArg X (funext fun a => Fin.ext ?_)
  have h1 : (j 1).val < 1 := (j 1).isLt
  match a with
  | ⟨0, _⟩ => show 0 + 1 * (j 0).val = (j 0).val; omega
  | ⟨1, _⟩ => show 1 + 1 * (j 1).val = 1; omega
  | ⟨2, _⟩ => show 0 + 1 * (j 2).val = (j 2).val; omega

theorem ldg (A : Memref sig .tc .vmem S2048x128 .f32) (hA : A.IsWhole) (X : Vec F S2048x128 .f32) :
    A.view.readAt (Elt F) (Rect.unit (s := S2048x128) ![0, 0] S2048x128.size inb_S2048x128_S2048x128_0_0).toLoadRect (hA.unread X) = X :=
  (View.readAt_full _ _ _).trans (hA.read_unread X)

theorem out0_of {g1 g2 X1 X2 : Vec F S2048x128 .f32} (h1 : g1 = X1) (h2 : g2 = X2) :
    both (k0_pay8 g1) (k0_pay1 (k0_pay13 g2)) = out0 X1 X2 := by subst h1; subst h2; rfl

theorem out1_of {g1 g2 X1 X2 : Vec F S2048x128 .f32} {X0 X3 X4 : Vec F S128x2x2048 .f32} {w0 w1 a0 a1 b0 b1 : Vec F S128x1x2048 .f32} (h1 : g1 = X1) (h2 : g2 = X2)
    (hw0 : w0 = lay 0 X0) (hw1 : w1 = lay 1 X0) (ha0 : a0 = lay 0 X3) (ha1 : a1 = lay 1 X3) (hb0 : b0 = lay 0 X4) (hb1 : b1 = lay 1 X4) :
    both (k0_pay10 (k0_pay9 g1 a0 b0 w0)) (k0_pay2 (k0_pay16 g2 a1) (k0_pay17 g2 b1) w1) = out1 X0 X1 X2 X3 X4 := by
  subst h1 h2 hw0 hw1 ha0 ha1 hb0 hb1; rfl

theorem out2_of {g1 g2 X1 X2 : Vec F S2048x128 .f32} {X3 : Vec F S128x2x2048 .f32} {a0 a1 : Vec F S128x1x2048 .f32} (h1 : g1 = X1) (h2 : g2 = X2)
    (ha0 : a0 = lay 0 X3) (ha1 : a1 = lay 1 X3) : both (k0_pay11 (k0_pay6 g1 a0)) (k0_pay3 (k0_pay14 g2 a1)) = out2 X1 X2 X3 := by
  subst h1 h2 ha0 ha1; rfl

theorem out3_of {g1 g2 X1 X2 : Vec F S2048x128 .f32} {X4 : Vec F S128x2x2048 .f32} {b0 b1 : Vec F S128x1x2048 .f32} (h1 : g1 = X1) (h2 : g2 = X2)
    (hb0 : b0 = lay 0 X4) (hb1 : b1 = lay 1 X4) : both (k0_pay12 (k0_pay7 g1 b0)) (k0_pay4 (k0_pay15 g2 b1)) = out3 X1 X2 X4 := by
  subst h1 h2 hb0 hb1; rfl

set_option maxHeartbeats 2000000 in
/-- The body, on whatever its buffers hold. -/
theorem body (c : Dev nD) (i : grid0.Coords) (arg1 : Memref sig .tc .vmem S128x2x2048 .f32) (harg1 : arg1.IsWhole)
    (arg2 : Memref sig .tc .vmem S2048x128 .f32) (harg2 : arg2.IsWhole) (arg3 : Memref sig .tc .vmem S2048x128 .f32) (harg3 : arg3.IsWhole)
    (arg4 : Memref sig .tc .vmem S128x2x2048 .f32) (harg4 : arg4.IsWhole) (arg5 : Memref sig .tc .vmem S128x2x2048 .f32) (harg5 : arg5.IsWhole)
    (arg6 : Memref sig .tc .vmem S128x2x2048 .f32) (harg6 : arg6.IsWhole) (arg7 : Memref sig .tc .vmem S128x2x2048 .f32) (harg7 : arg7.IsWhole)
    (arg8 : Memref sig .tc .vmem S128x2x2048 .f32) (harg8 : arg8.IsWhole) (arg9 : Memref sig .tc .vmem S128x2x2048 .f32) (harg9 : arg9.IsWhole)
    (X0 : Vec F S128x2x2048 .f32) (X1 X2 : Vec F S2048x128 .f32) (X3 X4 : Vec F S128x2x2048 .f32)
    (E : Set ℕ) (K : PUnit → sProp 𝕄) :
    iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare X4
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare X0 ∗ owns (c : Thread nD τ) arg2 fullShare X1 ∗ owns (c : Thread nD τ) arg3 fullShare X2
        ∗ owns (c : Thread nD τ) arg4 fullShare X3 ∗ owns (c : Thread nD τ) arg5 fullShare X4
            ∗ owns (c : Thread nD τ) arg6 fullShare (out0 X1 X2) ∗ owns (c : Thread nD τ) arg7 fullShare (out1 X0 X1 X2 X3 X4)
            ∗ owns (c : Thread nD τ) arg8 fullShare (out2 X1 X2 X3) ∗ owns (c : Thread nD τ) arg9 fullShare (out3 X1 X2 X4)) -∗ K ⟨⟩))
      ⊢ wp frame (wpE (defs₀ (F := F)) Variants.none c none) E (cc0_adamw_w_in i arg1 harg1 arg2 harg2 arg3 harg3 arg4 harg4 arg5 harg5 arg6 harg6 arg7 harg7 arg8 harg8 arg9 harg9) K := by
  simp only [cc0_adamw_w_in_eq_skeleton]; unfold cc0_adamw_w_in_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2
  obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    exact (read_two _ _ _ _).trans (out0_of (ldg arg2 harg2 X1) (ldg arg3 harg3 X2))
  isplitl [H6]
  · iexists _; isplitr; swap; · iexact H6
    ipureintro
    exact (read_two _ _ _ _).trans (out1_of (ldg arg2 harg2 X1) (ldg arg3 harg3 X2) (ld0 arg1 harg1 X0) (ld1 arg1 harg1 X0) (ld0 arg4 harg4 X3) (ld1 arg4 harg4 X3) (ld0 arg5 harg5 X4) (ld1 arg5 harg5 X4))
  isplitl [H7]
  · iexists _; isplitr; swap; · iexact H7
    ipureintro
    exact (read_two _ _ _ _).trans (out2_of (ldg arg2 harg2 X1) (ldg arg3 harg3 X2) (ld0 arg4 harg4 X3) (ld1 arg4 harg4 X3))
  · iexists _; isplitr; swap; · iexact H8
    ipureintro
    exact (read_two _ _ _ _).trans (out3_of (ldg arg2 harg2 X1) (ldg arg3 harg3 X2) (ld0 arg5 harg5 X4) (ld1 arg5 harg5 X4))

/-- An element's gradient, of its layer. -/
def sel (X1 X2 : Vec F S2048x128 .f32) (j : S128x2x2048.Idx) : Elt F .f32 :=
  if (j 1).val = 0 then X1 (ix2 (j 2) (j 0)) else X2 (ix2 (j 2) (j 0))

/-- An element's new moments and its weight's change. -/
def eM (g m : Elt F .f32) : Elt F .f32 :=
  FloatOps.addf (FloatOps.mulf (Scalar.ofBits .f32 0x3F666666#32) m) (FloatOps.mulf (Scalar.ofBits .f32 0x3DCCCCCD#32) g)
def eV (g v : Elt F .f32) : Elt F .f32 :=
  FloatOps.addf (FloatOps.mulf (Scalar.ofBits .f32 0x3F7FBE77#32) v) (FloatOps.mulf (Scalar.ofBits .f32 0x3A83126F#32) (FloatOps.mulf g g))
def eD (w g m v : Elt F .f32) : Elt F .f32 :=
  FloatOps.mulf (Scalar.ofBits .f32 0xBA83126F#32) (FloatOps.addf
    (FloatOps.divf (FloatOps.divf (eM g m) (Scalar.ofBits .f32 0x3F26BD02#32))
      (FloatOps.addf (FloatOps.sqrt (FloatOps.divf (eV g v) (Scalar.ofBits .f32 0x3C231ACC#32))) (Scalar.ofBits .f32 0x322BCC77#32)))
    (FloatOps.mulf (Scalar.ofBits .f32 0x3C23D70A#32) w))

theorem mid (j : S128x2x2048.Idx) (k : Fin 2) (h : (j 1).val = k.val) : (ix3 (j 0) k (j 2) : S128x2x2048.Idx) = j := by
  funext a
  match a with
  | ⟨0, _⟩ => rfl
  | ⟨1, _⟩ => exact Fin.ext h.symm
  | ⟨2, _⟩ => rfl

theorem out0_at (X1 X2 : Vec F S2048x128 .f32) (j : S128x2x2048.Idx) : out0 X1 X2 j = sel X1 X2 j := by
  unfold out0 both sel
  split
  · pointwise [k0_pay8, k0_pay5]
  · pointwise [k0_pay1, k0_pay13]

theorem out2_at (X1 X2 : Vec F S2048x128 .f32) (X3 : Vec F S128x2x2048 .f32) (j : S128x2x2048.Idx) :
    out2 X1 X2 X3 j = eM (sel X1 X2 j) (X3 j) := by
  have h1 : (j 1).val < 2 := (j 1).isLt
  unfold out2 both sel
  by_cases h : (j 1).val = 0
  · rw [if_pos h, if_pos h]; conv_rhs => rw [← mid j 0 h]
    pointwise [k0_pay11, k0_pay6, k0_pay5, lay, eM]
  · rw [if_neg h, if_neg h]; conv_rhs => rw [← mid j 1 (by show _ = 1; omega)]
    pointwise [k0_pay3, k0_pay14, k0_pay13, lay, eM]

theorem out3_at (X1 X2 : Vec F S2048x128 .f32) (X4 : Vec F S128x2x2048 .f32) (j : S128x2x2048.Idx) :
    out3 X1 X2 X4 j = eV (sel X1 X2 j) (X4 j) := by
  have h1 : (j 1).val < 2 := (j 1).isLt
  unfold out3 both sel
  by_cases h : (j 1).val = 0
  · rw [if_pos h, if_pos h]; conv_rhs => rw [← mid j 0 h]
    pointwise [k0_pay12, k0_pay7, k0_pay5, lay, eV]
  · rw [if_neg h, if_neg h]; conv_rhs => rw [← mid j 1 (by show _ = 1; omega)]
    pointwise [k0_pay4, k0_pay15, k0_pay13, lay, eV]

theorem out1_at (X0 : Vec F S128x2x2048 .f32) (X1 X2 : Vec F S2048x128 .f32) (X3 X4 : Vec F S128x2x2048 .f32) (j : S128x2x2048.Idx) :
    out1 X0 X1 X2 X3 X4 j = eD (X0 j) (sel X1 X2 j) (X3 j) (X4 j) := by
  have h1 : (j 1).val < 2 := (j 1).isLt
  unfold out1 both sel
  by_cases h : (j 1).val = 0
  · rw [if_pos h, if_pos h]; conv_rhs => rw [← mid j 0 h]
    pointwise [k0_pay10, k0_pay9, k0_pay7, k0_pay6, k0_pay5, lay, eD, eM, eV]
  · rw [if_neg h, if_neg h]; conv_rhs => rw [← mid j 1 (by show _ = 1; omega)]
    pointwise [k0_pay2, k0_pay16, k0_pay17, k0_pay14, k0_pay15, k0_pay13, lay, eD, eM, eV]

/-- How many of a point's 128 columns are inside the arrays. -/
def ext (t : Fin cfg0.N) : ℕ := min 128 (1667 - 128 * t.val)

theorem xs : ∀ t : Fin cfg0.N, (∀ a, win0_0.xsize (grid0.coords t) a = (![ext t, 2, 2048] : Fin 3 → ℕ) a)
    ∧ (∀ a, win0_1.xsize (grid0.coords t) a = (![2048, ext t] : Fin 2 → ℕ) a) :=
  (by decide +kernel : ∀ t : Fin grid0.N, _)

theorem mv0 (t : Fin cfg0.N) (j : S128x2x2048.Idx) : win0_0.moved (grid0.coords t) j = true ↔ (j 0).val < ext t := by
  rw [Pipeline.Window.moved_iff]
  constructor
  · intro h
    exact lt_of_lt_of_eq (h 0) ((xs t).1 0)
  · intro h a
    refine lt_of_lt_of_eq ?_ ((xs t).1 a).symm
    match a with
    | ⟨0, _⟩ => exact h
    | ⟨1, _⟩ => exact (j 1).isLt
    | ⟨2, _⟩ => exact (j 2).isLt

theorem mv1 (t : Fin cfg0.N) (j : S2048x128.Idx) (h : (j 1).val < ext t) : win0_1.moved (grid0.coords t) j = true := by
  rw [Pipeline.Window.moved_iff]
  intro a
  refine lt_of_lt_of_eq ?_ ((xs t).2 a).symm
  match a with
  | ⟨0, _⟩ => exact (j 0).isLt
  | ⟨1, _⟩ => exact h

/-- What a filled block holds on the part inside the array does not depend on what fills it, -/
theorem fill_in (w : Window sig grid0) {α : Type} (i : grid0.Coords) (d d' : w.block.Idx → α) (X : (w.xblock i).Idx → α) (j : w.block.Idx)
    (h : w.moved i j = true) : w.fill i d X j = w.fill i d' X j := by
  unfold Pipeline.Window.fill; rw [dif_pos h, dif_pos h]

/-- and contents known on that part alone are the rest's filler. -/
theorem fill_cut (w : Window sig grid0) {α : Type} (i : grid0.Coords) (A B : w.block.Idx → α) (h : ∀ j, w.moved i j = true → A j = B j) :
    w.fill i A (w.cut i B) = A := by
  funext j
  unfold Pipeline.Window.fill
  split
  · next h' => exact (h j h').symm
  · rfl

variable (m : (ℓ : Loc nD τ sig) → Buf (Elt F) ℓ) (ρ : Dev nD → PrngReg)

/-- The five operands' blocks at a point, zero past the arrays' end. -/
def B0 (c : Dev nD) (t : Fin cfg0.N) : Vec F S128x2x2048 .f32 := win0_0.fill (grid0.coords t) (fun _ => Scalar.ofBits .f32 0#32) (iblk m c 0 t)
def B1 (c : Dev nD) (t : Fin cfg0.N) : Vec F S2048x128 .f32 := win0_1.fill (grid0.coords t) (fun _ => Scalar.ofBits .f32 0#32) (iblk m c 1 t)
def B2 (c : Dev nD) (t : Fin cfg0.N) : Vec F S2048x128 .f32 := win0_2.fill (grid0.coords t) (fun _ => Scalar.ofBits .f32 0#32) (iblk m c 2 t)
def B3 (c : Dev nD) (t : Fin cfg0.N) : Vec F S128x2x2048 .f32 := win0_3.fill (grid0.coords t) (fun _ => Scalar.ofBits .f32 0#32) (iblk m c 3 t)
def B4 (c : Dev nD) (t : Fin cfg0.N) : Vec F S128x2x2048 .f32 := win0_4.fill (grid0.coords t) (fun _ => Scalar.ofBits .f32 0#32) (iblk m c 4 t)

def dats (_ : Fin 1) (c : Dev nD) : Dat τ (Elt F) Unit ℕ (UR sig nD τ) ℕ cfg0 c where
  A w := V m c (Pipeline.arrRef spec0 w)
  after w t := match w with
    | ⟨0, _⟩ => B0 m c t
    | ⟨1, _⟩ => B1 m c t
    | ⟨2, _⟩ => B2 m c t
    | ⟨3, _⟩ => B3 m c t
    | ⟨4, _⟩ => B4 m c t
    | ⟨5, _⟩ => out0 (B1 m c t) (B2 m c t)
    | ⟨6, _⟩ => out1 (B0 m c t) (B1 m c t) (B2 m c t) (B3 m c t) (B4 m c t)
    | ⟨7, _⟩ => out2 (B1 m c t) (B2 m c t) (B3 m c t)
    | ⟨8, _⟩ => out3 (B1 m c t) (B2 m c t) (B4 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = win0_0.fill (grid0.coords t) d (iblk m c 0 t) := by
  unfold Dat.before; rw [if_pos (fetch0_0 t)]; rfl
theorem before_1 (c : Dev nD) (t : Fin cfg0.N) (d) : (dats m 0 c).before 1 t d = win0_1.fill (grid0.coords t) d (iblk m c 1 t) := by
  unfold Dat.before; rw [if_pos (fetch0_1 t)]; rfl
theorem before_2 (c : Dev nD) (t : Fin cfg0.N) (d) : (dats m 0 c).before 2 t d = win0_2.fill (grid0.coords t) d (iblk m c 2 t) := by
  unfold Dat.before; rw [if_pos (fetch0_2 t)]; rfl
theorem before_3 (c : Dev nD) (t : Fin cfg0.N) (d) : (dats m 0 c).before 3 t d = win0_3.fill (grid0.coords t) d (iblk m c 3 t) := by
  unfold Dat.before; rw [if_pos (fetch0_3 t)]; rfl
theorem before_4 (c : Dev nD) (t : Fin cfg0.N) (d) : (dats m 0 c).before 4 t d = win0_4.fill (grid0.coords t) d (iblk m c 4 t) := by
  unfold Dat.before; rw [if_pos (fetch0_4 t)]; rfl

/-- Operands that agree on the columns inside the arrays have one gradient there. -/
theorem sel_in (t : Fin cfg0.N) (c : Dev nD) (d1 d2) (j : S128x2x2048.Idx) (h : (j 0).val < ext t) :
    sel (win0_1.fill (grid0.coords t) d1 (iblk m c 1 t)) (win0_2.fill (grid0.coords t) d2 (iblk m c 2 t)) j = sel (B1 m c t) (B2 m c t) j := by
  unfold sel
  rw [show win0_1.fill (grid0.coords t) d1 (iblk m c 1 t) (ix2 (j 2) (j 0)) = B1 m c t (ix2 (j 2) (j 0)) from fill_in win0_1 _ _ _ _ _ (mv1 t _ h),
    show win0_2.fill (grid0.coords t) d2 (iblk m c 2 t) (ix2 (j 2) (j 0)) = B2 m c t (ix2 (j 2) (j 0)) from fill_in win0_2 _ _ _ _ _ (mv1 t _ h)]

set_option maxHeartbeats 1600000 in
theorem body_obligation (c : Dev nD) : BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0 m c t d0, before_1 m c t d1, before_2 m c t d2, before_3 m c t d3, before_4 m c t d4]
  iapply (body (F := F) c (grid0.coords t) _ (hstage0_0 ((cfg0.slots t 0).cast nbuf0_0)) _ (hstage0_1 ((cfg0.slots t 1).cast nbuf0_1)) _ (hstage0_2 ((cfg0.slots t 2).cast nbuf0_2))
    _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6))
    _ (hstage0_7 ((cfg0.slots t 7).cast nbuf0_7)) _ (hstage0_8 ((cfg0.slots t 8).cast nbuf0_8))
    (win0_0.fill (grid0.coords t) d0 (iblk m c 0 t)) (win0_1.fill (grid0.coords t) d1 (iblk m c 1 t)) (win0_2.fill (grid0.coords t) d2 (iblk m c 2 t))
    (win0_3.fill (grid0.coords t) d3 (iblk m c 3 t)) (win0_4.fill (grid0.coords t) d4 (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  have e0 : win0_0.fill (grid0.coords t) d0 (win0_0.cut (grid0.coords t) (B0 m c t)) = win0_0.fill (grid0.coords t) d0 (iblk m c 0 t) :=
    congrArg _ (win0_0.cut_fill _ _ _)
  have e1 : win0_1.fill (grid0.coords t) d1 (win0_1.cut (grid0.coords t) (B1 m c t)) = win0_1.fill (grid0.coords t) d1 (iblk m c 1 t) :=
    congrArg _ (win0_1.cut_fill _ _ _)
  have e2 : win0_2.fill (grid0.coords t) d2 (win0_2.cut (grid0.coords t) (B2 m c t)) = win0_2.fill (grid0.coords t) d2 (iblk m c 2 t) :=
    congrArg _ (win0_2.cut_fill _ _ _)
  have e3 : win0_3.fill (grid0.coords t) d3 (win0_3.cut (grid0.coords t) (B3 m c t)) = win0_3.fill (grid0.coords t) d3 (iblk m c 3 t) :=
    congrArg _ (win0_3.cut_fill _ _ _)
  have e4 : win0_4.fill (grid0.coords t) d4 (win0_4.cut (grid0.coords t) (B4 m c t)) = win0_4.fill (grid0.coords t) d4 (iblk m c 4 t) :=
    congrArg _ (win0_4.cut_fill _ _ _)
  generalize hX0 : (win0_0.fill (grid0.coords t) d0 (iblk m c 0 t) : Vec F S128x2x2048 .f32) = X0 at *
  generalize hX1 : (win0_1.fill (grid0.coords t) d1 (iblk m c 1 t) : Vec F S2048x128 .f32) = X1 at *
  generalize hX2 : (win0_2.fill (grid0.coords t) d2 (iblk m c 2 t) : Vec F S2048x128 .f32) = X2 at *
  generalize hX3 : (win0_3.fill (grid0.coords t) d3 (iblk m c 3 t) : Vec F S128x2x2048 .f32) = X3 at *
  generalize hX4 : (win0_4.fill (grid0.coords t) d4 (iblk m c 4 t) : Vec F S128x2x2048 .f32) = X4 at *
  have hs : ∀ j : S128x2x2048.Idx, win0_0.moved (grid0.coords t) j = true → sel X1 X2 j = sel (B1 m c t) (B2 m c t) j := fun j h => by
    rw [← hX1, ← hX2]; exact sel_in m t c d1 d2 j ((mv0 t j).1 h)
  have h0 : ∀ j : S128x2x2048.Idx, win0_0.moved (grid0.coords t) j = true → X0 j = B0 m c t j := fun j h => by
    rw [← hX0]; exact fill_in win0_0 _ _ _ _ j h
  have h3 : ∀ j : S128x2x2048.Idx, win0_0.moved (grid0.coords t) j = true → X3 j = B3 m c t j := fun j h => by
    rw [← hX3]; exact fill_in win0_3 _ _ _ _ j h
  have h4 : ∀ j : S128x2x2048.Idx, win0_0.moved (grid0.coords t) j = true → X4 j = B4 m c t j := fun j h => by
    rw [← hX4]; exact fill_in win0_4 _ _ _ _ j h
  have e5 : win0_0.fill (grid0.coords t) (out0 X1 X2) (win0_0.cut (grid0.coords t) (out0 (B1 m c t) (B2 m c t))) = out0 X1 X2 :=
    fill_cut win0_0 _ _ _ fun (j : S128x2x2048.Idx) h => by rw [out0_at, out0_at, hs j h]
  have e6 : win0_0.fill (grid0.coords t) (out1 X0 X1 X2 X3 X4) (win0_0.cut (grid0.coords t) (out1 (B0 m c t) (B1 m c t) (B2 m c t) (B3 m c t) (B4 m c t))) = out1 X0 X1 X2 X3 X4 :=
    fill_cut win0_0 _ _ _ fun (j : S128x2x2048.Idx) h => by rw [out1_at, out1_at, hs j h, h0 j h, h3 j h, h4 j h]
  have e7 : win0_0.fill (grid0.coords t) (out2 X1 X2 X3) (win0_0.cut (grid0.coords t) (out2 (B1 m c t) (B2 m c t) (B3 m c t))) = out2 X1 X2 X3 :=
    fill_cut win0_0 _ _ _ fun (j : S128x2x2048.Idx) h => by rw [out2_at, out2_at, hs j h, h3 j h]
  have e8 : win0_0.fill (grid0.coords t) (out3 X1 X2 X4) (win0_0.cut (grid0.coords t) (out3 (B1 m c t) (B2 m c t) (B4 m c t))) = out3 X1 X2 X4 :=
    fill_cut win0_0 _ _ _ fun (j : S128x2x2048.Idx) h => by rw [out3_at, out3_at, hs j h, h4 j h]
  isplitl [H0]
  · iexists d0
    change _ ⊢ owns (c : Thread nD τ) (st0_0 t) fullShare (win0_0.fill (grid0.coords t) d0 (win0_0.cut (grid0.coords t) (B0 m c t)))
    rw [e0]; exact .rfl
  isplitl [H1]
  · iexists d1
    change _ ⊢ owns (c : Thread nD τ) (st0_1 t) fullShare (win0_1.fill (grid0.coords t) d1 (win0_1.cut (grid0.coords t) (B1 m c t)))
    rw [e1]; exact .rfl
  isplitl [H2]
  · iexists d2
    change _ ⊢ owns (c : Thread nD τ) (st0_2 t) fullShare (win0_2.fill (grid0.coords t) d2 (win0_2.cut (grid0.coords t) (B2 m c t)))
    rw [e2]; exact .rfl
  isplitl [H3]
  · iexists d3
    change _ ⊢ owns (c : Thread nD τ) (st0_3 t) fullShare (win0_3.fill (grid0.coords t) d3 (win0_3.cut (grid0.coords t) (B3 m c t)))
    rw [e3]; exact .rfl
  isplitl [H4]
  · iexists d4
    change _ ⊢ owns (c : Thread nD τ) (st0_4 t) fullShare (win0_4.fill (grid0.coords t) d4 (win0_4.cut (grid0.coords t) (B4 m c t)))
    rw [e4]; exact .rfl
  isplitl [H5]
  · iexists (out0 X1 X2)
    change _ ⊢ owns (c : Thread nD τ) (st0_5 t) fullShare (win0_0.fill (grid0.coords t) (out0 X1 X2) (win0_0.cut (grid0.coords t) (out0 (B1 m c t) (B2 m c t))))
    rw [e5]; exact .rfl
  isplitl [H6]
  · iexists (out1 X0 X1 X2 X3 X4)
    change _ ⊢ owns (c : Thread nD τ) (st0_6 t) fullShare (win0_0.fill (grid0.coords t) (out1 X0 X1 X2 X3 X4) (win0_0.cut (grid0.coords t) (out1 (B0 m c t) (B1 m c t) (B2 m c t) (B3 m c t) (B4 m c t))))
    rw [e6]; exact .rfl
  isplitl [H7]
  · iexists (out2 X1 X2 X3)
    change _ ⊢ owns (c : Thread nD τ) (st0_7 t) fullShare (win0_0.fill (grid0.coords t) (out2 X1 X2 X3) (win0_0.cut (grid0.coords t) (out2 (B1 m c t) (B2 m c t) (B3 m c t))))
    rw [e7]; exact .rfl
  · iexists (out3 X1 X2 X4)
    change _ ⊢ owns (c : Thread nD τ) (st0_8 t) fullShare (win0_0.fill (grid0.coords t) (out3 X1 X2 X4) (win0_0.cut (grid0.coords t) (out3 (B1 m c t) (B2 m c t) (B4 m c t))))
    rw [e8]; exact .rfl

set_option backward.isDefEq.respectTransparency.types false in
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The kernel as printed has the same body table, -/
theorem defs₀_eq : Cert.Kernel13.defs₀ (F := F) = Cert.Kernel13Ideal.defs₀ := by
  unfold Cert.Kernel13.defs₀ Cert.Kernel13Ideal.defs₀
  refine congrArg Defs.onTc (funext fun l => ?_)
  match l with
  | 0 => rfl
  | ⟨_ + 1, h⟩ => exact absurd h (Nat.not_lt.2 (Nat.le_add_left _ _))

theorem defs_eq : Cert.Kernel13.defs (F := F) = Cert.Kernel13Ideal.defs := congrArg (Pipeline.defs Cert.Kernel13Ideal.pcfgs) defs₀_eq

/-- and so the same run. -/
theorem frame_bits (m : (ℓ : Loc Cert.Kernel13.nD Cert.Kernel13.τ Cert.Kernel13.sig) → Buf (Elt Bits) ℓ) (ρ : Dev Cert.Kernel13.nD → PrngReg) :
    θ_run Cert.Kernel13.defs (onTc (τ := Cert.Kernel13.τ) (Cert.Kernel13.main (F := Bits))) ⟨m, fun _ => 0, ρ⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0) := by
  rw [defs_eq]
  exact (θ_run Cert.Kernel13Ideal.defs _ _).mono (fun _ h => h) (frame (F := Bits) m ρ)

section Value

open Cert.Proof.Adam

variable (m : (ℓ : Loc nD τ sig) → Buf (Elt Ideal) ℓ) (ρ : Dev nD → PrngReg)

/-- The gradients of the two layers, a column's layers beside each other. -/
def cols (g0 g1 : Vec Ideal S2048x1667 .f32) : Vec Ideal S1667x2x2048 .f32 :=
  fun i => if (i 1).val = 0 then g0 (ix2 (i 2) (i 0)) else g1 (ix2 (i 2) (i 0))

/-- The four results. -/
def G0 (c : Dev nD) : Vec Ideal S1667x2x2048 .f32 := cols (m ((c : Thread nD τ).loc main_arg1)) (m ((c : Thread nD τ).loc main_arg2))
def G1 (c : Dev nD) : Vec Ideal S1667x2x2048 .f32 := fun i =>
  delta (m ((c : Thread nD τ).loc main_arg0) i) (G0 m c i) (m ((c : Thread nD τ).loc main_arg3) i) (m ((c : Thread nD τ).loc main_arg4) i)
def G2 (c : Dev nD) : Vec Ideal S1667x2x2048 .f32 := fun i => newM (G0 m c i) (m ((c : Thread nD τ).loc main_arg3) i)
def G3 (c : Dev nD) : Vec Ideal S1667x2x2048 .f32 := fun i => newV (G0 m c i) (m ((c : Thread nD τ).loc main_arg4) i)

theorem idx : ∀ t : Fin cfg0.N, win0_0.index t = ![t.val, 0, 0] ∧ win0_1.index t = ![0, t.val] ∧ win0_2.index t = ![0, t.val]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] ∧ win0_8.index t = ![t.val, 0, 0] :=
  (by decide +kernel : ∀ t : Fin grid0.N, _)

theorem ext_lt (t : Fin cfg0.N) (k : ℕ) (h : k < ext t) : 128 * t.val + k < 1667 := by unfold ext at h; omega

/-- An operand's block inside the array is the array's. -/
theorem B0_at (c : Dev nD) (t : Fin cfg0.N) (y : (win0_0.xblock (grid0.coords t)).Idx) :
    B0 m c t (win0_0.xinj (grid0.coords t) y) = m ((c : Thread nD τ).loc main_arg0) ((win0_0.blk t).view.emb y) := by
  unfold B0; rw [win0_0.fill_xinj]; rfl

theorem B3_at (c : Dev nD) (t : Fin cfg0.N) (y : (win0_0.xblock (grid0.coords t)).Idx) :
    B3 m c t (win0_0.xinj (grid0.coords t) y) = m ((c : Thread nD τ).loc main_arg3) ((win0_0.blk t).view.emb y) := by
  unfold B3; exact (win0_3.fill_xinj _ _ _ _).trans rfl

theorem B4_at (c : Dev nD) (t : Fin cfg0.N) (y : (win0_0.xblock (grid0.coords t)).Idx) :
    B4 m c t (win0_0.xinj (grid0.coords t) y) = m ((c : Thread nD τ).loc main_arg4) ((win0_0.blk t).view.emb y) := by
  unfold B4; exact (win0_4.fill_xinj _ _ _ _).trans rfl

theorem B1_at (c : Dev nD) (t : Fin cfg0.N) (j : S2048x128.Idx) (h : (j 1).val < ext t) :
    B1 m c t j = m ((c : Thread nD τ).loc main_arg1) (ix2 (j 0) ⟨128 * t.val + (j 1).val, ext_lt t _ h⟩) := by
  unfold B1 Pipeline.Window.fill
  rw [dif_pos (mv1 t j h)]
  blk_ext [iblk, V, idx]

theorem B2_at (c : Dev nD) (t : Fin cfg0.N) (j : S2048x128.Idx) (h : (j 1).val < ext t) :
    B2 m c t j = m ((c : Thread nD τ).loc main_arg2) (ix2 (j 0) ⟨128 * t.val + (j 1).val, ext_lt t _ h⟩) := by
  unfold B2 Pipeline.Window.fill
  rw [dif_pos (show win0_2.moved (grid0.coords t) j = true from mv1 t j h)]
  blk_ext [iblk, V, idx]

/-- Where a block's element lies in the array. -/
theorem emb_val (t : Fin cfg0.N) (y : (win0_0.xblock (grid0.coords t)).Idx) (a : Fin 3) :
    ((win0_0.blk t).view.emb y a).val = win0_0.index t a * S128x2x2048.size a + 1 * (y a).val := rfl

theorem first_axis (n k t : ℕ) (h : n = t) : n * 128 + 1 * k = 128 * t + k := by omega

theorem whole_axis (n s k : ℕ) (h : n = 0) : n * s + 1 * k = k := by rw [h, Nat.zero_mul, Nat.one_mul, Nat.zero_add]

set_option maxHeartbeats 2000000 in
/-- The gradient that a point reads is its block of the two layers'. -/
theorem grad (c : Dev nD) (t : Fin cfg0.N) (y : (win0_0.xblock (grid0.coords t)).Idx) :
    sel (B1 m c t) (B2 m c t) (win0_0.xinj (grid0.coords t) y) = G0 m c ((win0_0.blk t).view.emb y) := by
  have h : (y 0).val < ext t := lt_of_lt_of_eq (y 0).isLt ((xs t).1 0)
  have h1 : (y 1).val < 2 := lt_of_lt_of_eq (y 1).isLt ((xs t).1 1)
  have h2 : (y 2).val < 2048 := lt_of_lt_of_eq (y 2).isLt ((xs t).1 2)
  have e : (win0_0.blk t).view.emb y = (ix3 ⟨128 * t.val + (y 0).val, ext_lt t _ h⟩ ⟨(y 1).val, h1⟩ ⟨(y 2).val, h2⟩ : S1667x2x2048.Idx) := by
    funext a
    refine Fin.ext ((emb_val t y a).trans ?_)
    match a with
    | ⟨0, _⟩ => exact first_axis _ _ _ (congrFun (idx t).1 0)
    | ⟨1, _⟩ => exact whole_axis _ _ _ (congrFun (idx t).1 1)
    | ⟨2, _⟩ => exact whole_axis _ _ _ (congrFun (idx t).1 2)
  refine Eq.trans ?_ (congrArg (G0 m c) e).symm
  unfold sel G0 cols
  by_cases hl : (y 1).val = 0
  · refine (if_pos hl).trans (Eq.trans ?_ (if_pos hl).symm)
    exact B1_at m c t _ h
  · refine (if_neg hl).trans (Eq.trans ?_ (if_neg hl).symm)
    exact B2_at m c t _ h

theorem final_5 (c : Dev nD) : (dats m 0 c).arrAt 5 cfg0.N = G0 m c := by
  refine (dats m 0 c).arrAt_eq_of_covers 5 _ (by decide +kernel) fun t hf y => ?_
  exact (out0_at _ _ _).trans (grad m c t y)

theorem final_6 (c : Dev nD) : (dats m 0 c).arrAt 6 cfg0.N = G1 m c := by
  refine (dats m 0 c).arrAt_eq_of_covers 6 _ (by decide +kernel) fun t hf y => ?_
  exact ((out1_at _ _ _ _ _ _).trans (congr (congr (congr (congrArg eD (B0_at m c t y)) (grad m c t y)) (B3_at m c t y)) (B4_at m c t y))).trans rfl

theorem final_7 (c : Dev nD) : (dats m 0 c).arrAt 7 cfg0.N = G2 m c := by
  refine (dats m 0 c).arrAt_eq_of_covers 7 _ (by decide +kernel) fun t hf y => ?_
  exact ((out2_at _ _ _ _).trans (congr (congrArg eM (grad m c t y)) (B3_at m c t y))).trans rfl

theorem final_8 (c : Dev nD) : (dats m 0 c).arrAt 8 cfg0.N = G3 m c := by
  refine (dats m 0 c).arrAt_eq_of_covers 8 _ (by decide +kernel) fun t hf y => ?_
  exact ((out3_at _ _ _ _).trans (congr (congrArg eV (grad m c t y)) (B4_at m c t y))).trans rfl

theorem run : θ_run (defs (F := Ideal)) (onTc (τ := τ) (main (F := Ideal))) ⟨m, fun _ => 0, ρ⟩ fun r => ∀ c : Dev nD,
      r.2.mem ((c : Thread nD τ).loc main_v0_0) = G0 m c
      ∧ r.2.mem ((c : Thread nD τ).loc main_v0_1) = G1 m c
      ∧ r.2.mem ((c : Thread nD τ).loc main_v0_2) = G2 m c
      ∧ r.2.mem ((c : Thread nD τ).loc main_v0_3) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1.1 c).1 5).trans (final_5 m c), ((h.1.1 c).1 6).trans (final_6 m c),
    ((h.1.1 c).1 7).trans (final_7 m c), ((h.1.1 c).1 8).trans (final_8 m c), h.2.1 c⟩)
    (θ_run_and (run_main m ρ) (frame m ρ))

/-- The reference's stack of the two gradients, transposed. -/
theorem cols_eq (g0 g1 : Vec Ideal S2048x1667 .f32) (i : S1667x2x2048.Idx) :
    concatenate Cert.Reference13Ideal.S2x2048x1667 0 [⟨Cert.Reference13Ideal.S1x2048x1667, broadcastInDim Cert.Reference13Ideal.S1x2048x1667 ![1, 2] Cert.Reference13Ideal.Gen.bcast_S2048x1667_S1x2048x1667_1_2 g0⟩,
      ⟨Cert.Reference13Ideal.S1x2048x1667, broadcastInDim Cert.Reference13Ideal.S1x2048x1667 ![1, 2] Cert.Reference13Ideal.Gen.bcast_S2048x1667_S1x2048x1667_1_2 g1⟩] Cert.Reference13Ideal.Gen.concatenates_S1x2048x1667_S1x2048x1667_S2x2048x1667_d0
        (ix3 (i 1) (i 2) (i 0))
      = cols g0 g1 i := by
  pointwise [cols]
  split <;> split <;> first | rfl | omega

theorem claim : Cert.algebraic_Kernel13Ideal_Reference13Ideal := by
  intro m g m' g' _ hagree
  refine ⟨G0 m, G1 m, G2 m, G3 m, run m g,
    (θ_run Cert.Reference13Ideal.defs _ _).mono (fun r h c => ⟨(h c).1.trans ?_, (h c).2.1.trans ?_, (h c).2.2.1.trans ?_, (h c).2.2.2.1.trans ?_, (h c).2.2.2.2⟩) (Cert.Reference13Ideal.Value.run m' g')⟩
  all_goals rw [(hagree c).2.1, (hagree c).2.2.1]
  · funext i
    refine Eq.trans ?_ (cols_eq _ _ i)
    pointwise [transpose]
  · rw [(hagree c).1, (hagree c).2.2.2.1, (hagree c).2.2.2.2]
    funext i
    have e := cols_eq (m ((c : Thread nD τ).loc main_arg1)) (m ((c : Thread nD τ).loc main_arg2)) i
    generalize concatenate Cert.Reference13Ideal.S2x2048x1667 _ _ _ = C at e ⊢
    refine Eq.trans ?_ (congrArg (fun g => delta _ g _ _) e)
    pointwise [delta, newM, newV]
    rfl
  · rw [(hagree c).2.2.2.1]
    funext i
    have e := cols_eq (m ((c : Thread nD τ).loc main_arg1)) (m ((c : Thread nD τ).loc main_arg2)) i
    generalize concatenate Cert.Reference13Ideal.S2x2048x1667 _ _ _ = C at e ⊢
    refine Eq.trans ?_ (congrArg (fun g => newM g _) e)
    pointwise [newM]
    rfl
  · rw [(hagree c).2.2.2.2]
    funext i
    have e := cols_eq (m ((c : Thread nD τ).loc main_arg1)) (m ((c : Thread nD τ).loc main_arg2)) i
    generalize concatenate Cert.Reference13Ideal.S2x2048x1667 _ _ _ = C at e ⊢
    refine Eq.trans ?_ (congrArg (fun g => newV g _) e)
    pointwise [newV]
    rfl

end Value

end Cert.Proof.AdamWIn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Pre_finite
public import proofs.«01_k».proof.Proof.Gen.Pre_finite2
public import proofs.«01_k».proof.Proof.Gen.ReferenceIdeal.Run
public import proofs.«01_k».proof.Proof.Gen.KernelIdeal.Value
public import proofs.«01_k».proof.Proof.Scan
public import proofs.«01_k».proof.Proof.Gen.Reference2Ideal.Run
public import proofs.«01_k».proof.Proof.Gen.Kernel2Ideal.Value
public import proofs.«01_k».proof.Proof.ScanFwd
public import proofs.«01_k».proof.Proof.Gen.Reference3Ideal.Run
public import proofs.«01_k».proof.Proof.Gen.Kernel3Ideal.Value
public import proofs.«01_k».proof.Proof.Gen.Reference3Ideal.Read
public import proofs.«01_k».proof.Proof.Dwp
public import proofs.«01_k».proof.Proof.Gen.Reference4Ideal.Run
public import proofs.«01_k».proof.Proof.Gen.Kernel4Ideal.Value
public import proofs.«01_k».proof.Proof.Gen.Reference4Ideal.Read
public import proofs.«01_k».proof.Proof.Dh
public import proofs.«01_k».proof.Proof.Gen.Reference5Ideal.Run
public import proofs.«01_k».proof.Proof.Gen.Kernel5Ideal.Value
public import proofs.«01_k».proof.Proof.Gen.Reference5Ideal.Read
public import proofs.«01_k».proof.Proof.Dwo
public import proofs.«01_k».proof.Proof.Gen.Reference6Ideal.Run
public import proofs.«01_k».proof.Proof.Gen.Kernel6Ideal.Value
public import proofs.«01_k».proof.Proof.Gen.Reference6Ideal.Read
public import proofs.«01_k».proof.Proof.Dy
public import proofs.«01_k».proof.Proof.Gen.Reference7Ideal.Run
public import proofs.«01_k».proof.Proof.Gen.Kernel7Ideal.Value
public import proofs.«01_k».proof.Proof.Gen.Reference7Ideal.Read
public import proofs.«01_k».proof.Proof.OutProj
public import proofs.«01_k».proof.Proof.Gen.Reference8Ideal.Run
public import proofs.«01_k».proof.Proof.Gen.Reference8Ideal.Read
public import proofs.«01_k».proof.Proof.NormInProj
public import proofs.«01_k».proof.Proof.Gen.Reference9Ideal.Run
public import proofs.«01_k».proof.Proof.Gen.Kernel9Ideal.Value
public import proofs.«01_k».proof.Proof.Gen.Reference9Ideal.Read
public import proofs.«01_k».proof.Proof.NormBwd
public import proofs.«01_k».proof.Proof.Gen.Reference10Ideal.Run
public import proofs.«01_k».proof.Proof.Gen.Kernel10Ideal.Value
public import proofs.«01_k».proof.Proof.Gen.Reference10Ideal.Read
public import proofs.«01_k».proof.Proof.AdamWOut
public import proofs.«01_k».proof.Proof.Gen.Reference11Ideal.Run
public import proofs.«01_k».proof.Proof.Gen.Kernel11Ideal.Value
public import proofs.«01_k».proof.Proof.Gen.Reference11Ideal.Read
public import proofs.«01_k».proof.Proof.AdamPw
public import proofs.«01_k».proof.Proof.Gen.Reference12Ideal.Run
public import proofs.«01_k».proof.Proof.Gen.Kernel12Ideal.Value
public import proofs.«01_k».proof.Proof.Gen.Reference12Ideal.Read
public import proofs.«01_k».proof.Proof.OutProjLoss
public import proofs.«01_k».proof.Proof.Gen.Reference13Ideal.Run
public import proofs.«01_k».proof.Proof.Gen.Reference13Ideal.Read
public import proofs.«01_k».proof.Proof.AdamWIn
public import Idealize.ShloMosaic.Adequacy
public import Idealize.ShloMosaic.Init

@[expose] public section

noncomputable section

namespace Cert.Proof

open Idealize.ShloMosaic Idealize.SL.Sem Cert.Kernel

/-- The reference's run leaves its arguments as they were; it declares no semaphore. -/
theorem frame_referenceIdeal : Cert.quiescent_ReferenceIdeal := fun m ρ _ =>
  (θ_run Cert.ReferenceIdeal.defs _ _).mono (fun r h => ⟨fun c => (h c).2.2.2.2.2.2, Idealize.ShloMosaic.sem_eq_zero_of_no_sems (by decide) r.2⟩)
    (Cert.ReferenceIdeal.Value.run m ρ)

/-- The reference's run leaves its arguments as they were; it declares no semaphore. -/
theorem frame_referenceIdeal_finite : Cert.quiescent_ReferenceIdeal_pre_finite := fun m ρ _ =>
  (θ_run Cert.ReferenceIdeal.defs _ _).mono (fun r h => ⟨fun c => (h c).2.2.2.2.2.2, Idealize.ShloMosaic.sem_eq_zero_of_no_sems (by decide) r.2⟩)
    (Cert.ReferenceIdeal.Value.run m ρ)

/-- The reference's run leaves its arguments as they were; it declares no semaphore. -/
theorem frame_reference2Ideal : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run m ρ)

/-- The reference's run leaves its arguments as they were; it declares no semaphore. -/
theorem frame_reference2Ideal_finite2 : Cert.quiescent_Reference2Ideal_pre_finite2 := fun m ρ _ =>
  (θ_run Cert.Reference2Ideal.defs _ _).mono (fun r h => ⟨fun c => (h c).2.2, Idealize.ShloMosaic.sem_eq_zero_of_no_sems (by decide) r.2⟩)
    (Cert.Reference2Ideal.Value.run m ρ)

/-- The reference's run leaves its arguments as they were; it declares no semaphore. -/
theorem frame_reference3Ideal : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run m ρ)

/-- The reference's run leaves its arguments as they were; it declares no semaphore. -/
theorem frame_reference4Ideal : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run m ρ)

/-- The reference's run leaves its arguments as they were; it declares no semaphore. -/
theorem frame_reference5Ideal : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run m ρ)

/-- The reference's run leaves its arguments as they were; it declares no semaphore. -/
theorem frame_reference6Ideal : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run m ρ)

/-- The reference's run leaves its arguments as they were; it declares no semaphore. -/
theorem frame_reference7Ideal : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run m ρ)

/-- The reference's run leaves its arguments as they were; it declares no semaphore. -/
theorem frame_reference8Ideal : Cert.quiescent_Reference8Ideal := fun m ρ _ =>
  (θ_run Cert.Reference8Ideal.defs _ _).mono (fun r h => ⟨fun c => (h c).2.2, Idealize.ShloMosaic.sem_eq_zero_of_no_sems (by decide) r.2⟩)
    (Cert.Reference8Ideal.Value.run m ρ)

/-- The reference's run leaves its arguments as they were; it declares no semaphore. -/
theorem frame_reference9Ideal : Cert.quiescent_Reference9Ideal := fun m ρ _ =>
  (θ_run Cert.Reference9Ideal.defs _ _).mono (fun r h => ⟨fun c => (h c).2.2, Idealize.ShloMosaic.sem_eq_zero_of_no_sems (by decide) r.2⟩)
    (Cert.Reference9Ideal.Value.run m ρ)

/-- The reference's run leaves its arguments as they were; it declares no semaphore. -/
theorem frame_reference10Ideal : Cert.quiescent_Reference10Ideal := fun m ρ _ =>
  (θ_run Cert.Reference10Ideal.defs _ _).mono (fun r h => ⟨fun c => (h c).2.2.2.2, Idealize.ShloMosaic.sem_eq_zero_of_no_sems (by decide) r.2⟩)
    (Cert.Reference10Ideal.Value.run m ρ)

/-- The reference's run leaves its arguments as they were; it declares no semaphore. -/
theorem frame_reference11Ideal : Cert.quiescent_Reference11Ideal := fun m ρ _ =>
  (θ_run Cert.Reference11Ideal.defs _ _).mono (fun r h => ⟨fun c => (h c).2.2.2.2, Idealize.ShloMosaic.sem_eq_zero_of_no_sems (by decide) r.2⟩)
    (Cert.Reference11Ideal.Value.run m ρ)

/-- The reference's run leaves its arguments as they were; it declares no semaphore. -/
theorem frame_reference12Ideal : Cert.quiescent_Reference12Ideal := fun m ρ _ =>
  (θ_run Cert.Reference12Ideal.defs _ _).mono (fun r h => ⟨fun c => (h c).2.2, Idealize.ShloMosaic.sem_eq_zero_of_no_sems (by decide) r.2⟩)
    (Cert.Reference12Ideal.Value.run m ρ)

/-- The reference's run leaves its arguments as they were; it declares no semaphore. -/
theorem frame_reference13Ideal : Cert.quiescent_Reference13Ideal := fun m ρ _ =>
  (θ_run Cert.Reference13Ideal.defs _ _).mono (fun r h => ⟨fun c => (h c).2.2.2.2, Idealize.ShloMosaic.sem_eq_zero_of_no_sems (by decide) r.2⟩)
    (Cert.Reference13Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Pre_finite.Gen.facts, Cert.Pre_finite2.Gen.facts,
  fun m ρ _ => Cert.Kernel.Gen.frame m ρ,
  fun m ρ _ => Cert.KernelIdeal.Gen.frame m ρ,
  fun m ρ _ => Cert.KernelIdeal.Gen.frame m ρ,
  frame_referenceIdeal,
  frame_referenceIdeal_finite,
  fun m ρ _ => Cert.Kernel2.Gen.frame m ρ,
  fun m ρ _ => Cert.Kernel2Ideal.Gen.frame m ρ,
  fun m ρ _ => Cert.Kernel2Ideal.Gen.frame m ρ,
  frame_reference2Ideal,
  frame_reference2Ideal_finite2,
  fun m ρ _ => Cert.Kernel3.Gen.frame m ρ,
  fun m ρ _ => Cert.Kernel3Ideal.Gen.frame m ρ,
  frame_reference3Ideal,
  fun m ρ _ => Cert.Kernel4.Gen.frame m ρ,
  fun m ρ _ => Cert.Kernel4Ideal.Gen.frame m ρ,
  frame_reference4Ideal,
  fun m ρ _ => Cert.Kernel5.Gen.frame m ρ,
  fun m ρ _ => Cert.Kernel5Ideal.Gen.frame m ρ,
  frame_reference5Ideal,
  fun m ρ _ => Cert.Kernel6.Gen.frame m ρ,
  fun m ρ _ => Cert.Kernel6Ideal.Gen.frame m ρ,
  frame_reference6Ideal,
  fun m ρ _ => Cert.Kernel7.Gen.frame m ρ,
  fun m ρ _ => Cert.Kernel7Ideal.Gen.frame m ρ,
  frame_reference7Ideal,
  fun m ρ _ => NormInProj.frame_bits m ρ,
  fun m ρ _ => NormInProj.frame m ρ,
  frame_reference8Ideal,
  fun m ρ _ => Cert.Kernel9.Gen.frame m ρ,
  fun m ρ _ => Cert.Kernel9Ideal.Gen.frame m ρ,
  frame_reference9Ideal,
  fun m ρ _ => Cert.Kernel10.Gen.frame m ρ,
  fun m ρ _ => Cert.Kernel10Ideal.Gen.frame m ρ,
  frame_reference10Ideal,
  fun m ρ _ => Cert.Kernel11.Gen.frame m ρ,
  fun m ρ _ => Cert.Kernel11Ideal.Gen.frame m ρ,
  frame_reference11Ideal,
  fun m ρ _ => Cert.Kernel12.Gen.frame m ρ,
  fun m ρ _ => Cert.Kernel12Ideal.Gen.frame m ρ,
  frame_reference12Ideal,
  fun m ρ _ => AdamWIn.frame_bits m ρ,
  fun m ρ _ => AdamWIn.frame m ρ,
  frame_reference13Ideal,
  trivial,
  Scan.claim,
  trivial,
  ScanFwd.claim,
  trivial,
  Dwp.claim,
  trivial,
  Dh.claim,
  trivial,
  Dwo.claim,
  trivial,
  Dy.claim,
  trivial,
  OutProj.claim,
  trivial,
  NormInProj.claim,
  trivial,
  NormBwd.claim,
  trivial,
  AdamWOut.claim,
  trivial,
  AdamPw.claim,
  trivial,
  OutProjLoss.claim,
  trivial,
  AdamWIn.claim⟩

end Cert.Proof

end
